-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KDff2 (m : (ℓ : Loc Cert.KDff2.nD Cert.KDff2.τ Cert.KDff2.sig) → Buf (Elt Bits) ℓ) : Prop :=
  True

def Pre_KDff2Ideal (m : (ℓ : Loc Cert.KDff2Ideal.nD Cert.KDff2Ideal.τ Cert.KDff2Ideal.sig) → Buf (Elt Ideal) ℓ) : Prop :=
  True

def Pre_RDff2Ideal (m : (ℓ : Loc Cert.RDff2Ideal.nD Cert.RDff2Ideal.τ Cert.RDff2Ideal.sig) → Buf (Elt Ideal) ℓ) : Prop :=
  True

def Pre_KGff2 (m : (ℓ : Loc Cert.KGff2.nD Cert.KGff2.τ Cert.KGff2.sig) → Buf (Elt Bits) ℓ) : Prop :=
  True

def Pre_KGff2Ideal (m : (ℓ : Loc Cert.KGff2Ideal.nD Cert.KGff2Ideal.τ Cert.KGff2Ideal.sig) → Buf (Elt Ideal) ℓ) : Prop :=
  True

def Pre_RGff2Ideal (m : (ℓ : Loc Cert.RGff2Ideal.nD Cert.RGff2Ideal.τ Cert.RGff2Ideal.sig) → Buf (Elt Ideal) ℓ) : Prop :=
  True

def Pre_KDff1 (m : (ℓ : Loc Cert.KDff1.nD Cert.KDff1.τ Cert.KDff1.sig) → Buf (Elt Bits) ℓ) : Prop :=
  True

def Pre_KDff1Ideal (m : (ℓ : Loc Cert.KDff1Ideal.nD Cert.KDff1Ideal.τ Cert.KDff1Ideal.sig) → Buf (Elt Ideal) ℓ) : Prop :=
  True

def Pre_RDff1Ideal (m : (ℓ : Loc Cert.RDff1Ideal.nD Cert.RDff1Ideal.τ Cert.RDff1Ideal.sig) → Buf (Elt Ideal) ℓ) : Prop :=
  True

def Pre_KGff1 (m : (ℓ : Loc Cert.KGff1.nD Cert.KGff1.τ Cert.KGff1.sig) → Buf (Elt Bits) ℓ) : Prop :=
  True

def Pre_KGff1Ideal (m : (ℓ : Loc Cert.KGff1Ideal.nD Cert.KGff1Ideal.τ Cert.KGff1Ideal.sig) → Buf (Elt Ideal) ℓ) : Prop :=
  True

def Pre_RGff1Ideal (m : (ℓ : Loc Cert.RGff1Ideal.nD Cert.RGff1Ideal.τ Cert.RGff1Ideal.sig) → Buf (Elt Ideal) ℓ) : Prop :=
  True

def Pre_KDout (m : (ℓ : Loc Cert.KDout.nD Cert.KDout.τ Cert.KDout.sig) → Buf (Elt Bits) ℓ) : Prop :=
  True

def Pre_KDoutIdeal (m : (ℓ : Loc Cert.KDoutIdeal.nD Cert.KDoutIdeal.τ Cert.KDoutIdeal.sig) → Buf (Elt Ideal) ℓ) : Prop :=
  True

def Pre_RDoutIdeal (m : (ℓ : Loc Cert.RDoutIdeal.nD Cert.RDoutIdeal.τ Cert.RDoutIdeal.sig) → Buf (Elt Ideal) ℓ) : Prop :=
  True

def Pre_KGout (m : (ℓ : Loc Cert.KGout.nD Cert.KGout.τ Cert.KGout.sig) → Buf (Elt Bits) ℓ) : Prop :=
  True

def Pre_KGoutIdeal (m : (ℓ : Loc Cert.KGoutIdeal.nD Cert.KGoutIdeal.τ Cert.KGoutIdeal.sig) → Buf (Elt Ideal) ℓ) : Prop :=
  True

def Pre_RGoutIdeal (m : (ℓ : Loc Cert.RGoutIdeal.nD Cert.RGoutIdeal.τ Cert.RGoutIdeal.sig) → Buf (Elt Ideal) ℓ) : Prop :=
  True

def Pre_KDuq (m : (ℓ : Loc Cert.KDuq.nD Cert.KDuq.τ Cert.KDuq.sig) → Buf (Elt Bits) ℓ) : Prop :=
  True

def Pre_KDuqIdeal (m : (ℓ : Loc Cert.KDuqIdeal.nD Cert.KDuqIdeal.τ Cert.KDuqIdeal.sig) → Buf (Elt Ideal) ℓ) : Prop :=
  True

def Pre_RDuqIdeal (m : (ℓ : Loc Cert.RDuqIdeal.nD Cert.RDuqIdeal.τ Cert.RDuqIdeal.sig) → Buf (Elt Ideal) ℓ) : Prop :=
  True

def Pre_KGuq (m : (ℓ : Loc Cert.KGuq.nD Cert.KGuq.τ Cert.KGuq.sig) → Buf (Elt Bits) ℓ) : Prop :=
  True

def Pre_KGuqIdeal (m : (ℓ : Loc Cert.KGuqIdeal.nD Cert.KGuqIdeal.τ Cert.KGuqIdeal.sig) → Buf (Elt Ideal) ℓ) : Prop :=
  True

def Pre_RGuqIdeal (m : (ℓ : Loc Cert.RGuqIdeal.nD Cert.RGuqIdeal.τ Cert.RGuqIdeal.sig) → Buf (Elt Ideal) ℓ) : Prop :=
  True

def Pre_KDukv (m : (ℓ : Loc Cert.KDukv.nD Cert.KDukv.τ Cert.KDukv.sig) → Buf (Elt Bits) ℓ) : Prop :=
  True

def Pre_KDukvIdeal (m : (ℓ : Loc Cert.KDukvIdeal.nD Cert.KDukvIdeal.τ Cert.KDukvIdeal.sig) → Buf (Elt Ideal) ℓ) : Prop :=
  True

def Pre_RDukvIdeal (m : (ℓ : Loc Cert.RDukvIdeal.nD Cert.RDukvIdeal.τ Cert.RDukvIdeal.sig) → Buf (Elt Ideal) ℓ) : Prop :=
  True

def Pre_KGukv (m : (ℓ : Loc Cert.KGukv.nD Cert.KGukv.τ Cert.KGukv.sig) → Buf (Elt Bits) ℓ) : Prop :=
  True

def Pre_KGukvIdeal (m : (ℓ : Loc Cert.KGukvIdeal.nD Cert.KGukvIdeal.τ Cert.KGukvIdeal.sig) → Buf (Elt Ideal) ℓ) : Prop :=
  True

def Pre_RGukvIdeal (m : (ℓ : Loc Cert.RGukvIdeal.nD Cert.RGukvIdeal.τ Cert.RGukvIdeal.sig) → Buf (Elt Ideal) ℓ) : Prop :=
  True

def Pre_KDin (m : (ℓ : Loc Cert.KDin.nD Cert.KDin.τ Cert.KDin.sig) → Buf (Elt Bits) ℓ) : Prop :=
  True

def Pre_KDinIdeal (m : (ℓ : Loc Cert.KDinIdeal.nD Cert.KDinIdeal.τ Cert.KDinIdeal.sig) → Buf (Elt Ideal) ℓ) : Prop :=
  True

def Pre_RDinIdeal (m : (ℓ : Loc Cert.RDinIdeal.nD Cert.RDinIdeal.τ Cert.RDinIdeal.sig) → Buf (Elt Ideal) ℓ) : Prop :=
  True

def Pre_KGin (m : (ℓ : Loc Cert.KGin.nD Cert.KGin.τ Cert.KGin.sig) → Buf (Elt Bits) ℓ) : Prop :=
  True

def Pre_KGinIdeal (m : (ℓ : Loc Cert.KGinIdeal.nD Cert.KGinIdeal.τ Cert.KGinIdeal.sig) → Buf (Elt Ideal) ℓ) : Prop :=
  True

def Pre_RGinIdeal (m : (ℓ : Loc Cert.RGinIdeal.nD Cert.RGinIdeal.τ Cert.RGinIdeal.sig) → Buf (Elt Ideal) ℓ) : Prop :=
  True

def Pre_KFf1 (m : (ℓ : Loc Cert.KFf1.nD Cert.KFf1.τ Cert.KFf1.sig) → Buf (Elt Bits) ℓ) : Prop :=
  True

def Pre_KFf1Ideal (m : (ℓ : Loc Cert.KFf1Ideal.nD Cert.KFf1Ideal.τ Cert.KFf1Ideal.sig) → Buf (Elt Ideal) ℓ) : Prop :=
  True

def Pre_RFf1Ideal (m : (ℓ : Loc Cert.RFf1Ideal.nD Cert.RFf1Ideal.τ Cert.RFf1Ideal.sig) → Buf (Elt Ideal) ℓ) : Prop :=
  True

def Pre_KFf2 (m : (ℓ : Loc Cert.KFf2.nD Cert.KFf2.τ Cert.KFf2.sig) → Buf (Elt Bits) ℓ) : Prop :=
  True

def Pre_KFf2Ideal (m : (ℓ : Loc Cert.KFf2Ideal.nD Cert.KFf2Ideal.τ Cert.KFf2Ideal.sig) → Buf (Elt Ideal) ℓ) : Prop :=
  True

def Pre_RFf2Ideal (m : (ℓ : Loc Cert.RFf2Ideal.nD Cert.RFf2Ideal.τ Cert.RFf2Ideal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KUq (m : (ℓ : Loc Cert.KUq.nD Cert.KUq.τ Cert.KUq.sig) → Buf (Elt Bits) ℓ) : Prop :=
  True

def Pre_KUqIdeal (m : (ℓ : Loc Cert.KUqIdeal.nD Cert.KUqIdeal.τ Cert.KUqIdeal.sig) → Buf (Elt Ideal) ℓ) : Prop :=
  True

def Pre_RUqIdeal (m : (ℓ : Loc Cert.RUqIdeal.nD Cert.RUqIdeal.τ Cert.RUqIdeal.sig) → Buf (Elt Ideal) ℓ) : Prop :=
  True

def Pre_KUkv (m : (ℓ : Loc Cert.KUkv.nD Cert.KUkv.τ Cert.KUkv.sig) → Buf (Elt Bits) ℓ) : Prop :=
  True

def Pre_KUkvIdeal (m : (ℓ : Loc Cert.KUkvIdeal.nD Cert.KUkvIdeal.τ Cert.KUkvIdeal.sig) → Buf (Elt Ideal) ℓ) : Prop :=
  True

def Pre_RUkvIdeal (m : (ℓ : Loc Cert.RUkvIdeal.nD Cert.RUkvIdeal.τ Cert.RUkvIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KSmall (m : (ℓ : Loc Cert.KSmall.nD Cert.KSmall.τ Cert.KSmall.sig) → Buf (Elt Bits) ℓ) : Prop :=
  True

def Pre_KSmallIdeal (m : (ℓ : Loc Cert.KSmallIdeal.nD Cert.KSmallIdeal.τ Cert.KSmallIdeal.sig) → Buf (Elt Ideal) ℓ) : Prop :=
  True

def Pre_RSmallIdeal (m : (ℓ : Loc Cert.RSmallIdeal.nD Cert.RSmallIdeal.τ Cert.RSmallIdeal.sig) → Buf (Elt Ideal) ℓ) : Prop :=
  True

def Pre_KLn (m : (ℓ : Loc Cert.KLn.nD Cert.KLn.τ Cert.KLn.sig) → Buf (Elt Bits) ℓ) : Prop :=
  True

def Pre_KLnIdeal (m : (ℓ : Loc Cert.KLnIdeal.nD Cert.KLnIdeal.τ Cert.KLnIdeal.sig) → Buf (Elt Ideal) ℓ) : Prop :=
  True

def Pre_RLnIdeal (m : (ℓ : Loc Cert.RLnIdeal.nD Cert.RLnIdeal.τ Cert.RLnIdeal.sig) → Buf (Elt Ideal) ℓ) : Prop :=
  True

def Pre_KEmb (m : (ℓ : Loc Cert.KEmb.nD Cert.KEmb.τ Cert.KEmb.sig) → Buf (Elt Bits) ℓ) : Prop :=
  True

def Pre_KEmbIdeal (m : (ℓ : Loc Cert.KEmbIdeal.nD Cert.KEmbIdeal.τ Cert.KEmbIdeal.sig) → Buf (Elt Ideal) ℓ) : Prop :=
  True

def Pre_REmbIdeal (m : (ℓ : Loc Cert.REmbIdeal.nD Cert.REmbIdeal.τ Cert.REmbIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KLnb (m : (ℓ : Loc Cert.KLnb.nD Cert.KLnb.τ Cert.KLnb.sig) → Buf (Elt Bits) ℓ) : Prop :=
  True

def Pre_KLnbIdeal (m : (ℓ : Loc Cert.KLnbIdeal.nD Cert.KLnbIdeal.τ Cert.KLnbIdeal.sig) → Buf (Elt Ideal) ℓ) : Prop :=
  True

def Pre_RLnbIdeal (m : (ℓ : Loc Cert.RLnbIdeal.nD Cert.RLnbIdeal.τ Cert.RLnbIdeal.sig) → Buf (Elt Ideal) ℓ) : Prop :=
  True

def Pre_KEmbb (m : (ℓ : Loc Cert.KEmbb.nD Cert.KEmbb.τ Cert.KEmbb.sig) → Buf (Elt Bits) ℓ) : Prop :=
  True

def Pre_KEmbbIdeal (m : (ℓ : Loc Cert.KEmbbIdeal.nD Cert.KEmbbIdeal.τ Cert.KEmbbIdeal.sig) → Buf (Elt Ideal) ℓ) : Prop :=
  True

def Pre_REmbbIdeal (m : (ℓ : Loc Cert.REmbbIdeal.nD Cert.REmbbIdeal.τ Cert.REmbbIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KDff2 [hKDff2 : Cert.KDff2.Facts] : Prop :=
  ∀ (m : (ℓ : Loc Cert.KDff2.nD Cert.KDff2.τ Cert.KDff2.sig) → Buf (Elt Bits) ℓ) (g : Dev Cert.KDff2.nD → PrngReg), Pre_KDff2 m →
    θ_run (Cert.KDff2.defs (F := Bits)) (onTc (τ := Cert.KDff2.τ) (Cert.KDff2.main (F := Bits))) ⟨m, fun _ => 0, g⟩ (fun r => (∀ c : Dev Cert.KDff2.nD,
      r.2.mem ((c.tc : Thread Cert.KDff2.nD Cert.KDff2.τ).loc Cert.KDff2.main_arg0) = m ((c.tc : Thread Cert.KDff2.nD Cert.KDff2.τ).loc Cert.KDff2.main_arg0)
      ∧ r.2.mem ((c.tc : Thread Cert.KDff2.nD Cert.KDff2.τ).loc Cert.KDff2.main_arg1) = m ((c.tc : Thread Cert.KDff2.nD Cert.KDff2.τ).loc Cert.KDff2.main_arg1)
      ∧ r.2.mem ((c.tc : Thread Cert.KDff2.nD Cert.KDff2.τ).loc Cert.KDff2.main_arg2) = m ((c.tc : Thread Cert.KDff2.nD Cert.KDff2.τ).loc Cert.KDff2.main_arg2))
      ∧ r.2.sem = fun _ => 0)

def quiescent_KDff2Ideal [hKDff2Ideal : Cert.KDff2Ideal.Facts] : Prop :=
  ∀ (m : (ℓ : Loc Cert.KDff2Ideal.nD Cert.KDff2Ideal.τ Cert.KDff2Ideal.sig) → Buf (Elt Ideal) ℓ) (g : Dev Cert.KDff2Ideal.nD → PrngReg), Pre_KDff2Ideal m →
    θ_run (Cert.KDff2Ideal.defs (F := Ideal)) (onTc (τ := Cert.KDff2Ideal.τ) (Cert.KDff2Ideal.main (F := Ideal))) ⟨m, fun _ => 0, g⟩ (fun r => (∀ c : Dev Cert.KDff2Ideal.nD,
      r.2.mem ((c.tc : Thread Cert.KDff2Ideal.nD Cert.KDff2Ideal.τ).loc Cert.KDff2Ideal.main_arg0) = m ((c.tc : Thread Cert.KDff2Ideal.nD Cert.KDff2Ideal.τ).loc Cert.KDff2Ideal.main_arg0)
      ∧ r.2.mem ((c.tc : Thread Cert.KDff2Ideal.nD Cert.KDff2Ideal.τ).loc Cert.KDff2Ideal.main_arg1) = m ((c.tc : Thread Cert.KDff2Ideal.nD Cert.KDff2Ideal.τ).loc Cert.KDff2Ideal.main_arg1)
      ∧ r.2.mem ((c.tc : Thread Cert.KDff2Ideal.nD Cert.KDff2Ideal.τ).loc Cert.KDff2Ideal.main_arg2) = m ((c.tc : Thread Cert.KDff2Ideal.nD Cert.KDff2Ideal.τ).loc Cert.KDff2Ideal.main_arg2))
      ∧ r.2.sem = fun _ => 0)

def quiescent_RDff2Ideal [hRDff2Ideal : Cert.RDff2Ideal.Facts] : Prop :=
  ∀ (m : (ℓ : Loc Cert.RDff2Ideal.nD Cert.RDff2Ideal.τ Cert.RDff2Ideal.sig) → Buf (Elt Ideal) ℓ) (g : Dev Cert.RDff2Ideal.nD → PrngReg), Pre_RDff2Ideal m →
    θ_run (Cert.RDff2Ideal.defs (F := Ideal)) (onTc (τ := Cert.RDff2Ideal.τ) (Cert.RDff2Ideal.main (F := Ideal))) ⟨m, fun _ => 0, g⟩ (fun r => (∀ c : Dev Cert.RDff2Ideal.nD,
      r.2.mem ((c.tc : Thread Cert.RDff2Ideal.nD Cert.RDff2Ideal.τ).loc Cert.RDff2Ideal.main_arg0) = m ((c.tc : Thread Cert.RDff2Ideal.nD Cert.RDff2Ideal.τ).loc Cert.RDff2Ideal.main_arg0)
      ∧ r.2.mem ((c.tc : Thread Cert.RDff2Ideal.nD Cert.RDff2Ideal.τ).loc Cert.RDff2Ideal.main_arg1) = m ((c.tc : Thread Cert.RDff2Ideal.nD Cert.RDff2Ideal.τ).loc Cert.RDff2Ideal.main_arg1)
      ∧ r.2.mem ((c.tc : Thread Cert.RDff2Ideal.nD Cert.RDff2Ideal.τ).loc Cert.RDff2Ideal.main_arg2) = m ((c.tc : Thread Cert.RDff2Ideal.nD Cert.RDff2Ideal.τ).loc Cert.RDff2Ideal.main_arg2))
      ∧ r.2.sem = fun _ => 0)

def quiescent_KGff2 [hKGff2 : Cert.KGff2.Facts] : Prop :=
  ∀ (m : (ℓ : Loc Cert.KGff2.nD Cert.KGff2.τ Cert.KGff2.sig) → Buf (Elt Bits) ℓ) (g : Dev Cert.KGff2.nD → PrngReg), Pre_KGff2 m →
    θ_run (Cert.KGff2.defs (F := Bits)) (onTc (τ := Cert.KGff2.τ) (Cert.KGff2.main (F := Bits))) ⟨m, fun _ => 0, g⟩ (fun r => (∀ c : Dev Cert.KGff2.nD,
      r.2.mem ((c.tc : Thread Cert.KGff2.nD Cert.KGff2.τ).loc Cert.KGff2.main_arg0) = m ((c.tc : Thread Cert.KGff2.nD Cert.KGff2.τ).loc Cert.KGff2.main_arg0)
      ∧ r.2.mem ((c.tc : Thread Cert.KGff2.nD Cert.KGff2.τ).loc Cert.KGff2.main_arg1) = m ((c.tc : Thread Cert.KGff2.nD Cert.KGff2.τ).loc Cert.KGff2.main_arg1))
      ∧ r.2.sem = fun _ => 0)

def quiescent_KGff2Ideal [hKGff2Ideal : Cert.KGff2Ideal.Facts] : Prop :=
  ∀ (m : (ℓ : Loc Cert.KGff2Ideal.nD Cert.KGff2Ideal.τ Cert.KGff2Ideal.sig) → Buf (Elt Ideal) ℓ) (g : Dev Cert.KGff2Ideal.nD → PrngReg), Pre_KGff2Ideal m →
    θ_run (Cert.KGff2Ideal.defs (F := Ideal)) (onTc (τ := Cert.KGff2Ideal.τ) (Cert.KGff2Ideal.main (F := Ideal))) ⟨m, fun _ => 0, g⟩ (fun r => (∀ c : Dev Cert.KGff2Ideal.nD,
      r.2.mem ((c.tc : Thread Cert.KGff2Ideal.nD Cert.KGff2Ideal.τ).loc Cert.KGff2Ideal.main_arg0) = m ((c.tc : Thread Cert.KGff2Ideal.nD Cert.KGff2Ideal.τ).loc Cert.KGff2Ideal.main_arg0)
      ∧ r.2.mem ((c.tc : Thread Cert.KGff2Ideal.nD Cert.KGff2Ideal.τ).loc Cert.KGff2Ideal.main_arg1) = m ((c.tc : Thread Cert.KGff2Ideal.nD Cert.KGff2Ideal.τ).loc Cert.KGff2Ideal.main_arg1))
      ∧ r.2.sem = fun _ => 0)

def quiescent_RGff2Ideal [hRGff2Ideal : Cert.RGff2Ideal.Facts] : Prop :=
  ∀ (m : (ℓ : Loc Cert.RGff2Ideal.nD Cert.RGff2Ideal.τ Cert.RGff2Ideal.sig) → Buf (Elt Ideal) ℓ) (g : Dev Cert.RGff2Ideal.nD → PrngReg), Pre_RGff2Ideal m →
    θ_run (Cert.RGff2Ideal.defs (F := Ideal)) (onTc (τ := Cert.RGff2Ideal.τ) (Cert.RGff2Ideal.main (F := Ideal))) ⟨m, fun _ => 0, g⟩ (fun r => (∀ c : Dev Cert.RGff2Ideal.nD,
      r.2.mem ((c.tc : Thread Cert.RGff2Ideal.nD Cert.RGff2Ideal.τ).loc Cert.RGff2Ideal.main_arg0) = m ((c.tc : Thread Cert.RGff2Ideal.nD Cert.RGff2Ideal.τ).loc Cert.RGff2Ideal.main_arg0)
      ∧ r.2.mem ((c.tc : Thread Cert.RGff2Ideal.nD Cert.RGff2Ideal.τ).loc Cert.RGff2Ideal.main_arg1) = m ((c.tc : Thread Cert.RGff2Ideal.nD Cert.RGff2Ideal.τ).loc Cert.RGff2Ideal.main_arg1))
      ∧ r.2.sem = fun _ => 0)

def quiescent_KDff1 [hKDff1 : Cert.KDff1.Facts] : Prop :=
  ∀ (m : (ℓ : Loc Cert.KDff1.nD Cert.KDff1.τ Cert.KDff1.sig) → Buf (Elt Bits) ℓ) (g : Dev Cert.KDff1.nD → PrngReg), Pre_KDff1 m →
    θ_run (Cert.KDff1.defs (F := Bits)) (onTc (τ := Cert.KDff1.τ) (Cert.KDff1.main (F := Bits))) ⟨m, fun _ => 0, g⟩ (fun r => (∀ c : Dev Cert.KDff1.nD,
      r.2.mem ((c.tc : Thread Cert.KDff1.nD Cert.KDff1.τ).loc Cert.KDff1.main_arg0) = m ((c.tc : Thread Cert.KDff1.nD Cert.KDff1.τ).loc Cert.KDff1.main_arg0)
      ∧ r.2.mem ((c.tc : Thread Cert.KDff1.nD Cert.KDff1.τ).loc Cert.KDff1.main_arg1) = m ((c.tc : Thread Cert.KDff1.nD Cert.KDff1.τ).loc Cert.KDff1.main_arg1)
      ∧ r.2.mem ((c.tc : Thread Cert.KDff1.nD Cert.KDff1.τ).loc Cert.KDff1.main_arg2) = m ((c.tc : Thread Cert.KDff1.nD Cert.KDff1.τ).loc Cert.KDff1.main_arg2))
      ∧ r.2.sem = fun _ => 0)

def quiescent_KDff1Ideal [hKDff1Ideal : Cert.KDff1Ideal.Facts] : Prop :=
  ∀ (m : (ℓ : Loc Cert.KDff1Ideal.nD Cert.KDff1Ideal.τ Cert.KDff1Ideal.sig) → Buf (Elt Ideal) ℓ) (g : Dev Cert.KDff1Ideal.nD → PrngReg), Pre_KDff1Ideal m →
    θ_run (Cert.KDff1Ideal.defs (F := Ideal)) (onTc (τ := Cert.KDff1Ideal.τ) (Cert.KDff1Ideal.main (F := Ideal))) ⟨m, fun _ => 0, g⟩ (fun r => (∀ c : Dev Cert.KDff1Ideal.nD,
      r.2.mem ((c.tc : Thread Cert.KDff1Ideal.nD Cert.KDff1Ideal.τ).loc Cert.KDff1Ideal.main_arg0) = m ((c.tc : Thread Cert.KDff1Ideal.nD Cert.KDff1Ideal.τ).loc Cert.KDff1Ideal.main_arg0)
      ∧ r.2.mem ((c.tc : Thread Cert.KDff1Ideal.nD Cert.KDff1Ideal.τ).loc Cert.KDff1Ideal.main_arg1) = m ((c.tc : Thread Cert.KDff1Ideal.nD Cert.KDff1Ideal.τ).loc Cert.KDff1Ideal.main_arg1)
      ∧ r.2.mem ((c.tc : Thread Cert.KDff1Ideal.nD Cert.KDff1Ideal.τ).loc Cert.KDff1Ideal.main_arg2) = m ((c.tc : Thread Cert.KDff1Ideal.nD Cert.KDff1Ideal.τ).loc Cert.KDff1Ideal.main_arg2))
      ∧ r.2.sem = fun _ => 0)

def quiescent_RDff1Ideal [hRDff1Ideal : Cert.RDff1Ideal.Facts] : Prop :=
  ∀ (m : (ℓ : Loc Cert.RDff1Ideal.nD Cert.RDff1Ideal.τ Cert.RDff1Ideal.sig) → Buf (Elt Ideal) ℓ) (g : Dev Cert.RDff1Ideal.nD → PrngReg), Pre_RDff1Ideal m →
    θ_run (Cert.RDff1Ideal.defs (F := Ideal)) (onTc (τ := Cert.RDff1Ideal.τ) (Cert.RDff1Ideal.main (F := Ideal))) ⟨m, fun _ => 0, g⟩ (fun r => (∀ c : Dev Cert.RDff1Ideal.nD,
      r.2.mem ((c.tc : Thread Cert.RDff1Ideal.nD Cert.RDff1Ideal.τ).loc Cert.RDff1Ideal.main_arg0) = m ((c.tc : Thread Cert.RDff1Ideal.nD Cert.RDff1Ideal.τ).loc Cert.RDff1Ideal.main_arg0)
      ∧ r.2.mem ((c.tc : Thread Cert.RDff1Ideal.nD Cert.RDff1Ideal.τ).loc Cert.RDff1Ideal.main_arg1) = m ((c.tc : Thread Cert.RDff1Ideal.nD Cert.RDff1Ideal.τ).loc Cert.RDff1Ideal.main_arg1)
      ∧ r.2.mem ((c.tc : Thread Cert.RDff1Ideal.nD Cert.RDff1Ideal.τ).loc Cert.RDff1Ideal.main_arg2) = m ((c.tc : Thread Cert.RDff1Ideal.nD Cert.RDff1Ideal.τ).loc Cert.RDff1Ideal.main_arg2))
      ∧ r.2.sem = fun _ => 0)

def quiescent_KGff1 [hKGff1 : Cert.KGff1.Facts] : Prop :=
  ∀ (m : (ℓ : Loc Cert.KGff1.nD Cert.KGff1.τ Cert.KGff1.sig) → Buf (Elt Bits) ℓ) (g : Dev Cert.KGff1.nD → PrngReg), Pre_KGff1 m →
    θ_run (Cert.KGff1.defs (F := Bits)) (onTc (τ := Cert.KGff1.τ) (Cert.KGff1.main (F := Bits))) ⟨m, fun _ => 0, g⟩ (fun r => (∀ c : Dev Cert.KGff1.nD,
      r.2.mem ((c.tc : Thread Cert.KGff1.nD Cert.KGff1.τ).loc Cert.KGff1.main_arg0) = m ((c.tc : Thread Cert.KGff1.nD Cert.KGff1.τ).loc Cert.KGff1.main_arg0)
      ∧ r.2.mem ((c.tc : Thread Cert.KGff1.nD Cert.KGff1.τ).loc Cert.KGff1.main_arg1) = m ((c.tc : Thread Cert.KGff1.nD Cert.KGff1.τ).loc Cert.KGff1.main_arg1))
      ∧ r.2.sem = fun _ => 0)

def quiescent_KGff1Ideal [hKGff1Ideal : Cert.KGff1Ideal.Facts] : Prop :=
  ∀ (m : (ℓ : Loc Cert.KGff1Ideal.nD Cert.KGff1Ideal.τ Cert.KGff1Ideal.sig) → Buf (Elt Ideal) ℓ) (g : Dev Cert.KGff1Ideal.nD → PrngReg), Pre_KGff1Ideal m →
    θ_run (Cert.KGff1Ideal.defs (F := Ideal)) (onTc (τ := Cert.KGff1Ideal.τ) (Cert.KGff1Ideal.main (F := Ideal))) ⟨m, fun _ => 0, g⟩ (fun r => (∀ c : Dev Cert.KGff1Ideal.nD,
      r.2.mem ((c.tc : Thread Cert.KGff1Ideal.nD Cert.KGff1Ideal.τ).loc Cert.KGff1Ideal.main_arg0) = m ((c.tc : Thread Cert.KGff1Ideal.nD Cert.KGff1Ideal.τ).loc Cert.KGff1Ideal.main_arg0)
      ∧ r.2.mem ((c.tc : Thread Cert.KGff1Ideal.nD Cert.KGff1Ideal.τ).loc Cert.KGff1Ideal.main_arg1) = m ((c.tc : Thread Cert.KGff1Ideal.nD Cert.KGff1Ideal.τ).loc Cert.KGff1Ideal.main_arg1))
      ∧ r.2.sem = fun _ => 0)

def quiescent_RGff1Ideal [hRGff1Ideal : Cert.RGff1Ideal.Facts] : Prop :=
  ∀ (m : (ℓ : Loc Cert.RGff1Ideal.nD Cert.RGff1Ideal.τ Cert.RGff1Ideal.sig) → Buf (Elt Ideal) ℓ) (g : Dev Cert.RGff1Ideal.nD → PrngReg), Pre_RGff1Ideal m →
    θ_run (Cert.RGff1Ideal.defs (F := Ideal)) (onTc (τ := Cert.RGff1Ideal.τ) (Cert.RGff1Ideal.main (F := Ideal))) ⟨m, fun _ => 0, g⟩ (fun r => (∀ c : Dev Cert.RGff1Ideal.nD,
      r.2.mem ((c.tc : Thread Cert.RGff1Ideal.nD Cert.RGff1Ideal.τ).loc Cert.RGff1Ideal.main_arg0) = m ((c.tc : Thread Cert.RGff1Ideal.nD Cert.RGff1Ideal.τ).loc Cert.RGff1Ideal.main_arg0)
      ∧ r.2.mem ((c.tc : Thread Cert.RGff1Ideal.nD Cert.RGff1Ideal.τ).loc Cert.RGff1Ideal.main_arg1) = m ((c.tc : Thread Cert.RGff1Ideal.nD Cert.RGff1Ideal.τ).loc Cert.RGff1Ideal.main_arg1))
      ∧ r.2.sem = fun _ => 0)

def quiescent_KDout [hKDout : Cert.KDout.Facts] : Prop :=
  ∀ (m : (ℓ : Loc Cert.KDout.nD Cert.KDout.τ Cert.KDout.sig) → Buf (Elt Bits) ℓ) (g : Dev Cert.KDout.nD → PrngReg), Pre_KDout m →
    θ_run (Cert.KDout.defs (F := Bits)) (onTc (τ := Cert.KDout.τ) (Cert.KDout.main (F := Bits))) ⟨m, fun _ => 0, g⟩ (fun r => (∀ c : Dev Cert.KDout.nD,
      r.2.mem ((c.tc : Thread Cert.KDout.nD Cert.KDout.τ).loc Cert.KDout.main_arg0) = m ((c.tc : Thread Cert.KDout.nD Cert.KDout.τ).loc Cert.KDout.main_arg0)
      ∧ r.2.mem ((c.tc : Thread Cert.KDout.nD Cert.KDout.τ).loc Cert.KDout.main_arg1) = m ((c.tc : Thread Cert.KDout.nD Cert.KDout.τ).loc Cert.KDout.main_arg1))
      ∧ r.2.sem = fun _ => 0)

def quiescent_KDoutIdeal [hKDoutIdeal : Cert.KDoutIdeal.Facts] : Prop :=
  ∀ (m : (ℓ : Loc Cert.KDoutIdeal.nD Cert.KDoutIdeal.τ Cert.KDoutIdeal.sig) → Buf (Elt Ideal) ℓ) (g : Dev Cert.KDoutIdeal.nD → PrngReg), Pre_KDoutIdeal m →
    θ_run (Cert.KDoutIdeal.defs (F := Ideal)) (onTc (τ := Cert.KDoutIdeal.τ) (Cert.KDoutIdeal.main (F := Ideal))) ⟨m, fun _ => 0, g⟩ (fun r => (∀ c : Dev Cert.KDoutIdeal.nD,
      r.2.mem ((c.tc : Thread Cert.KDoutIdeal.nD Cert.KDoutIdeal.τ).loc Cert.KDoutIdeal.main_arg0) = m ((c.tc : Thread Cert.KDoutIdeal.nD Cert.KDoutIdeal.τ).loc Cert.KDoutIdeal.main_arg0)
      ∧ r.2.mem ((c.tc : Thread Cert.KDoutIdeal.nD Cert.KDoutIdeal.τ).loc Cert.KDoutIdeal.main_arg1) = m ((c.tc : Thread Cert.KDoutIdeal.nD Cert.KDoutIdeal.τ).loc Cert.KDoutIdeal.main_arg1))
      ∧ r.2.sem = fun _ => 0)

def quiescent_RDoutIdeal [hRDoutIdeal : Cert.RDoutIdeal.Facts] : Prop :=
  ∀ (m : (ℓ : Loc Cert.RDoutIdeal.nD Cert.RDoutIdeal.τ Cert.RDoutIdeal.sig) → Buf (Elt Ideal) ℓ) (g : Dev Cert.RDoutIdeal.nD → PrngReg), Pre_RDoutIdeal m →
    θ_run (Cert.RDoutIdeal.defs (F := Ideal)) (onTc (τ := Cert.RDoutIdeal.τ) (Cert.RDoutIdeal.main (F := Ideal))) ⟨m, fun _ => 0, g⟩ (fun r => (∀ c : Dev Cert.RDoutIdeal.nD,
      r.2.mem ((c.tc : Thread Cert.RDoutIdeal.nD Cert.RDoutIdeal.τ).loc Cert.RDoutIdeal.main_arg0) = m ((c.tc : Thread Cert.RDoutIdeal.nD Cert.RDoutIdeal.τ).loc Cert.RDoutIdeal.main_arg0)
      ∧ r.2.mem ((c.tc : Thread Cert.RDoutIdeal.nD Cert.RDoutIdeal.τ).loc Cert.RDoutIdeal.main_arg1) = m ((c.tc : Thread Cert.RDoutIdeal.nD Cert.RDoutIdeal.τ).loc Cert.RDoutIdeal.main_arg1))
      ∧ r.2.sem = fun _ => 0)

def quiescent_KGout [hKGout : Cert.KGout.Facts] : Prop :=
  ∀ (m : (ℓ : Loc Cert.KGout.nD Cert.KGout.τ Cert.KGout.sig) → Buf (Elt Bits) ℓ) (g : Dev Cert.KGout.nD → PrngReg), Pre_KGout m →
    θ_run (Cert.KGout.defs (F := Bits)) (onTc (τ := Cert.KGout.τ) (Cert.KGout.main (F := Bits))) ⟨m, fun _ => 0, g⟩ (fun r => (∀ c : Dev Cert.KGout.nD,
      r.2.mem ((c.tc : Thread Cert.KGout.nD Cert.KGout.τ).loc Cert.KGout.main_arg0) = m ((c.tc : Thread Cert.KGout.nD Cert.KGout.τ).loc Cert.KGout.main_arg0)
      ∧ r.2.mem ((c.tc : Thread Cert.KGout.nD Cert.KGout.τ).loc Cert.KGout.main_arg1) = m ((c.tc : Thread Cert.KGout.nD Cert.KGout.τ).loc Cert.KGout.main_arg1))
      ∧ r.2.sem = fun _ => 0)

def quiescent_KGoutIdeal [hKGoutIdeal : Cert.KGoutIdeal.Facts] : Prop :=
  ∀ (m : (ℓ : Loc Cert.KGoutIdeal.nD Cert.KGoutIdeal.τ Cert.KGoutIdeal.sig) → Buf (Elt Ideal) ℓ) (g : Dev Cert.KGoutIdeal.nD → PrngReg), Pre_KGoutIdeal m →
    θ_run (Cert.KGoutIdeal.defs (F := Ideal)) (onTc (τ := Cert.KGoutIdeal.τ) (Cert.KGoutIdeal.main (F := Ideal))) ⟨m, fun _ => 0, g⟩ (fun r => (∀ c : Dev Cert.KGoutIdeal.nD,
      r.2.mem ((c.tc : Thread Cert.KGoutIdeal.nD Cert.KGoutIdeal.τ).loc Cert.KGoutIdeal.main_arg0) = m ((c.tc : Thread Cert.KGoutIdeal.nD Cert.KGoutIdeal.τ).loc Cert.KGoutIdeal.main_arg0)
      ∧ r.2.mem ((c.tc : Thread Cert.KGoutIdeal.nD Cert.KGoutIdeal.τ).loc Cert.KGoutIdeal.main_arg1) = m ((c.tc : Thread Cert.KGoutIdeal.nD Cert.KGoutIdeal.τ).loc Cert.KGoutIdeal.main_arg1))
      ∧ r.2.sem = fun _ => 0)

def quiescent_RGoutIdeal [hRGoutIdeal : Cert.RGoutIdeal.Facts] : Prop :=
  ∀ (m : (ℓ : Loc Cert.RGoutIdeal.nD Cert.RGoutIdeal.τ Cert.RGoutIdeal.sig) → Buf (Elt Ideal) ℓ) (g : Dev Cert.RGoutIdeal.nD → PrngReg), Pre_RGoutIdeal m →
    θ_run (Cert.RGoutIdeal.defs (F := Ideal)) (onTc (τ := Cert.RGoutIdeal.τ) (Cert.RGoutIdeal.main (F := Ideal))) ⟨m, fun _ => 0, g⟩ (fun r => (∀ c : Dev Cert.RGoutIdeal.nD,
      r.2.mem ((c.tc : Thread Cert.RGoutIdeal.nD Cert.RGoutIdeal.τ).loc Cert.RGoutIdeal.main_arg0) = m ((c.tc : Thread Cert.RGoutIdeal.nD Cert.RGoutIdeal.τ).loc Cert.RGoutIdeal.main_arg0)
      ∧ r.2.mem ((c.tc : Thread Cert.RGoutIdeal.nD Cert.RGoutIdeal.τ).loc Cert.RGoutIdeal.main_arg1) = m ((c.tc : Thread Cert.RGoutIdeal.nD Cert.RGoutIdeal.τ).loc Cert.RGoutIdeal.main_arg1))
      ∧ r.2.sem = fun _ => 0)

def quiescent_KDuq [hKDuq : Cert.KDuq.Facts] : Prop :=
  ∀ (m : (ℓ : Loc Cert.KDuq.nD Cert.KDuq.τ Cert.KDuq.sig) → Buf (Elt Bits) ℓ) (g : Dev Cert.KDuq.nD → PrngReg), Pre_KDuq m →
    θ_run (Cert.KDuq.defs (F := Bits)) (onTc (τ := Cert.KDuq.τ) (Cert.KDuq.main (F := Bits))) ⟨m, fun _ => 0, g⟩ (fun r => (∀ c : Dev Cert.KDuq.nD,
      r.2.mem ((c.tc : Thread Cert.KDuq.nD Cert.KDuq.τ).loc Cert.KDuq.main_arg0) = m ((c.tc : Thread Cert.KDuq.nD Cert.KDuq.τ).loc Cert.KDuq.main_arg0)
      ∧ r.2.mem ((c.tc : Thread Cert.KDuq.nD Cert.KDuq.τ).loc Cert.KDuq.main_arg1) = m ((c.tc : Thread Cert.KDuq.nD Cert.KDuq.τ).loc Cert.KDuq.main_arg1))
      ∧ r.2.sem = fun _ => 0)

def quiescent_KDuqIdeal [hKDuqIdeal : Cert.KDuqIdeal.Facts] : Prop :=
  ∀ (m : (ℓ : Loc Cert.KDuqIdeal.nD Cert.KDuqIdeal.τ Cert.KDuqIdeal.sig) → Buf (Elt Ideal) ℓ) (g : Dev Cert.KDuqIdeal.nD → PrngReg), Pre_KDuqIdeal m →
    θ_run (Cert.KDuqIdeal.defs (F := Ideal)) (onTc (τ := Cert.KDuqIdeal.τ) (Cert.KDuqIdeal.main (F := Ideal))) ⟨m, fun _ => 0, g⟩ (fun r => (∀ c : Dev Cert.KDuqIdeal.nD,
      r.2.mem ((c.tc : Thread Cert.KDuqIdeal.nD Cert.KDuqIdeal.τ).loc Cert.KDuqIdeal.main_arg0) = m ((c.tc : Thread Cert.KDuqIdeal.nD Cert.KDuqIdeal.τ).loc Cert.KDuqIdeal.main_arg0)
      ∧ r.2.mem ((c.tc : Thread Cert.KDuqIdeal.nD Cert.KDuqIdeal.τ).loc Cert.KDuqIdeal.main_arg1) = m ((c.tc : Thread Cert.KDuqIdeal.nD Cert.KDuqIdeal.τ).loc Cert.KDuqIdeal.main_arg1))
      ∧ r.2.sem = fun _ => 0)

def quiescent_RDuqIdeal [hRDuqIdeal : Cert.RDuqIdeal.Facts] : Prop :=
  ∀ (m : (ℓ : Loc Cert.RDuqIdeal.nD Cert.RDuqIdeal.τ Cert.RDuqIdeal.sig) → Buf (Elt Ideal) ℓ) (g : Dev Cert.RDuqIdeal.nD → PrngReg), Pre_RDuqIdeal m →
    θ_run (Cert.RDuqIdeal.defs (F := Ideal)) (onTc (τ := Cert.RDuqIdeal.τ) (Cert.RDuqIdeal.main (F := Ideal))) ⟨m, fun _ => 0, g⟩ (fun r => (∀ c : Dev Cert.RDuqIdeal.nD,
      r.2.mem ((c.tc : Thread Cert.RDuqIdeal.nD Cert.RDuqIdeal.τ).loc Cert.RDuqIdeal.main_arg0) = m ((c.tc : Thread Cert.RDuqIdeal.nD Cert.RDuqIdeal.τ).loc Cert.RDuqIdeal.main_arg0)
      ∧ r.2.mem ((c.tc : Thread Cert.RDuqIdeal.nD Cert.RDuqIdeal.τ).loc Cert.RDuqIdeal.main_arg1) = m ((c.tc : Thread Cert.RDuqIdeal.nD Cert.RDuqIdeal.τ).loc Cert.RDuqIdeal.main_arg1))
      ∧ r.2.sem = fun _ => 0)

def quiescent_KGuq [hKGuq : Cert.KGuq.Facts] : Prop :=
  ∀ (m : (ℓ : Loc Cert.KGuq.nD Cert.KGuq.τ Cert.KGuq.sig) → Buf (Elt Bits) ℓ) (g : Dev Cert.KGuq.nD → PrngReg), Pre_KGuq m →
    θ_run (Cert.KGuq.defs (F := Bits)) (onTc (τ := Cert.KGuq.τ) (Cert.KGuq.main (F := Bits))) ⟨m, fun _ => 0, g⟩ (fun r => (∀ c : Dev Cert.KGuq.nD,
      r.2.mem ((c.tc : Thread Cert.KGuq.nD Cert.KGuq.τ).loc Cert.KGuq.main_arg0) = m ((c.tc : Thread Cert.KGuq.nD Cert.KGuq.τ).loc Cert.KGuq.main_arg0)
      ∧ r.2.mem ((c.tc : Thread Cert.KGuq.nD Cert.KGuq.τ).loc Cert.KGuq.main_arg1) = m ((c.tc : Thread Cert.KGuq.nD Cert.KGuq.τ).loc Cert.KGuq.main_arg1))
      ∧ r.2.sem = fun _ => 0)

def quiescent_KGuqIdeal [hKGuqIdeal : Cert.KGuqIdeal.Facts] : Prop :=
  ∀ (m : (ℓ : Loc Cert.KGuqIdeal.nD Cert.KGuqIdeal.τ Cert.KGuqIdeal.sig) → Buf (Elt Ideal) ℓ) (g : Dev Cert.KGuqIdeal.nD → PrngReg), Pre_KGuqIdeal m →
    θ_run (Cert.KGuqIdeal.defs (F := Ideal)) (onTc (τ := Cert.KGuqIdeal.τ) (Cert.KGuqIdeal.main (F := Ideal))) ⟨m, fun _ => 0, g⟩ (fun r => (∀ c : Dev Cert.KGuqIdeal.nD,
      r.2.mem ((c.tc : Thread Cert.KGuqIdeal.nD Cert.KGuqIdeal.τ).loc Cert.KGuqIdeal.main_arg0) = m ((c.tc : Thread Cert.KGuqIdeal.nD Cert.KGuqIdeal.τ).loc Cert.KGuqIdeal.main_arg0)
      ∧ r.2.mem ((c.tc : Thread Cert.KGuqIdeal.nD Cert.KGuqIdeal.τ).loc Cert.KGuqIdeal.main_arg1) = m ((c.tc : Thread Cert.KGuqIdeal.nD Cert.KGuqIdeal.τ).loc Cert.KGuqIdeal.main_arg1))
      ∧ r.2.sem = fun _ => 0)

def quiescent_RGuqIdeal [hRGuqIdeal : Cert.RGuqIdeal.Facts] : Prop :=
  ∀ (m : (ℓ : Loc Cert.RGuqIdeal.nD Cert.RGuqIdeal.τ Cert.RGuqIdeal.sig) → Buf (Elt Ideal) ℓ) (g : Dev Cert.RGuqIdeal.nD → PrngReg), Pre_RGuqIdeal m →
    θ_run (Cert.RGuqIdeal.defs (F := Ideal)) (onTc (τ := Cert.RGuqIdeal.τ) (Cert.RGuqIdeal.main (F := Ideal))) ⟨m, fun _ => 0, g⟩ (fun r => (∀ c : Dev Cert.RGuqIdeal.nD,
      r.2.mem ((c.tc : Thread Cert.RGuqIdeal.nD Cert.RGuqIdeal.τ).loc Cert.RGuqIdeal.main_arg0) = m ((c.tc : Thread Cert.RGuqIdeal.nD Cert.RGuqIdeal.τ).loc Cert.RGuqIdeal.main_arg0)
      ∧ r.2.mem ((c.tc : Thread Cert.RGuqIdeal.nD Cert.RGuqIdeal.τ).loc Cert.RGuqIdeal.main_arg1) = m ((c.tc : Thread Cert.RGuqIdeal.nD Cert.RGuqIdeal.τ).loc Cert.RGuqIdeal.main_arg1))
      ∧ r.2.sem = fun _ => 0)

def quiescent_KDukv [hKDukv : Cert.KDukv.Facts] : Prop :=
  ∀ (m : (ℓ : Loc Cert.KDukv.nD Cert.KDukv.τ Cert.KDukv.sig) → Buf (Elt Bits) ℓ) (g : Dev Cert.KDukv.nD → PrngReg), Pre_KDukv m →
    θ_run (Cert.KDukv.defs (F := Bits)) (onTc (τ := Cert.KDukv.τ) (Cert.KDukv.main (F := Bits))) ⟨m, fun _ => 0, g⟩ (fun r => (∀ c : Dev Cert.KDukv.nD,
      r.2.mem ((c.tc : Thread Cert.KDukv.nD Cert.KDukv.τ).loc Cert.KDukv.main_arg0) = m ((c.tc : Thread Cert.KDukv.nD Cert.KDukv.τ).loc Cert.KDukv.main_arg0)
      ∧ r.2.mem ((c.tc : Thread Cert.KDukv.nD Cert.KDukv.τ).loc Cert.KDukv.main_arg1) = m ((c.tc : Thread Cert.KDukv.nD Cert.KDukv.τ).loc Cert.KDukv.main_arg1))
      ∧ r.2.sem = fun _ => 0)

def quiescent_KDukvIdeal [hKDukvIdeal : Cert.KDukvIdeal.Facts] : Prop :=
  ∀ (m : (ℓ : Loc Cert.KDukvIdeal.nD Cert.KDukvIdeal.τ Cert.KDukvIdeal.sig) → Buf (Elt Ideal) ℓ) (g : Dev Cert.KDukvIdeal.nD → PrngReg), Pre_KDukvIdeal m →
    θ_run (Cert.KDukvIdeal.defs (F := Ideal)) (onTc (τ := Cert.KDukvIdeal.τ) (Cert.KDukvIdeal.main (F := Ideal))) ⟨m, fun _ => 0, g⟩ (fun r => (∀ c : Dev Cert.KDukvIdeal.nD,
      r.2.mem ((c.tc : Thread Cert.KDukvIdeal.nD Cert.KDukvIdeal.τ).loc Cert.KDukvIdeal.main_arg0) = m ((c.tc : Thread Cert.KDukvIdeal.nD Cert.KDukvIdeal.τ).loc Cert.KDukvIdeal.main_arg0)
      ∧ r.2.mem ((c.tc : Thread Cert.KDukvIdeal.nD Cert.KDukvIdeal.τ).loc Cert.KDukvIdeal.main_arg1) = m ((c.tc : Thread Cert.KDukvIdeal.nD Cert.KDukvIdeal.τ).loc Cert.KDukvIdeal.main_arg1))
      ∧ r.2.sem = fun _ => 0)

def quiescent_RDukvIdeal [hRDukvIdeal : Cert.RDukvIdeal.Facts] : Prop :=
  ∀ (m : (ℓ : Loc Cert.RDukvIdeal.nD Cert.RDukvIdeal.τ Cert.RDukvIdeal.sig) → Buf (Elt Ideal) ℓ) (g : Dev Cert.RDukvIdeal.nD → PrngReg), Pre_RDukvIdeal m →
    θ_run (Cert.RDukvIdeal.defs (F := Ideal)) (onTc (τ := Cert.RDukvIdeal.τ) (Cert.RDukvIdeal.main (F := Ideal))) ⟨m, fun _ => 0, g⟩ (fun r => (∀ c : Dev Cert.RDukvIdeal.nD,
      r.2.mem ((c.tc : Thread Cert.RDukvIdeal.nD Cert.RDukvIdeal.τ).loc Cert.RDukvIdeal.main_arg0) = m ((c.tc : Thread Cert.RDukvIdeal.nD Cert.RDukvIdeal.τ).loc Cert.RDukvIdeal.main_arg0)
      ∧ r.2.mem ((c.tc : Thread Cert.RDukvIdeal.nD Cert.RDukvIdeal.τ).loc Cert.RDukvIdeal.main_arg1) = m ((c.tc : Thread Cert.RDukvIdeal.nD Cert.RDukvIdeal.τ).loc Cert.RDukvIdeal.main_arg1))
      ∧ r.2.sem = fun _ => 0)

def quiescent_KGukv [hKGukv : Cert.KGukv.Facts] : Prop :=
  ∀ (m : (ℓ : Loc Cert.KGukv.nD Cert.KGukv.τ Cert.KGukv.sig) → Buf (Elt Bits) ℓ) (g : Dev Cert.KGukv.nD → PrngReg), Pre_KGukv m →
    θ_run (Cert.KGukv.defs (F := Bits)) (onTc (τ := Cert.KGukv.τ) (Cert.KGukv.main (F := Bits))) ⟨m, fun _ => 0, g⟩ (fun r => (∀ c : Dev Cert.KGukv.nD,
      r.2.mem ((c.tc : Thread Cert.KGukv.nD Cert.KGukv.τ).loc Cert.KGukv.main_arg0) = m ((c.tc : Thread Cert.KGukv.nD Cert.KGukv.τ).loc Cert.KGukv.main_arg0)
      ∧ r.2.mem ((c.tc : Thread Cert.KGukv.nD Cert.KGukv.τ).loc Cert.KGukv.main_arg1) = m ((c.tc : Thread Cert.KGukv.nD Cert.KGukv.τ).loc Cert.KGukv.main_arg1))
      ∧ r.2.sem = fun _ => 0)

def quiescent_KGukvIdeal [hKGukvIdeal : Cert.KGukvIdeal.Facts] : Prop :=
  ∀ (m : (ℓ : Loc Cert.KGukvIdeal.nD Cert.KGukvIdeal.τ Cert.KGukvIdeal.sig) → Buf (Elt Ideal) ℓ) (g : Dev Cert.KGukvIdeal.nD → PrngReg), Pre_KGukvIdeal m →
    θ_run (Cert.KGukvIdeal.defs (F := Ideal)) (onTc (τ := Cert.KGukvIdeal.τ) (Cert.KGukvIdeal.main (F := Ideal))) ⟨m, fun _ => 0, g⟩ (fun r => (∀ c : Dev Cert.KGukvIdeal.nD,
      r.2.mem ((c.tc : Thread Cert.KGukvIdeal.nD Cert.KGukvIdeal.τ).loc Cert.KGukvIdeal.main_arg0) = m ((c.tc : Thread Cert.KGukvIdeal.nD Cert.KGukvIdeal.τ).loc Cert.KGukvIdeal.main_arg0)
      ∧ r.2.mem ((c.tc : Thread Cert.KGukvIdeal.nD Cert.KGukvIdeal.τ).loc Cert.KGukvIdeal.main_arg1) = m ((c.tc : Thread Cert.KGukvIdeal.nD Cert.KGukvIdeal.τ).loc Cert.KGukvIdeal.main_arg1))
      ∧ r.2.sem = fun _ => 0)

def quiescent_RGukvIdeal [hRGukvIdeal : Cert.RGukvIdeal.Facts] : Prop :=
  ∀ (m : (ℓ : Loc Cert.RGukvIdeal.nD Cert.RGukvIdeal.τ Cert.RGukvIdeal.sig) → Buf (Elt Ideal) ℓ) (g : Dev Cert.RGukvIdeal.nD → PrngReg), Pre_RGukvIdeal m →
    θ_run (Cert.RGukvIdeal.defs (F := Ideal)) (onTc (τ := Cert.RGukvIdeal.τ) (Cert.RGukvIdeal.main (F := Ideal))) ⟨m, fun _ => 0, g⟩ (fun r => (∀ c : Dev Cert.RGukvIdeal.nD,
      r.2.mem ((c.tc : Thread Cert.RGukvIdeal.nD Cert.RGukvIdeal.τ).loc Cert.RGukvIdeal.main_arg0) = m ((c.tc : Thread Cert.RGukvIdeal.nD Cert.RGukvIdeal.τ).loc Cert.RGukvIdeal.main_arg0)
      ∧ r.2.mem ((c.tc : Thread Cert.RGukvIdeal.nD Cert.RGukvIdeal.τ).loc Cert.RGukvIdeal.main_arg1) = m ((c.tc : Thread Cert.RGukvIdeal.nD Cert.RGukvIdeal.τ).loc Cert.RGukvIdeal.main_arg1))
      ∧ r.2.sem = fun _ => 0)

def quiescent_KDin [hKDin : Cert.KDin.Facts] : Prop :=
  ∀ (m : (ℓ : Loc Cert.KDin.nD Cert.KDin.τ Cert.KDin.sig) → Buf (Elt Bits) ℓ) (g : Dev Cert.KDin.nD → PrngReg), Pre_KDin m →
    θ_run (Cert.KDin.defs (F := Bits)) (onTc (τ := Cert.KDin.τ) (Cert.KDin.main (F := Bits))) ⟨m, fun _ => 0, g⟩ (fun r => (∀ c : Dev Cert.KDin.nD,
      r.2.mem ((c.tc : Thread Cert.KDin.nD Cert.KDin.τ).loc Cert.KDin.main_arg0) = m ((c.tc : Thread Cert.KDin.nD Cert.KDin.τ).loc Cert.KDin.main_arg0)
      ∧ r.2.mem ((c.tc : Thread Cert.KDin.nD Cert.KDin.τ).loc Cert.KDin.main_arg1) = m ((c.tc : Thread Cert.KDin.nD Cert.KDin.τ).loc Cert.KDin.main_arg1)
      ∧ r.2.mem ((c.tc : Thread Cert.KDin.nD Cert.KDin.τ).loc Cert.KDin.main_arg2) = m ((c.tc : Thread Cert.KDin.nD Cert.KDin.τ).loc Cert.KDin.main_arg2))
      ∧ r.2.sem = fun _ => 0)

def quiescent_KDinIdeal [hKDinIdeal : Cert.KDinIdeal.Facts] : Prop :=
  ∀ (m : (ℓ : Loc Cert.KDinIdeal.nD Cert.KDinIdeal.τ Cert.KDinIdeal.sig) → Buf (Elt Ideal) ℓ) (g : Dev Cert.KDinIdeal.nD → PrngReg), Pre_KDinIdeal m →
    θ_run (Cert.KDinIdeal.defs (F := Ideal)) (onTc (τ := Cert.KDinIdeal.τ) (Cert.KDinIdeal.main (F := Ideal))) ⟨m, fun _ => 0, g⟩ (fun r => (∀ c : Dev Cert.KDinIdeal.nD,
      r.2.mem ((c.tc : Thread Cert.KDinIdeal.nD Cert.KDinIdeal.τ).loc Cert.KDinIdeal.main_arg0) = m ((c.tc : Thread Cert.KDinIdeal.nD Cert.KDinIdeal.τ).loc Cert.KDinIdeal.main_arg0)
      ∧ r.2.mem ((c.tc : Thread Cert.KDinIdeal.nD Cert.KDinIdeal.τ).loc Cert.KDinIdeal.main_arg1) = m ((c.tc : Thread Cert.KDinIdeal.nD Cert.KDinIdeal.τ).loc Cert.KDinIdeal.main_arg1)
      ∧ r.2.mem ((c.tc : Thread Cert.KDinIdeal.nD Cert.KDinIdeal.τ).loc Cert.KDinIdeal.main_arg2) = m ((c.tc : Thread Cert.KDinIdeal.nD Cert.KDinIdeal.τ).loc Cert.KDinIdeal.main_arg2))
      ∧ r.2.sem = fun _ => 0)

def quiescent_RDinIdeal [hRDinIdeal : Cert.RDinIdeal.Facts] : Prop :=
  ∀ (m : (ℓ : Loc Cert.RDinIdeal.nD Cert.RDinIdeal.τ Cert.RDinIdeal.sig) → Buf (Elt Ideal) ℓ) (g : Dev Cert.RDinIdeal.nD → PrngReg), Pre_RDinIdeal m →
    θ_run (Cert.RDinIdeal.defs (F := Ideal)) (onTc (τ := Cert.RDinIdeal.τ) (Cert.RDinIdeal.main (F := Ideal))) ⟨m, fun _ => 0, g⟩ (fun r => (∀ c : Dev Cert.RDinIdeal.nD,
      r.2.mem ((c.tc : Thread Cert.RDinIdeal.nD Cert.RDinIdeal.τ).loc Cert.RDinIdeal.main_arg0) = m ((c.tc : Thread Cert.RDinIdeal.nD Cert.RDinIdeal.τ).loc Cert.RDinIdeal.main_arg0)
      ∧ r.2.mem ((c.tc : Thread Cert.RDinIdeal.nD Cert.RDinIdeal.τ).loc Cert.RDinIdeal.main_arg1) = m ((c.tc : Thread Cert.RDinIdeal.nD Cert.RDinIdeal.τ).loc Cert.RDinIdeal.main_arg1)
      ∧ r.2.mem ((c.tc : Thread Cert.RDinIdeal.nD Cert.RDinIdeal.τ).loc Cert.RDinIdeal.main_arg2) = m ((c.tc : Thread Cert.RDinIdeal.nD Cert.RDinIdeal.τ).loc Cert.RDinIdeal.main_arg2))
      ∧ r.2.sem = fun _ => 0)

def quiescent_KGin [hKGin : Cert.KGin.Facts] : Prop :=
  ∀ (m : (ℓ : Loc Cert.KGin.nD Cert.KGin.τ Cert.KGin.sig) → Buf (Elt Bits) ℓ) (g : Dev Cert.KGin.nD → PrngReg), Pre_KGin m →
    θ_run (Cert.KGin.defs (F := Bits)) (onTc (τ := Cert.KGin.τ) (Cert.KGin.main (F := Bits))) ⟨m, fun _ => 0, g⟩ (fun r => (∀ c : Dev Cert.KGin.nD,
      r.2.mem ((c.tc : Thread Cert.KGin.nD Cert.KGin.τ).loc Cert.KGin.main_arg0) = m ((c.tc : Thread Cert.KGin.nD Cert.KGin.τ).loc Cert.KGin.main_arg0)
      ∧ r.2.mem ((c.tc : Thread Cert.KGin.nD Cert.KGin.τ).loc Cert.KGin.main_arg1) = m ((c.tc : Thread Cert.KGin.nD Cert.KGin.τ).loc Cert.KGin.main_arg1))
      ∧ r.2.sem = fun _ => 0)

def quiescent_KGinIdeal [hKGinIdeal : Cert.KGinIdeal.Facts] : Prop :=
  ∀ (m : (ℓ : Loc Cert.KGinIdeal.nD Cert.KGinIdeal.τ Cert.KGinIdeal.sig) → Buf (Elt Ideal) ℓ) (g : Dev Cert.KGinIdeal.nD → PrngReg), Pre_KGinIdeal m →
    θ_run (Cert.KGinIdeal.defs (F := Ideal)) (onTc (τ := Cert.KGinIdeal.τ) (Cert.KGinIdeal.main (F := Ideal))) ⟨m, fun _ => 0, g⟩ (fun r => (∀ c : Dev Cert.KGinIdeal.nD,
      r.2.mem ((c.tc : Thread Cert.KGinIdeal.nD Cert.KGinIdeal.τ).loc Cert.KGinIdeal.main_arg0) = m ((c.tc : Thread Cert.KGinIdeal.nD Cert.KGinIdeal.τ).loc Cert.KGinIdeal.main_arg0)
      ∧ r.2.mem ((c.tc : Thread Cert.KGinIdeal.nD Cert.KGinIdeal.τ).loc Cert.KGinIdeal.main_arg1) = m ((c.tc : Thread Cert.KGinIdeal.nD Cert.KGinIdeal.τ).loc Cert.KGinIdeal.main_arg1))
      ∧ r.2.sem = fun _ => 0)

def quiescent_RGinIdeal [hRGinIdeal : Cert.RGinIdeal.Facts] : Prop :=
  ∀ (m : (ℓ : Loc Cert.RGinIdeal.nD Cert.RGinIdeal.τ Cert.RGinIdeal.sig) → Buf (Elt Ideal) ℓ) (g : Dev Cert.RGinIdeal.nD → PrngReg), Pre_RGinIdeal m →
    θ_run (Cert.RGinIdeal.defs (F := Ideal)) (onTc (τ := Cert.RGinIdeal.τ) (Cert.RGinIdeal.main (F := Ideal))) ⟨m, fun _ => 0, g⟩ (fun r => (∀ c : Dev Cert.RGinIdeal.nD,
      r.2.mem ((c.tc : Thread Cert.RGinIdeal.nD Cert.RGinIdeal.τ).loc Cert.RGinIdeal.main_arg0) = m ((c.tc : Thread Cert.RGinIdeal.nD Cert.RGinIdeal.τ).loc Cert.RGinIdeal.main_arg0)
      ∧ r.2.mem ((c.tc : Thread Cert.RGinIdeal.nD Cert.RGinIdeal.τ).loc Cert.RGinIdeal.main_arg1) = m ((c.tc : Thread Cert.RGinIdeal.nD Cert.RGinIdeal.τ).loc Cert.RGinIdeal.main_arg1))
      ∧ r.2.sem = fun _ => 0)

def quiescent_KFf1 [hKFf1 : Cert.KFf1.Facts] : Prop :=
  ∀ (m : (ℓ : Loc Cert.KFf1.nD Cert.KFf1.τ Cert.KFf1.sig) → Buf (Elt Bits) ℓ) (g : Dev Cert.KFf1.nD → PrngReg), Pre_KFf1 m →
    θ_run (Cert.KFf1.defs (F := Bits)) (onTc (τ := Cert.KFf1.τ) (Cert.KFf1.main (F := Bits))) ⟨m, fun _ => 0, g⟩ (fun r => (∀ c : Dev Cert.KFf1.nD,
      r.2.mem ((c.tc : Thread Cert.KFf1.nD Cert.KFf1.τ).loc Cert.KFf1.main_arg0) = m ((c.tc : Thread Cert.KFf1.nD Cert.KFf1.τ).loc Cert.KFf1.main_arg0)
      ∧ r.2.mem ((c.tc : Thread Cert.KFf1.nD Cert.KFf1.τ).loc Cert.KFf1.main_arg1) = m ((c.tc : Thread Cert.KFf1.nD Cert.KFf1.τ).loc Cert.KFf1.main_arg1))
      ∧ r.2.sem = fun _ => 0)

def quiescent_KFf1Ideal [hKFf1Ideal : Cert.KFf1Ideal.Facts] : Prop :=
  ∀ (m : (ℓ : Loc Cert.KFf1Ideal.nD Cert.KFf1Ideal.τ Cert.KFf1Ideal.sig) → Buf (Elt Ideal) ℓ) (g : Dev Cert.KFf1Ideal.nD → PrngReg), Pre_KFf1Ideal m →
    θ_run (Cert.KFf1Ideal.defs (F := Ideal)) (onTc (τ := Cert.KFf1Ideal.τ) (Cert.KFf1Ideal.main (F := Ideal))) ⟨m, fun _ => 0, g⟩ (fun r => (∀ c : Dev Cert.KFf1Ideal.nD,
      r.2.mem ((c.tc : Thread Cert.KFf1Ideal.nD Cert.KFf1Ideal.τ).loc Cert.KFf1Ideal.main_arg0) = m ((c.tc : Thread Cert.KFf1Ideal.nD Cert.KFf1Ideal.τ).loc Cert.KFf1Ideal.main_arg0)
      ∧ r.2.mem ((c.tc : Thread Cert.KFf1Ideal.nD Cert.KFf1Ideal.τ).loc Cert.KFf1Ideal.main_arg1) = m ((c.tc : Thread Cert.KFf1Ideal.nD Cert.KFf1Ideal.τ).loc Cert.KFf1Ideal.main_arg1))
      ∧ r.2.sem = fun _ => 0)

def quiescent_RFf1Ideal [hRFf1Ideal : Cert.RFf1Ideal.Facts] : Prop :=
  ∀ (m : (ℓ : Loc Cert.RFf1Ideal.nD Cert.RFf1Ideal.τ Cert.RFf1Ideal.sig) → Buf (Elt Ideal) ℓ) (g : Dev Cert.RFf1Ideal.nD → PrngReg), Pre_RFf1Ideal m →
    θ_run (Cert.RFf1Ideal.defs (F := Ideal)) (onTc (τ := Cert.RFf1Ideal.τ) (Cert.RFf1Ideal.main (F := Ideal))) ⟨m, fun _ => 0, g⟩ (fun r => (∀ c : Dev Cert.RFf1Ideal.nD,
      r.2.mem ((c.tc : Thread Cert.RFf1Ideal.nD Cert.RFf1Ideal.τ).loc Cert.RFf1Ideal.main_arg0) = m ((c.tc : Thread Cert.RFf1Ideal.nD Cert.RFf1Ideal.τ).loc Cert.RFf1Ideal.main_arg0)
      ∧ r.2.mem ((c.tc : Thread Cert.RFf1Ideal.nD Cert.RFf1Ideal.τ).loc Cert.RFf1Ideal.main_arg1) = m ((c.tc : Thread Cert.RFf1Ideal.nD Cert.RFf1Ideal.τ).loc Cert.RFf1Ideal.main_arg1))
      ∧ r.2.sem = fun _ => 0)

def quiescent_KFf2 [hKFf2 : Cert.KFf2.Facts] : Prop :=
  ∀ (m : (ℓ : Loc Cert.KFf2.nD Cert.KFf2.τ Cert.KFf2.sig) → Buf (Elt Bits) ℓ) (g : Dev Cert.KFf2.nD → PrngReg), Pre_KFf2 m →
    θ_run (Cert.KFf2.defs (F := Bits)) (onTc (τ := Cert.KFf2.τ) (Cert.KFf2.main (F := Bits))) ⟨m, fun _ => 0, g⟩ (fun r => (∀ c : Dev Cert.KFf2.nD,
      r.2.mem ((c.tc : Thread Cert.KFf2.nD Cert.KFf2.τ).loc Cert.KFf2.main_arg0) = m ((c.tc : Thread Cert.KFf2.nD Cert.KFf2.τ).loc Cert.KFf2.main_arg0)
      ∧ r.2.mem ((c.tc : Thread Cert.KFf2.nD Cert.KFf2.τ).loc Cert.KFf2.main_arg1) = m ((c.tc : Thread Cert.KFf2.nD Cert.KFf2.τ).loc Cert.KFf2.main_arg1))
      ∧ r.2.sem = fun _ => 0)

def quiescent_KFf2Ideal [hKFf2Ideal : Cert.KFf2Ideal.Facts] : Prop :=
  ∀ (m : (ℓ : Loc Cert.KFf2Ideal.nD Cert.KFf2Ideal.τ Cert.KFf2Ideal.sig) → Buf (Elt Ideal) ℓ) (g : Dev Cert.KFf2Ideal.nD → PrngReg), Pre_KFf2Ideal m →
    θ_run (Cert.KFf2Ideal.defs (F := Ideal)) (onTc (τ := Cert.KFf2Ideal.τ) (Cert.KFf2Ideal.main (F := Ideal))) ⟨m, fun _ => 0, g⟩ (fun r => (∀ c : Dev Cert.KFf2Ideal.nD,
      r.2.mem ((c.tc : Thread Cert.KFf2Ideal.nD Cert.KFf2Ideal.τ).loc Cert.KFf2Ideal.main_arg0) = m ((c.tc : Thread Cert.KFf2Ideal.nD Cert.KFf2Ideal.τ).loc Cert.KFf2Ideal.main_arg0)
      ∧ r.2.mem ((c.tc : Thread Cert.KFf2Ideal.nD Cert.KFf2Ideal.τ).loc Cert.KFf2Ideal.main_arg1) = m ((c.tc : Thread Cert.KFf2Ideal.nD Cert.KFf2Ideal.τ).loc Cert.KFf2Ideal.main_arg1))
      ∧ r.2.sem = fun _ => 0)

def quiescent_RFf2Ideal [hRFf2Ideal : Cert.RFf2Ideal.Facts] : Prop :=
  ∀ (m : (ℓ : Loc Cert.RFf2Ideal.nD Cert.RFf2Ideal.τ Cert.RFf2Ideal.sig) → Buf (Elt Ideal) ℓ) (g : Dev Cert.RFf2Ideal.nD → PrngReg), Pre_RFf2Ideal m →
    θ_run (Cert.RFf2Ideal.defs (F := Ideal)) (onTc (τ := Cert.RFf2Ideal.τ) (Cert.RFf2Ideal.main (F := Ideal))) ⟨m, fun _ => 0, g⟩ (fun r => (∀ c : Dev Cert.RFf2Ideal.nD,
      r.2.mem ((c.tc : Thread Cert.RFf2Ideal.nD Cert.RFf2Ideal.τ).loc Cert.RFf2Ideal.main_arg0) = m ((c.tc : Thread Cert.RFf2Ideal.nD Cert.RFf2Ideal.τ).loc Cert.RFf2Ideal.main_arg0)
      ∧ r.2.mem ((c.tc : Thread Cert.RFf2Ideal.nD Cert.RFf2Ideal.τ).loc Cert.RFf2Ideal.main_arg1) = m ((c.tc : Thread Cert.RFf2Ideal.nD Cert.RFf2Ideal.τ).loc Cert.RFf2Ideal.main_arg1))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1))
      ∧ r.2.sem = fun _ => 0)

def quiescent_KUq [hKUq : Cert.KUq.Facts] : Prop :=
  ∀ (m : (ℓ : Loc Cert.KUq.nD Cert.KUq.τ Cert.KUq.sig) → Buf (Elt Bits) ℓ) (g : Dev Cert.KUq.nD → PrngReg), Pre_KUq m →
    θ_run (Cert.KUq.defs (F := Bits)) (onTc (τ := Cert.KUq.τ) (Cert.KUq.main (F := Bits))) ⟨m, fun _ => 0, g⟩ (fun r => (∀ c : Dev Cert.KUq.nD,
      r.2.mem ((c.tc : Thread Cert.KUq.nD Cert.KUq.τ).loc Cert.KUq.main_arg0) = m ((c.tc : Thread Cert.KUq.nD Cert.KUq.τ).loc Cert.KUq.main_arg0)
      ∧ r.2.mem ((c.tc : Thread Cert.KUq.nD Cert.KUq.τ).loc Cert.KUq.main_arg1) = m ((c.tc : Thread Cert.KUq.nD Cert.KUq.τ).loc Cert.KUq.main_arg1))
      ∧ r.2.sem = fun _ => 0)

def quiescent_KUqIdeal [hKUqIdeal : Cert.KUqIdeal.Facts] : Prop :=
  ∀ (m : (ℓ : Loc Cert.KUqIdeal.nD Cert.KUqIdeal.τ Cert.KUqIdeal.sig) → Buf (Elt Ideal) ℓ) (g : Dev Cert.KUqIdeal.nD → PrngReg), Pre_KUqIdeal m →
    θ_run (Cert.KUqIdeal.defs (F := Ideal)) (onTc (τ := Cert.KUqIdeal.τ) (Cert.KUqIdeal.main (F := Ideal))) ⟨m, fun _ => 0, g⟩ (fun r => (∀ c : Dev Cert.KUqIdeal.nD,
      r.2.mem ((c.tc : Thread Cert.KUqIdeal.nD Cert.KUqIdeal.τ).loc Cert.KUqIdeal.main_arg0) = m ((c.tc : Thread Cert.KUqIdeal.nD Cert.KUqIdeal.τ).loc Cert.KUqIdeal.main_arg0)
      ∧ r.2.mem ((c.tc : Thread Cert.KUqIdeal.nD Cert.KUqIdeal.τ).loc Cert.KUqIdeal.main_arg1) = m ((c.tc : Thread Cert.KUqIdeal.nD Cert.KUqIdeal.τ).loc Cert.KUqIdeal.main_arg1))
      ∧ r.2.sem = fun _ => 0)

def quiescent_RUqIdeal [hRUqIdeal : Cert.RUqIdeal.Facts] : Prop :=
  ∀ (m : (ℓ : Loc Cert.RUqIdeal.nD Cert.RUqIdeal.τ Cert.RUqIdeal.sig) → Buf (Elt Ideal) ℓ) (g : Dev Cert.RUqIdeal.nD → PrngReg), Pre_RUqIdeal m →
    θ_run (Cert.RUqIdeal.defs (F := Ideal)) (onTc (τ := Cert.RUqIdeal.τ) (Cert.RUqIdeal.main (F := Ideal))) ⟨m, fun _ => 0, g⟩ (fun r => (∀ c : Dev Cert.RUqIdeal.nD,
      r.2.mem ((c.tc : Thread Cert.RUqIdeal.nD Cert.RUqIdeal.τ).loc Cert.RUqIdeal.main_arg0) = m ((c.tc : Thread Cert.RUqIdeal.nD Cert.RUqIdeal.τ).loc Cert.RUqIdeal.main_arg0)
      ∧ r.2.mem ((c.tc : Thread Cert.RUqIdeal.nD Cert.RUqIdeal.τ).loc Cert.RUqIdeal.main_arg1) = m ((c.tc : Thread Cert.RUqIdeal.nD Cert.RUqIdeal.τ).loc Cert.RUqIdeal.main_arg1))
      ∧ r.2.sem = fun _ => 0)

def quiescent_KUkv [hKUkv : Cert.KUkv.Facts] : Prop :=
  ∀ (m : (ℓ : Loc Cert.KUkv.nD Cert.KUkv.τ Cert.KUkv.sig) → Buf (Elt Bits) ℓ) (g : Dev Cert.KUkv.nD → PrngReg), Pre_KUkv m →
    θ_run (Cert.KUkv.defs (F := Bits)) (onTc (τ := Cert.KUkv.τ) (Cert.KUkv.main (F := Bits))) ⟨m, fun _ => 0, g⟩ (fun r => (∀ c : Dev Cert.KUkv.nD,
      r.2.mem ((c.tc : Thread Cert.KUkv.nD Cert.KUkv.τ).loc Cert.KUkv.main_arg0) = m ((c.tc : Thread Cert.KUkv.nD Cert.KUkv.τ).loc Cert.KUkv.main_arg0)
      ∧ r.2.mem ((c.tc : Thread Cert.KUkv.nD Cert.KUkv.τ).loc Cert.KUkv.main_arg1) = m ((c.tc : Thread Cert.KUkv.nD Cert.KUkv.τ).loc Cert.KUkv.main_arg1))
      ∧ r.2.sem = fun _ => 0)

def quiescent_KUkvIdeal [hKUkvIdeal : Cert.KUkvIdeal.Facts] : Prop :=
  ∀ (m : (ℓ : Loc Cert.KUkvIdeal.nD Cert.KUkvIdeal.τ Cert.KUkvIdeal.sig) → Buf (Elt Ideal) ℓ) (g : Dev Cert.KUkvIdeal.nD → PrngReg), Pre_KUkvIdeal m →
    θ_run (Cert.KUkvIdeal.defs (F := Ideal)) (onTc (τ := Cert.KUkvIdeal.τ) (Cert.KUkvIdeal.main (F := Ideal))) ⟨m, fun _ => 0, g⟩ (fun r => (∀ c : Dev Cert.KUkvIdeal.nD,
      r.2.mem ((c.tc : Thread Cert.KUkvIdeal.nD Cert.KUkvIdeal.τ).loc Cert.KUkvIdeal.main_arg0) = m ((c.tc : Thread Cert.KUkvIdeal.nD Cert.KUkvIdeal.τ).loc Cert.KUkvIdeal.main_arg0)
      ∧ r.2.mem ((c.tc : Thread Cert.KUkvIdeal.nD Cert.KUkvIdeal.τ).loc Cert.KUkvIdeal.main_arg1) = m ((c.tc : Thread Cert.KUkvIdeal.nD Cert.KUkvIdeal.τ).loc Cert.KUkvIdeal.main_arg1))
      ∧ r.2.sem = fun _ => 0)

def quiescent_RUkvIdeal [hRUkvIdeal : Cert.RUkvIdeal.Facts] : Prop :=
  ∀ (m : (ℓ : Loc Cert.RUkvIdeal.nD Cert.RUkvIdeal.τ Cert.RUkvIdeal.sig) → Buf (Elt Ideal) ℓ) (g : Dev Cert.RUkvIdeal.nD → PrngReg), Pre_RUkvIdeal m →
    θ_run (Cert.RUkvIdeal.defs (F := Ideal)) (onTc (τ := Cert.RUkvIdeal.τ) (Cert.RUkvIdeal.main (F := Ideal))) ⟨m, fun _ => 0, g⟩ (fun r => (∀ c : Dev Cert.RUkvIdeal.nD,
      r.2.mem ((c.tc : Thread Cert.RUkvIdeal.nD Cert.RUkvIdeal.τ).loc Cert.RUkvIdeal.main_arg0) = m ((c.tc : Thread Cert.RUkvIdeal.nD Cert.RUkvIdeal.τ).loc Cert.RUkvIdeal.main_arg0)
      ∧ r.2.mem ((c.tc : Thread Cert.RUkvIdeal.nD Cert.RUkvIdeal.τ).loc Cert.RUkvIdeal.main_arg1) = m ((c.tc : Thread Cert.RUkvIdeal.nD Cert.RUkvIdeal.τ).loc Cert.RUkvIdeal.main_arg1))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KSmall [hKSmall : Cert.KSmall.Facts] : Prop :=
  ∀ (m : (ℓ : Loc Cert.KSmall.nD Cert.KSmall.τ Cert.KSmall.sig) → Buf (Elt Bits) ℓ) (g : Dev Cert.KSmall.nD → PrngReg), Pre_KSmall m →
    θ_run (Cert.KSmall.defs (F := Bits)) (onTc (τ := Cert.KSmall.τ) (Cert.KSmall.main (F := Bits))) ⟨m, fun _ => 0, g⟩ (fun r => (∀ c : Dev Cert.KSmall.nD,
      r.2.mem ((c.tc : Thread Cert.KSmall.nD Cert.KSmall.τ).loc Cert.KSmall.main_arg0) = m ((c.tc : Thread Cert.KSmall.nD Cert.KSmall.τ).loc Cert.KSmall.main_arg0)
      ∧ r.2.mem ((c.tc : Thread Cert.KSmall.nD Cert.KSmall.τ).loc Cert.KSmall.main_arg1) = m ((c.tc : Thread Cert.KSmall.nD Cert.KSmall.τ).loc Cert.KSmall.main_arg1)
      ∧ r.2.mem ((c.tc : Thread Cert.KSmall.nD Cert.KSmall.τ).loc Cert.KSmall.main_arg2) = m ((c.tc : Thread Cert.KSmall.nD Cert.KSmall.τ).loc Cert.KSmall.main_arg2)
      ∧ r.2.mem ((c.tc : Thread Cert.KSmall.nD Cert.KSmall.τ).loc Cert.KSmall.main_arg3) = m ((c.tc : Thread Cert.KSmall.nD Cert.KSmall.τ).loc Cert.KSmall.main_arg3))
      ∧ r.2.sem = fun _ => 0)

def quiescent_KSmallIdeal [hKSmallIdeal : Cert.KSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg), Pre_KSmallIdeal m →
    θ_run (Cert.KSmallIdeal.defs (F := Ideal)) (onTc (τ := Cert.KSmallIdeal.τ) (Cert.KSmallIdeal.main (F := Ideal))) ⟨m, fun _ => 0, g⟩ (fun r => (∀ c : Dev Cert.KSmallIdeal.nD,
      r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
      ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
      ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
      ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3))
      ∧ r.2.sem = fun _ => 0)

def quiescent_RSmallIdeal [hRSmallIdeal : Cert.RSmallIdeal.Facts] : Prop :=
  ∀ (m : (ℓ : Loc Cert.RSmallIdeal.nD Cert.RSmallIdeal.τ Cert.RSmallIdeal.sig) → Buf (Elt Ideal) ℓ) (g : Dev Cert.RSmallIdeal.nD → PrngReg), Pre_RSmallIdeal m →
    θ_run (Cert.RSmallIdeal.defs (F := Ideal)) (onTc (τ := Cert.RSmallIdeal.τ) (Cert.RSmallIdeal.main (F := Ideal))) ⟨m, fun _ => 0, g⟩ (fun r => (∀ c : Dev Cert.RSmallIdeal.nD,
      r.2.mem ((c.tc : Thread Cert.RSmallIdeal.nD Cert.RSmallIdeal.τ).loc Cert.RSmallIdeal.main_arg0) = m ((c.tc : Thread Cert.RSmallIdeal.nD Cert.RSmallIdeal.τ).loc Cert.RSmallIdeal.main_arg0)
      ∧ r.2.mem ((c.tc : Thread Cert.RSmallIdeal.nD Cert.RSmallIdeal.τ).loc Cert.RSmallIdeal.main_arg1) = m ((c.tc : Thread Cert.RSmallIdeal.nD Cert.RSmallIdeal.τ).loc Cert.RSmallIdeal.main_arg1)
      ∧ r.2.mem ((c.tc : Thread Cert.RSmallIdeal.nD Cert.RSmallIdeal.τ).loc Cert.RSmallIdeal.main_arg2) = m ((c.tc : Thread Cert.RSmallIdeal.nD Cert.RSmallIdeal.τ).loc Cert.RSmallIdeal.main_arg2)
      ∧ r.2.mem ((c.tc : Thread Cert.RSmallIdeal.nD Cert.RSmallIdeal.τ).loc Cert.RSmallIdeal.main_arg3) = m ((c.tc : Thread Cert.RSmallIdeal.nD Cert.RSmallIdeal.τ).loc Cert.RSmallIdeal.main_arg3))
      ∧ r.2.sem = fun _ => 0)

def quiescent_KLn [hKLn : Cert.KLn.Facts] : Prop :=
  ∀ (m : (ℓ : Loc Cert.KLn.nD Cert.KLn.τ Cert.KLn.sig) → Buf (Elt Bits) ℓ) (g : Dev Cert.KLn.nD → PrngReg), Pre_KLn m →
    θ_run (Cert.KLn.defs (F := Bits)) (onTc (τ := Cert.KLn.τ) (Cert.KLn.main (F := Bits))) ⟨m, fun _ => 0, g⟩ (fun r => (∀ c : Dev Cert.KLn.nD,
      r.2.mem ((c.tc : Thread Cert.KLn.nD Cert.KLn.τ).loc Cert.KLn.main_arg0) = m ((c.tc : Thread Cert.KLn.nD Cert.KLn.τ).loc Cert.KLn.main_arg0)
      ∧ r.2.mem ((c.tc : Thread Cert.KLn.nD Cert.KLn.τ).loc Cert.KLn.main_arg1) = m ((c.tc : Thread Cert.KLn.nD Cert.KLn.τ).loc Cert.KLn.main_arg1)
      ∧ r.2.mem ((c.tc : Thread Cert.KLn.nD Cert.KLn.τ).loc Cert.KLn.main_arg2) = m ((c.tc : Thread Cert.KLn.nD Cert.KLn.τ).loc Cert.KLn.main_arg2)
      ∧ r.2.mem ((c.tc : Thread Cert.KLn.nD Cert.KLn.τ).loc Cert.KLn.main_arg3) = m ((c.tc : Thread Cert.KLn.nD Cert.KLn.τ).loc Cert.KLn.main_arg3))
      ∧ r.2.sem = fun _ => 0)

def quiescent_KLnIdeal [hKLnIdeal : Cert.KLnIdeal.Facts] : Prop :=
  ∀ (m : (ℓ : Loc Cert.KLnIdeal.nD Cert.KLnIdeal.τ Cert.KLnIdeal.sig) → Buf (Elt Ideal) ℓ) (g : Dev Cert.KLnIdeal.nD → PrngReg), Pre_KLnIdeal m →
    θ_run (Cert.KLnIdeal.defs (F := Ideal)) (onTc (τ := Cert.KLnIdeal.τ) (Cert.KLnIdeal.main (F := Ideal))) ⟨m, fun _ => 0, g⟩ (fun r => (∀ c : Dev Cert.KLnIdeal.nD,
      r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
      ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
      ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
      ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3))
      ∧ r.2.sem = fun _ => 0)

def quiescent_RLnIdeal [hRLnIdeal : Cert.RLnIdeal.Facts] : Prop :=
  ∀ (m : (ℓ : Loc Cert.RLnIdeal.nD Cert.RLnIdeal.τ Cert.RLnIdeal.sig) → Buf (Elt Ideal) ℓ) (g : Dev Cert.RLnIdeal.nD → PrngReg), Pre_RLnIdeal m →
    θ_run (Cert.RLnIdeal.defs (F := Ideal)) (onTc (τ := Cert.RLnIdeal.τ) (Cert.RLnIdeal.main (F := Ideal))) ⟨m, fun _ => 0, g⟩ (fun r => (∀ c : Dev Cert.RLnIdeal.nD,
      r.2.mem ((c.tc : Thread Cert.RLnIdeal.nD Cert.RLnIdeal.τ).loc Cert.RLnIdeal.main_arg0) = m ((c.tc : Thread Cert.RLnIdeal.nD Cert.RLnIdeal.τ).loc Cert.RLnIdeal.main_arg0)
      ∧ r.2.mem ((c.tc : Thread Cert.RLnIdeal.nD Cert.RLnIdeal.τ).loc Cert.RLnIdeal.main_arg1) = m ((c.tc : Thread Cert.RLnIdeal.nD Cert.RLnIdeal.τ).loc Cert.RLnIdeal.main_arg1)
      ∧ r.2.mem ((c.tc : Thread Cert.RLnIdeal.nD Cert.RLnIdeal.τ).loc Cert.RLnIdeal.main_arg2) = m ((c.tc : Thread Cert.RLnIdeal.nD Cert.RLnIdeal.τ).loc Cert.RLnIdeal.main_arg2)
      ∧ r.2.mem ((c.tc : Thread Cert.RLnIdeal.nD Cert.RLnIdeal.τ).loc Cert.RLnIdeal.main_arg3) = m ((c.tc : Thread Cert.RLnIdeal.nD Cert.RLnIdeal.τ).loc Cert.RLnIdeal.main_arg3))
      ∧ r.2.sem = fun _ => 0)

def quiescent_KEmb [hKEmb : Cert.KEmb.Facts] : Prop :=
  ∀ (m : (ℓ : Loc Cert.KEmb.nD Cert.KEmb.τ Cert.KEmb.sig) → Buf (Elt Bits) ℓ) (g : Dev Cert.KEmb.nD → PrngReg), Pre_KEmb m →
    θ_run (Cert.KEmb.defs (F := Bits)) (onTc (τ := Cert.KEmb.τ) (Cert.KEmb.main (F := Bits))) ⟨m, fun _ => 0, g⟩ (fun r => (∀ c : Dev Cert.KEmb.nD,
      r.2.mem ((c.tc : Thread Cert.KEmb.nD Cert.KEmb.τ).loc Cert.KEmb.main_arg0) = m ((c.tc : Thread Cert.KEmb.nD Cert.KEmb.τ).loc Cert.KEmb.main_arg0)
      ∧ r.2.mem ((c.tc : Thread Cert.KEmb.nD Cert.KEmb.τ).loc Cert.KEmb.main_arg1) = m ((c.tc : Thread Cert.KEmb.nD Cert.KEmb.τ).loc Cert.KEmb.main_arg1)
      ∧ r.2.mem ((c.tc : Thread Cert.KEmb.nD Cert.KEmb.τ).loc Cert.KEmb.main_arg2) = m ((c.tc : Thread Cert.KEmb.nD Cert.KEmb.τ).loc Cert.KEmb.main_arg2))
      ∧ r.2.sem = fun _ => 0)

def quiescent_KEmbIdeal [hKEmbIdeal : Cert.KEmbIdeal.Facts] : Prop :=
  ∀ (m : (ℓ : Loc Cert.KEmbIdeal.nD Cert.KEmbIdeal.τ Cert.KEmbIdeal.sig) → Buf (Elt Ideal) ℓ) (g : Dev Cert.KEmbIdeal.nD → PrngReg), Pre_KEmbIdeal m →
    θ_run (Cert.KEmbIdeal.defs (F := Ideal)) (onTc (τ := Cert.KEmbIdeal.τ) (Cert.KEmbIdeal.main (F := Ideal))) ⟨m, fun _ => 0, g⟩ (fun r => (∀ c : Dev Cert.KEmbIdeal.nD,
      r.2.mem ((c.tc : Thread Cert.KEmbIdeal.nD Cert.KEmbIdeal.τ).loc Cert.KEmbIdeal.main_arg0) = m ((c.tc : Thread Cert.KEmbIdeal.nD Cert.KEmbIdeal.τ).loc Cert.KEmbIdeal.main_arg0)
      ∧ r.2.mem ((c.tc : Thread Cert.KEmbIdeal.nD Cert.KEmbIdeal.τ).loc Cert.KEmbIdeal.main_arg1) = m ((c.tc : Thread Cert.KEmbIdeal.nD Cert.KEmbIdeal.τ).loc Cert.KEmbIdeal.main_arg1)
      ∧ r.2.mem ((c.tc : Thread Cert.KEmbIdeal.nD Cert.KEmbIdeal.τ).loc Cert.KEmbIdeal.main_arg2) = m ((c.tc : Thread Cert.KEmbIdeal.nD Cert.KEmbIdeal.τ).loc Cert.KEmbIdeal.main_arg2))
      ∧ r.2.sem = fun _ => 0)

def quiescent_REmbIdeal [hREmbIdeal : Cert.REmbIdeal.Facts] : Prop :=
  ∀ (m : (ℓ : Loc Cert.REmbIdeal.nD Cert.REmbIdeal.τ Cert.REmbIdeal.sig) → Buf (Elt Ideal) ℓ) (g : Dev Cert.REmbIdeal.nD → PrngReg), Pre_REmbIdeal m →
    θ_run (Cert.REmbIdeal.defs (F := Ideal)) (onTc (τ := Cert.REmbIdeal.τ) (Cert.REmbIdeal.main (F := Ideal))) ⟨m, fun _ => 0, g⟩ (fun r => (∀ c : Dev Cert.REmbIdeal.nD,
      r.2.mem ((c.tc : Thread Cert.REmbIdeal.nD Cert.REmbIdeal.τ).loc Cert.REmbIdeal.main_arg0) = m ((c.tc : Thread Cert.REmbIdeal.nD Cert.REmbIdeal.τ).loc Cert.REmbIdeal.main_arg0)
      ∧ r.2.mem ((c.tc : Thread Cert.REmbIdeal.nD Cert.REmbIdeal.τ).loc Cert.REmbIdeal.main_arg1) = m ((c.tc : Thread Cert.REmbIdeal.nD Cert.REmbIdeal.τ).loc Cert.REmbIdeal.main_arg1)
      ∧ r.2.mem ((c.tc : Thread Cert.REmbIdeal.nD Cert.REmbIdeal.τ).loc Cert.REmbIdeal.main_arg2) = m ((c.tc : Thread Cert.REmbIdeal.nD Cert.REmbIdeal.τ).loc Cert.REmbIdeal.main_arg2))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KLnb [hKLnb : Cert.KLnb.Facts] : Prop :=
  ∀ (m : (ℓ : Loc Cert.KLnb.nD Cert.KLnb.τ Cert.KLnb.sig) → Buf (Elt Bits) ℓ) (g : Dev Cert.KLnb.nD → PrngReg), Pre_KLnb m →
    θ_run (Cert.KLnb.defs (F := Bits)) (onTc (τ := Cert.KLnb.τ) (Cert.KLnb.main (F := Bits))) ⟨m, fun _ => 0, g⟩ (fun r => (∀ c : Dev Cert.KLnb.nD,
      r.2.mem ((c.tc : Thread Cert.KLnb.nD Cert.KLnb.τ).loc Cert.KLnb.main_arg0) = m ((c.tc : Thread Cert.KLnb.nD Cert.KLnb.τ).loc Cert.KLnb.main_arg0)
      ∧ r.2.mem ((c.tc : Thread Cert.KLnb.nD Cert.KLnb.τ).loc Cert.KLnb.main_arg1) = m ((c.tc : Thread Cert.KLnb.nD Cert.KLnb.τ).loc Cert.KLnb.main_arg1)
      ∧ r.2.mem ((c.tc : Thread Cert.KLnb.nD Cert.KLnb.τ).loc Cert.KLnb.main_arg2) = m ((c.tc : Thread Cert.KLnb.nD Cert.KLnb.τ).loc Cert.KLnb.main_arg2)
      ∧ r.2.mem ((c.tc : Thread Cert.KLnb.nD Cert.KLnb.τ).loc Cert.KLnb.main_arg3) = m ((c.tc : Thread Cert.KLnb.nD Cert.KLnb.τ).loc Cert.KLnb.main_arg3))
      ∧ r.2.sem = fun _ => 0)

def quiescent_KLnbIdeal [hKLnbIdeal : Cert.KLnbIdeal.Facts] : Prop :=
  ∀ (m : (ℓ : Loc Cert.KLnbIdeal.nD Cert.KLnbIdeal.τ Cert.KLnbIdeal.sig) → Buf (Elt Ideal) ℓ) (g : Dev Cert.KLnbIdeal.nD → PrngReg), Pre_KLnbIdeal m →
    θ_run (Cert.KLnbIdeal.defs (F := Ideal)) (onTc (τ := Cert.KLnbIdeal.τ) (Cert.KLnbIdeal.main (F := Ideal))) ⟨m, fun _ => 0, g⟩ (fun r => (∀ c : Dev Cert.KLnbIdeal.nD,
      r.2.mem ((c.tc : Thread Cert.KLnbIdeal.nD Cert.KLnbIdeal.τ).loc Cert.KLnbIdeal.main_arg0) = m ((c.tc : Thread Cert.KLnbIdeal.nD Cert.KLnbIdeal.τ).loc Cert.KLnbIdeal.main_arg0)
      ∧ r.2.mem ((c.tc : Thread Cert.KLnbIdeal.nD Cert.KLnbIdeal.τ).loc Cert.KLnbIdeal.main_arg1) = m ((c.tc : Thread Cert.KLnbIdeal.nD Cert.KLnbIdeal.τ).loc Cert.KLnbIdeal.main_arg1)
      ∧ r.2.mem ((c.tc : Thread Cert.KLnbIdeal.nD Cert.KLnbIdeal.τ).loc Cert.KLnbIdeal.main_arg2) = m ((c.tc : Thread Cert.KLnbIdeal.nD Cert.KLnbIdeal.τ).loc Cert.KLnbIdeal.main_arg2)
      ∧ r.2.mem ((c.tc : Thread Cert.KLnbIdeal.nD Cert.KLnbIdeal.τ).loc Cert.KLnbIdeal.main_arg3) = m ((c.tc : Thread Cert.KLnbIdeal.nD Cert.KLnbIdeal.τ).loc Cert.KLnbIdeal.main_arg3))
      ∧ r.2.sem = fun _ => 0)

def quiescent_RLnbIdeal [hRLnbIdeal : Cert.RLnbIdeal.Facts] : Prop :=
  ∀ (m : (ℓ : Loc Cert.RLnbIdeal.nD Cert.RLnbIdeal.τ Cert.RLnbIdeal.sig) → Buf (Elt Ideal) ℓ) (g : Dev Cert.RLnbIdeal.nD → PrngReg), Pre_RLnbIdeal m →
    θ_run (Cert.RLnbIdeal.defs (F := Ideal)) (onTc (τ := Cert.RLnbIdeal.τ) (Cert.RLnbIdeal.main (F := Ideal))) ⟨m, fun _ => 0, g⟩ (fun r => (∀ c : Dev Cert.RLnbIdeal.nD,
      r.2.mem ((c.tc : Thread Cert.RLnbIdeal.nD Cert.RLnbIdeal.τ).loc Cert.RLnbIdeal.main_arg0) = m ((c.tc : Thread Cert.RLnbIdeal.nD Cert.RLnbIdeal.τ).loc Cert.RLnbIdeal.main_arg0)
      ∧ r.2.mem ((c.tc : Thread Cert.RLnbIdeal.nD Cert.RLnbIdeal.τ).loc Cert.RLnbIdeal.main_arg1) = m ((c.tc : Thread Cert.RLnbIdeal.nD Cert.RLnbIdeal.τ).loc Cert.RLnbIdeal.main_arg1)
      ∧ r.2.mem ((c.tc : Thread Cert.RLnbIdeal.nD Cert.RLnbIdeal.τ).loc Cert.RLnbIdeal.main_arg2) = m ((c.tc : Thread Cert.RLnbIdeal.nD Cert.RLnbIdeal.τ).loc Cert.RLnbIdeal.main_arg2)
      ∧ r.2.mem ((c.tc : Thread Cert.RLnbIdeal.nD Cert.RLnbIdeal.τ).loc Cert.RLnbIdeal.main_arg3) = m ((c.tc : Thread Cert.RLnbIdeal.nD Cert.RLnbIdeal.τ).loc Cert.RLnbIdeal.main_arg3))
      ∧ r.2.sem = fun _ => 0)

def quiescent_KEmbb [hKEmbb : Cert.KEmbb.Facts] : Prop :=
  ∀ (m : (ℓ : Loc Cert.KEmbb.nD Cert.KEmbb.τ Cert.KEmbb.sig) → Buf (Elt Bits) ℓ) (g : Dev Cert.KEmbb.nD → PrngReg), Pre_KEmbb m →
    θ_run (Cert.KEmbb.defs (F := Bits)) (onTc (τ := Cert.KEmbb.τ) (Cert.KEmbb.main (F := Bits))) ⟨m, fun _ => 0, g⟩ (fun r => (∀ c : Dev Cert.KEmbb.nD,
      r.2.mem ((c.tc : Thread Cert.KEmbb.nD Cert.KEmbb.τ).loc Cert.KEmbb.main_arg0) = m ((c.tc : Thread Cert.KEmbb.nD Cert.KEmbb.τ).loc Cert.KEmbb.main_arg0)
      ∧ r.2.mem ((c.tc : Thread Cert.KEmbb.nD Cert.KEmbb.τ).loc Cert.KEmbb.main_arg1) = m ((c.tc : Thread Cert.KEmbb.nD Cert.KEmbb.τ).loc Cert.KEmbb.main_arg1)
      ∧ r.2.mem ((c.tc : Thread Cert.KEmbb.nD Cert.KEmbb.τ).loc Cert.KEmbb.main_arg2) = m ((c.tc : Thread Cert.KEmbb.nD Cert.KEmbb.τ).loc Cert.KEmbb.main_arg2))
      ∧ r.2.sem = fun _ => 0)

def quiescent_KEmbbIdeal [hKEmbbIdeal : Cert.KEmbbIdeal.Facts] : Prop :=
  ∀ (m : (ℓ : Loc Cert.KEmbbIdeal.nD Cert.KEmbbIdeal.τ Cert.KEmbbIdeal.sig) → Buf (Elt Ideal) ℓ) (g : Dev Cert.KEmbbIdeal.nD → PrngReg), Pre_KEmbbIdeal m →
    θ_run (Cert.KEmbbIdeal.defs (F := Ideal)) (onTc (τ := Cert.KEmbbIdeal.τ) (Cert.KEmbbIdeal.main (F := Ideal))) ⟨m, fun _ => 0, g⟩ (fun r => (∀ c : Dev Cert.KEmbbIdeal.nD,
      r.2.mem ((c.tc : Thread Cert.KEmbbIdeal.nD Cert.KEmbbIdeal.τ).loc Cert.KEmbbIdeal.main_arg0) = m ((c.tc : Thread Cert.KEmbbIdeal.nD Cert.KEmbbIdeal.τ).loc Cert.KEmbbIdeal.main_arg0)
      ∧ r.2.mem ((c.tc : Thread Cert.KEmbbIdeal.nD Cert.KEmbbIdeal.τ).loc Cert.KEmbbIdeal.main_arg1) = m ((c.tc : Thread Cert.KEmbbIdeal.nD Cert.KEmbbIdeal.τ).loc Cert.KEmbbIdeal.main_arg1)
      ∧ r.2.mem ((c.tc : Thread Cert.KEmbbIdeal.nD Cert.KEmbbIdeal.τ).loc Cert.KEmbbIdeal.main_arg2) = m ((c.tc : Thread Cert.KEmbbIdeal.nD Cert.KEmbbIdeal.τ).loc Cert.KEmbbIdeal.main_arg2))
      ∧ r.2.sem = fun _ => 0)

def quiescent_REmbbIdeal [hREmbbIdeal : Cert.REmbbIdeal.Facts] : Prop :=
  ∀ (m : (ℓ : Loc Cert.REmbbIdeal.nD Cert.REmbbIdeal.τ Cert.REmbbIdeal.sig) → Buf (Elt Ideal) ℓ) (g : Dev Cert.REmbbIdeal.nD → PrngReg), Pre_REmbbIdeal m →
    θ_run (Cert.REmbbIdeal.defs (F := Ideal)) (onTc (τ := Cert.REmbbIdeal.τ) (Cert.REmbbIdeal.main (F := Ideal))) ⟨m, fun _ => 0, g⟩ (fun r => (∀ c : Dev Cert.REmbbIdeal.nD,
      r.2.mem ((c.tc : Thread Cert.REmbbIdeal.nD Cert.REmbbIdeal.τ).loc Cert.REmbbIdeal.main_arg0) = m ((c.tc : Thread Cert.REmbbIdeal.nD Cert.REmbbIdeal.τ).loc Cert.REmbbIdeal.main_arg0)
      ∧ r.2.mem ((c.tc : Thread Cert.REmbbIdeal.nD Cert.REmbbIdeal.τ).loc Cert.REmbbIdeal.main_arg1) = m ((c.tc : Thread Cert.REmbbIdeal.nD Cert.REmbbIdeal.τ).loc Cert.REmbbIdeal.main_arg1)
      ∧ r.2.mem ((c.tc : Thread Cert.REmbbIdeal.nD Cert.REmbbIdeal.τ).loc Cert.REmbbIdeal.main_arg2) = m ((c.tc : Thread Cert.REmbbIdeal.nD Cert.REmbbIdeal.τ).loc Cert.REmbbIdeal.main_arg2))
      ∧ r.2.sem = fun _ => 0)

def preserves_Kernel_KernelIdeal : Prop :=
  True

def preserves_KDff2_KDff2Ideal : Prop :=
  True

def algebraic_KDff2Ideal_RDff2Ideal [hKDff2Ideal : Cert.KDff2Ideal.Facts] [hRDff2Ideal : Cert.RDff2Ideal.Facts] : Prop :=
  ∀ (m : (ℓ : Loc Cert.KDff2Ideal.nD Cert.KDff2Ideal.τ Cert.KDff2Ideal.sig) → Buf (Elt Ideal) ℓ) (g : Dev Cert.KDff2Ideal.nD → PrngReg)
    (m' : (ℓ : Loc Cert.RDff2Ideal.nD Cert.RDff2Ideal.τ Cert.RDff2Ideal.sig) → Buf (Elt Ideal) ℓ) (g' : Dev Cert.RDff2Ideal.nD → PrngReg), Pre_KDff2Ideal m →
    (∀ c : Dev Cert.KDff2Ideal.nD,
      m' ((c.tc : Thread Cert.RDff2Ideal.nD Cert.RDff2Ideal.τ).loc Cert.RDff2Ideal.main_arg0) = m ((c.tc : Thread Cert.KDff2Ideal.nD Cert.KDff2Ideal.τ).loc Cert.KDff2Ideal.main_arg0)
      ∧ m' ((c.tc : Thread Cert.RDff2Ideal.nD Cert.RDff2Ideal.τ).loc Cert.RDff2Ideal.main_arg1) = m ((c.tc : Thread Cert.KDff2Ideal.nD Cert.KDff2Ideal.τ).loc Cert.KDff2Ideal.main_arg1)
      ∧ m' ((c.tc : Thread Cert.RDff2Ideal.nD Cert.RDff2Ideal.τ).loc Cert.RDff2Ideal.main_arg2) = m ((c.tc : Thread Cert.KDff2Ideal.nD Cert.KDff2Ideal.τ).loc Cert.KDff2Ideal.main_arg2)) →
    ∃ (v0 : (c : Dev Cert.KDff2Ideal.nD) → Buf (Elt Ideal) ((c.tc : Thread Cert.KDff2Ideal.nD Cert.KDff2Ideal.τ).loc Cert.KDff2Ideal.main_v0)),
      θ_run (Cert.KDff2Ideal.defs (F := Ideal)) (onTc (τ := Cert.KDff2Ideal.τ) (Cert.KDff2Ideal.main (F := Ideal))) ⟨m, fun _ => 0, g⟩ (fun r => ∀ c : Dev Cert.KDff2Ideal.nD,
          r.2.mem ((c.tc : Thread Cert.KDff2Ideal.nD Cert.KDff2Ideal.τ).loc Cert.KDff2Ideal.main_v0) = v0 c
          ∧ r.2.mem ((c.tc : Thread Cert.KDff2Ideal.nD Cert.KDff2Ideal.τ).loc Cert.KDff2Ideal.main_arg0) = m ((c.tc : Thread Cert.KDff2Ideal.nD Cert.KDff2Ideal.τ).loc Cert.KDff2Ideal.main_arg0)
          ∧ r.2.mem ((c.tc : Thread Cert.KDff2Ideal.nD Cert.KDff2Ideal.τ).loc Cert.KDff2Ideal.main_arg1) = m ((c.tc : Thread Cert.KDff2Ideal.nD Cert.KDff2Ideal.τ).loc Cert.KDff2Ideal.main_arg1)
          ∧ r.2.mem ((c.tc : Thread Cert.KDff2Ideal.nD Cert.KDff2Ideal.τ).loc Cert.KDff2Ideal.main_arg2) = m ((c.tc : Thread Cert.KDff2Ideal.nD Cert.KDff2Ideal.τ).loc Cert.KDff2Ideal.main_arg2))
      ∧ θ_run (Cert.RDff2Ideal.defs (F := Ideal)) (onTc (τ := Cert.RDff2Ideal.τ) (Cert.RDff2Ideal.main (F := Ideal))) ⟨m', fun _ => 0, g'⟩ (fun r => ∀ c : Dev Cert.RDff2Ideal.nD,
          r.2.mem ((c.tc : Thread Cert.RDff2Ideal.nD Cert.RDff2Ideal.τ).loc Cert.RDff2Ideal.main_v13) = v0 c
          ∧ r.2.mem ((c.tc : Thread Cert.RDff2Ideal.nD Cert.RDff2Ideal.τ).loc Cert.RDff2Ideal.main_arg0) = m' ((c.tc : Thread Cert.RDff2Ideal.nD Cert.RDff2Ideal.τ).loc Cert.RDff2Ideal.main_arg0)
          ∧ r.2.mem ((c.tc : Thread Cert.RDff2Ideal.nD Cert.RDff2Ideal.τ).loc Cert.RDff2Ideal.main_arg1) = m' ((c.tc : Thread Cert.RDff2Ideal.nD Cert.RDff2Ideal.τ).loc Cert.RDff2Ideal.main_arg1)
          ∧ r.2.mem ((c.tc : Thread Cert.RDff2Ideal.nD Cert.RDff2Ideal.τ).loc Cert.RDff2Ideal.main_arg2) = m' ((c.tc : Thread Cert.RDff2Ideal.nD Cert.RDff2Ideal.τ).loc Cert.RDff2Ideal.main_arg2))

def preserves_KGff2_KGff2Ideal : Prop :=
  True

def algebraic_KGff2Ideal_RGff2Ideal [hKGff2Ideal : Cert.KGff2Ideal.Facts] [hRGff2Ideal : Cert.RGff2Ideal.Facts] : Prop :=
  ∀ (m : (ℓ : Loc Cert.KGff2Ideal.nD Cert.KGff2Ideal.τ Cert.KGff2Ideal.sig) → Buf (Elt Ideal) ℓ) (g : Dev Cert.KGff2Ideal.nD → PrngReg)
    (m' : (ℓ : Loc Cert.RGff2Ideal.nD Cert.RGff2Ideal.τ Cert.RGff2Ideal.sig) → Buf (Elt Ideal) ℓ) (g' : Dev Cert.RGff2Ideal.nD → PrngReg), Pre_KGff2Ideal m →
    (∀ c : Dev Cert.KGff2Ideal.nD,
      m' ((c.tc : Thread Cert.RGff2Ideal.nD Cert.RGff2Ideal.τ).loc Cert.RGff2Ideal.main_arg0) = m ((c.tc : Thread Cert.KGff2Ideal.nD Cert.KGff2Ideal.τ).loc Cert.KGff2Ideal.main_arg0)
      ∧ m' ((c.tc : Thread Cert.RGff2Ideal.nD Cert.RGff2Ideal.τ).loc Cert.RGff2Ideal.main_arg1) = m ((c.tc : Thread Cert.KGff2Ideal.nD Cert.KGff2Ideal.τ).loc Cert.KGff2Ideal.main_arg1)) →
    ∃ (v0 : (c : Dev Cert.KGff2Ideal.nD) → Buf (Elt Ideal) ((c.tc : Thread Cert.KGff2Ideal.nD Cert.KGff2Ideal.τ).loc Cert.KGff2Ideal.main_v0)),
      θ_run (Cert.KGff2Ideal.defs (F := Ideal)) (onTc (τ := Cert.KGff2Ideal.τ) (Cert.KGff2Ideal.main (F := Ideal))) ⟨m, fun _ => 0, g⟩ (fun r => ∀ c : Dev Cert.KGff2Ideal.nD,
          r.2.mem ((c.tc : Thread Cert.KGff2Ideal.nD Cert.KGff2Ideal.τ).loc Cert.KGff2Ideal.main_v0) = v0 c
          ∧ r.2.mem ((c.tc : Thread Cert.KGff2Ideal.nD Cert.KGff2Ideal.τ).loc Cert.KGff2Ideal.main_arg0) = m ((c.tc : Thread Cert.KGff2Ideal.nD Cert.KGff2Ideal.τ).loc Cert.KGff2Ideal.main_arg0)
          ∧ r.2.mem ((c.tc : Thread Cert.KGff2Ideal.nD Cert.KGff2Ideal.τ).loc Cert.KGff2Ideal.main_arg1) = m ((c.tc : Thread Cert.KGff2Ideal.nD Cert.KGff2Ideal.τ).loc Cert.KGff2Ideal.main_arg1))
      ∧ θ_run (Cert.RGff2Ideal.defs (F := Ideal)) (onTc (τ := Cert.RGff2Ideal.τ) (Cert.RGff2Ideal.main (F := Ideal))) ⟨m', fun _ => 0, g'⟩ (fun r => ∀ c : Dev Cert.RGff2Ideal.nD,
          r.2.mem ((c.tc : Thread Cert.RGff2Ideal.nD Cert.RGff2Ideal.τ).loc Cert.RGff2Ideal.main_v4) = v0 c
          ∧ r.2.mem ((c.tc : Thread Cert.RGff2Ideal.nD Cert.RGff2Ideal.τ).loc Cert.RGff2Ideal.main_arg0) = m' ((c.tc : Thread Cert.RGff2Ideal.nD Cert.RGff2Ideal.τ).loc Cert.RGff2Ideal.main_arg0)
          ∧ r.2.mem ((c.tc : Thread Cert.RGff2Ideal.nD Cert.RGff2Ideal.τ).loc Cert.RGff2Ideal.main_arg1) = m' ((c.tc : Thread Cert.RGff2Ideal.nD Cert.RGff2Ideal.τ).loc Cert.RGff2Ideal.main_arg1))

def preserves_KDff1_KDff1Ideal : Prop :=
  True

def algebraic_KDff1Ideal_RDff1Ideal [hKDff1Ideal : Cert.KDff1Ideal.Facts] [hRDff1Ideal : Cert.RDff1Ideal.Facts] : Prop :=
  ∀ (m : (ℓ : Loc Cert.KDff1Ideal.nD Cert.KDff1Ideal.τ Cert.KDff1Ideal.sig) → Buf (Elt Ideal) ℓ) (g : Dev Cert.KDff1Ideal.nD → PrngReg)
    (m' : (ℓ : Loc Cert.RDff1Ideal.nD Cert.RDff1Ideal.τ Cert.RDff1Ideal.sig) → Buf (Elt Ideal) ℓ) (g' : Dev Cert.RDff1Ideal.nD → PrngReg), Pre_KDff1Ideal m →
    (∀ c : Dev Cert.KDff1Ideal.nD,
      m' ((c.tc : Thread Cert.RDff1Ideal.nD Cert.RDff1Ideal.τ).loc Cert.RDff1Ideal.main_arg0) = m ((c.tc : Thread Cert.KDff1Ideal.nD Cert.KDff1Ideal.τ).loc Cert.KDff1Ideal.main_arg0)
      ∧ m' ((c.tc : Thread Cert.RDff1Ideal.nD Cert.RDff1Ideal.τ).loc Cert.RDff1Ideal.main_arg1) = m ((c.tc : Thread Cert.KDff1Ideal.nD Cert.KDff1Ideal.τ).loc Cert.KDff1Ideal.main_arg1)
      ∧ m' ((c.tc : Thread Cert.RDff1Ideal.nD Cert.RDff1Ideal.τ).loc Cert.RDff1Ideal.main_arg2) = m ((c.tc : Thread Cert.KDff1Ideal.nD Cert.KDff1Ideal.τ).loc Cert.KDff1Ideal.main_arg2)) →
    ∃ (v0 : (c : Dev Cert.KDff1Ideal.nD) → Buf (Elt Ideal) ((c.tc : Thread Cert.KDff1Ideal.nD Cert.KDff1Ideal.τ).loc Cert.KDff1Ideal.main_v0)),
      θ_run (Cert.KDff1Ideal.defs (F := Ideal)) (onTc (τ := Cert.KDff1Ideal.τ) (Cert.KDff1Ideal.main (F := Ideal))) ⟨m, fun _ => 0, g⟩ (fun r => ∀ c : Dev Cert.KDff1Ideal.nD,
          r.2.mem ((c.tc : Thread Cert.KDff1Ideal.nD Cert.KDff1Ideal.τ).loc Cert.KDff1Ideal.main_v0) = v0 c
          ∧ r.2.mem ((c.tc : Thread Cert.KDff1Ideal.nD Cert.KDff1Ideal.τ).loc Cert.KDff1Ideal.main_arg0) = m ((c.tc : Thread Cert.KDff1Ideal.nD Cert.KDff1Ideal.τ).loc Cert.KDff1Ideal.main_arg0)
          ∧ r.2.mem ((c.tc : Thread Cert.KDff1Ideal.nD Cert.KDff1Ideal.τ).loc Cert.KDff1Ideal.main_arg1) = m ((c.tc : Thread Cert.KDff1Ideal.nD Cert.KDff1Ideal.τ).loc Cert.KDff1Ideal.main_arg1)
          ∧ r.2.mem ((c.tc : Thread Cert.KDff1Ideal.nD Cert.KDff1Ideal.τ).loc Cert.KDff1Ideal.main_arg2) = m ((c.tc : Thread Cert.KDff1Ideal.nD Cert.KDff1Ideal.τ).loc Cert.KDff1Ideal.main_arg2))
      ∧ θ_run (Cert.RDff1Ideal.defs (F := Ideal)) (onTc (τ := Cert.RDff1Ideal.τ) (Cert.RDff1Ideal.main (F := Ideal))) ⟨m', fun _ => 0, g'⟩ (fun r => ∀ c : Dev Cert.RDff1Ideal.nD,
          r.2.mem ((c.tc : Thread Cert.RDff1Ideal.nD Cert.RDff1Ideal.τ).loc Cert.RDff1Ideal.main_v9) = v0 c
          ∧ r.2.mem ((c.tc : Thread Cert.RDff1Ideal.nD Cert.RDff1Ideal.τ).loc Cert.RDff1Ideal.main_arg0) = m' ((c.tc : Thread Cert.RDff1Ideal.nD Cert.RDff1Ideal.τ).loc Cert.RDff1Ideal.main_arg0)
          ∧ r.2.mem ((c.tc : Thread Cert.RDff1Ideal.nD Cert.RDff1Ideal.τ).loc Cert.RDff1Ideal.main_arg1) = m' ((c.tc : Thread Cert.RDff1Ideal.nD Cert.RDff1Ideal.τ).loc Cert.RDff1Ideal.main_arg1)
          ∧ r.2.mem ((c.tc : Thread Cert.RDff1Ideal.nD Cert.RDff1Ideal.τ).loc Cert.RDff1Ideal.main_arg2) = m' ((c.tc : Thread Cert.RDff1Ideal.nD Cert.RDff1Ideal.τ).loc Cert.RDff1Ideal.main_arg2))

def preserves_KGff1_KGff1Ideal : Prop :=
  True

def algebraic_KGff1Ideal_RGff1Ideal [hKGff1Ideal : Cert.KGff1Ideal.Facts] [hRGff1Ideal : Cert.RGff1Ideal.Facts] : Prop :=
  ∀ (m : (ℓ : Loc Cert.KGff1Ideal.nD Cert.KGff1Ideal.τ Cert.KGff1Ideal.sig) → Buf (Elt Ideal) ℓ) (g : Dev Cert.KGff1Ideal.nD → PrngReg)
    (m' : (ℓ : Loc Cert.RGff1Ideal.nD Cert.RGff1Ideal.τ Cert.RGff1Ideal.sig) → Buf (Elt Ideal) ℓ) (g' : Dev Cert.RGff1Ideal.nD → PrngReg), Pre_KGff1Ideal m →
    (∀ c : Dev Cert.KGff1Ideal.nD,
      m' ((c.tc : Thread Cert.RGff1Ideal.nD Cert.RGff1Ideal.τ).loc Cert.RGff1Ideal.main_arg0) = m ((c.tc : Thread Cert.KGff1Ideal.nD Cert.KGff1Ideal.τ).loc Cert.KGff1Ideal.main_arg0)
      ∧ m' ((c.tc : Thread Cert.RGff1Ideal.nD Cert.RGff1Ideal.τ).loc Cert.RGff1Ideal.main_arg1) = m ((c.tc : Thread Cert.KGff1Ideal.nD Cert.KGff1Ideal.τ).loc Cert.KGff1Ideal.main_arg1)) →
    ∃ (v0 : (c : Dev Cert.KGff1Ideal.nD) → Buf (Elt Ideal) ((c.tc : Thread Cert.KGff1Ideal.nD Cert.KGff1Ideal.τ).loc Cert.KGff1Ideal.main_v0)),
      θ_run (Cert.KGff1Ideal.defs (F := Ideal)) (onTc (τ := Cert.KGff1Ideal.τ) (Cert.KGff1Ideal.main (F := Ideal))) ⟨m, fun _ => 0, g⟩ (fun r => ∀ c : Dev Cert.KGff1Ideal.nD,
          r.2.mem ((c.tc : Thread Cert.KGff1Ideal.nD Cert.KGff1Ideal.τ).loc Cert.KGff1Ideal.main_v0) = v0 c
          ∧ r.2.mem ((c.tc : Thread Cert.KGff1Ideal.nD Cert.KGff1Ideal.τ).loc Cert.KGff1Ideal.main_arg0) = m ((c.tc : Thread Cert.KGff1Ideal.nD Cert.KGff1Ideal.τ).loc Cert.KGff1Ideal.main_arg0)
          ∧ r.2.mem ((c.tc : Thread Cert.KGff1Ideal.nD Cert.KGff1Ideal.τ).loc Cert.KGff1Ideal.main_arg1) = m ((c.tc : Thread Cert.KGff1Ideal.nD Cert.KGff1Ideal.τ).loc Cert.KGff1Ideal.main_arg1))
      ∧ θ_run (Cert.RGff1Ideal.defs (F := Ideal)) (onTc (τ := Cert.RGff1Ideal.τ) (Cert.RGff1Ideal.main (F := Ideal))) ⟨m', fun _ => 0, g'⟩ (fun r => ∀ c : Dev Cert.RGff1Ideal.nD,
          r.2.mem ((c.tc : Thread Cert.RGff1Ideal.nD Cert.RGff1Ideal.τ).loc Cert.RGff1Ideal.main_v5) = v0 c
          ∧ r.2.mem ((c.tc : Thread Cert.RGff1Ideal.nD Cert.RGff1Ideal.τ).loc Cert.RGff1Ideal.main_arg0) = m' ((c.tc : Thread Cert.RGff1Ideal.nD Cert.RGff1Ideal.τ).loc Cert.RGff1Ideal.main_arg0)
          ∧ r.2.mem ((c.tc : Thread Cert.RGff1Ideal.nD Cert.RGff1Ideal.τ).loc Cert.RGff1Ideal.main_arg1) = m' ((c.tc : Thread Cert.RGff1Ideal.nD Cert.RGff1Ideal.τ).loc Cert.RGff1Ideal.main_arg1))

def preserves_KDout_KDoutIdeal : Prop :=
  True

def algebraic_KDoutIdeal_RDoutIdeal [hKDoutIdeal : Cert.KDoutIdeal.Facts] [hRDoutIdeal : Cert.RDoutIdeal.Facts] : Prop :=
  ∀ (m : (ℓ : Loc Cert.KDoutIdeal.nD Cert.KDoutIdeal.τ Cert.KDoutIdeal.sig) → Buf (Elt Ideal) ℓ) (g : Dev Cert.KDoutIdeal.nD → PrngReg)
    (m' : (ℓ : Loc Cert.RDoutIdeal.nD Cert.RDoutIdeal.τ Cert.RDoutIdeal.sig) → Buf (Elt Ideal) ℓ) (g' : Dev Cert.RDoutIdeal.nD → PrngReg), Pre_KDoutIdeal m →
    (∀ c : Dev Cert.KDoutIdeal.nD,
      m' ((c.tc : Thread Cert.RDoutIdeal.nD Cert.RDoutIdeal.τ).loc Cert.RDoutIdeal.main_arg0) = m ((c.tc : Thread Cert.KDoutIdeal.nD Cert.KDoutIdeal.τ).loc Cert.KDoutIdeal.main_arg0)
      ∧ m' ((c.tc : Thread Cert.RDoutIdeal.nD Cert.RDoutIdeal.τ).loc Cert.RDoutIdeal.main_arg1) = m ((c.tc : Thread Cert.KDoutIdeal.nD Cert.KDoutIdeal.τ).loc Cert.KDoutIdeal.main_arg1)) →
    ∃ (v0 : (c : Dev Cert.KDoutIdeal.nD) → Buf (Elt Ideal) ((c.tc : Thread Cert.KDoutIdeal.nD Cert.KDoutIdeal.τ).loc Cert.KDoutIdeal.main_v0)),
      θ_run (Cert.KDoutIdeal.defs (F := Ideal)) (onTc (τ := Cert.KDoutIdeal.τ) (Cert.KDoutIdeal.main (F := Ideal))) ⟨m, fun _ => 0, g⟩ (fun r => ∀ c : Dev Cert.KDoutIdeal.nD,
          r.2.mem ((c.tc : Thread Cert.KDoutIdeal.nD Cert.KDoutIdeal.τ).loc Cert.KDoutIdeal.main_v0) = v0 c
          ∧ r.2.mem ((c.tc : Thread Cert.KDoutIdeal.nD Cert.KDoutIdeal.τ).loc Cert.KDoutIdeal.main_arg0) = m ((c.tc : Thread Cert.KDoutIdeal.nD Cert.KDoutIdeal.τ).loc Cert.KDoutIdeal.main_arg0)
          ∧ r.2.mem ((c.tc : Thread Cert.KDoutIdeal.nD Cert.KDoutIdeal.τ).loc Cert.KDoutIdeal.main_arg1) = m ((c.tc : Thread Cert.KDoutIdeal.nD Cert.KDoutIdeal.τ).loc Cert.KDoutIdeal.main_arg1))
      ∧ θ_run (Cert.RDoutIdeal.defs (F := Ideal)) (onTc (τ := Cert.RDoutIdeal.τ) (Cert.RDoutIdeal.main (F := Ideal))) ⟨m', fun _ => 0, g'⟩ (fun r => ∀ c : Dev Cert.RDoutIdeal.nD,
          r.2.mem ((c.tc : Thread Cert.RDoutIdeal.nD Cert.RDoutIdeal.τ).loc Cert.RDoutIdeal.main_v3) = v0 c
          ∧ r.2.mem ((c.tc : Thread Cert.RDoutIdeal.nD Cert.RDoutIdeal.τ).loc Cert.RDoutIdeal.main_arg0) = m' ((c.tc : Thread Cert.RDoutIdeal.nD Cert.RDoutIdeal.τ).loc Cert.RDoutIdeal.main_arg0)
          ∧ r.2.mem ((c.tc : Thread Cert.RDoutIdeal.nD Cert.RDoutIdeal.τ).loc Cert.RDoutIdeal.main_arg1) = m' ((c.tc : Thread Cert.RDoutIdeal.nD Cert.RDoutIdeal.τ).loc Cert.RDoutIdeal.main_arg1))

def preserves_KGout_KGoutIdeal : Prop :=
  True

def algebraic_KGoutIdeal_RGoutIdeal [hKGoutIdeal : Cert.KGoutIdeal.Facts] [hRGoutIdeal : Cert.RGoutIdeal.Facts] : Prop :=
  ∀ (m : (ℓ : Loc Cert.KGoutIdeal.nD Cert.KGoutIdeal.τ Cert.KGoutIdeal.sig) → Buf (Elt Ideal) ℓ) (g : Dev Cert.KGoutIdeal.nD → PrngReg)
    (m' : (ℓ : Loc Cert.RGoutIdeal.nD Cert.RGoutIdeal.τ Cert.RGoutIdeal.sig) → Buf (Elt Ideal) ℓ) (g' : Dev Cert.RGoutIdeal.nD → PrngReg), Pre_KGoutIdeal m →
    (∀ c : Dev Cert.KGoutIdeal.nD,
      m' ((c.tc : Thread Cert.RGoutIdeal.nD Cert.RGoutIdeal.τ).loc Cert.RGoutIdeal.main_arg0) = m ((c.tc : Thread Cert.KGoutIdeal.nD Cert.KGoutIdeal.τ).loc Cert.KGoutIdeal.main_arg0)
      ∧ m' ((c.tc : Thread Cert.RGoutIdeal.nD Cert.RGoutIdeal.τ).loc Cert.RGoutIdeal.main_arg1) = m ((c.tc : Thread Cert.KGoutIdeal.nD Cert.KGoutIdeal.τ).loc Cert.KGoutIdeal.main_arg1)) →
    ∃ (v0 : (c : Dev Cert.KGoutIdeal.nD) → Buf (Elt Ideal) ((c.tc : Thread Cert.KGoutIdeal.nD Cert.KGoutIdeal.τ).loc Cert.KGoutIdeal.main_v0)),
      θ_run (Cert.KGoutIdeal.defs (F := Ideal)) (onTc (τ := Cert.KGoutIdeal.τ) (Cert.KGoutIdeal.main (F := Ideal))) ⟨m, fun _ => 0, g⟩ (fun r => ∀ c : Dev Cert.KGoutIdeal.nD,
          r.2.mem ((c.tc : Thread Cert.KGoutIdeal.nD Cert.KGoutIdeal.τ).loc Cert.KGoutIdeal.main_v0) = v0 c
          ∧ r.2.mem ((c.tc : Thread Cert.KGoutIdeal.nD Cert.KGoutIdeal.τ).loc Cert.KGoutIdeal.main_arg0) = m ((c.tc : Thread Cert.KGoutIdeal.nD Cert.KGoutIdeal.τ).loc Cert.KGoutIdeal.main_arg0)
          ∧ r.2.mem ((c.tc : Thread Cert.KGoutIdeal.nD Cert.KGoutIdeal.τ).loc Cert.KGoutIdeal.main_arg1) = m ((c.tc : Thread Cert.KGoutIdeal.nD Cert.KGoutIdeal.τ).loc Cert.KGoutIdeal.main_arg1))
      ∧ θ_run (Cert.RGoutIdeal.defs (F := Ideal)) (onTc (τ := Cert.RGoutIdeal.τ) (Cert.RGoutIdeal.main (F := Ideal))) ⟨m', fun _ => 0, g'⟩ (fun r => ∀ c : Dev Cert.RGoutIdeal.nD,
          r.2.mem ((c.tc : Thread Cert.RGoutIdeal.nD Cert.RGoutIdeal.τ).loc Cert.RGoutIdeal.main_v4) = v0 c
          ∧ r.2.mem ((c.tc : Thread Cert.RGoutIdeal.nD Cert.RGoutIdeal.τ).loc Cert.RGoutIdeal.main_arg0) = m' ((c.tc : Thread Cert.RGoutIdeal.nD Cert.RGoutIdeal.τ).loc Cert.RGoutIdeal.main_arg0)
          ∧ r.2.mem ((c.tc : Thread Cert.RGoutIdeal.nD Cert.RGoutIdeal.τ).loc Cert.RGoutIdeal.main_arg1) = m' ((c.tc : Thread Cert.RGoutIdeal.nD Cert.RGoutIdeal.τ).loc Cert.RGoutIdeal.main_arg1))

def preserves_KDuq_KDuqIdeal : Prop :=
  True

def algebraic_KDuqIdeal_RDuqIdeal [hKDuqIdeal : Cert.KDuqIdeal.Facts] [hRDuqIdeal : Cert.RDuqIdeal.Facts] : Prop :=
  ∀ (m : (ℓ : Loc Cert.KDuqIdeal.nD Cert.KDuqIdeal.τ Cert.KDuqIdeal.sig) → Buf (Elt Ideal) ℓ) (g : Dev Cert.KDuqIdeal.nD → PrngReg)
    (m' : (ℓ : Loc Cert.RDuqIdeal.nD Cert.RDuqIdeal.τ Cert.RDuqIdeal.sig) → Buf (Elt Ideal) ℓ) (g' : Dev Cert.RDuqIdeal.nD → PrngReg), Pre_KDuqIdeal m →
    (∀ c : Dev Cert.KDuqIdeal.nD,
      m' ((c.tc : Thread Cert.RDuqIdeal.nD Cert.RDuqIdeal.τ).loc Cert.RDuqIdeal.main_arg0) = m ((c.tc : Thread Cert.KDuqIdeal.nD Cert.KDuqIdeal.τ).loc Cert.KDuqIdeal.main_arg0)
      ∧ m' ((c.tc : Thread Cert.RDuqIdeal.nD Cert.RDuqIdeal.τ).loc Cert.RDuqIdeal.main_arg1) = m ((c.tc : Thread Cert.KDuqIdeal.nD Cert.KDuqIdeal.τ).loc Cert.KDuqIdeal.main_arg1)) →
    ∃ (v0 : (c : Dev Cert.KDuqIdeal.nD) → Buf (Elt Ideal) ((c.tc : Thread Cert.KDuqIdeal.nD Cert.KDuqIdeal.τ).loc Cert.KDuqIdeal.main_v0)),
      θ_run (Cert.KDuqIdeal.defs (F := Ideal)) (onTc (τ := Cert.KDuqIdeal.τ) (Cert.KDuqIdeal.main (F := Ideal))) ⟨m, fun _ => 0, g⟩ (fun r => ∀ c : Dev Cert.KDuqIdeal.nD,
          r.2.mem ((c.tc : Thread Cert.KDuqIdeal.nD Cert.KDuqIdeal.τ).loc Cert.KDuqIdeal.main_v0) = v0 c
          ∧ r.2.mem ((c.tc : Thread Cert.KDuqIdeal.nD Cert.KDuqIdeal.τ).loc Cert.KDuqIdeal.main_arg0) = m ((c.tc : Thread Cert.KDuqIdeal.nD Cert.KDuqIdeal.τ).loc Cert.KDuqIdeal.main_arg0)
          ∧ r.2.mem ((c.tc : Thread Cert.KDuqIdeal.nD Cert.KDuqIdeal.τ).loc Cert.KDuqIdeal.main_arg1) = m ((c.tc : Thread Cert.KDuqIdeal.nD Cert.KDuqIdeal.τ).loc Cert.KDuqIdeal.main_arg1))
      ∧ θ_run (Cert.RDuqIdeal.defs (F := Ideal)) (onTc (τ := Cert.RDuqIdeal.τ) (Cert.RDuqIdeal.main (F := Ideal))) ⟨m', fun _ => 0, g'⟩ (fun r => ∀ c : Dev Cert.RDuqIdeal.nD,
          r.2.mem ((c.tc : Thread Cert.RDuqIdeal.nD Cert.RDuqIdeal.τ).loc Cert.RDuqIdeal.main_v4) = v0 c
          ∧ r.2.mem ((c.tc : Thread Cert.RDuqIdeal.nD Cert.RDuqIdeal.τ).loc Cert.RDuqIdeal.main_arg0) = m' ((c.tc : Thread Cert.RDuqIdeal.nD Cert.RDuqIdeal.τ).loc Cert.RDuqIdeal.main_arg0)
          ∧ r.2.mem ((c.tc : Thread Cert.RDuqIdeal.nD Cert.RDuqIdeal.τ).loc Cert.RDuqIdeal.main_arg1) = m' ((c.tc : Thread Cert.RDuqIdeal.nD Cert.RDuqIdeal.τ).loc Cert.RDuqIdeal.main_arg1))

def preserves_KGuq_KGuqIdeal : Prop :=
  True

def algebraic_KGuqIdeal_RGuqIdeal [hKGuqIdeal : Cert.KGuqIdeal.Facts] [hRGuqIdeal : Cert.RGuqIdeal.Facts] : Prop :=
  ∀ (m : (ℓ : Loc Cert.KGuqIdeal.nD Cert.KGuqIdeal.τ Cert.KGuqIdeal.sig) → Buf (Elt Ideal) ℓ) (g : Dev Cert.KGuqIdeal.nD → PrngReg)
    (m' : (ℓ : Loc Cert.RGuqIdeal.nD Cert.RGuqIdeal.τ Cert.RGuqIdeal.sig) → Buf (Elt Ideal) ℓ) (g' : Dev Cert.RGuqIdeal.nD → PrngReg), Pre_KGuqIdeal m →
    (∀ c : Dev Cert.KGuqIdeal.nD,
      m' ((c.tc : Thread Cert.RGuqIdeal.nD Cert.RGuqIdeal.τ).loc Cert.RGuqIdeal.main_arg0) = m ((c.tc : Thread Cert.KGuqIdeal.nD Cert.KGuqIdeal.τ).loc Cert.KGuqIdeal.main_arg0)
      ∧ m' ((c.tc : Thread Cert.RGuqIdeal.nD Cert.RGuqIdeal.τ).loc Cert.RGuqIdeal.main_arg1) = m ((c.tc : Thread Cert.KGuqIdeal.nD Cert.KGuqIdeal.τ).loc Cert.KGuqIdeal.main_arg1)) →
    ∃ (v0 : (c : Dev Cert.KGuqIdeal.nD) → Buf (Elt Ideal) ((c.tc : Thread Cert.KGuqIdeal.nD Cert.KGuqIdeal.τ).loc Cert.KGuqIdeal.main_v0)),
      θ_run (Cert.KGuqIdeal.defs (F := Ideal)) (onTc (τ := Cert.KGuqIdeal.τ) (Cert.KGuqIdeal.main (F := Ideal))) ⟨m, fun _ => 0, g⟩ (fun r => ∀ c : Dev Cert.KGuqIdeal.nD,
          r.2.mem ((c.tc : Thread Cert.KGuqIdeal.nD Cert.KGuqIdeal.τ).loc Cert.KGuqIdeal.main_v0) = v0 c
          ∧ r.2.mem ((c.tc : Thread Cert.KGuqIdeal.nD Cert.KGuqIdeal.τ).loc Cert.KGuqIdeal.main_arg0) = m ((c.tc : Thread Cert.KGuqIdeal.nD Cert.KGuqIdeal.τ).loc Cert.KGuqIdeal.main_arg0)
          ∧ r.2.mem ((c.tc : Thread Cert.KGuqIdeal.nD Cert.KGuqIdeal.τ).loc Cert.KGuqIdeal.main_arg1) = m ((c.tc : Thread Cert.KGuqIdeal.nD Cert.KGuqIdeal.τ).loc Cert.KGuqIdeal.main_arg1))
      ∧ θ_run (Cert.RGuqIdeal.defs (F := Ideal)) (onTc (τ := Cert.RGuqIdeal.τ) (Cert.RGuqIdeal.main (F := Ideal))) ⟨m', fun _ => 0, g'⟩ (fun r => ∀ c : Dev Cert.RGuqIdeal.nD,
          r.2.mem ((c.tc : Thread Cert.RGuqIdeal.nD Cert.RGuqIdeal.τ).loc Cert.RGuqIdeal.main_v5) = v0 c
          ∧ r.2.mem ((c.tc : Thread Cert.RGuqIdeal.nD Cert.RGuqIdeal.τ).loc Cert.RGuqIdeal.main_arg0) = m' ((c.tc : Thread Cert.RGuqIdeal.nD Cert.RGuqIdeal.τ).loc Cert.RGuqIdeal.main_arg0)
          ∧ r.2.mem ((c.tc : Thread Cert.RGuqIdeal.nD Cert.RGuqIdeal.τ).loc Cert.RGuqIdeal.main_arg1) = m' ((c.tc : Thread Cert.RGuqIdeal.nD Cert.RGuqIdeal.τ).loc Cert.RGuqIdeal.main_arg1))

def preserves_KDukv_KDukvIdeal : Prop :=
  True

def algebraic_KDukvIdeal_RDukvIdeal [hKDukvIdeal : Cert.KDukvIdeal.Facts] [hRDukvIdeal : Cert.RDukvIdeal.Facts] : Prop :=
  ∀ (m : (ℓ : Loc Cert.KDukvIdeal.nD Cert.KDukvIdeal.τ Cert.KDukvIdeal.sig) → Buf (Elt Ideal) ℓ) (g : Dev Cert.KDukvIdeal.nD → PrngReg)
    (m' : (ℓ : Loc Cert.RDukvIdeal.nD Cert.RDukvIdeal.τ Cert.RDukvIdeal.sig) → Buf (Elt Ideal) ℓ) (g' : Dev Cert.RDukvIdeal.nD → PrngReg), Pre_KDukvIdeal m →
    (∀ c : Dev Cert.KDukvIdeal.nD,
      m' ((c.tc : Thread Cert.RDukvIdeal.nD Cert.RDukvIdeal.τ).loc Cert.RDukvIdeal.main_arg0) = m ((c.tc : Thread Cert.KDukvIdeal.nD Cert.KDukvIdeal.τ).loc Cert.KDukvIdeal.main_arg0)
      ∧ m' ((c.tc : Thread Cert.RDukvIdeal.nD Cert.RDukvIdeal.τ).loc Cert.RDukvIdeal.main_arg1) = m ((c.tc : Thread Cert.KDukvIdeal.nD Cert.KDukvIdeal.τ).loc Cert.KDukvIdeal.main_arg1)) →
    ∃ (v0 : (c : Dev Cert.KDukvIdeal.nD) → Buf (Elt Ideal) ((c.tc : Thread Cert.KDukvIdeal.nD Cert.KDukvIdeal.τ).loc Cert.KDukvIdeal.main_v0)),
      θ_run (Cert.KDukvIdeal.defs (F := Ideal)) (onTc (τ := Cert.KDukvIdeal.τ) (Cert.KDukvIdeal.main (F := Ideal))) ⟨m, fun _ => 0, g⟩ (fun r => ∀ c : Dev Cert.KDukvIdeal.nD,
          r.2.mem ((c.tc : Thread Cert.KDukvIdeal.nD Cert.KDukvIdeal.τ).loc Cert.KDukvIdeal.main_v0) = v0 c
          ∧ r.2.mem ((c.tc : Thread Cert.KDukvIdeal.nD Cert.KDukvIdeal.τ).loc Cert.KDukvIdeal.main_arg0) = m ((c.tc : Thread Cert.KDukvIdeal.nD Cert.KDukvIdeal.τ).loc Cert.KDukvIdeal.main_arg0)
          ∧ r.2.mem ((c.tc : Thread Cert.KDukvIdeal.nD Cert.KDukvIdeal.τ).loc Cert.KDukvIdeal.main_arg1) = m ((c.tc : Thread Cert.KDukvIdeal.nD Cert.KDukvIdeal.τ).loc Cert.KDukvIdeal.main_arg1))
      ∧ θ_run (Cert.RDukvIdeal.defs (F := Ideal)) (onTc (τ := Cert.RDukvIdeal.τ) (Cert.RDukvIdeal.main (F := Ideal))) ⟨m', fun _ => 0, g'⟩ (fun r => ∀ c : Dev Cert.RDukvIdeal.nD,
          r.2.mem ((c.tc : Thread Cert.RDukvIdeal.nD Cert.RDukvIdeal.τ).loc Cert.RDukvIdeal.main_v4) = v0 c
          ∧ r.2.mem ((c.tc : Thread Cert.RDukvIdeal.nD Cert.RDukvIdeal.τ).loc Cert.RDukvIdeal.main_arg0) = m' ((c.tc : Thread Cert.RDukvIdeal.nD Cert.RDukvIdeal.τ).loc Cert.RDukvIdeal.main_arg0)
          ∧ r.2.mem ((c.tc : Thread Cert.RDukvIdeal.nD Cert.RDukvIdeal.τ).loc Cert.RDukvIdeal.main_arg1) = m' ((c.tc : Thread Cert.RDukvIdeal.nD Cert.RDukvIdeal.τ).loc Cert.RDukvIdeal.main_arg1))

def preserves_KGukv_KGukvIdeal : Prop :=
  True

def algebraic_KGukvIdeal_RGukvIdeal [hKGukvIdeal : Cert.KGukvIdeal.Facts] [hRGukvIdeal : Cert.RGukvIdeal.Facts] : Prop :=
  ∀ (m : (ℓ : Loc Cert.KGukvIdeal.nD Cert.KGukvIdeal.τ Cert.KGukvIdeal.sig) → Buf (Elt Ideal) ℓ) (g : Dev Cert.KGukvIdeal.nD → PrngReg)
    (m' : (ℓ : Loc Cert.RGukvIdeal.nD Cert.RGukvIdeal.τ Cert.RGukvIdeal.sig) → Buf (Elt Ideal) ℓ) (g' : Dev Cert.RGukvIdeal.nD → PrngReg), Pre_KGukvIdeal m →
    (∀ c : Dev Cert.KGukvIdeal.nD,
      m' ((c.tc : Thread Cert.RGukvIdeal.nD Cert.RGukvIdeal.τ).loc Cert.RGukvIdeal.main_arg0) = m ((c.tc : Thread Cert.KGukvIdeal.nD Cert.KGukvIdeal.τ).loc Cert.KGukvIdeal.main_arg0)
      ∧ m' ((c.tc : Thread Cert.RGukvIdeal.nD Cert.RGukvIdeal.τ).loc Cert.RGukvIdeal.main_arg1) = m ((c.tc : Thread Cert.KGukvIdeal.nD Cert.KGukvIdeal.τ).loc Cert.KGukvIdeal.main_arg1)) →
    ∃ (v0 : (c : Dev Cert.KGukvIdeal.nD) → Buf (Elt Ideal) ((c.tc : Thread Cert.KGukvIdeal.nD Cert.KGukvIdeal.τ).loc Cert.KGukvIdeal.main_v0)),
      θ_run (Cert.KGukvIdeal.defs (F := Ideal)) (onTc (τ := Cert.KGukvIdeal.τ) (Cert.KGukvIdeal.main (F := Ideal))) ⟨m, fun _ => 0, g⟩ (fun r => ∀ c : Dev Cert.KGukvIdeal.nD,
          r.2.mem ((c.tc : Thread Cert.KGukvIdeal.nD Cert.KGukvIdeal.τ).loc Cert.KGukvIdeal.main_v0) = v0 c
          ∧ r.2.mem ((c.tc : Thread Cert.KGukvIdeal.nD Cert.KGukvIdeal.τ).loc Cert.KGukvIdeal.main_arg0) = m ((c.tc : Thread Cert.KGukvIdeal.nD Cert.KGukvIdeal.τ).loc Cert.KGukvIdeal.main_arg0)
          ∧ r.2.mem ((c.tc : Thread Cert.KGukvIdeal.nD Cert.KGukvIdeal.τ).loc Cert.KGukvIdeal.main_arg1) = m ((c.tc : Thread Cert.KGukvIdeal.nD Cert.KGukvIdeal.τ).loc Cert.KGukvIdeal.main_arg1))
      ∧ θ_run (Cert.RGukvIdeal.defs (F := Ideal)) (onTc (τ := Cert.RGukvIdeal.τ) (Cert.RGukvIdeal.main (F := Ideal))) ⟨m', fun _ => 0, g'⟩ (fun r => ∀ c : Dev Cert.RGukvIdeal.nD,
          r.2.mem ((c.tc : Thread Cert.RGukvIdeal.nD Cert.RGukvIdeal.τ).loc Cert.RGukvIdeal.main_v5) = v0 c
          ∧ r.2.mem ((c.tc : Thread Cert.RGukvIdeal.nD Cert.RGukvIdeal.τ).loc Cert.RGukvIdeal.main_arg0) = m' ((c.tc : Thread Cert.RGukvIdeal.nD Cert.RGukvIdeal.τ).loc Cert.RGukvIdeal.main_arg0)
          ∧ r.2.mem ((c.tc : Thread Cert.RGukvIdeal.nD Cert.RGukvIdeal.τ).loc Cert.RGukvIdeal.main_arg1) = m' ((c.tc : Thread Cert.RGukvIdeal.nD Cert.RGukvIdeal.τ).loc Cert.RGukvIdeal.main_arg1))

def preserves_KDin_KDinIdeal : Prop :=
  True

def algebraic_KDinIdeal_RDinIdeal [hKDinIdeal : Cert.KDinIdeal.Facts] [hRDinIdeal : Cert.RDinIdeal.Facts] : Prop :=
  ∀ (m : (ℓ : Loc Cert.KDinIdeal.nD Cert.KDinIdeal.τ Cert.KDinIdeal.sig) → Buf (Elt Ideal) ℓ) (g : Dev Cert.KDinIdeal.nD → PrngReg)
    (m' : (ℓ : Loc Cert.RDinIdeal.nD Cert.RDinIdeal.τ Cert.RDinIdeal.sig) → Buf (Elt Ideal) ℓ) (g' : Dev Cert.RDinIdeal.nD → PrngReg), Pre_KDinIdeal m →
    (∀ c : Dev Cert.KDinIdeal.nD,
      m' ((c.tc : Thread Cert.RDinIdeal.nD Cert.RDinIdeal.τ).loc Cert.RDinIdeal.main_arg0) = m ((c.tc : Thread Cert.KDinIdeal.nD Cert.KDinIdeal.τ).loc Cert.KDinIdeal.main_arg0)
      ∧ m' ((c.tc : Thread Cert.RDinIdeal.nD Cert.RDinIdeal.τ).loc Cert.RDinIdeal.main_arg1) = m ((c.tc : Thread Cert.KDinIdeal.nD Cert.KDinIdeal.τ).loc Cert.KDinIdeal.main_arg1)
      ∧ m' ((c.tc : Thread Cert.RDinIdeal.nD Cert.RDinIdeal.τ).loc Cert.RDinIdeal.main_arg2) = m ((c.tc : Thread Cert.KDinIdeal.nD Cert.KDinIdeal.τ).loc Cert.KDinIdeal.main_arg2)) →
    ∃ (v0 : (c : Dev Cert.KDinIdeal.nD) → Buf (Elt Ideal) ((c.tc : Thread Cert.KDinIdeal.nD Cert.KDinIdeal.τ).loc Cert.KDinIdeal.main_v0)),
      θ_run (Cert.KDinIdeal.defs (F := Ideal)) (onTc (τ := Cert.KDinIdeal.τ) (Cert.KDinIdeal.main (F := Ideal))) ⟨m, fun _ => 0, g⟩ (fun r => ∀ c : Dev Cert.KDinIdeal.nD,
          r.2.mem ((c.tc : Thread Cert.KDinIdeal.nD Cert.KDinIdeal.τ).loc Cert.KDinIdeal.main_v0) = v0 c
          ∧ r.2.mem ((c.tc : Thread Cert.KDinIdeal.nD Cert.KDinIdeal.τ).loc Cert.KDinIdeal.main_arg0) = m ((c.tc : Thread Cert.KDinIdeal.nD Cert.KDinIdeal.τ).loc Cert.KDinIdeal.main_arg0)
          ∧ r.2.mem ((c.tc : Thread Cert.KDinIdeal.nD Cert.KDinIdeal.τ).loc Cert.KDinIdeal.main_arg1) = m ((c.tc : Thread Cert.KDinIdeal.nD Cert.KDinIdeal.τ).loc Cert.KDinIdeal.main_arg1)
          ∧ r.2.mem ((c.tc : Thread Cert.KDinIdeal.nD Cert.KDinIdeal.τ).loc Cert.KDinIdeal.main_arg2) = m ((c.tc : Thread Cert.KDinIdeal.nD Cert.KDinIdeal.τ).loc Cert.KDinIdeal.main_arg2))
      ∧ θ_run (Cert.RDinIdeal.defs (F := Ideal)) (onTc (τ := Cert.RDinIdeal.τ) (Cert.RDinIdeal.main (F := Ideal))) ⟨m', fun _ => 0, g'⟩ (fun r => ∀ c : Dev Cert.RDinIdeal.nD,
          r.2.mem ((c.tc : Thread Cert.RDinIdeal.nD Cert.RDinIdeal.τ).loc Cert.RDinIdeal.main_v9) = v0 c
          ∧ r.2.mem ((c.tc : Thread Cert.RDinIdeal.nD Cert.RDinIdeal.τ).loc Cert.RDinIdeal.main_arg0) = m' ((c.tc : Thread Cert.RDinIdeal.nD Cert.RDinIdeal.τ).loc Cert.RDinIdeal.main_arg0)
          ∧ r.2.mem ((c.tc : Thread Cert.RDinIdeal.nD Cert.RDinIdeal.τ).loc Cert.RDinIdeal.main_arg1) = m' ((c.tc : Thread Cert.RDinIdeal.nD Cert.RDinIdeal.τ).loc Cert.RDinIdeal.main_arg1)
          ∧ r.2.mem ((c.tc : Thread Cert.RDinIdeal.nD Cert.RDinIdeal.τ).loc Cert.RDinIdeal.main_arg2) = m' ((c.tc : Thread Cert.RDinIdeal.nD Cert.RDinIdeal.τ).loc Cert.RDinIdeal.main_arg2))

def preserves_KGin_KGinIdeal : Prop :=
  True

def algebraic_KGinIdeal_RGinIdeal [hKGinIdeal : Cert.KGinIdeal.Facts] [hRGinIdeal : Cert.RGinIdeal.Facts] : Prop :=
  ∀ (m : (ℓ : Loc Cert.KGinIdeal.nD Cert.KGinIdeal.τ Cert.KGinIdeal.sig) → Buf (Elt Ideal) ℓ) (g : Dev Cert.KGinIdeal.nD → PrngReg)
    (m' : (ℓ : Loc Cert.RGinIdeal.nD Cert.RGinIdeal.τ Cert.RGinIdeal.sig) → Buf (Elt Ideal) ℓ) (g' : Dev Cert.RGinIdeal.nD → PrngReg), Pre_KGinIdeal m →
    (∀ c : Dev Cert.KGinIdeal.nD,
      m' ((c.tc : Thread Cert.RGinIdeal.nD Cert.RGinIdeal.τ).loc Cert.RGinIdeal.main_arg0) = m ((c.tc : Thread Cert.KGinIdeal.nD Cert.KGinIdeal.τ).loc Cert.KGinIdeal.main_arg0)
      ∧ m' ((c.tc : Thread Cert.RGinIdeal.nD Cert.RGinIdeal.τ).loc Cert.RGinIdeal.main_arg1) = m ((c.tc : Thread Cert.KGinIdeal.nD Cert.KGinIdeal.τ).loc Cert.KGinIdeal.main_arg1)) →
    ∃ (v0 : (c : Dev Cert.KGinIdeal.nD) → Buf (Elt Ideal) ((c.tc : Thread Cert.KGinIdeal.nD Cert.KGinIdeal.τ).loc Cert.KGinIdeal.main_v0)),
      θ_run (Cert.KGinIdeal.defs (F := Ideal)) (onTc (τ := Cert.KGinIdeal.τ) (Cert.KGinIdeal.main (F := Ideal))) ⟨m, fun _ => 0, g⟩ (fun r => ∀ c : Dev Cert.KGinIdeal.nD,
          r.2.mem ((c.tc : Thread Cert.KGinIdeal.nD Cert.KGinIdeal.τ).loc Cert.KGinIdeal.main_v0) = v0 c
          ∧ r.2.mem ((c.tc : Thread Cert.KGinIdeal.nD Cert.KGinIdeal.τ).loc Cert.KGinIdeal.main_arg0) = m ((c.tc : Thread Cert.KGinIdeal.nD Cert.KGinIdeal.τ).loc Cert.KGinIdeal.main_arg0)
          ∧ r.2.mem ((c.tc : Thread Cert.KGinIdeal.nD Cert.KGinIdeal.τ).loc Cert.KGinIdeal.main_arg1) = m ((c.tc : Thread Cert.KGinIdeal.nD Cert.KGinIdeal.τ).loc Cert.KGinIdeal.main_arg1))
      ∧ θ_run (Cert.RGinIdeal.defs (F := Ideal)) (onTc (τ := Cert.RGinIdeal.τ) (Cert.RGinIdeal.main (F := Ideal))) ⟨m', fun _ => 0, g'⟩ (fun r => ∀ c : Dev Cert.RGinIdeal.nD,
          r.2.mem ((c.tc : Thread Cert.RGinIdeal.nD Cert.RGinIdeal.τ).loc Cert.RGinIdeal.main_v5) = v0 c
          ∧ r.2.mem ((c.tc : Thread Cert.RGinIdeal.nD Cert.RGinIdeal.τ).loc Cert.RGinIdeal.main_arg0) = m' ((c.tc : Thread Cert.RGinIdeal.nD Cert.RGinIdeal.τ).loc Cert.RGinIdeal.main_arg0)
          ∧ r.2.mem ((c.tc : Thread Cert.RGinIdeal.nD Cert.RGinIdeal.τ).loc Cert.RGinIdeal.main_arg1) = m' ((c.tc : Thread Cert.RGinIdeal.nD Cert.RGinIdeal.τ).loc Cert.RGinIdeal.main_arg1))

def preserves_KFf1_KFf1Ideal : Prop :=
  True

def algebraic_KFf1Ideal_RFf1Ideal [hKFf1Ideal : Cert.KFf1Ideal.Facts] [hRFf1Ideal : Cert.RFf1Ideal.Facts] : Prop :=
  ∀ (m : (ℓ : Loc Cert.KFf1Ideal.nD Cert.KFf1Ideal.τ Cert.KFf1Ideal.sig) → Buf (Elt Ideal) ℓ) (g : Dev Cert.KFf1Ideal.nD → PrngReg)
    (m' : (ℓ : Loc Cert.RFf1Ideal.nD Cert.RFf1Ideal.τ Cert.RFf1Ideal.sig) → Buf (Elt Ideal) ℓ) (g' : Dev Cert.RFf1Ideal.nD → PrngReg), Pre_KFf1Ideal m →
    (∀ c : Dev Cert.KFf1Ideal.nD,
      m' ((c.tc : Thread Cert.RFf1Ideal.nD Cert.RFf1Ideal.τ).loc Cert.RFf1Ideal.main_arg0) = m ((c.tc : Thread Cert.KFf1Ideal.nD Cert.KFf1Ideal.τ).loc Cert.KFf1Ideal.main_arg0)
      ∧ m' ((c.tc : Thread Cert.RFf1Ideal.nD Cert.RFf1Ideal.τ).loc Cert.RFf1Ideal.main_arg1) = m ((c.tc : Thread Cert.KFf1Ideal.nD Cert.KFf1Ideal.τ).loc Cert.KFf1Ideal.main_arg1)) →
    ∃ (v0 : (c : Dev Cert.KFf1Ideal.nD) → Buf (Elt Ideal) ((c.tc : Thread Cert.KFf1Ideal.nD Cert.KFf1Ideal.τ).loc Cert.KFf1Ideal.main_v0_0)) (v1 : (c : Dev Cert.KFf1Ideal.nD) → Buf (Elt Ideal) ((c.tc : Thread Cert.KFf1Ideal.nD Cert.KFf1Ideal.τ).loc Cert.KFf1Ideal.main_v0_1)),
      θ_run (Cert.KFf1Ideal.defs (F := Ideal)) (onTc (τ := Cert.KFf1Ideal.τ) (Cert.KFf1Ideal.main (F := Ideal))) ⟨m, fun _ => 0, g⟩ (fun r => ∀ c : Dev Cert.KFf1Ideal.nD,
          r.2.mem ((c.tc : Thread Cert.KFf1Ideal.nD Cert.KFf1Ideal.τ).loc Cert.KFf1Ideal.main_v0_0) = v0 c
          ∧ r.2.mem ((c.tc : Thread Cert.KFf1Ideal.nD Cert.KFf1Ideal.τ).loc Cert.KFf1Ideal.main_v0_1) = v1 c
          ∧ r.2.mem ((c.tc : Thread Cert.KFf1Ideal.nD Cert.KFf1Ideal.τ).loc Cert.KFf1Ideal.main_arg0) = m ((c.tc : Thread Cert.KFf1Ideal.nD Cert.KFf1Ideal.τ).loc Cert.KFf1Ideal.main_arg0)
          ∧ r.2.mem ((c.tc : Thread Cert.KFf1Ideal.nD Cert.KFf1Ideal.τ).loc Cert.KFf1Ideal.main_arg1) = m ((c.tc : Thread Cert.KFf1Ideal.nD Cert.KFf1Ideal.τ).loc Cert.KFf1Ideal.main_arg1))
      ∧ θ_run (Cert.RFf1Ideal.defs (F := Ideal)) (onTc (τ := Cert.RFf1Ideal.τ) (Cert.RFf1Ideal.main (F := Ideal))) ⟨m', fun _ => 0, g'⟩ (fun r => ∀ c : Dev Cert.RFf1Ideal.nD,
          r.2.mem ((c.tc : Thread Cert.RFf1Ideal.nD Cert.RFf1Ideal.τ).loc Cert.RFf1Ideal.main_v2) = v0 c
          ∧ r.2.mem ((c.tc : Thread Cert.RFf1Ideal.nD Cert.RFf1Ideal.τ).loc Cert.RFf1Ideal.main_v5) = v1 c
          ∧ r.2.mem ((c.tc : Thread Cert.RFf1Ideal.nD Cert.RFf1Ideal.τ).loc Cert.RFf1Ideal.main_arg0) = m' ((c.tc : Thread Cert.RFf1Ideal.nD Cert.RFf1Ideal.τ).loc Cert.RFf1Ideal.main_arg0)
          ∧ r.2.mem ((c.tc : Thread Cert.RFf1Ideal.nD Cert.RFf1Ideal.τ).loc Cert.RFf1Ideal.main_arg1) = m' ((c.tc : Thread Cert.RFf1Ideal.nD Cert.RFf1Ideal.τ).loc Cert.RFf1Ideal.main_arg1))

def preserves_KFf2_KFf2Ideal : Prop :=
  True

def algebraic_KFf2Ideal_RFf2Ideal [hKFf2Ideal : Cert.KFf2Ideal.Facts] [hRFf2Ideal : Cert.RFf2Ideal.Facts] : Prop :=
  ∀ (m : (ℓ : Loc Cert.KFf2Ideal.nD Cert.KFf2Ideal.τ Cert.KFf2Ideal.sig) → Buf (Elt Ideal) ℓ) (g : Dev Cert.KFf2Ideal.nD → PrngReg)
    (m' : (ℓ : Loc Cert.RFf2Ideal.nD Cert.RFf2Ideal.τ Cert.RFf2Ideal.sig) → Buf (Elt Ideal) ℓ) (g' : Dev Cert.RFf2Ideal.nD → PrngReg), Pre_KFf2Ideal m →
    (∀ c : Dev Cert.KFf2Ideal.nD,
      m' ((c.tc : Thread Cert.RFf2Ideal.nD Cert.RFf2Ideal.τ).loc Cert.RFf2Ideal.main_arg0) = m ((c.tc : Thread Cert.KFf2Ideal.nD Cert.KFf2Ideal.τ).loc Cert.KFf2Ideal.main_arg0)
      ∧ m' ((c.tc : Thread Cert.RFf2Ideal.nD Cert.RFf2Ideal.τ).loc Cert.RFf2Ideal.main_arg1) = m ((c.tc : Thread Cert.KFf2Ideal.nD Cert.KFf2Ideal.τ).loc Cert.KFf2Ideal.main_arg1)) →
    ∃ (v0 : (c : Dev Cert.KFf2Ideal.nD) → Buf (Elt Ideal) ((c.tc : Thread Cert.KFf2Ideal.nD Cert.KFf2Ideal.τ).loc Cert.KFf2Ideal.main_v0)),
      θ_run (Cert.KFf2Ideal.defs (F := Ideal)) (onTc (τ := Cert.KFf2Ideal.τ) (Cert.KFf2Ideal.main (F := Ideal))) ⟨m, fun _ => 0, g⟩ (fun r => ∀ c : Dev Cert.KFf2Ideal.nD,
          r.2.mem ((c.tc : Thread Cert.KFf2Ideal.nD Cert.KFf2Ideal.τ).loc Cert.KFf2Ideal.main_v0) = v0 c
          ∧ r.2.mem ((c.tc : Thread Cert.KFf2Ideal.nD Cert.KFf2Ideal.τ).loc Cert.KFf2Ideal.main_arg0) = m ((c.tc : Thread Cert.KFf2Ideal.nD Cert.KFf2Ideal.τ).loc Cert.KFf2Ideal.main_arg0)
          ∧ r.2.mem ((c.tc : Thread Cert.KFf2Ideal.nD Cert.KFf2Ideal.τ).loc Cert.KFf2Ideal.main_arg1) = m ((c.tc : Thread Cert.KFf2Ideal.nD Cert.KFf2Ideal.τ).loc Cert.KFf2Ideal.main_arg1))
      ∧ θ_run (Cert.RFf2Ideal.defs (F := Ideal)) (onTc (τ := Cert.RFf2Ideal.τ) (Cert.RFf2Ideal.main (F := Ideal))) ⟨m', fun _ => 0, g'⟩ (fun r => ∀ c : Dev Cert.RFf2Ideal.nD,
          r.2.mem ((c.tc : Thread Cert.RFf2Ideal.nD Cert.RFf2Ideal.τ).loc Cert.RFf2Ideal.main_v2) = v0 c
          ∧ r.2.mem ((c.tc : Thread Cert.RFf2Ideal.nD Cert.RFf2Ideal.τ).loc Cert.RFf2Ideal.main_arg0) = m' ((c.tc : Thread Cert.RFf2Ideal.nD Cert.RFf2Ideal.τ).loc Cert.RFf2Ideal.main_arg0)
          ∧ r.2.mem ((c.tc : Thread Cert.RFf2Ideal.nD Cert.RFf2Ideal.τ).loc Cert.RFf2Ideal.main_arg1) = m' ((c.tc : Thread Cert.RFf2Ideal.nD Cert.RFf2Ideal.τ).loc Cert.RFf2Ideal.main_arg1))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v0)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v0) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v2) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)) →
    ∃ (v0 : (c : Dev Cert.KOutIdeal.nD) → Buf (Elt Ideal) ((c.tc : Thread Cert.KOutIdeal.nD Cert.KOutIdeal.τ).loc Cert.KOutIdeal.main_v0)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v0) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v2) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1))

def preserves_KUq_KUqIdeal : Prop :=
  True

def algebraic_KUqIdeal_RUqIdeal [hKUqIdeal : Cert.KUqIdeal.Facts] [hRUqIdeal : Cert.RUqIdeal.Facts] : Prop :=
  ∀ (m : (ℓ : Loc Cert.KUqIdeal.nD Cert.KUqIdeal.τ Cert.KUqIdeal.sig) → Buf (Elt Ideal) ℓ) (g : Dev Cert.KUqIdeal.nD → PrngReg)
    (m' : (ℓ : Loc Cert.RUqIdeal.nD Cert.RUqIdeal.τ Cert.RUqIdeal.sig) → Buf (Elt Ideal) ℓ) (g' : Dev Cert.RUqIdeal.nD → PrngReg), Pre_KUqIdeal m →
    (∀ c : Dev Cert.KUqIdeal.nD,
      m' ((c.tc : Thread Cert.RUqIdeal.nD Cert.RUqIdeal.τ).loc Cert.RUqIdeal.main_arg0) = m ((c.tc : Thread Cert.KUqIdeal.nD Cert.KUqIdeal.τ).loc Cert.KUqIdeal.main_arg0)
      ∧ m' ((c.tc : Thread Cert.RUqIdeal.nD Cert.RUqIdeal.τ).loc Cert.RUqIdeal.main_arg1) = m ((c.tc : Thread Cert.KUqIdeal.nD Cert.KUqIdeal.τ).loc Cert.KUqIdeal.main_arg1)) →
    ∃ (v0 : (c : Dev Cert.KUqIdeal.nD) → Buf (Elt Ideal) ((c.tc : Thread Cert.KUqIdeal.nD Cert.KUqIdeal.τ).loc Cert.KUqIdeal.main_v0)),
      θ_run (Cert.KUqIdeal.defs (F := Ideal)) (onTc (τ := Cert.KUqIdeal.τ) (Cert.KUqIdeal.main (F := Ideal))) ⟨m, fun _ => 0, g⟩ (fun r => ∀ c : Dev Cert.KUqIdeal.nD,
          r.2.mem ((c.tc : Thread Cert.KUqIdeal.nD Cert.KUqIdeal.τ).loc Cert.KUqIdeal.main_v0) = v0 c
          ∧ r.2.mem ((c.tc : Thread Cert.KUqIdeal.nD Cert.KUqIdeal.τ).loc Cert.KUqIdeal.main_arg0) = m ((c.tc : Thread Cert.KUqIdeal.nD Cert.KUqIdeal.τ).loc Cert.KUqIdeal.main_arg0)
          ∧ r.2.mem ((c.tc : Thread Cert.KUqIdeal.nD Cert.KUqIdeal.τ).loc Cert.KUqIdeal.main_arg1) = m ((c.tc : Thread Cert.KUqIdeal.nD Cert.KUqIdeal.τ).loc Cert.KUqIdeal.main_arg1))
      ∧ θ_run (Cert.RUqIdeal.defs (F := Ideal)) (onTc (τ := Cert.RUqIdeal.τ) (Cert.RUqIdeal.main (F := Ideal))) ⟨m', fun _ => 0, g'⟩ (fun r => ∀ c : Dev Cert.RUqIdeal.nD,
          r.2.mem ((c.tc : Thread Cert.RUqIdeal.nD Cert.RUqIdeal.τ).loc Cert.RUqIdeal.main_v2) = v0 c
          ∧ r.2.mem ((c.tc : Thread Cert.RUqIdeal.nD Cert.RUqIdeal.τ).loc Cert.RUqIdeal.main_arg0) = m' ((c.tc : Thread Cert.RUqIdeal.nD Cert.RUqIdeal.τ).loc Cert.RUqIdeal.main_arg0)
          ∧ r.2.mem ((c.tc : Thread Cert.RUqIdeal.nD Cert.RUqIdeal.τ).loc Cert.RUqIdeal.main_arg1) = m' ((c.tc : Thread Cert.RUqIdeal.nD Cert.RUqIdeal.τ).loc Cert.RUqIdeal.main_arg1))

def preserves_KUkv_KUkvIdeal : Prop :=
  True

def algebraic_KUkvIdeal_RUkvIdeal [hKUkvIdeal : Cert.KUkvIdeal.Facts] [hRUkvIdeal : Cert.RUkvIdeal.Facts] : Prop :=
  ∀ (m : (ℓ : Loc Cert.KUkvIdeal.nD Cert.KUkvIdeal.τ Cert.KUkvIdeal.sig) → Buf (Elt Ideal) ℓ) (g : Dev Cert.KUkvIdeal.nD → PrngReg)
    (m' : (ℓ : Loc Cert.RUkvIdeal.nD Cert.RUkvIdeal.τ Cert.RUkvIdeal.sig) → Buf (Elt Ideal) ℓ) (g' : Dev Cert.RUkvIdeal.nD → PrngReg), Pre_KUkvIdeal m →
    (∀ c : Dev Cert.KUkvIdeal.nD,
      m' ((c.tc : Thread Cert.RUkvIdeal.nD Cert.RUkvIdeal.τ).loc Cert.RUkvIdeal.main_arg0) = m ((c.tc : Thread Cert.KUkvIdeal.nD Cert.KUkvIdeal.τ).loc Cert.KUkvIdeal.main_arg0)
      ∧ m' ((c.tc : Thread Cert.RUkvIdeal.nD Cert.RUkvIdeal.τ).loc Cert.RUkvIdeal.main_arg1) = m ((c.tc : Thread Cert.KUkvIdeal.nD Cert.KUkvIdeal.τ).loc Cert.KUkvIdeal.main_arg1)) →
    ∃ (v0 : (c : Dev Cert.KUkvIdeal.nD) → Buf (Elt Ideal) ((c.tc : Thread Cert.KUkvIdeal.nD Cert.KUkvIdeal.τ).loc Cert.KUkvIdeal.main_v0)),
      θ_run (Cert.KUkvIdeal.defs (F := Ideal)) (onTc (τ := Cert.KUkvIdeal.τ) (Cert.KUkvIdeal.main (F := Ideal))) ⟨m, fun _ => 0, g⟩ (fun r => ∀ c : Dev Cert.KUkvIdeal.nD,
          r.2.mem ((c.tc : Thread Cert.KUkvIdeal.nD Cert.KUkvIdeal.τ).loc Cert.KUkvIdeal.main_v0) = v0 c
          ∧ r.2.mem ((c.tc : Thread Cert.KUkvIdeal.nD Cert.KUkvIdeal.τ).loc Cert.KUkvIdeal.main_arg0) = m ((c.tc : Thread Cert.KUkvIdeal.nD Cert.KUkvIdeal.τ).loc Cert.KUkvIdeal.main_arg0)
          ∧ r.2.mem ((c.tc : Thread Cert.KUkvIdeal.nD Cert.KUkvIdeal.τ).loc Cert.KUkvIdeal.main_arg1) = m ((c.tc : Thread Cert.KUkvIdeal.nD Cert.KUkvIdeal.τ).loc Cert.KUkvIdeal.main_arg1))
      ∧ θ_run (Cert.RUkvIdeal.defs (F := Ideal)) (onTc (τ := Cert.RUkvIdeal.τ) (Cert.RUkvIdeal.main (F := Ideal))) ⟨m', fun _ => 0, g'⟩ (fun r => ∀ c : Dev Cert.RUkvIdeal.nD,
          r.2.mem ((c.tc : Thread Cert.RUkvIdeal.nD Cert.RUkvIdeal.τ).loc Cert.RUkvIdeal.main_v3) = v0 c
          ∧ r.2.mem ((c.tc : Thread Cert.RUkvIdeal.nD Cert.RUkvIdeal.τ).loc Cert.RUkvIdeal.main_arg0) = m' ((c.tc : Thread Cert.RUkvIdeal.nD Cert.RUkvIdeal.τ).loc Cert.RUkvIdeal.main_arg0)
          ∧ r.2.mem ((c.tc : Thread Cert.RUkvIdeal.nD Cert.RUkvIdeal.τ).loc Cert.RUkvIdeal.main_arg1) = m' ((c.tc : Thread Cert.RUkvIdeal.nD Cert.RUkvIdeal.τ).loc Cert.RUkvIdeal.main_arg1))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)) (v3 : (c : Dev Cert.KAdamIdeal.nD) → Buf (Elt Ideal) ((c.tc : Thread Cert.KAdamIdeal.nD Cert.KAdamIdeal.τ).loc Cert.KAdamIdeal.main_v0_3)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_v0_3) = v3 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v1) = v0 c
          ∧ r.2.mem ((c.tc : Thread Cert.RAdamIdeal.nD Cert.RAdamIdeal.τ).loc Cert.RAdamIdeal.main_v25) = v1 c
          ∧ r.2.mem ((c.tc : Thread Cert.RAdamIdeal.nD Cert.RAdamIdeal.τ).loc Cert.RAdamIdeal.main_v6) = v2 c
          ∧ r.2.mem ((c.tc : Thread Cert.RAdamIdeal.nD Cert.RAdamIdeal.τ).loc Cert.RAdamIdeal.main_v12) = v3 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KSmall_KSmallIdeal : Prop :=
  True

def algebraic_KSmallIdeal_RSmallIdeal [hKSmallIdeal : Cert.KSmallIdeal.Facts] [hRSmallIdeal : Cert.RSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg)
    (m' : (ℓ : Loc Cert.RSmallIdeal.nD Cert.RSmallIdeal.τ Cert.RSmallIdeal.sig) → Buf (Elt Ideal) ℓ) (g' : Dev Cert.RSmallIdeal.nD → PrngReg), Pre_KSmallIdeal m →
    (∀ c : Dev Cert.KSmallIdeal.nD,
      m' ((c.tc : Thread Cert.RSmallIdeal.nD Cert.RSmallIdeal.τ).loc Cert.RSmallIdeal.main_arg0) = m ((c.tc : Thread Cert.KSmallIdeal.nD Cert.KSmallIdeal.τ).loc Cert.KSmallIdeal.main_arg0)
      ∧ m' ((c.tc : Thread Cert.RSmallIdeal.nD Cert.RSmallIdeal.τ).loc Cert.RSmallIdeal.main_arg1) = m ((c.tc : Thread Cert.KSmallIdeal.nD Cert.KSmallIdeal.τ).loc Cert.KSmallIdeal.main_arg1)
      ∧ m' ((c.tc : Thread Cert.RSmallIdeal.nD Cert.RSmallIdeal.τ).loc Cert.RSmallIdeal.main_arg2) = m ((c.tc : Thread Cert.KSmallIdeal.nD Cert.KSmallIdeal.τ).loc Cert.KSmallIdeal.main_arg2)
      ∧ m' ((c.tc : Thread Cert.RSmallIdeal.nD Cert.RSmallIdeal.τ).loc Cert.RSmallIdeal.main_arg3) = m ((c.tc : Thread Cert.KSmallIdeal.nD Cert.KSmallIdeal.τ).loc Cert.KSmallIdeal.main_arg3)) →
    ∃ (v0 : (c : Dev Cert.KSmallIdeal.nD) → Buf (Elt Ideal) ((c.tc : Thread Cert.KSmallIdeal.nD Cert.KSmallIdeal.τ).loc Cert.KSmallIdeal.main_v0_0)) (v1 : (c : Dev Cert.KSmallIdeal.nD) → Buf (Elt Ideal) ((c.tc : Thread Cert.KSmallIdeal.nD Cert.KSmallIdeal.τ).loc Cert.KSmallIdeal.main_v0_1)) (v2 : (c : Dev Cert.KSmallIdeal.nD) → Buf (Elt Ideal) ((c.tc : Thread Cert.KSmallIdeal.nD Cert.KSmallIdeal.τ).loc Cert.KSmallIdeal.main_v0_2)) (v3 : (c : Dev Cert.KSmallIdeal.nD) → Buf (Elt Ideal) ((c.tc : Thread Cert.KSmallIdeal.nD Cert.KSmallIdeal.τ).loc Cert.KSmallIdeal.main_v0_3)),
      θ_run (Cert.KSmallIdeal.defs (F := Ideal)) (onTc (τ := Cert.KSmallIdeal.τ) (Cert.KSmallIdeal.main (F := Ideal))) ⟨m, fun _ => 0, g⟩ (fun r => ∀ c : Dev Cert.KSmallIdeal.nD,
          r.2.mem ((c.tc : Thread Cert.KSmallIdeal.nD Cert.KSmallIdeal.τ).loc Cert.KSmallIdeal.main_v0_0) = v0 c
          ∧ r.2.mem ((c.tc : Thread Cert.KSmallIdeal.nD Cert.KSmallIdeal.τ).loc Cert.KSmallIdeal.main_v0_1) = v1 c
          ∧ r.2.mem ((c.tc : Thread Cert.KSmallIdeal.nD Cert.KSmallIdeal.τ).loc Cert.KSmallIdeal.main_v0_2) = v2 c
          ∧ r.2.mem ((c.tc : Thread Cert.KSmallIdeal.nD Cert.KSmallIdeal.τ).loc Cert.KSmallIdeal.main_v0_3) = v3 c
          ∧ r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
          ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
          ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
          ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3))
      ∧ θ_run (Cert.RSmallIdeal.defs (F := Ideal)) (onTc (τ := Cert.RSmallIdeal.τ) (Cert.RSmallIdeal.main (F := Ideal))) ⟨m', fun _ => 0, g'⟩ (fun r => ∀ c : Dev Cert.RSmallIdeal.nD,
          r.2.mem ((c.tc : Thread Cert.RSmallIdeal.nD Cert.RSmallIdeal.τ).loc Cert.RSmallIdeal.main_v0) = v0 c
          ∧ r.2.mem ((c.tc : Thread Cert.RSmallIdeal.nD Cert.RSmallIdeal.τ).loc Cert.RSmallIdeal.main_v24) = v1 c
          ∧ r.2.mem ((c.tc : Thread Cert.RSmallIdeal.nD Cert.RSmallIdeal.τ).loc Cert.RSmallIdeal.main_v5) = v2 c
          ∧ r.2.mem ((c.tc : Thread Cert.RSmallIdeal.nD Cert.RSmallIdeal.τ).loc Cert.RSmallIdeal.main_v11) = v3 c
          ∧ r.2.mem ((c.tc : Thread Cert.RSmallIdeal.nD Cert.RSmallIdeal.τ).loc Cert.RSmallIdeal.main_arg0) = m' ((c.tc : Thread Cert.RSmallIdeal.nD Cert.RSmallIdeal.τ).loc Cert.RSmallIdeal.main_arg0)
          ∧ r.2.mem ((c.tc : Thread Cert.RSmallIdeal.nD Cert.RSmallIdeal.τ).loc Cert.RSmallIdeal.main_arg1) = m' ((c.tc : Thread Cert.RSmallIdeal.nD Cert.RSmallIdeal.τ).loc Cert.RSmallIdeal.main_arg1)
          ∧ r.2.mem ((c.tc : Thread Cert.RSmallIdeal.nD Cert.RSmallIdeal.τ).loc Cert.RSmallIdeal.main_arg2) = m' ((c.tc : Thread Cert.RSmallIdeal.nD Cert.RSmallIdeal.τ).loc Cert.RSmallIdeal.main_arg2)
          ∧ r.2.mem ((c.tc : Thread Cert.RSmallIdeal.nD Cert.RSmallIdeal.τ).loc Cert.RSmallIdeal.main_arg3) = m' ((c.tc : Thread Cert.RSmallIdeal.nD Cert.RSmallIdeal.τ).loc Cert.RSmallIdeal.main_arg3))

def preserves_KLn_KLnIdeal : Prop :=
  True

def algebraic_KLnIdeal_RLnIdeal [hKLnIdeal : Cert.KLnIdeal.Facts] [hRLnIdeal : Cert.RLnIdeal.Facts] : Prop :=
  ∀ (m : (ℓ : Loc Cert.KLnIdeal.nD Cert.KLnIdeal.τ Cert.KLnIdeal.sig) → Buf (Elt Ideal) ℓ) (g : Dev Cert.KLnIdeal.nD → PrngReg)
    (m' : (ℓ : Loc Cert.RLnIdeal.nD Cert.RLnIdeal.τ Cert.RLnIdeal.sig) → Buf (Elt Ideal) ℓ) (g' : Dev Cert.RLnIdeal.nD → PrngReg), Pre_KLnIdeal m →
    (∀ c : Dev Cert.KLnIdeal.nD,
      m' ((c.tc : Thread Cert.RLnIdeal.nD Cert.RLnIdeal.τ).loc Cert.RLnIdeal.main_arg0) = m ((c.tc : Thread Cert.KLnIdeal.nD Cert.KLnIdeal.τ).loc Cert.KLnIdeal.main_arg0)
      ∧ m' ((c.tc : Thread Cert.RLnIdeal.nD Cert.RLnIdeal.τ).loc Cert.RLnIdeal.main_arg1) = m ((c.tc : Thread Cert.KLnIdeal.nD Cert.KLnIdeal.τ).loc Cert.KLnIdeal.main_arg1)
      ∧ m' ((c.tc : Thread Cert.RLnIdeal.nD Cert.RLnIdeal.τ).loc Cert.RLnIdeal.main_arg2) = m ((c.tc : Thread Cert.KLnIdeal.nD Cert.KLnIdeal.τ).loc Cert.KLnIdeal.main_arg2)
      ∧ m' ((c.tc : Thread Cert.RLnIdeal.nD Cert.RLnIdeal.τ).loc Cert.RLnIdeal.main_arg3) = m ((c.tc : Thread Cert.KLnIdeal.nD Cert.KLnIdeal.τ).loc Cert.KLnIdeal.main_arg3)) →
    ∃ (v0 : (c : Dev Cert.KLnIdeal.nD) → Buf (Elt Ideal) ((c.tc : Thread Cert.KLnIdeal.nD Cert.KLnIdeal.τ).loc Cert.KLnIdeal.main_v2_0)) (v1 : (c : Dev Cert.KLnIdeal.nD) → Buf (Elt Ideal) ((c.tc : Thread Cert.KLnIdeal.nD Cert.KLnIdeal.τ).loc Cert.KLnIdeal.main_v2_1)),
      θ_run (Cert.KLnIdeal.defs (F := Ideal)) (onTc (τ := Cert.KLnIdeal.τ) (Cert.KLnIdeal.main (F := Ideal))) ⟨m, fun _ => 0, g⟩ (fun r => ∀ c : Dev Cert.KLnIdeal.nD,
          r.2.mem ((c.tc : Thread Cert.KLnIdeal.nD Cert.KLnIdeal.τ).loc Cert.KLnIdeal.main_v2_0) = v0 c
          ∧ r.2.mem ((c.tc : Thread Cert.KLnIdeal.nD Cert.KLnIdeal.τ).loc Cert.KLnIdeal.main_v2_1) = v1 c
          ∧ r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
          ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
          ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
          ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3))
      ∧ θ_run (Cert.RLnIdeal.defs (F := Ideal)) (onTc (τ := Cert.RLnIdeal.τ) (Cert.RLnIdeal.main (F := Ideal))) ⟨m', fun _ => 0, g'⟩ (fun r => ∀ c : Dev Cert.RLnIdeal.nD,
          r.2.mem ((c.tc : Thread Cert.RLnIdeal.nD Cert.RLnIdeal.τ).loc Cert.RLnIdeal.main_v26) = v0 c
          ∧ r.2.mem ((c.tc : Thread Cert.RLnIdeal.nD Cert.RLnIdeal.τ).loc Cert.RLnIdeal.main_v27) = v1 c
          ∧ r.2.mem ((c.tc : Thread Cert.RLnIdeal.nD Cert.RLnIdeal.τ).loc Cert.RLnIdeal.main_arg0) = m' ((c.tc : Thread Cert.RLnIdeal.nD Cert.RLnIdeal.τ).loc Cert.RLnIdeal.main_arg0)
          ∧ r.2.mem ((c.tc : Thread Cert.RLnIdeal.nD Cert.RLnIdeal.τ).loc Cert.RLnIdeal.main_arg1) = m' ((c.tc : Thread Cert.RLnIdeal.nD Cert.RLnIdeal.τ).loc Cert.RLnIdeal.main_arg1)
          ∧ r.2.mem ((c.tc : Thread Cert.RLnIdeal.nD Cert.RLnIdeal.τ).loc Cert.RLnIdeal.main_arg2) = m' ((c.tc : Thread Cert.RLnIdeal.nD Cert.RLnIdeal.τ).loc Cert.RLnIdeal.main_arg2)
          ∧ r.2.mem ((c.tc : Thread Cert.RLnIdeal.nD Cert.RLnIdeal.τ).loc Cert.RLnIdeal.main_arg3) = m' ((c.tc : Thread Cert.RLnIdeal.nD Cert.RLnIdeal.τ).loc Cert.RLnIdeal.main_arg3))

def preserves_KEmb_KEmbIdeal : Prop :=
  True

def algebraic_KEmbIdeal_REmbIdeal [hKEmbIdeal : Cert.KEmbIdeal.Facts] [hREmbIdeal : Cert.REmbIdeal.Facts] : Prop :=
  ∀ (m : (ℓ : Loc Cert.KEmbIdeal.nD Cert.KEmbIdeal.τ Cert.KEmbIdeal.sig) → Buf (Elt Ideal) ℓ) (g : Dev Cert.KEmbIdeal.nD → PrngReg)
    (m' : (ℓ : Loc Cert.REmbIdeal.nD Cert.REmbIdeal.τ Cert.REmbIdeal.sig) → Buf (Elt Ideal) ℓ) (g' : Dev Cert.REmbIdeal.nD → PrngReg), Pre_KEmbIdeal m →
    (∀ c : Dev Cert.KEmbIdeal.nD,
      m' ((c.tc : Thread Cert.REmbIdeal.nD Cert.REmbIdeal.τ).loc Cert.REmbIdeal.main_arg0) = m ((c.tc : Thread Cert.KEmbIdeal.nD Cert.KEmbIdeal.τ).loc Cert.KEmbIdeal.main_arg0)
      ∧ m' ((c.tc : Thread Cert.REmbIdeal.nD Cert.REmbIdeal.τ).loc Cert.REmbIdeal.main_arg1) = m ((c.tc : Thread Cert.KEmbIdeal.nD Cert.KEmbIdeal.τ).loc Cert.KEmbIdeal.main_arg1)
      ∧ m' ((c.tc : Thread Cert.REmbIdeal.nD Cert.REmbIdeal.τ).loc Cert.REmbIdeal.main_arg2) = m ((c.tc : Thread Cert.KEmbIdeal.nD Cert.KEmbIdeal.τ).loc Cert.KEmbIdeal.main_arg2)) →
    ∃ (v0 : (c : Dev Cert.KEmbIdeal.nD) → Buf (Elt Ideal) ((c.tc : Thread Cert.KEmbIdeal.nD Cert.KEmbIdeal.τ).loc Cert.KEmbIdeal.main_v2_0)) (v1 : (c : Dev Cert.KEmbIdeal.nD) → Buf (Elt Ideal) ((c.tc : Thread Cert.KEmbIdeal.nD Cert.KEmbIdeal.τ).loc Cert.KEmbIdeal.main_v2_1)),
      θ_run (Cert.KEmbIdeal.defs (F := Ideal)) (onTc (τ := Cert.KEmbIdeal.τ) (Cert.KEmbIdeal.main (F := Ideal))) ⟨m, fun _ => 0, g⟩ (fun r => ∀ c : Dev Cert.KEmbIdeal.nD,
          r.2.mem ((c.tc : Thread Cert.KEmbIdeal.nD Cert.KEmbIdeal.τ).loc Cert.KEmbIdeal.main_v2_0) = v0 c
          ∧ r.2.mem ((c.tc : Thread Cert.KEmbIdeal.nD Cert.KEmbIdeal.τ).loc Cert.KEmbIdeal.main_v2_1) = v1 c
          ∧ r.2.mem ((c.tc : Thread Cert.KEmbIdeal.nD Cert.KEmbIdeal.τ).loc Cert.KEmbIdeal.main_arg0) = m ((c.tc : Thread Cert.KEmbIdeal.nD Cert.KEmbIdeal.τ).loc Cert.KEmbIdeal.main_arg0)
          ∧ r.2.mem ((c.tc : Thread Cert.KEmbIdeal.nD Cert.KEmbIdeal.τ).loc Cert.KEmbIdeal.main_arg1) = m ((c.tc : Thread Cert.KEmbIdeal.nD Cert.KEmbIdeal.τ).loc Cert.KEmbIdeal.main_arg1)
          ∧ r.2.mem ((c.tc : Thread Cert.KEmbIdeal.nD Cert.KEmbIdeal.τ).loc Cert.KEmbIdeal.main_arg2) = m ((c.tc : Thread Cert.KEmbIdeal.nD Cert.KEmbIdeal.τ).loc Cert.KEmbIdeal.main_arg2))
      ∧ θ_run (Cert.REmbIdeal.defs (F := Ideal)) (onTc (τ := Cert.REmbIdeal.τ) (Cert.REmbIdeal.main (F := Ideal))) ⟨m', fun _ => 0, g'⟩ (fun r => ∀ c : Dev Cert.REmbIdeal.nD,
          r.2.mem ((c.tc : Thread Cert.REmbIdeal.nD Cert.REmbIdeal.τ).loc Cert.REmbIdeal.main_v23) = v0 c
          ∧ r.2.mem ((c.tc : Thread Cert.REmbIdeal.nD Cert.REmbIdeal.τ).loc Cert.REmbIdeal.main_v24) = v1 c
          ∧ r.2.mem ((c.tc : Thread Cert.REmbIdeal.nD Cert.REmbIdeal.τ).loc Cert.REmbIdeal.main_arg0) = m' ((c.tc : Thread Cert.REmbIdeal.nD Cert.REmbIdeal.τ).loc Cert.REmbIdeal.main_arg0)
          ∧ r.2.mem ((c.tc : Thread Cert.REmbIdeal.nD Cert.REmbIdeal.τ).loc Cert.REmbIdeal.main_arg1) = m' ((c.tc : Thread Cert.REmbIdeal.nD Cert.REmbIdeal.τ).loc Cert.REmbIdeal.main_arg1)
          ∧ r.2.mem ((c.tc : Thread Cert.REmbIdeal.nD Cert.REmbIdeal.τ).loc Cert.REmbIdeal.main_arg2) = m' ((c.tc : Thread Cert.REmbIdeal.nD Cert.REmbIdeal.τ).loc Cert.REmbIdeal.main_arg2))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v16) = v0 c
          ∧ r.2.mem ((c.tc : Thread Cert.RLossIdeal.nD Cert.RLossIdeal.τ).loc Cert.RLossIdeal.main_v17) = v1 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KLnb_KLnbIdeal : Prop :=
  True

def algebraic_KLnbIdeal_RLnbIdeal [hKLnbIdeal : Cert.KLnbIdeal.Facts] [hRLnbIdeal : Cert.RLnbIdeal.Facts] : Prop :=
  ∀ (m : (ℓ : Loc Cert.KLnbIdeal.nD Cert.KLnbIdeal.τ Cert.KLnbIdeal.sig) → Buf (Elt Ideal) ℓ) (g : Dev Cert.KLnbIdeal.nD → PrngReg)
    (m' : (ℓ : Loc Cert.RLnbIdeal.nD Cert.RLnbIdeal.τ Cert.RLnbIdeal.sig) → Buf (Elt Ideal) ℓ) (g' : Dev Cert.RLnbIdeal.nD → PrngReg), Pre_KLnbIdeal m →
    (∀ c : Dev Cert.KLnbIdeal.nD,
      m' ((c.tc : Thread Cert.RLnbIdeal.nD Cert.RLnbIdeal.τ).loc Cert.RLnbIdeal.main_arg0) = m ((c.tc : Thread Cert.KLnbIdeal.nD Cert.KLnbIdeal.τ).loc Cert.KLnbIdeal.main_arg0)
      ∧ m' ((c.tc : Thread Cert.RLnbIdeal.nD Cert.RLnbIdeal.τ).loc Cert.RLnbIdeal.main_arg1) = m ((c.tc : Thread Cert.KLnbIdeal.nD Cert.KLnbIdeal.τ).loc Cert.KLnbIdeal.main_arg1)
      ∧ m' ((c.tc : Thread Cert.RLnbIdeal.nD Cert.RLnbIdeal.τ).loc Cert.RLnbIdeal.main_arg2) = m ((c.tc : Thread Cert.KLnbIdeal.nD Cert.KLnbIdeal.τ).loc Cert.KLnbIdeal.main_arg2)
      ∧ m' ((c.tc : Thread Cert.RLnbIdeal.nD Cert.RLnbIdeal.τ).loc Cert.RLnbIdeal.main_arg3) = m ((c.tc : Thread Cert.KLnbIdeal.nD Cert.KLnbIdeal.τ).loc Cert.KLnbIdeal.main_arg3)) →
    ∃ (v0 : (c : Dev Cert.KLnbIdeal.nD) → Buf (Elt Ideal) ((c.tc : Thread Cert.KLnbIdeal.nD Cert.KLnbIdeal.τ).loc Cert.KLnbIdeal.main_v1_1)) (v1 : (c : Dev Cert.KLnbIdeal.nD) → Buf (Elt Ideal) ((c.tc : Thread Cert.KLnbIdeal.nD Cert.KLnbIdeal.τ).loc Cert.KLnbIdeal.main_v1_2)),
      θ_run (Cert.KLnbIdeal.defs (F := Ideal)) (onTc (τ := Cert.KLnbIdeal.τ) (Cert.KLnbIdeal.main (F := Ideal))) ⟨m, fun _ => 0, g⟩ (fun r => ∀ c : Dev Cert.KLnbIdeal.nD,
          r.2.mem ((c.tc : Thread Cert.KLnbIdeal.nD Cert.KLnbIdeal.τ).loc Cert.KLnbIdeal.main_v1_1) = v0 c
          ∧ r.2.mem ((c.tc : Thread Cert.KLnbIdeal.nD Cert.KLnbIdeal.τ).loc Cert.KLnbIdeal.main_v1_2) = v1 c
          ∧ r.2.mem ((c.tc : Thread Cert.KLnbIdeal.nD Cert.KLnbIdeal.τ).loc Cert.KLnbIdeal.main_arg0) = m ((c.tc : Thread Cert.KLnbIdeal.nD Cert.KLnbIdeal.τ).loc Cert.KLnbIdeal.main_arg0)
          ∧ r.2.mem ((c.tc : Thread Cert.KLnbIdeal.nD Cert.KLnbIdeal.τ).loc Cert.KLnbIdeal.main_arg1) = m ((c.tc : Thread Cert.KLnbIdeal.nD Cert.KLnbIdeal.τ).loc Cert.KLnbIdeal.main_arg1)
          ∧ r.2.mem ((c.tc : Thread Cert.KLnbIdeal.nD Cert.KLnbIdeal.τ).loc Cert.KLnbIdeal.main_arg2) = m ((c.tc : Thread Cert.KLnbIdeal.nD Cert.KLnbIdeal.τ).loc Cert.KLnbIdeal.main_arg2)
          ∧ r.2.mem ((c.tc : Thread Cert.KLnbIdeal.nD Cert.KLnbIdeal.τ).loc Cert.KLnbIdeal.main_arg3) = m ((c.tc : Thread Cert.KLnbIdeal.nD Cert.KLnbIdeal.τ).loc Cert.KLnbIdeal.main_arg3))
      ∧ θ_run (Cert.RLnbIdeal.defs (F := Ideal)) (onTc (τ := Cert.RLnbIdeal.τ) (Cert.RLnbIdeal.main (F := Ideal))) ⟨m', fun _ => 0, g'⟩ (fun r => ∀ c : Dev Cert.RLnbIdeal.nD,
          r.2.mem ((c.tc : Thread Cert.RLnbIdeal.nD Cert.RLnbIdeal.τ).loc Cert.RLnbIdeal.main_v37) = v0 c
          ∧ r.2.mem ((c.tc : Thread Cert.RLnbIdeal.nD Cert.RLnbIdeal.τ).loc Cert.RLnbIdeal.main_v39) = v1 c
          ∧ r.2.mem ((c.tc : Thread Cert.RLnbIdeal.nD Cert.RLnbIdeal.τ).loc Cert.RLnbIdeal.main_arg0) = m' ((c.tc : Thread Cert.RLnbIdeal.nD Cert.RLnbIdeal.τ).loc Cert.RLnbIdeal.main_arg0)
          ∧ r.2.mem ((c.tc : Thread Cert.RLnbIdeal.nD Cert.RLnbIdeal.τ).loc Cert.RLnbIdeal.main_arg1) = m' ((c.tc : Thread Cert.RLnbIdeal.nD Cert.RLnbIdeal.τ).loc Cert.RLnbIdeal.main_arg1)
          ∧ r.2.mem ((c.tc : Thread Cert.RLnbIdeal.nD Cert.RLnbIdeal.τ).loc Cert.RLnbIdeal.main_arg2) = m' ((c.tc : Thread Cert.RLnbIdeal.nD Cert.RLnbIdeal.τ).loc Cert.RLnbIdeal.main_arg2)
          ∧ r.2.mem ((c.tc : Thread Cert.RLnbIdeal.nD Cert.RLnbIdeal.τ).loc Cert.RLnbIdeal.main_arg3) = m' ((c.tc : Thread Cert.RLnbIdeal.nD Cert.RLnbIdeal.τ).loc Cert.RLnbIdeal.main_arg3))

def preserves_KEmbb_KEmbbIdeal : Prop :=
  True

def algebraic_KEmbbIdeal_REmbbIdeal [hKEmbbIdeal : Cert.KEmbbIdeal.Facts] [hREmbbIdeal : Cert.REmbbIdeal.Facts] : Prop :=
  ∀ (m : (ℓ : Loc Cert.KEmbbIdeal.nD Cert.KEmbbIdeal.τ Cert.KEmbbIdeal.sig) → Buf (Elt Ideal) ℓ) (g : Dev Cert.KEmbbIdeal.nD → PrngReg)
    (m' : (ℓ : Loc Cert.REmbbIdeal.nD Cert.REmbbIdeal.τ Cert.REmbbIdeal.sig) → Buf (Elt Ideal) ℓ) (g' : Dev Cert.REmbbIdeal.nD → PrngReg), Pre_KEmbbIdeal m →
    (∀ c : Dev Cert.KEmbbIdeal.nD,
      m' ((c.tc : Thread Cert.REmbbIdeal.nD Cert.REmbbIdeal.τ).loc Cert.REmbbIdeal.main_arg0) = m ((c.tc : Thread Cert.KEmbbIdeal.nD Cert.KEmbbIdeal.τ).loc Cert.KEmbbIdeal.main_arg0)
      ∧ m' ((c.tc : Thread Cert.REmbbIdeal.nD Cert.REmbbIdeal.τ).loc Cert.REmbbIdeal.main_arg1) = m ((c.tc : Thread Cert.KEmbbIdeal.nD Cert.KEmbbIdeal.τ).loc Cert.KEmbbIdeal.main_arg1)
      ∧ m' ((c.tc : Thread Cert.REmbbIdeal.nD Cert.REmbbIdeal.τ).loc Cert.REmbbIdeal.main_arg2) = m ((c.tc : Thread Cert.KEmbbIdeal.nD Cert.KEmbbIdeal.τ).loc Cert.KEmbbIdeal.main_arg2)) →
    ∃ (v0 : (c : Dev Cert.KEmbbIdeal.nD) → Buf (Elt Ideal) ((c.tc : Thread Cert.KEmbbIdeal.nD Cert.KEmbbIdeal.τ).loc Cert.KEmbbIdeal.main_v1_1)) (v1 : (c : Dev Cert.KEmbbIdeal.nD) → Buf (Elt Ideal) ((c.tc : Thread Cert.KEmbbIdeal.nD Cert.KEmbbIdeal.τ).loc Cert.KEmbbIdeal.main_v1_2)),
      θ_run (Cert.KEmbbIdeal.defs (F := Ideal)) (onTc (τ := Cert.KEmbbIdeal.τ) (Cert.KEmbbIdeal.main (F := Ideal))) ⟨m, fun _ => 0, g⟩ (fun r => ∀ c : Dev Cert.KEmbbIdeal.nD,
          r.2.mem ((c.tc : Thread Cert.KEmbbIdeal.nD Cert.KEmbbIdeal.τ).loc Cert.KEmbbIdeal.main_v1_1) = v0 c
          ∧ r.2.mem ((c.tc : Thread Cert.KEmbbIdeal.nD Cert.KEmbbIdeal.τ).loc Cert.KEmbbIdeal.main_v1_2) = v1 c
          ∧ r.2.mem ((c.tc : Thread Cert.KEmbbIdeal.nD Cert.KEmbbIdeal.τ).loc Cert.KEmbbIdeal.main_arg0) = m ((c.tc : Thread Cert.KEmbbIdeal.nD Cert.KEmbbIdeal.τ).loc Cert.KEmbbIdeal.main_arg0)
          ∧ r.2.mem ((c.tc : Thread Cert.KEmbbIdeal.nD Cert.KEmbbIdeal.τ).loc Cert.KEmbbIdeal.main_arg1) = m ((c.tc : Thread Cert.KEmbbIdeal.nD Cert.KEmbbIdeal.τ).loc Cert.KEmbbIdeal.main_arg1)
          ∧ r.2.mem ((c.tc : Thread Cert.KEmbbIdeal.nD Cert.KEmbbIdeal.τ).loc Cert.KEmbbIdeal.main_arg2) = m ((c.tc : Thread Cert.KEmbbIdeal.nD Cert.KEmbbIdeal.τ).loc Cert.KEmbbIdeal.main_arg2))
      ∧ θ_run (Cert.REmbbIdeal.defs (F := Ideal)) (onTc (τ := Cert.REmbbIdeal.τ) (Cert.REmbbIdeal.main (F := Ideal))) ⟨m', fun _ => 0, g'⟩ (fun r => ∀ c : Dev Cert.REmbbIdeal.nD,
          r.2.mem ((c.tc : Thread Cert.REmbbIdeal.nD Cert.REmbbIdeal.τ).loc Cert.REmbbIdeal.main_v34) = v0 c
          ∧ r.2.mem ((c.tc : Thread Cert.REmbbIdeal.nD Cert.REmbbIdeal.τ).loc Cert.REmbbIdeal.main_v36) = v1 c
          ∧ r.2.mem ((c.tc : Thread Cert.REmbbIdeal.nD Cert.REmbbIdeal.τ).loc Cert.REmbbIdeal.main_arg0) = m' ((c.tc : Thread Cert.REmbbIdeal.nD Cert.REmbbIdeal.τ).loc Cert.REmbbIdeal.main_arg0)
          ∧ r.2.mem ((c.tc : Thread Cert.REmbbIdeal.nD Cert.REmbbIdeal.τ).loc Cert.REmbbIdeal.main_arg1) = m' ((c.tc : Thread Cert.REmbbIdeal.nD Cert.REmbbIdeal.τ).loc Cert.REmbbIdeal.main_arg1)
          ∧ r.2.mem ((c.tc : Thread Cert.REmbbIdeal.nD Cert.REmbbIdeal.τ).loc Cert.REmbbIdeal.main_arg2) = m' ((c.tc : Thread Cert.REmbbIdeal.nD Cert.REmbbIdeal.τ).loc Cert.REmbbIdeal.main_arg2))

def Claim : Prop :=
  ∃ (hKernel : Cert.Kernel.Facts) (hKernelIdeal : Cert.KernelIdeal.Facts) (hKDff2 : Cert.KDff2.Facts) (hKDff2Ideal : Cert.KDff2Ideal.Facts) (hRDff2Ideal : Cert.RDff2Ideal.Facts) (hKGff2 : Cert.KGff2.Facts) (hKGff2Ideal : Cert.KGff2Ideal.Facts) (hRGff2Ideal : Cert.RGff2Ideal.Facts) (hKDff1 : Cert.KDff1.Facts) (hKDff1Ideal : Cert.KDff1Ideal.Facts) (hRDff1Ideal : Cert.RDff1Ideal.Facts) (hKGff1 : Cert.KGff1.Facts) (hKGff1Ideal : Cert.KGff1Ideal.Facts) (hRGff1Ideal : Cert.RGff1Ideal.Facts) (hKDout : Cert.KDout.Facts) (hKDoutIdeal : Cert.KDoutIdeal.Facts) (hRDoutIdeal : Cert.RDoutIdeal.Facts) (hKGout : Cert.KGout.Facts) (hKGoutIdeal : Cert.KGoutIdeal.Facts) (hRGoutIdeal : Cert.RGoutIdeal.Facts) (hKDuq : Cert.KDuq.Facts) (hKDuqIdeal : Cert.KDuqIdeal.Facts) (hRDuqIdeal : Cert.RDuqIdeal.Facts) (hKGuq : Cert.KGuq.Facts) (hKGuqIdeal : Cert.KGuqIdeal.Facts) (hRGuqIdeal : Cert.RGuqIdeal.Facts) (hKDukv : Cert.KDukv.Facts) (hKDukvIdeal : Cert.KDukvIdeal.Facts) (hRDukvIdeal : Cert.RDukvIdeal.Facts) (hKGukv : Cert.KGukv.Facts) (hKGukvIdeal : Cert.KGukvIdeal.Facts) (hRGukvIdeal : Cert.RGukvIdeal.Facts) (hKDin : Cert.KDin.Facts) (hKDinIdeal : Cert.KDinIdeal.Facts) (hRDinIdeal : Cert.RDinIdeal.Facts) (hKGin : Cert.KGin.Facts) (hKGinIdeal : Cert.KGinIdeal.Facts) (hRGinIdeal : Cert.RGinIdeal.Facts) (hKFf1 : Cert.KFf1.Facts) (hKFf1Ideal : Cert.KFf1Ideal.Facts) (hRFf1Ideal : Cert.RFf1Ideal.Facts) (hKFf2 : Cert.KFf2.Facts) (hKFf2Ideal : Cert.KFf2Ideal.Facts) (hRFf2Ideal : Cert.RFf2Ideal.Facts) (hKIn : Cert.KIn.Facts) (hKInIdeal : Cert.KInIdeal.Facts) (hRInIdeal : Cert.RInIdeal.Facts) (hKOut : Cert.KOut.Facts) (hKOutIdeal : Cert.KOutIdeal.Facts) (hROutIdeal : Cert.ROutIdeal.Facts) (hKUq : Cert.KUq.Facts) (hKUqIdeal : Cert.KUqIdeal.Facts) (hRUqIdeal : Cert.RUqIdeal.Facts) (hKUkv : Cert.KUkv.Facts) (hKUkvIdeal : Cert.KUkvIdeal.Facts) (hRUkvIdeal : Cert.RUkvIdeal.Facts) (hKAdam : Cert.KAdam.Facts) (hKAdamIdeal : Cert.KAdamIdeal.Facts) (hRAdamIdeal : Cert.RAdamIdeal.Facts) (hKSmall : Cert.KSmall.Facts) (hKSmallIdeal : Cert.KSmallIdeal.Facts) (hRSmallIdeal : Cert.RSmallIdeal.Facts) (hKLn : Cert.KLn.Facts) (hKLnIdeal : Cert.KLnIdeal.Facts) (hRLnIdeal : Cert.RLnIdeal.Facts) (hKEmb : Cert.KEmb.Facts) (hKEmbIdeal : Cert.KEmbIdeal.Facts) (hREmbIdeal : Cert.REmbIdeal.Facts) (hKLoss : Cert.KLoss.Facts) (hKLossIdeal : Cert.KLossIdeal.Facts) (hRLossIdeal : Cert.RLossIdeal.Facts) (hKLnb : Cert.KLnb.Facts) (hKLnbIdeal : Cert.KLnbIdeal.Facts) (hRLnbIdeal : Cert.RLnbIdeal.Facts) (hKEmbb : Cert.KEmbb.Facts) (hKEmbbIdeal : Cert.KEmbbIdeal.Facts) (hREmbbIdeal : Cert.REmbbIdeal.Facts),
    quiescent_Kernel (hKernel := hKernel)
    ∧ quiescent_KernelIdeal (hKernelIdeal := hKernelIdeal)
    ∧ quiescent_KDff2 (hKDff2 := hKDff2)
    ∧ quiescent_KDff2Ideal (hKDff2Ideal := hKDff2Ideal)
    ∧ quiescent_RDff2Ideal (hRDff2Ideal := hRDff2Ideal)
    ∧ quiescent_KGff2 (hKGff2 := hKGff2)
    ∧ quiescent_KGff2Ideal (hKGff2Ideal := hKGff2Ideal)
    ∧ quiescent_RGff2Ideal (hRGff2Ideal := hRGff2Ideal)
    ∧ quiescent_KDff1 (hKDff1 := hKDff1)
    ∧ quiescent_KDff1Ideal (hKDff1Ideal := hKDff1Ideal)
    ∧ quiescent_RDff1Ideal (hRDff1Ideal := hRDff1Ideal)
    ∧ quiescent_KGff1 (hKGff1 := hKGff1)
    ∧ quiescent_KGff1Ideal (hKGff1Ideal := hKGff1Ideal)
    ∧ quiescent_RGff1Ideal (hRGff1Ideal := hRGff1Ideal)
    ∧ quiescent_KDout (hKDout := hKDout)
    ∧ quiescent_KDoutIdeal (hKDoutIdeal := hKDoutIdeal)
    ∧ quiescent_RDoutIdeal (hRDoutIdeal := hRDoutIdeal)
    ∧ quiescent_KGout (hKGout := hKGout)
    ∧ quiescent_KGoutIdeal (hKGoutIdeal := hKGoutIdeal)
    ∧ quiescent_RGoutIdeal (hRGoutIdeal := hRGoutIdeal)
    ∧ quiescent_KDuq (hKDuq := hKDuq)
    ∧ quiescent_KDuqIdeal (hKDuqIdeal := hKDuqIdeal)
    ∧ quiescent_RDuqIdeal (hRDuqIdeal := hRDuqIdeal)
    ∧ quiescent_KGuq (hKGuq := hKGuq)
    ∧ quiescent_KGuqIdeal (hKGuqIdeal := hKGuqIdeal)
    ∧ quiescent_RGuqIdeal (hRGuqIdeal := hRGuqIdeal)
    ∧ quiescent_KDukv (hKDukv := hKDukv)
    ∧ quiescent_KDukvIdeal (hKDukvIdeal := hKDukvIdeal)
    ∧ quiescent_RDukvIdeal (hRDukvIdeal := hRDukvIdeal)
    ∧ quiescent_KGukv (hKGukv := hKGukv)
    ∧ quiescent_KGukvIdeal (hKGukvIdeal := hKGukvIdeal)
    ∧ quiescent_RGukvIdeal (hRGukvIdeal := hRGukvIdeal)
    ∧ quiescent_KDin (hKDin := hKDin)
    ∧ quiescent_KDinIdeal (hKDinIdeal := hKDinIdeal)
    ∧ quiescent_RDinIdeal (hRDinIdeal := hRDinIdeal)
    ∧ quiescent_KGin (hKGin := hKGin)
    ∧ quiescent_KGinIdeal (hKGinIdeal := hKGinIdeal)
    ∧ quiescent_RGinIdeal (hRGinIdeal := hRGinIdeal)
    ∧ quiescent_KFf1 (hKFf1 := hKFf1)
    ∧ quiescent_KFf1Ideal (hKFf1Ideal := hKFf1Ideal)
    ∧ quiescent_RFf1Ideal (hRFf1Ideal := hRFf1Ideal)
    ∧ quiescent_KFf2 (hKFf2 := hKFf2)
    ∧ quiescent_KFf2Ideal (hKFf2Ideal := hKFf2Ideal)
    ∧ quiescent_RFf2Ideal (hRFf2Ideal := hRFf2Ideal)
    ∧ quiescent_KIn (hKIn := hKIn)
    ∧ quiescent_KInIdeal (hKInIdeal := hKInIdeal)
    ∧ quiescent_RInIdeal (hRInIdeal := hRInIdeal)
    ∧ quiescent_KOut (hKOut := hKOut)
    ∧ quiescent_KOutIdeal (hKOutIdeal := hKOutIdeal)
    ∧ quiescent_ROutIdeal (hROutIdeal := hROutIdeal)
    ∧ quiescent_KUq (hKUq := hKUq)
    ∧ quiescent_KUqIdeal (hKUqIdeal := hKUqIdeal)
    ∧ quiescent_RUqIdeal (hRUqIdeal := hRUqIdeal)
    ∧ quiescent_KUkv (hKUkv := hKUkv)
    ∧ quiescent_KUkvIdeal (hKUkvIdeal := hKUkvIdeal)
    ∧ quiescent_RUkvIdeal (hRUkvIdeal := hRUkvIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KSmall (hKSmall := hKSmall)
    ∧ quiescent_KSmallIdeal (hKSmallIdeal := hKSmallIdeal)
    ∧ quiescent_RSmallIdeal (hRSmallIdeal := hRSmallIdeal)
    ∧ quiescent_KLn (hKLn := hKLn)
    ∧ quiescent_KLnIdeal (hKLnIdeal := hKLnIdeal)
    ∧ quiescent_RLnIdeal (hRLnIdeal := hRLnIdeal)
    ∧ quiescent_KEmb (hKEmb := hKEmb)
    ∧ quiescent_KEmbIdeal (hKEmbIdeal := hKEmbIdeal)
    ∧ quiescent_REmbIdeal (hREmbIdeal := hREmbIdeal)
    ∧ quiescent_KLoss (hKLoss := hKLoss)
    ∧ quiescent_KLossIdeal (hKLossIdeal := hKLossIdeal)
    ∧ quiescent_RLossIdeal (hRLossIdeal := hRLossIdeal)
    ∧ quiescent_KLnb (hKLnb := hKLnb)
    ∧ quiescent_KLnbIdeal (hKLnbIdeal := hKLnbIdeal)
    ∧ quiescent_RLnbIdeal (hRLnbIdeal := hRLnbIdeal)
    ∧ quiescent_KEmbb (hKEmbb := hKEmbb)
    ∧ quiescent_KEmbbIdeal (hKEmbbIdeal := hKEmbbIdeal)
    ∧ quiescent_REmbbIdeal (hREmbbIdeal := hREmbbIdeal)
    ∧ preserves_Kernel_KernelIdeal
    ∧ preserves_KDff2_KDff2Ideal
    ∧ algebraic_KDff2Ideal_RDff2Ideal (hKDff2Ideal := hKDff2Ideal) (hRDff2Ideal := hRDff2Ideal)
    ∧ preserves_KGff2_KGff2Ideal
    ∧ algebraic_KGff2Ideal_RGff2Ideal (hKGff2Ideal := hKGff2Ideal) (hRGff2Ideal := hRGff2Ideal)
    ∧ preserves_KDff1_KDff1Ideal
    ∧ algebraic_KDff1Ideal_RDff1Ideal (hKDff1Ideal := hKDff1Ideal) (hRDff1Ideal := hRDff1Ideal)
    ∧ preserves_KGff1_KGff1Ideal
    ∧ algebraic_KGff1Ideal_RGff1Ideal (hKGff1Ideal := hKGff1Ideal) (hRGff1Ideal := hRGff1Ideal)
    ∧ preserves_KDout_KDoutIdeal
    ∧ algebraic_KDoutIdeal_RDoutIdeal (hKDoutIdeal := hKDoutIdeal) (hRDoutIdeal := hRDoutIdeal)
    ∧ preserves_KGout_KGoutIdeal
    ∧ algebraic_KGoutIdeal_RGoutIdeal (hKGoutIdeal := hKGoutIdeal) (hRGoutIdeal := hRGoutIdeal)
    ∧ preserves_KDuq_KDuqIdeal
    ∧ algebraic_KDuqIdeal_RDuqIdeal (hKDuqIdeal := hKDuqIdeal) (hRDuqIdeal := hRDuqIdeal)
    ∧ preserves_KGuq_KGuqIdeal
    ∧ algebraic_KGuqIdeal_RGuqIdeal (hKGuqIdeal := hKGuqIdeal) (hRGuqIdeal := hRGuqIdeal)
    ∧ preserves_KDukv_KDukvIdeal
    ∧ algebraic_KDukvIdeal_RDukvIdeal (hKDukvIdeal := hKDukvIdeal) (hRDukvIdeal := hRDukvIdeal)
    ∧ preserves_KGukv_KGukvIdeal
    ∧ algebraic_KGukvIdeal_RGukvIdeal (hKGukvIdeal := hKGukvIdeal) (hRGukvIdeal := hRGukvIdeal)
    ∧ preserves_KDin_KDinIdeal
    ∧ algebraic_KDinIdeal_RDinIdeal (hKDinIdeal := hKDinIdeal) (hRDinIdeal := hRDinIdeal)
    ∧ preserves_KGin_KGinIdeal
    ∧ algebraic_KGinIdeal_RGinIdeal (hKGinIdeal := hKGinIdeal) (hRGinIdeal := hRGinIdeal)
    ∧ preserves_KFf1_KFf1Ideal
    ∧ algebraic_KFf1Ideal_RFf1Ideal (hKFf1Ideal := hKFf1Ideal) (hRFf1Ideal := hRFf1Ideal)
    ∧ preserves_KFf2_KFf2Ideal
    ∧ algebraic_KFf2Ideal_RFf2Ideal (hKFf2Ideal := hKFf2Ideal) (hRFf2Ideal := hRFf2Ideal)
    ∧ preserves_KIn_KInIdeal
    ∧ algebraic_KInIdeal_RInIdeal (hKInIdeal := hKInIdeal) (hRInIdeal := hRInIdeal)
    ∧ preserves_KOut_KOutIdeal
    ∧ algebraic_KOutIdeal_ROutIdeal (hKOutIdeal := hKOutIdeal) (hROutIdeal := hROutIdeal)
    ∧ preserves_KUq_KUqIdeal
    ∧ algebraic_KUqIdeal_RUqIdeal (hKUqIdeal := hKUqIdeal) (hRUqIdeal := hRUqIdeal)
    ∧ preserves_KUkv_KUkvIdeal
    ∧ algebraic_KUkvIdeal_RUkvIdeal (hKUkvIdeal := hKUkvIdeal) (hRUkvIdeal := hRUkvIdeal)
    ∧ preserves_KAdam_KAdamIdeal
    ∧ algebraic_KAdamIdeal_RAdamIdeal (hKAdamIdeal := hKAdamIdeal) (hRAdamIdeal := hRAdamIdeal)
    ∧ preserves_KSmall_KSmallIdeal
    ∧ algebraic_KSmallIdeal_RSmallIdeal (hKSmallIdeal := hKSmallIdeal) (hRSmallIdeal := hRSmallIdeal)
    ∧ preserves_KLn_KLnIdeal
    ∧ algebraic_KLnIdeal_RLnIdeal (hKLnIdeal := hKLnIdeal) (hRLnIdeal := hRLnIdeal)
    ∧ preserves_KEmb_KEmbIdeal
    ∧ algebraic_KEmbIdeal_REmbIdeal (hKEmbIdeal := hKEmbIdeal) (hREmbIdeal := hREmbIdeal)
    ∧ preserves_KLoss_KLossIdeal
    ∧ algebraic_KLossIdeal_RLossIdeal (hKLossIdeal := hKLossIdeal) (hRLossIdeal := hRLossIdeal)
    ∧ preserves_KLnb_KLnbIdeal
    ∧ algebraic_KLnbIdeal_RLnbIdeal (hKLnbIdeal := hKLnbIdeal) (hRLnbIdeal := hRLnbIdeal)
    ∧ preserves_KEmbb_KEmbbIdeal
    ∧ algebraic_KEmbbIdeal_REmbbIdeal (hKEmbbIdeal := hKEmbbIdeal) (hREmbbIdeal := hREmbbIdeal)
-- ==== Kernel.lean ====
abbrev S4224x512 : Shape := ⟨2, ![4224, 512]⟩
abbrev S4224x3840 : Shape := ⟨2, ![4224, 3840]⟩
abbrev S4224x1536 : Shape := ⟨2, ![4224, 1536]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S_ : Shape := ⟨0, ![]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x8x128 : Shape := ⟨3, ![4, 8, 128]⟩
abbrev S2x33x2x128x128 : Shape := ⟨5, ![2, 33, 2, 128, 128]⟩
abbrev S128x256 : Shape := ⟨2, ![128, 256]⟩
abbrev S2x128x128 : Shape := ⟨3, ![2, 128, 128]⟩
abbrev S2x8x128 : Shape := ⟨3, ![2, 8, 128]⟩
abbrev S1x1x2x128x128 : Shape := ⟨5, ![1, 1, 2, 128, 128]⟩
abbrev S1x1x1x128x128 : Shape := ⟨5, ![1, 1, 1, 128, 128]⟩
abbrev S1x1x128 : Shape := ⟨3, ![1, 1, 128]⟩
abbrev S4224x256 : Shape := ⟨2, ![4224, 256]⟩

abbrev nBuf : Space → Nat
  | .hbm => 65
  | .vmem => 54
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x3840, .f32⟩
  | .hbm, ⟨3, _⟩ => ⟨S4224x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S128x1, .f32⟩
  | .hbm, ⟨8, _⟩ => ⟨S1x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128x128, .f32⟩
  | .hbm, ⟨13, _⟩ => ⟨S_, .f32⟩
  | .hbm, ⟨14, _⟩ => ⟨S1x128x128, .f32⟩
  | .hbm, ⟨15, _⟩ => ⟨S1x128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S4x1x1, .f32⟩
  | .hbm, ⟨21, _⟩ => ⟨S4x128x128, .f32⟩
  | .hbm, ⟨22, _⟩ => ⟨S4x128x128, .f32⟩
  | .hbm, ⟨23, _⟩ => ⟨S4x128x128, .f32⟩
  | .hbm, ⟨24, _⟩ => ⟨S4x128x128, .f32⟩
  | .hbm, ⟨25, _⟩ => ⟨S_, .f32⟩
  | .hbm, ⟨26, _⟩ => ⟨S_, .f32⟩
  | .hbm, ⟨27, _⟩ => ⟨S4x128x128, .i1⟩
  | .hbm, ⟨28, _⟩ => ⟨S4x128x128, .f32⟩
  | .hbm, ⟨29, _⟩ => ⟨S4x128x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S4x1, .f32⟩
  | .hbm, ⟨35, _⟩ => ⟨S4x128, .f32⟩
  | .hbm, ⟨36, _⟩ => ⟨S4x128, .f32⟩
  | .hbm, ⟨37, _⟩ => ⟨S4x128, .f32⟩
  | .hbm, ⟨38, _⟩ => ⟨S4x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S4x1, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4x128x1, .f32⟩
  | .hbm, ⟨53, _⟩ => ⟨S4x128x128, .f32⟩
  | .hbm, ⟨54, _⟩ => ⟨S4x128x1, .f32⟩
  | .hbm, ⟨55, _⟩ => ⟨S4x128x128, .f32⟩
  | .hbm, ⟨56, _⟩ => ⟨S4x1x1, .f32⟩
  | .hbm, ⟨57, _⟩ => ⟨S4x8x128, .f32⟩
  | .hbm, ⟨58, _⟩ => ⟨S4224x512, .f32⟩
  | .hbm, ⟨59, _⟩ => ⟨S4224x512, .f32⟩
  | .hbm, ⟨60, _⟩ => ⟨S2x33x2x128x128, .f32⟩
  | .hbm, ⟨61, _⟩ => ⟨S4224x256, .f32⟩
  | .hbm, ⟨62, _⟩ => ⟨S4224x256, .f32⟩
  | .hbm, ⟨63, _⟩ => ⟨S4224x512, .f32⟩
  | .hbm, ⟨64, _⟩ => ⟨S4224x512, .f32⟩
  | .local _ .vmem, ⟨0, _⟩ => ⟨S128x128, .bf16⟩
  | .local _ .vmem, ⟨1, _⟩ => ⟨S128x128, .bf16⟩
  | .local _ .vmem, ⟨2, _⟩ => ⟨S128x128, .bf16⟩
  | .local _ .vmem, ⟨3, _⟩ => ⟨S128x128, .bf16⟩
  | .local _ .vmem, ⟨4, _⟩ => ⟨S128x256, .bf16⟩
  | .local _ .vmem, ⟨5, _⟩ => ⟨S128x256, .bf16⟩
  | .local _ .vmem, ⟨6, _⟩ => ⟨S128x256, .f32⟩
  | .local _ .vmem, ⟨7, _⟩ => ⟨S128x256, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x128x128, .f32⟩
  | .local _ .vmem, ⟨12, _⟩ => ⟨S2x128x128, .f32⟩
  | .local _ .vmem, ⟨13, _⟩ => ⟨S2x128x128, .f32⟩
  | .local _ .vmem, ⟨14, _⟩ => ⟨S2x8x128, .f32⟩
  | .local _ .vmem, ⟨15, _⟩ => ⟨S2x8x128, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S1x1x2x128x128, .f32⟩
  | .local _ .vmem, ⟨21, _⟩ => ⟨S1x1x2x128x128, .f32⟩
  | .local _ .vmem, ⟨22, _⟩ => ⟨S2x128x128, .f32⟩
  | .local _ .vmem, ⟨23, _⟩ => ⟨S128x256, .f32⟩
  | .local _ .vmem, ⟨24, _⟩ => ⟨S128x256, .f32⟩
  | .local _ .vmem, ⟨25, _⟩ => ⟨S128x128, .bf16⟩
  | .local _ .vmem, ⟨26, _⟩ => ⟨S128x128, .bf16⟩
  | .local _ .vmem, ⟨27, _⟩ => ⟨S128x128, .bf16⟩
  | .local _ .vmem, ⟨28, _⟩ => ⟨S128x128, .bf16⟩
  | .local _ .vmem, ⟨29, _⟩ => ⟨S128x256, .bf16⟩
  | .local _ .vmem, ⟨30, _⟩ => ⟨S128x256, .bf16⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S1x1x2x128x128, .f32⟩
  | .local _ .vmem, ⟨36, _⟩ => ⟨S1x1x2x128x128, .f32⟩
  | .local _ .vmem, ⟨37, _⟩ => ⟨S2x128x128, .f32⟩
  | .local _ .vmem, ⟨38, _⟩ => ⟨S2x128x128, .f32⟩
  | .local _ .vmem, ⟨39, _⟩ => ⟨S2x128x128, .f32⟩
  | .local _ .vmem, ⟨40, _⟩ => ⟨S2x128x128, .f32⟩
  | .local _ .vmem, ⟨41, _⟩ => ⟨S2x128x128, .f32⟩
  | .local _ .vmem, ⟨42, _⟩ => ⟨S2x128x128, .f32⟩
  | .local _ .vmem, ⟨43, _⟩ => ⟨S2x8x128, .f32⟩
  | .local _ .vmem, ⟨44, _⟩ => ⟨S2x8x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S128x128, .f32⟩
  | .local _ .vmem, ⟨49, _⟩ => ⟨S128x256, .f32⟩
  | .local _ .vmem, ⟨50, _⟩ => ⟨S128x256, .f32⟩
  | .local _ .vmem, ⟨51, _⟩ => ⟨S128x256, .f32⟩
  | .local _ .vmem, ⟨52, _⟩ => ⟨S128x256, .f32⟩
  | .local _ .vmem, ⟨53, _⟩ => ⟨S2x128x128, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev main_v45_3 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg9_1 : Ref sig .tc := ⟨.vmem, 42, rfl⟩
abbrev cc1_stg10_0 : Ref sig .tc := ⟨.vmem, 43, rfl⟩
abbrev cc1_stg10_1 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg13_1 : Ref sig .tc := ⟨.vmem, 50, rfl⟩
abbrev cc1_stg14_0 : Ref sig .tc := ⟨.vmem, 51, rfl⟩
abbrev cc1_stg14_1 : Ref sig .tc := ⟨.vmem, 52, rfl⟩
abbrev cc1_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 33], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c4_i32 : BitVec 32 := 4#32
  let v1 : BitVec 32 := Scalar.addi c4_i32 arg0
  let c0_i32 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c2_i32 : BitVec 32 := 2#32
  let v1 : BitVec 32 := Scalar.addi c2_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c11_i32 : BitVec 32 := 11#32
  let v1 : BitVec 32 := Scalar.addi c11_i32 arg0
  let c0_i32 : BitVec 32 := 0#32
  ![v0.toNat, v1.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_6 (i : grid1.Coords) : Fin 5 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_12 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_13 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_14 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x2x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2x8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S128x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S128x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== KDff2.lean ====
abbrev S4224x1024 : Shape := ⟨2, ![4224, 1024]⟩
abbrev S4096x1024 : Shape := ⟨2, ![4096, 1024]⟩
abbrev S4224x4096 : Shape := ⟨2, ![4224, 4096]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S4096x1024, .bf16⟩
  | .hbm, ⟨2, _⟩ => ⟨S4224x4096, .f32⟩
  | .hbm, ⟨3, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDff2Ideal.lean ====
abbrev S4224x1024 : Shape := ⟨2, ![4224, 1024]⟩
abbrev S4096x1024 : Shape := ⟨2, ![4096, 1024]⟩
abbrev S4224x4096 : Shape := ⟨2, ![4224, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .bf16⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .i1⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S4096x1024, .f32⟩
  | .hbm, ⟨16, _⟩ => ⟨S4224x1024, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224x4096, .f32⟩
  | .hbm, ⟨21, _⟩ => ⟨S4224x4096, .f32⟩
  | .hbm, ⟨22, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== KGff2.lean ====
abbrev S4224x4096 : Shape := ⟨2, ![4224, 4096]⟩
abbrev S4224x1024 : Shape := ⟨2, ![4224, 1024]⟩
abbrev S4096x1024 : Shape := ⟨2, ![4096, 1024]⟩
abbrev S384x1024 : Shape := ⟨2, ![384, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .f32⟩
  | .hbm, ⟨2, _⟩ => ⟨S4096x1024, .f32⟩
  | .local _ .vmem, ⟨0, _⟩ => ⟨S384x1024, .bf16⟩
  | .local _ .vmem, ⟨1, _⟩ => ⟨S384x1024, .bf16⟩
  | .local _ .vmem, ⟨2, _⟩ => ⟨S384x1024, .f32⟩
  | .local _ .vmem, ⟨3, _⟩ => ⟨S384x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGff2Ideal.lean ====
abbrev S4224x4096 : Shape := ⟨2, ![4224, 4096]⟩
abbrev S4224x1024 : Shape := ⟨2, ![4224, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .f32⟩
  | .hbm, ⟨2, _⟩ => ⟨S_, .f32⟩
  | .hbm, ⟨3, _⟩ => ⟨S4096x1024, .f32⟩
  | .hbm, ⟨4, _⟩ => ⟨S4224x4096, .f32⟩
  | .hbm, ⟨5, _⟩ => ⟨S4224x1024, .f32⟩
  | .hbm, ⟨6, _⟩ => ⟨S1024x4096, .f32⟩
  | .hbm, ⟨7, _⟩ => ⟨S4096x1024, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDff1.lean ====
abbrev S4224x4096 : Shape := ⟨2, ![4224, 4096]⟩
abbrev S1024x4096 : Shape := ⟨2, ![1024, 4096]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S1024x4096, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDff1Ideal.lean ====
abbrev S4224x4096 : Shape := ⟨2, ![4224, 4096]⟩
abbrev S1024x4096 : Shape := ⟨2, ![1024, 4096]⟩
abbrev S4224x1024 : Shape := ⟨2, ![4224, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S1024x4096, .bf16⟩
  | .hbm, ⟨2, _⟩ => ⟨S4224x1024, .f32⟩
  | .hbm, ⟨3, _⟩ => ⟨S_, .f32⟩
  | .hbm, ⟨4, _⟩ => ⟨S4224x1024, .f32⟩
  | .hbm, ⟨5, _⟩ => ⟨S_, .f32⟩
  | .hbm, ⟨6, _⟩ => ⟨S4224x1024, .f32⟩
  | .hbm, ⟨7, _⟩ => ⟨S4224x1024, .f32⟩
  | .hbm, ⟨8, _⟩ => ⟨S1024x4096, .f32⟩
  | .hbm, ⟨9, _⟩ => ⟨S4224x4096, .f32⟩
  | .hbm, ⟨10, _⟩ => ⟨S4224x4096, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S4224x1024, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KGff1.lean ====
abbrev S4224x1024 : Shape := ⟨2, ![4224, 1024]⟩
abbrev S4224x4096 : Shape := ⟨2, ![4224, 4096]⟩
abbrev S1024x4096 : Shape := ⟨2, ![1024, 4096]⟩
abbrev S384x1024 : Shape := ⟨2, ![384, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S1024x4096, .f32⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGff1Ideal.lean ====
abbrev S4224x1024 : Shape := ⟨2, ![4224, 1024]⟩
abbrev S4224x4096 : Shape := ⟨2, ![4224, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S_, .f32⟩
  | .hbm, ⟨3, _⟩ => ⟨S1024x4096, .f32⟩
  | .hbm, ⟨4, _⟩ => ⟨S4224x1024, .f32⟩
  | .hbm, ⟨5, _⟩ => ⟨S4224x4096, .f32⟩
  | .hbm, ⟨6, _⟩ => ⟨S4224x4096, .f32⟩
  | .hbm, ⟨7, _⟩ => ⟨S4096x1024, .f32⟩
  | .hbm, ⟨8, _⟩ => ⟨S1024x4096, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDout.lean ====
abbrev S4224x1024 : Shape := ⟨2, ![4224, 1024]⟩
abbrev S1536x1024 : Shape := ⟨2, ![1536, 1024]⟩
abbrev S4224x1536 : Shape := ⟨2, ![4224, 1536]⟩
abbrev S1408x1024 : Shape := ⟨2, ![1408, 1024]⟩
abbrev S768x1024 : Shape := ⟨2, ![768, 1024]⟩
abbrev S1408x768 : Shape := ⟨2, ![1408, 768]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1536x1024, .bf16⟩
  | .hbm, ⟨2, _⟩ => ⟨S4224x1536, .f32⟩
  | .local _ .vmem, ⟨0, _⟩ => ⟨S1408x1024, .f32⟩
  | .local _ .vmem, ⟨1, _⟩ => ⟨S1408x1024, .f32⟩
  | .local _ .vmem, ⟨2, _⟩ => ⟨S768x1024, .bf16⟩
  | .local _ .vmem, ⟨3, _⟩ => ⟨S768x1024, .bf16⟩
  | .local _ .vmem, ⟨4, _⟩ => ⟨S1408x768, .f32⟩
  | .local _ .vmem, ⟨5, _⟩ => ⟨S1408x768, .f32⟩
  | .local _ .vmem, ⟨6, _⟩ => ⟨S1408x768, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDoutIdeal.lean ====
abbrev S4224x1024 : Shape := ⟨2, ![4224, 1024]⟩
abbrev S1536x1024 : Shape := ⟨2, ![1536, 1024]⟩
abbrev S_ : Shape := ⟨0, ![]⟩
abbrev S4224x1536 : Shape := ⟨2, ![4224, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1536x1024, .bf16⟩
  | .hbm, ⟨2, _⟩ => ⟨S_, .f32⟩
  | .hbm, ⟨3, _⟩ => ⟨S4224x1536, .f32⟩
  | .hbm, ⟨4, _⟩ => ⟨S1536x1024, .f32⟩
  | .hbm, ⟨5, _⟩ => ⟨S4224x1024, .f32⟩
  | .hbm, ⟨6, _⟩ => ⟨S4224x1536, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KGout.lean ====
abbrev S4224x1536 : Shape := ⟨2, ![4224, 1536]⟩
abbrev S4224x1024 : Shape := ⟨2, ![4224, 1024]⟩
abbrev S1536x1024 : Shape := ⟨2, ![1536, 1024]⟩
abbrev S384x768 : Shape := ⟨2, ![384, 768]⟩
abbrev S384x1024 : Shape := ⟨2, ![384, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1536, .bf16⟩
  | .hbm, ⟨1, _⟩ => ⟨S4224x1024, .f32⟩
  | .hbm, ⟨2, _⟩ => ⟨S1536x1024, .f32⟩
  | .local _ .vmem, ⟨0, _⟩ => ⟨S384x768, .bf16⟩
  | .local _ .vmem, ⟨1, _⟩ => ⟨S384x768, .bf16⟩
  | .local _ .vmem, ⟨2, _⟩ => ⟨S384x1024, .f32⟩
  | .local _ .vmem, ⟨3, _⟩ => ⟨S384x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S4224x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGoutIdeal.lean ====
abbrev S4224x1536 : Shape := ⟨2, ![4224, 1536]⟩
abbrev S4224x1024 : Shape := ⟨2, ![4224, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4224x1536, .bf16⟩
  | .hbm, ⟨1, _⟩ => ⟨S4224x1024, .f32⟩
  | .hbm, ⟨2, _⟩ => ⟨S_, .f32⟩
  | .hbm, ⟨3, _⟩ => ⟨S1536x1024, .f32⟩
  | .hbm, ⟨4, _⟩ => ⟨S4224x1536, .f32⟩
  | .hbm, ⟨5, _⟩ => ⟨S4224x1024, .f32⟩
  | .hbm, ⟨6, _⟩ => ⟨S1024x1536, .f32⟩
  | .hbm, ⟨7, _⟩ => ⟨S1536x1024, .f32⟩
  | _, _ => ⟨S4224x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDuq.lean ====
abbrev S4224x1024 : Shape := ⟨2, ![4224, 1024]⟩
abbrev S384x1024 : Shape := ⟨2, ![384, 1024]⟩
abbrev S4224x384 : Shape := ⟨2, ![4224, 384]⟩
abbrev S1408x1024 : Shape := ⟨2, ![1408, 1024]⟩
abbrev S1408x384 : Shape := ⟨2, ![1408, 384]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S384x1024, .bf16⟩
  | .hbm, ⟨2, _⟩ => ⟨S4224x384, .f32⟩
  | .local _ .vmem, ⟨0, _⟩ => ⟨S1408x1024, .bf16⟩
  | .local _ .vmem, ⟨1, _⟩ => ⟨S1408x1024, .bf16⟩
  | .local _ .vmem, ⟨2, _⟩ => ⟨S384x1024, .bf16⟩
  | .local _ .vmem, ⟨3, _⟩ => ⟨S1408x384, .f32⟩
  | .local _ .vmem, ⟨4, _⟩ => ⟨S1408x384, .f32⟩
  | .local _ .vmem, ⟨5, _⟩ => ⟨S1408x384, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDuqIdeal.lean ====
abbrev S4224x1024 : Shape := ⟨2, ![4224, 1024]⟩
abbrev S384x1024 : Shape := ⟨2, ![384, 1024]⟩
abbrev S_ : Shape := ⟨0, ![]⟩
abbrev S4224x384 : Shape := ⟨2, ![4224, 384]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S384x1024, .bf16⟩
  | .hbm, ⟨2, _⟩ => ⟨S_, .f32⟩
  | .hbm, ⟨3, _⟩ => ⟨S4224x384, .f32⟩
  | .hbm, ⟨4, _⟩ => ⟨S384x1024, .f32⟩
  | .hbm, ⟨5, _⟩ => ⟨S4224x1024, .f32⟩
  | .hbm, ⟨6, _⟩ => ⟨S4224x1024, .f32⟩
  | .hbm, ⟨7, _⟩ => ⟨S4224x384, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KGuq.lean ====
abbrev S4224x384 : Shape := ⟨2, ![4224, 384]⟩
abbrev S4224x1024 : Shape := ⟨2, ![4224, 1024]⟩
abbrev S384x1024 : Shape := ⟨2, ![384, 1024]⟩
abbrev S384x384 : Shape := ⟨2, ![384, 384]⟩

abbrev nBuf : Space → Nat
  | .hbm => 3
  | .vmem => 6
  | .smem => 0
  | _ => 0

abbrev bufTy : (tb : Table) → Fin (tcTables nBuf tb) → BufTy
  | .hbm, ⟨0, _⟩ => ⟨S4224x384, .bf16⟩
  | .hbm, ⟨1, _⟩ => ⟨S4224x1024, .bf16⟩
  | .hbm, ⟨2, _⟩ => ⟨S384x1024, .f32⟩
  | .local _ .vmem, ⟨0, _⟩ => ⟨S384x384, .bf16⟩
  | .local _ .vmem, ⟨1, _⟩ => ⟨S384x384, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | _, _ => ⟨S4224x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RGuqIdeal.lean ====
abbrev S4224x384 : Shape := ⟨2, ![4224, 384]⟩
abbrev S4224x1024 : Shape := ⟨2, ![4224, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4224x384, .bf16⟩
  | .hbm, ⟨1, _⟩ => ⟨S4224x1024, .bf16⟩
  | .hbm, ⟨2, _⟩ => ⟨S_, .f32⟩
  | .hbm, ⟨3, _⟩ => ⟨S384x1024, .f32⟩
  | .hbm, ⟨4, _⟩ => ⟨S4224x384, .f32⟩
  | .hbm, ⟨5, _⟩ => ⟨S4224x1024, .f32⟩
  | .hbm, ⟨6, _⟩ => ⟨S4224x1024, .f32⟩
  | .hbm, ⟨7, _⟩ => ⟨S1024x384, .f32⟩
  | .hbm, ⟨8, _⟩ => ⟨S384x1024, .f32⟩
  | _, _ => ⟨S4224x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDukv.lean ====
abbrev S4224x1024 : Shape := ⟨2, ![4224, 1024]⟩
abbrev S256x1024 : Shape := ⟨2, ![256, 1024]⟩
abbrev S4224x256 : Shape := ⟨2, ![4224, 256]⟩
abbrev S1408x1024 : Shape := ⟨2, ![1408, 1024]⟩
abbrev S1408x256 : Shape := ⟨2, ![1408, 256]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S256x1024, .bf16⟩
  | .hbm, ⟨2, _⟩ => ⟨S4224x256, .f32⟩
  | .local _ .vmem, ⟨0, _⟩ => ⟨S1408x1024, .bf16⟩
  | .local _ .vmem, ⟨1, _⟩ => ⟨S1408x1024, .bf16⟩
  | .local _ .vmem, ⟨2, _⟩ => ⟨S256x1024, .bf16⟩
  | .local _ .vmem, ⟨3, _⟩ => ⟨S1408x256, .f32⟩
  | .local _ .vmem, ⟨4, _⟩ => ⟨S1408x256, .f32⟩
  | .local _ .vmem, ⟨5, _⟩ => ⟨S1408x256, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDukvIdeal.lean ====
abbrev S4224x1024 : Shape := ⟨2, ![4224, 1024]⟩
abbrev S256x1024 : Shape := ⟨2, ![256, 1024]⟩
abbrev S_ : Shape := ⟨0, ![]⟩
abbrev S4224x256 : Shape := ⟨2, ![4224, 256]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S256x1024, .bf16⟩
  | .hbm, ⟨2, _⟩ => ⟨S_, .f32⟩
  | .hbm, ⟨3, _⟩ => ⟨S4224x256, .f32⟩
  | .hbm, ⟨4, _⟩ => ⟨S256x1024, .f32⟩
  | .hbm, ⟨5, _⟩ => ⟨S4224x1024, .f32⟩
  | .hbm, ⟨6, _⟩ => ⟨S4224x1024, .f32⟩
  | .hbm, ⟨7, _⟩ => ⟨S4224x256, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KGukv.lean ====
abbrev S4224x256 : Shape := ⟨2, ![4224, 256]⟩
abbrev S4224x1024 : Shape := ⟨2, ![4224, 1024]⟩
abbrev S256x1024 : Shape := ⟨2, ![256, 1024]⟩
abbrev S384x256 : Shape := ⟨2, ![384, 256]⟩
abbrev S384x1024 : Shape := ⟨2, ![384, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x256, .bf16⟩
  | .hbm, ⟨1, _⟩ => ⟨S4224x1024, .bf16⟩
  | .hbm, ⟨2, _⟩ => ⟨S256x1024, .f32⟩
  | .local _ .vmem, ⟨0, _⟩ => ⟨S384x256, .bf16⟩
  | .local _ .vmem, ⟨1, _⟩ => ⟨S384x256, .bf16⟩
  | .local _ .vmem, ⟨2, _⟩ => ⟨S384x1024, .bf16⟩
  | .local _ .vmem, ⟨3, _⟩ => ⟨S384x1024, .bf16⟩
  | .local _ .vmem, ⟨4, _⟩ => ⟨S256x1024, .f32⟩
  | .local _ .vmem, ⟨5, _⟩ => ⟨S256x1024, .f32⟩
  | _, _ => ⟨S4224x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RGukvIdeal.lean ====
abbrev S4224x256 : Shape := ⟨2, ![4224, 256]⟩
abbrev S4224x1024 : Shape := ⟨2, ![4224, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4224x256, .bf16⟩
  | .hbm, ⟨1, _⟩ => ⟨S4224x1024, .bf16⟩
  | .hbm, ⟨2, _⟩ => ⟨S_, .f32⟩
  | .hbm, ⟨3, _⟩ => ⟨S256x1024, .f32⟩
  | .hbm, ⟨4, _⟩ => ⟨S4224x256, .f32⟩
  | .hbm, ⟨5, _⟩ => ⟨S4224x1024, .f32⟩
  | .hbm, ⟨6, _⟩ => ⟨S4224x1024, .f32⟩
  | .hbm, ⟨7, _⟩ => ⟨S1024x256, .f32⟩
  | .hbm, ⟨8, _⟩ => ⟨S256x1024, .f32⟩
  | _, _ => ⟨S4224x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDin.lean ====
abbrev S4224x3840 : Shape := ⟨2, ![4224, 3840]⟩
abbrev S1024x3840 : Shape := ⟨2, ![1024, 3840]⟩
abbrev S4224x1024 : Shape := ⟨2, ![4224, 1024]⟩
abbrev S1408x768 : Shape := ⟨2, ![1408, 768]⟩
abbrev S1024x768 : Shape := ⟨2, ![1024, 768]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x3840, .bf16⟩
  | .hbm, ⟨1, _⟩ => ⟨S1024x3840, .bf16⟩
  | .hbm, ⟨2, _⟩ => ⟨S4224x1024, .f32⟩
  | .hbm, ⟨3, _⟩ => ⟨S4224x1024, .f32⟩
  | .local _ .vmem, ⟨0, _⟩ => ⟨S1408x768, .bf16⟩
  | .local _ .vmem, ⟨1, _⟩ => ⟨S1408x768, .bf16⟩
  | .local _ .vmem, ⟨2, _⟩ => ⟨S1024x768, .bf16⟩
  | .local _ .vmem, ⟨3, _⟩ => ⟨S1024x768, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDinIdeal.lean ====
abbrev S4224x3840 : Shape := ⟨2, ![4224, 3840]⟩
abbrev S1024x3840 : Shape := ⟨2, ![1024, 3840]⟩
abbrev S4224x1024 : Shape := ⟨2, ![4224, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4224x3840, .bf16⟩
  | .hbm, ⟨1, _⟩ => ⟨S1024x3840, .bf16⟩
  | .hbm, ⟨2, _⟩ => ⟨S4224x1024, .f32⟩
  | .hbm, ⟨3, _⟩ => ⟨S_, .f32⟩
  | .hbm, ⟨4, _⟩ => ⟨S4224x1024, .f32⟩
  | .hbm, ⟨5, _⟩ => ⟨S_, .f32⟩
  | .hbm, ⟨6, _⟩ => ⟨S4224x1024, .f32⟩
  | .hbm, ⟨7, _⟩ => ⟨S4224x1024, .f32⟩
  | .hbm, ⟨8, _⟩ => ⟨S1024x3840, .f32⟩
  | .hbm, ⟨9, _⟩ => ⟨S4224x3840, .f32⟩
  | .hbm, ⟨10, _⟩ => ⟨S4224x3840, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S4224x1024, .f32⟩
  | _, _ => ⟨S4224x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KGin.lean ====
abbrev S4224x1024 : Shape := ⟨2, ![4224, 1024]⟩
abbrev S4224x3840 : Shape := ⟨2, ![4224, 3840]⟩
abbrev S1024x3840 : Shape := ⟨2, ![1024, 3840]⟩
abbrev S384x1024 : Shape := ⟨2, ![384, 1024]⟩
abbrev S384x1920 : Shape := ⟨2, ![384, 1920]⟩
abbrev S1024x1920 : Shape := ⟨2, ![1024, 1920]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x3840, .bf16⟩
  | .hbm, ⟨2, _⟩ => ⟨S1024x3840, .f32⟩
  | .local _ .vmem, ⟨0, _⟩ => ⟨S384x1024, .bf16⟩
  | .local _ .vmem, ⟨1, _⟩ => ⟨S384x1024, .bf16⟩
  | .local _ .vmem, ⟨2, _⟩ => ⟨S384x1920, .bf16⟩
  | .local _ .vmem, ⟨3, _⟩ => ⟨S384x1920, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGinIdeal.lean ====
abbrev S4224x1024 : Shape := ⟨2, ![4224, 1024]⟩
abbrev S4224x3840 : Shape := ⟨2, ![4224, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x3840, .bf16⟩
  | .hbm, ⟨2, _⟩ => ⟨S_, .f32⟩
  | .hbm, ⟨3, _⟩ => ⟨S1024x3840, .f32⟩
  | .hbm, ⟨4, _⟩ => ⟨S4224x1024, .f32⟩
  | .hbm, ⟨5, _⟩ => ⟨S4224x3840, .f32⟩
  | .hbm, ⟨6, _⟩ => ⟨S4224x3840, .f32⟩
  | .hbm, ⟨7, _⟩ => ⟨S3840x1024, .f32⟩
  | .hbm, ⟨8, _⟩ => ⟨S1024x3840, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KFf1.lean ====
abbrev S4224x1024 : Shape := ⟨2, ![4224, 1024]⟩
abbrev S1024x4096 : Shape := ⟨2, ![1024, 4096]⟩
abbrev S4224x4096 : Shape := ⟨2, ![4224, 4096]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S1024x4096, .bf16⟩
  | .hbm, ⟨2, _⟩ => ⟨S4224x4096, .f32⟩
  | .hbm, ⟨3, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RFf1Ideal.lean ====
abbrev S4224x1024 : Shape := ⟨2, ![4224, 1024]⟩
abbrev S1024x4096 : Shape := ⟨2, ![1024, 4096]⟩
abbrev S4224x4096 : Shape := ⟨2, ![4224, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x4096, .bf16⟩
  | .hbm, ⟨2, _⟩ => ⟨S4224x1024, .f32⟩
  | .hbm, ⟨3, _⟩ => ⟨S1024x4096, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x4096, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KFf2.lean ====
abbrev S4224x4096 : Shape := ⟨2, ![4224, 4096]⟩
abbrev S4096x1024 : Shape := ⟨2, ![4096, 1024]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4096x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RFf2Ideal.lean ====
abbrev S4224x4096 : Shape := ⟨2, ![4224, 4096]⟩
abbrev S4096x1024 : Shape := ⟨2, ![4096, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x1024, .bf16⟩
  | .hbm, ⟨2, _⟩ => ⟨S4224x4096, .f32⟩
  | .hbm, ⟨3, _⟩ => ⟨S4096x1024, .f32⟩
  | .hbm, ⟨4, _⟩ => ⟨S4224x1024, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KIn.lean ====
abbrev S4224x1024 : Shape := ⟨2, ![4224, 1024]⟩
abbrev S1024x3840 : Shape := ⟨2, ![1024, 3840]⟩
abbrev S4224x3840 : Shape := ⟨2, ![4224, 3840]⟩
abbrev S1408x1024 : Shape := ⟨2, ![1408, 1024]⟩
abbrev S1024x768 : Shape := ⟨2, ![1024, 768]⟩
abbrev S1408x768 : Shape := ⟨2, ![1408, 768]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x3840, .bf16⟩
  | .hbm, ⟨2, _⟩ => ⟨S4224x3840, .f32⟩
  | .local _ .vmem, ⟨0, _⟩ => ⟨S1408x1024, .bf16⟩
  | .local _ .vmem, ⟨1, _⟩ => ⟨S1408x1024, .bf16⟩
  | .local _ .vmem, ⟨2, _⟩ => ⟨S1024x768, .bf16⟩
  | .local _ .vmem, ⟨3, _⟩ => ⟨S1024x768, .bf16⟩
  | .local _ .vmem, ⟨4, _⟩ => ⟨S1408x768, .f32⟩
  | .local _ .vmem, ⟨5, _⟩ => ⟨S1408x768, .f32⟩
  | .local _ .vmem, ⟨6, _⟩ => ⟨S1408x768, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInIdeal.lean ====
abbrev S4224x1024 : Shape := ⟨2, ![4224, 1024]⟩
abbrev S1024x3840 : Shape := ⟨2, ![1024, 3840]⟩
abbrev S4224x3840 : Shape := ⟨2, ![4224, 3840]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x3840, .bf16⟩
  | .hbm, ⟨2, _⟩ => ⟨S4224x1024, .f32⟩
  | .hbm, ⟨3, _⟩ => ⟨S1024x3840, .f32⟩
  | .hbm, ⟨4, _⟩ => ⟨S4224x3840, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KOut.lean ====
abbrev S4224x1536 : Shape := ⟨2, ![4224, 1536]⟩
abbrev S1536x1024 : Shape := ⟨2, ![1536, 1024]⟩
abbrev S4224x1024 : Shape := ⟨2, ![4224, 1024]⟩
abbrev S1408x768 : Shape := ⟨2, ![1408, 768]⟩
abbrev S768x1024 : Shape := ⟨2, ![768, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1536, .bf16⟩
  | .hbm, ⟨1, _⟩ => ⟨S1536x1024, .bf16⟩
  | .hbm, ⟨2, _⟩ => ⟨S4224x1024, .f32⟩
  | .local _ .vmem, ⟨0, _⟩ => ⟨S1408x768, .bf16⟩
  | .local _ .vmem, ⟨1, _⟩ => ⟨S1408x768, .bf16⟩
  | .local _ .vmem, ⟨2, _⟩ => ⟨S768x1024, .bf16⟩
  | .local _ .vmem, ⟨3, _⟩ => ⟨S768x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutIdeal.lean ====
abbrev S4224x1536 : Shape := ⟨2, ![4224, 1536]⟩
abbrev S1536x1024 : Shape := ⟨2, ![1536, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1536, .bf16⟩
  | .hbm, ⟨1, _⟩ => ⟨S1536x1024, .bf16⟩
  | .hbm, ⟨2, _⟩ => ⟨S4224x1536, .f32⟩
  | .hbm, ⟨3, _⟩ => ⟨S1536x1024, .f32⟩
  | .hbm, ⟨4, _⟩ => ⟨S4224x1024, .f32⟩
  | _, _ => ⟨S4224x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KUq.lean ====
abbrev S4224x384 : Shape := ⟨2, ![4224, 384]⟩
abbrev S384x1024 : Shape := ⟨2, ![384, 1024]⟩
abbrev S4224x1024 : Shape := ⟨2, ![4224, 1024]⟩
abbrev S1408x384 : Shape := ⟨2, ![1408, 384]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x384, .bf16⟩
  | .hbm, ⟨1, _⟩ => ⟨S384x1024, .bf16⟩
  | .hbm, ⟨2, _⟩ => ⟨S4224x1024, .f32⟩
  | .local _ .vmem, ⟨0, _⟩ => ⟨S1408x384, .bf16⟩
  | .local _ .vmem, ⟨1, _⟩ => ⟨S1408x384, .bf16⟩
  | .local _ .vmem, ⟨2, _⟩ => ⟨S384x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S4224x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUqIdeal.lean ====
abbrev S4224x384 : Shape := ⟨2, ![4224, 384]⟩
abbrev S384x1024 : Shape := ⟨2, ![384, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x384, .bf16⟩
  | .hbm, ⟨1, _⟩ => ⟨S384x1024, .bf16⟩
  | .hbm, ⟨2, _⟩ => ⟨S4224x384, .f32⟩
  | .hbm, ⟨3, _⟩ => ⟨S384x1024, .f32⟩
  | .hbm, ⟨4, _⟩ => ⟨S4224x1024, .f32⟩
  | _, _ => ⟨S4224x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KUkv.lean ====
abbrev S4224x256 : Shape := ⟨2, ![4224, 256]⟩
abbrev S256x1024 : Shape := ⟨2, ![256, 1024]⟩
abbrev S4224x1024 : Shape := ⟨2, ![4224, 1024]⟩
abbrev S1408x256 : Shape := ⟨2, ![1408, 256]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x256, .bf16⟩
  | .hbm, ⟨1, _⟩ => ⟨S256x1024, .bf16⟩
  | .hbm, ⟨2, _⟩ => ⟨S4224x1024, .bf16⟩
  | .local _ .vmem, ⟨0, _⟩ => ⟨S1408x256, .bf16⟩
  | .local _ .vmem, ⟨1, _⟩ => ⟨S1408x256, .bf16⟩
  | .local _ .vmem, ⟨2, _⟩ => ⟨S256x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .f32⟩
  | _, _ => ⟨S4224x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUkvIdeal.lean ====
abbrev S4224x256 : Shape := ⟨2, ![4224, 256]⟩
abbrev S256x1024 : Shape := ⟨2, ![256, 1024]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x256, .bf16⟩
  | .hbm, ⟨1, _⟩ => ⟨S256x1024, .bf16⟩
  | .hbm, ⟨2, _⟩ => ⟨S4224x256, .f32⟩
  | .hbm, ⟨3, _⟩ => ⟨S256x1024, .f32⟩
  | .hbm, ⟨4, _⟩ => ⟨S4224x1024, .f32⟩
  | .hbm, ⟨5, _⟩ => ⟨S4224x1024, .bf16⟩
  | _, _ => ⟨S4224x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KAdam.lean ====
abbrev S8x3504x512 : Shape := ⟨3, ![8, 3504, 512]⟩
abbrev S3504x512 : Shape := ⟨2, ![3504, 512]⟩
abbrev S8x48x512 : Shape := ⟨3, ![8, 48, 512]⟩
abbrev S48x512 : Shape := ⟨2, ![48, 512]⟩
abbrev S1x48x512 : Shape := ⟨3, ![1, 48, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x3504x512, .bf16⟩
  | .hbm, ⟨1, _⟩ => ⟨S3504x512, .f32⟩
  | .hbm, ⟨2, _⟩ => ⟨S3504x512, .f32⟩
  | .hbm, ⟨3, _⟩ => ⟨S3504x512, .f32⟩
  | .hbm, ⟨4, _⟩ => ⟨S3504x512, .f32⟩
  | .hbm, ⟨5, _⟩ => ⟨S3504x512, .f32⟩
  | .hbm, ⟨6, _⟩ => ⟨S3504x512, .f32⟩
  | .hbm, ⟨7, _⟩ => ⟨S3504x512, .f32⟩
  | .local _ .vmem, ⟨0, _⟩ => ⟨S8x48x512, .bf16⟩
  | .local _ .vmem, ⟨1, _⟩ => ⟨S8x48x512, .bf16⟩
  | .local _ .vmem, ⟨2, _⟩ => ⟨S48x512, .f32⟩
  | .local _ .vmem, ⟨3, _⟩ => ⟨S48x512, .f32⟩
  | .local _ .vmem, ⟨4, _⟩ => ⟨S48x512, .f32⟩
  | .local _ .vmem, ⟨5, _⟩ => ⟨S48x512, .f32⟩
  | .local _ .vmem, ⟨6, _⟩ => ⟨S48x512, .f32⟩
  | .local _ .vmem, ⟨7, _⟩ => ⟨S48x512, .f32⟩
  | .local _ .vmem, ⟨8, _⟩ => ⟨S48x512, .f32⟩
  | .local _ .vmem, ⟨9, _⟩ => ⟨S48x512, .f32⟩
  | .local _ .vmem, ⟨10, _⟩ => ⟨S48x512, .f32⟩
  | .local _ .vmem, ⟨11, _⟩ => ⟨S48x512, .f32⟩
  | .local _ .vmem, ⟨12, _⟩ => ⟨S48x512, .f32⟩
  | .local _ .vmem, ⟨13, _⟩ => ⟨S48x512, .f32⟩
  | .local _ .vmem, ⟨14, _⟩ => ⟨S48x512, .f32⟩
  | .local _ .vmem, ⟨15, _⟩ => ⟨S48x512, .f32⟩
  | _, _ => ⟨S8x3504x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![73], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x48x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S48x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RAdamIdeal.lean ====
abbrev S8x3504x512 : Shape := ⟨3, ![8, 3504, 512]⟩
abbrev S3504x512 : Shape := ⟨2, ![3504, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x3504x512, .bf16⟩
  | .hbm, ⟨1, _⟩ => ⟨S3504x512, .f32⟩
  | .hbm, ⟨2, _⟩ => ⟨S3504x512, .f32⟩
  | .hbm, ⟨3, _⟩ => ⟨S3504x512, .f32⟩
  | .hbm, ⟨4, _⟩ => ⟨S8x3504x512, .f32⟩
  | .hbm, ⟨5, _⟩ => ⟨S_, .f32⟩
  | .hbm, ⟨6, _⟩ => ⟨S3504x512, .f32⟩
  | .hbm, ⟨7, _⟩ => ⟨S_, .f32⟩
  | .hbm, ⟨8, _⟩ => ⟨S3504x512, .f32⟩
  | .hbm, ⟨9, _⟩ => ⟨S3504x512, .f32⟩
  | .hbm, ⟨10, _⟩ => ⟨S_, .f32⟩
  | .hbm, ⟨11, _⟩ => ⟨S3504x512, .f32⟩
  | .hbm, ⟨12, _⟩ => ⟨S3504x512, .f32⟩
  | .hbm, ⟨13, _⟩ => ⟨S3504x512, .f32⟩
  | .hbm, ⟨14, _⟩ => ⟨S_, .f32⟩
  | .hbm, ⟨15, _⟩ => ⟨S3504x512, .f32⟩
  | .hbm, ⟨16, _⟩ => ⟨S3504x512, .f32⟩
  | .hbm, ⟨17, _⟩ => ⟨S3504x512, .f32⟩
  | .hbm, ⟨18, _⟩ => ⟨S_, .f32⟩
  | .hbm, ⟨19, _⟩ => ⟨S3504x512, .f32⟩
  | .hbm, ⟨20, _⟩ => ⟨S3504x512, .f32⟩
  | .hbm, ⟨21, _⟩ => ⟨S3504x512, .f32⟩
  | .hbm, ⟨22, _⟩ => ⟨S_, .f32⟩
  | .hbm, ⟨23, _⟩ => ⟨S3504x512, .f32⟩
  | .hbm, ⟨24, _⟩ => ⟨S3504x512, .f32⟩
  | .hbm, ⟨25, _⟩ => ⟨S_, .f32⟩
  | .hbm, ⟨26, _⟩ => ⟨S3504x512, .f32⟩
  | .hbm, ⟨27, _⟩ => ⟨S3504x512, .f32⟩
  | .hbm, ⟨28, _⟩ => ⟨S3504x512, .f32⟩
  | .hbm, ⟨29, _⟩ => ⟨S_, .f32⟩
  | .hbm, ⟨30, _⟩ => ⟨S3504x512, .f32⟩
  | .hbm, ⟨31, _⟩ => ⟨S3504x512, .f32⟩
  | .hbm, ⟨32, _⟩ => ⟨S3504x512, .f32⟩
  | .hbm, ⟨33, _⟩ => ⟨S_, .f32⟩
  | .hbm, ⟨34, _⟩ => ⟨S3504x512, .f32⟩
  | .hbm, ⟨35, _⟩ => ⟨S3504x512, .f32⟩
  | .hbm, ⟨36, _⟩ => ⟨S3504x512, .f32⟩
  | .hbm, ⟨37, _⟩ => ⟨S_, .f32⟩
  | .hbm, ⟨38, _⟩ => ⟨S3504x512, .f32⟩
  | .hbm, ⟨39, _⟩ => ⟨S3504x512, .f32⟩
  | _, _ => ⟨S8x3504x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KSmall.lean ====
abbrev S8x40x1024 : Shape := ⟨3, ![8, 40, 1024]⟩
abbrev S40x1024 : Shape := ⟨2, ![40, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S40x1024, .f32⟩
  | .hbm, ⟨5, _⟩ => ⟨S40x1024, .f32⟩
  | .hbm, ⟨6, _⟩ => ⟨S40x1024, .f32⟩
  | .hbm, ⟨7, _⟩ => ⟨S40x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RSmallIdeal.lean ====
abbrev S8x40x1024 : Shape := ⟨3, ![8, 40, 1024]⟩
abbrev S40x1024 : Shape := ⟨2, ![40, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S_, .f32⟩
  | .hbm, ⟨5, _⟩ => ⟨S40x1024, .f32⟩
  | .hbm, ⟨6, _⟩ => ⟨S_, .f32⟩
  | .hbm, ⟨7, _⟩ => ⟨S40x1024, .f32⟩
  | .hbm, ⟨8, _⟩ => ⟨S40x1024, .f32⟩
  | .hbm, ⟨9, _⟩ => ⟨S_, .f32⟩
  | .hbm, ⟨10, _⟩ => ⟨S40x1024, .f32⟩
  | .hbm, ⟨11, _⟩ => ⟨S40x1024, .f32⟩
  | .hbm, ⟨12, _⟩ => ⟨S40x1024, .f32⟩
  | .hbm, ⟨13, _⟩ => ⟨S_, .f32⟩
  | .hbm, ⟨14, _⟩ => ⟨S40x1024, .f32⟩
  | .hbm, ⟨15, _⟩ => ⟨S40x1024, .f32⟩
  | .hbm, ⟨16, _⟩ => ⟨S40x1024, .f32⟩
  | .hbm, ⟨17, _⟩ => ⟨S_, .f32⟩
  | .hbm, ⟨18, _⟩ => ⟨S40x1024, .f32⟩
  | .hbm, ⟨19, _⟩ => ⟨S40x1024, .f32⟩
  | .hbm, ⟨20, _⟩ => ⟨S40x1024, .f32⟩
  | .hbm, ⟨21, _⟩ => ⟨S_, .f32⟩
  | .hbm, ⟨22, _⟩ => ⟨S40x1024, .f32⟩
  | .hbm, ⟨23, _⟩ => ⟨S40x1024, .f32⟩
  | .hbm, ⟨24, _⟩ => ⟨S_, .f32⟩
  | .hbm, ⟨25, _⟩ => ⟨S40x1024, .f32⟩
  | .hbm, ⟨26, _⟩ => ⟨S40x1024, .f32⟩
  | .hbm, ⟨27, _⟩ => ⟨S40x1024, .f32⟩
  | .hbm, ⟨28, _⟩ => ⟨S_, .f32⟩
  | .hbm, ⟨29, _⟩ => ⟨S40x1024, .f32⟩
  | .hbm, ⟨30, _⟩ => ⟨S40x1024, .f32⟩
  | .hbm, ⟨31, _⟩ => ⟨S40x1024, .f32⟩
  | .hbm, ⟨32, _⟩ => ⟨S_, .f32⟩
  | .hbm, ⟨33, _⟩ => ⟨S40x1024, .f32⟩
  | .hbm, ⟨34, _⟩ => ⟨S40x1024, .f32⟩
  | .hbm, ⟨35, _⟩ => ⟨S40x1024, .f32⟩
  | .hbm, ⟨36, _⟩ => ⟨S_, .f32⟩
  | .hbm, ⟨37, _⟩ => ⟨S40x1024, .f32⟩
  | .hbm, ⟨38, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KLn.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 8
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4224x1024, .f32⟩
  | .hbm, ⟨7, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RLnIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x1024, .f32⟩
  | .hbm, ⟨30, _⟩ => ⟨S4224x1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S1x1024, .f32⟩
  | .hbm, ⟨35, _⟩ => ⟨S4224x1024, .f32⟩
  | .hbm, ⟨36, _⟩ => ⟨S4224x1024, .f32⟩
  | .hbm, ⟨37, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KEmb.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 7
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4224x1024, .f32⟩
  | .hbm, ⟨6, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .bf16⟩
  | .local _ .vmem, ⟨7, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== REmbIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S4224x1024, .f32⟩
  | .hbm, ⟨25, _⟩ => ⟨S4224x1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S1x1024, .f32⟩
  | .hbm, ⟨30, _⟩ => ⟨S4224x1024, .f32⟩
  | .hbm, ⟨31, _⟩ => ⟨S4224x1024, .f32⟩
  | .hbm, ⟨32, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KLoss.lean ====
abbrev S4224x1024 : Shape := ⟨2, ![4224, 1024]⟩
abbrev S4096x1024 : Shape := ⟨2, ![4096, 1024]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x1024, .f32⟩
  | .hbm, ⟨3, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RLossIdeal.lean ====
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4224x1024, .f32⟩
  | .hbm, ⟨28, _⟩ => ⟨S8x128, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== KLnb.lean ====
abbrev S4224x1024 : Shape := ⟨2, ![4224, 1024]⟩
abbrev S1024 : Shape := ⟨1, ![1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩

abbrev nBuf : Space → Nat
  | .hbm => 8
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S1024, .f32⟩
  | .hbm, ⟨4, _⟩ => ⟨S1x1024, .f32⟩
  | .hbm, ⟨5, _⟩ => ⟨S4224x1024, .f32⟩
  | .hbm, ⟨6, _⟩ => ⟨S8x1024, .f32⟩
  | .hbm, ⟨7, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S8x1024, .f32⟩
  | .local _ .vmem, ⟨10, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RLnbIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x1024, .f32⟩
  | .hbm, ⟨32, _⟩ => ⟨S4224x1024, .f32⟩
  | .hbm, ⟨33, _⟩ => ⟨S1x1024, .f32⟩
  | .hbm, ⟨34, _⟩ => ⟨S4224x1024, .f32⟩
  | .hbm, ⟨35, _⟩ => ⟨S4224x1024, .f32⟩
  | .hbm, ⟨36, _⟩ => ⟨S1x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S4224x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .i32⟩
  | .hbm, ⟨53, _⟩ => ⟨S_, .f32⟩
  | .hbm, ⟨54, _⟩ => ⟨S8x1024, .f32⟩
  | .hbm, ⟨55, _⟩ => ⟨S1x1024, .f32⟩
  | .hbm, ⟨56, _⟩ => ⟨S_, .i32⟩
  | .hbm, ⟨57, _⟩ => ⟨S_, .f32⟩
  | .hbm, ⟨58, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_call1_v0 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== KEmbb.lean ====
abbrev S4224x1024 : Shape := ⟨2, ![4224, 1024]⟩
abbrev S1024 : Shape := ⟨1, ![1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S1x1024, .f32⟩
  | .hbm, ⟨4, _⟩ => ⟨S4224x1024, .f32⟩
  | .hbm, ⟨5, _⟩ => ⟨S8x1024, .f32⟩
  | .hbm, ⟨6, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S8x1024, .f32⟩
  | .local _ .vmem, ⟨8, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== REmbbIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1, .f32⟩
  | .hbm, ⟨26, _⟩ => ⟨S4224x1024, .f32⟩
  | .hbm, ⟨27, _⟩ => ⟨S4224x1024, .f32⟩
  | .hbm, ⟨28, _⟩ => ⟨S1x1024, .f32⟩
  | .hbm, ⟨29, _⟩ => ⟨S4224x1024, .f32⟩
  | .hbm, ⟨30, _⟩ => ⟨S4224x1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S4224x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .i32⟩
  | .hbm, ⟨48, _⟩ => ⟨S_, .f32⟩
  | .hbm, ⟨49, _⟩ => ⟨S8x1024, .f32⟩
  | .hbm, ⟨50, _⟩ => ⟨S1x1024, .f32⟩
  | .hbm, ⟨51, _⟩ => ⟨S_, .i32⟩
  | .hbm, ⟨52, _⟩ => ⟨S_, .f32⟩
  | .hbm, ⟨53, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_call1_v0 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.R0Runs.lean ====
/- The forward call: the blocks its windows hold at a grid point, its branch condition in closed form, and the names of its staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 33 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

abbrev VO0_8 : View sig .tc .vmem S128x256 .f32 := (Memref.whole cc0_stg8_0 : Memref sig .tc .vmem S128x256 .f32).view
abbrev VO0_9 : View sig .tc .vmem S128x256 .f32 := (Memref.whole cc0_stg9_0 : Memref sig .tc .vmem S128x256 .f32).view
abbrev VO0_10 : View sig .tc .vmem S1x1x2x128x128 .f32 := (Memref.whole cc0_stg10_0 : Memref sig .tc .vmem S1x1x2x128x128 .f32).view
abbrev ms0_0 (t : Fin cfg0.N) : Memref sig .tc .vmem S128x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x2x128x128 .f32 := win0_10.stage (cfg0.slots t 10)
abbrev hs0_10 (t : Fin cfg0.N) : (ms0_10 t).IsWhole := hstage0_10 ((cfg0.slots t 10).cast nbuf0_10)
abbrev scM0_0 : Memref sig .tc .vmem S2x128x128 .f32 := Memref.whole cc0_scratch0
abbrev VS0_0 : View sig .tc .vmem S2x128x128 .f32 := scM0_0.view

theorem PhiA0_eq (c : Dev nD) :
    (Pipeline.ΦA spec0 c : sProp 𝕄)
      = iprop(iprop((∃ d, owns (c : Thread nD τ) scM0_0 fullShare d)) ∗ iprop(Pipeline.scopedRestBut spec0 c [cc0_scratch0] ∗ ∃ r, prngReg c r)) := by
  unfold Pipeline.ΦA; rw [Pipeline.scopedRest_split_of_list spec0 c [cc0_scratch0] (by decide) (by decide)]; simp only [scM0_0, owns_whole]; exact equiv_iff.mp ⟨BI.sep_assoc, BI.sep_assoc'⟩

end Cert.KernelIdeal.Two

end
-- ==== Proof.R0RunA.lean ====
/- The forward call: the run of its body at the first chunk of a head pair, where the carried state is cleared first. -/
module

public import proofs.«01_k».proof.Proof.R0Runs

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) :
    Σ' (L8 : List (View.Piece (Elt F) S128x256 .f32)), Σ' (L9 : List (View.Piece (Elt F) S128x256 .f32)), Σ' (L10 : List (View.Piece (Elt F) S1x1x2x128x128 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_ret_fwd_eq_skeleton]; unfold cc0_ret_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    iexists _; iexact HS0

end Cert.KernelIdeal.Two

end
-- ==== Proof.R0RunB.lean ====
/- The forward call: the run of its body at a later chunk, over the state the chunk before left. -/
module

public import proofs.«01_k».proof.Proof.R0RunA

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) :
    Σ' (L8 : List (View.Piece (Elt F) S128x256 .f32)), Σ' (L9 : List (View.Piece (Elt F) S128x256 .f32)), Σ' (L10 : List (View.Piece (Elt F) S1x1x2x128x128 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_ret_fwd_eq_skeleton]; unfold cc0_ret_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    iexists _; iexact HS0

end Cert.KernelIdeal.Two

end
-- ==== Proof.R0Frame.lean ====
/- The forward call: what each output block and the carried state hold after every grid point, the data of its pipeline, and the obligation of its body. -/
module

public import proofs.«01_k».proof.Proof.R0RunB

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_8 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (y : S128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 S128x128.size (by sl_kernel_rfl) y

def out0_A_8 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) : Vec F S128x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1)

theorem cover0_A_9 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (y : S128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 S128x128.size (by sl_kernel_rfl) y

def out0_A_9 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) : Vec F S128x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1)

theorem cover0_A_10 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (y : S1x1x2x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1 S1x1x1x128x128.size (by sl_kernel_rfl) y

def out0_A_10 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) : Vec F S1x1x2x128x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1)

theorem scover0_A_0 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (y : S2x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1 (by sl_whole_mem) y

def sout0_A_0 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) : Vec F S2x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1)

theorem cover0_B_8 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) (y : S128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).1 S128x128.size (by sl_kernel_rfl) y

def out0_B_8 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) : Vec F S128x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).1)

theorem cover0_B_9 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) (y : S128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.1 S128x128.size (by sl_kernel_rfl) y

def out0_B_9 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) : Vec F S128x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.1)

theorem cover0_B_10 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) (y : S1x1x2x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.1 S1x1x1x128x128.size (by sl_kernel_rfl) y

def out0_B_10 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) : Vec F S1x1x2x128x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.1)

theorem scover0_B_0 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) (y : S2x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.2.1 S1x128x128.size (by sl_kernel_rfl) y

def sout0_B_0 (c : Dev nD) (i : grid0.Coords) (arg2 : Memref sig .tc .vmem S128x128 .bf16) (harg2 : arg2.IsWhole) (arg3 : Memref sig .tc .vmem S128x128 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S2x128x128 .f32) (harg8 : arg8.IsWhole) (arg9 : Memref sig .tc .vmem S2x8x128 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x1x2x128x128 .f32) (harg12 : arg12.IsWhole) (arg13 : Memref sig .tc .vmem S2x128x128 .f32) (harg13 : arg13.IsWhole) (hc0 : ¬cond0_0 i)
    (x0 : Vec F S128x128 .bf16) (x1 : Vec F S128x128 .bf16) (x2 : Vec F S128x256 .bf16) (x3 : Vec F S128x256 .f32) (x4 : Vec F S2x128x128 .f32) (x5 : Vec F S2x128x128 .f32) (x6 : Vec F S2x128x128 .f32) (x7 : Vec F S2x8x128 .f32) (xs0 : Vec F S2x128x128 .f32) : Vec F S2x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0).2.2.2.1)

def outsAt0 (c : Dev nD) : (n : ℕ) → n < cfg0.N → Vec F S128x256 .f32 × Vec F S128x256 .f32 × Vec F S1x1x2x128x128 .f32 × Vec F S2x128x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 33 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2)

theorem outsAt0_A (c : Dev nD) (t : Fin cfg0.N) (h0 : t.val % 33 = 0) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans rfl

theorem outsAt0_B (c : Dev nD) (t : Fin cfg0.N) (h0 : ¬t.val % 33 = 0) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2)) ∗ iprop(Pipeline.scopedRestBut spec0 c [cc0_scratch0] ∗ ∃ r, prngReg c r))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2.2.2)) ∗ iprop(Pipeline.scopedRestBut spec0 c [cc0_scratch0] ∗ ∃ r, prngReg c r)) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2.2.2)) ∗ iprop(Pipeline.scopedRestBut spec0 c [cc0_scratch0] ∗ ∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS0 V c t.val (Nat.le_of_lt_succ t.isLt)
  q w := Pipeline.shareOf spec0 w
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 9600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = PhiS0 V c (t.val + 1) t.isLt from rfl, PhiS_succ0]
  have hN : t.val < 66 := lt_of_lt_of_eq t.isLt (show cfg0.N = 66 from N_0)
  by_cases h0 : t.val % 33 = 0
  · by_cases hz : t.val = 0
    · rw [PhiS_castSucc0 V c t, PhiS_zero0 V c _ _ hz, PhiA0_eq]
      rw [outsAt0_A V c t h0]
      unfold out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · rw [PhiS_castSucc0 V c t, PhiS_pos0 V c _ _ hz]
      rw [outsAt0_A V c t h0]
      unfold out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexists _; iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
  · by_cases hz : t.val = 0
    · exfalso; have hN : t.val < 66 := lt_of_lt_of_eq t.isLt (show cfg0.N = 66 from N_0); omega
    · rw [PhiS_castSucc0 V c t, PhiS_pos0 V c _ _ hz]
      rw [outsAt0_B V c t h0]
      unfold out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨HS0, Hg⟩
  isplitl [HS0]
  · iexists _; iexact HS0
  iexact Hg

theorem hout0 (c : Dev nD) : (dat0 V c).Φ (Fin.last cfg0.N) ⊢ Pipeline.ΦA spec0 c :=
  Phi_out0 V c _ (by rw [Fin.val_last]; have : cfg0.N = 66 := N_0; omega)

end Cert.KernelIdeal.Two

end
-- ==== Proof.R1Runs.lean ====
/- The backward call: the blocks its windows hold at a grid point, its branch condition in closed form, and the names of its staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 33 = 0 :=
  (fun t => by
    have ht : t.val < 66 := Nat.lt_of_lt_of_eq t.isLt N_1
    have e0 : (grid1.coords t 0).val = t.val / 33 % 2 := Pipeline.Grid.coords_val t 0 (by decide) rfl
    have e1 : (grid1.coords t 1).val = t.val / 1 % 33 := Pipeline.Grid.coords_val t 1 (by decide) rfl
    simp only [cond1_0, e0, e1]
    word_cmp
   : ∀ t : Fin grid1.N, cond1_0 (grid1.coords t) ↔ t.val % 33 = 0)

abbrev VO1_11 : View sig .tc .vmem S128x128 .f32 := (Memref.whole cc1_stg11_0 : Memref sig .tc .vmem S128x128 .f32).view
abbrev VO1_12 : View sig .tc .vmem S128x128 .f32 := (Memref.whole cc1_stg12_0 : Memref sig .tc .vmem S128x128 .f32).view
abbrev VO1_13 : View sig .tc .vmem S128x256 .f32 := (Memref.whole cc1_stg13_0 : Memref sig .tc .vmem S128x256 .f32).view
abbrev VO1_14 : View sig .tc .vmem S128x256 .f32 := (Memref.whole cc1_stg14_0 : Memref sig .tc .vmem S128x256 .f32).view
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x2x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2x128x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2x8x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S128x256 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x256 .f32 := win1_14.stage (cfg1.slots t 14)
abbrev hs1_14 (t : Fin cfg1.N) : (ms1_14 t).IsWhole := hstage1_14 ((cfg1.slots t 14).cast nbuf1_14)
abbrev scM1_0 : Memref sig .tc .vmem S2x128x128 .f32 := Memref.whole cc1_scratch0
abbrev VS1_0 : View sig .tc .vmem S2x128x128 .f32 := scM1_0.view

theorem PhiA1_eq (c : Dev nD) :
    (Pipeline.ΦA spec1 c : sProp 𝕄)
      = iprop(iprop((∃ d, owns (c : Thread nD τ) scM1_0 fullShare d)) ∗ iprop(Pipeline.scopedRestBut spec1 c [cc1_scratch0] ∗ ∃ r, prngReg c r)) := by
  unfold Pipeline.ΦA; rw [Pipeline.scopedRest_split_of_list spec1 c [cc1_scratch0] (by decide) (by decide)]; simp only [scM1_0, owns_whole]; exact equiv_iff.mp ⟨BI.sep_assoc, BI.sep_assoc'⟩

end Cert.KernelIdeal.Two

end
-- ==== Proof.R1RunA.lean ====
/- The backward call: the run of its body at the first chunk of a head pair, where the carried state is cleared first. -/
module

public import proofs.«01_k».proof.Proof.R1Runs

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) :
    Σ' (L11 : List (View.Piece (Elt F) S128x128 .f32)), Σ' (L12 : List (View.Piece (Elt F) S128x128 .f32)), Σ' (L13 : List (View.Piece (Elt F) S128x256 .f32)), Σ' (L14 : List (View.Piece (Elt F) S128x256 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    iexists _; iexact HS0

end Cert.KernelIdeal.Two

end
-- ==== Proof.R1RunB.lean ====
/- The backward call: the run of its body at a later chunk, over the state the chunk before left. -/
module

public import proofs.«01_k».proof.Proof.R1RunA

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) :
    Σ' (L11 : List (View.Piece (Elt F) S128x128 .f32)), Σ' (L12 : List (View.Piece (Elt F) S128x128 .f32)), Σ' (L13 : List (View.Piece (Elt F) S128x256 .f32)), Σ' (L14 : List (View.Piece (Elt F) S128x256 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    iexists _; iexact HS0

end Cert.KernelIdeal.Two

end
-- ==== Proof.R1Frame.lean ====
/- The backward call: what each output block and the carried state hold after every grid point, the data of its pipeline, and the obligation of its body. -/
module

public import proofs.«01_k».proof.Proof.R1RunB

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_11 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (y : S128x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1 S128x128.size (by sl_kernel_rfl) y

def out1_A_11 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) : Vec F S128x128 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1)

theorem cover1_A_12 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (y : S128x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1 S128x128.size (by sl_kernel_rfl) y

def out1_A_12 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) : Vec F S128x128 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1)

theorem cover1_A_13 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (y : S128x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1 S128x128.size (by sl_kernel_rfl) y

def out1_A_13 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) : Vec F S128x256 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1)

theorem cover1_A_14 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (y : S128x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1 S128x128.size (by sl_kernel_rfl) y

def out1_A_14 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) : Vec F S128x256 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1)

theorem scover1_A_0 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (y : S2x128x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1, y ∈ pc.1.set :=
  View.cover_of_wholeMem (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1 (by sl_whole_mem) y

def sout1_A_0 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) : Vec F S2x128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1)

theorem cover1_B_11 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) (y : S128x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).1 S128x128.size (by sl_kernel_rfl) y

def out1_B_11 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) : Vec F S128x128 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).1)

theorem cover1_B_12 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) (y : S128x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.1 S128x128.size (by sl_kernel_rfl) y

def out1_B_12 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) : Vec F S128x128 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.1)

theorem cover1_B_13 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) (y : S128x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.1 S128x128.size (by sl_kernel_rfl) y

def out1_B_13 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) : Vec F S128x256 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.1)

theorem cover1_B_14 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) (y : S128x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.1 S128x128.size (by sl_kernel_rfl) y

def out1_B_14 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) : Vec F S128x256 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.1)

theorem scover1_B_0 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) (y : S2x128x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.2.1 S1x128x128.size (by sl_kernel_rfl) y

def sout1_B_0 (c : Dev nD) (i : grid1.Coords) (arg2 : Memref sig .tc .vmem S128x256 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .f32) (harg6 : arg6.IsWhole) (arg7 : Memref sig .tc .vmem S128x256 .f32) (harg7 : arg7.IsWhole) (arg8 : Memref sig .tc .vmem S1x1x2x128x128 .f32) (harg8 : arg8.IsWhole) (arg9 : Memref sig .tc .vmem S2x128x128 .f32) (harg9 : arg9.IsWhole) (arg10 : Memref sig .tc .vmem S2x128x128 .f32) (harg10 : arg10.IsWhole) (arg11 : Memref sig .tc .vmem S2x128x128 .f32) (harg11 : arg11.IsWhole) (arg12 : Memref sig .tc .vmem S2x8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S2x128x128 .f32) (harg17 : arg17.IsWhole) (hc0 : ¬cond1_0 i)
    (x0 : Vec F S128x256 .f32) (x1 : Vec F S128x128 .bf16) (x2 : Vec F S128x128 .bf16) (x3 : Vec F S128x256 .bf16) (x4 : Vec F S128x256 .f32) (x5 : Vec F S128x256 .f32) (x6 : Vec F S1x1x2x128x128 .f32) (x7 : Vec F S2x128x128 .f32) (x8 : Vec F S2x128x128 .f32) (x9 : Vec F S2x128x128 .f32) (x10 : Vec F S2x8x128 .f32) (xs0 : Vec F S2x128x128 .f32) : Vec F S2x128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).2.2.2.2.1)

def outsAt1 (c : Dev nD) : (n : ℕ) → n < cfg1.N → Vec F S128x128 .f32 × Vec F S128x128 .f32 × Vec F S128x256 .f32 × Vec F S128x256 .f32 × Vec F S2x128x128 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩))
  | n + 1, hn =>
    if h0 : (n + 1) % 33 = 0 then
      (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩))
    else
      (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2.2.2, out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.2.2.2)

theorem outsAt1_A (c : Dev nD) (t : Fin cfg1.N) (h0 : t.val % 33 = 0) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  obtain ⟨n, hn⟩ := t
  cases n with
  | zero => exact rfl
  | succ n => exact (dif_pos h0).trans rfl

theorem outsAt1_B (c : Dev nD) (t : Fin cfg1.N) (h0 : ¬t.val % 33 = 0) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2.2.2, out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2)) ∗ iprop(Pipeline.scopedRestBut spec1 c [cc1_scratch0] ∗ ∃ r, prngReg c r))

theorem PhiS_zero1 (c : Dev nD) (n : ℕ) (h : n ≤ cfg1.N) (hz : n = 0) : PhiS1 V c n h = Pipeline.ΦA spec1 c := by
  subst hz; rfl

theorem PhiS_succ1 (c : Dev nD) (n : ℕ) (hn : n < cfg1.N) :
    PhiS1 V c (n + 1) hn = iprop(iprop(owns (c : Thread nD τ) scM1_0 fullShare ((outsAt1 V c n hn).2.2.2.2)) ∗ iprop(Pipeline.scopedRestBut spec1 c [cc1_scratch0] ∗ ∃ r, prngReg c r)) := rfl

theorem PhiS_pos1 (c : Dev nD) (n : ℕ) (h : n ≤ cfg1.N) (hz : n ≠ 0) :
    PhiS1 V c n h = iprop(iprop(owns (c : Thread nD τ) scM1_0 fullShare ((outsAt1 V c (n - 1) (by omega)).2.2.2.2)) ∗ iprop(Pipeline.scopedRestBut spec1 c [cc1_scratch0] ∗ ∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
    | ⟨12, _⟩ => (outsAt1 V c t.val t.isLt).2.1
    | ⟨13, _⟩ => (outsAt1 V c t.val t.isLt).2.2.1
    | ⟨14, _⟩ => (outsAt1 V c t.val t.isLt).2.2.2.1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).1 := by dsimp only [dat1]
theorem after1_12 (c : Dev nD) (t : Fin cfg1.N) : (dat1 V c).after 12 t = (outsAt1 V c t.val t.isLt).2.1 := by dsimp only [dat1]
theorem after1_13 (c : Dev nD) (t : Fin cfg1.N) : (dat1 V c).after 13 t = (outsAt1 V c t.val t.isLt).2.2.1 := by dsimp only [dat1]
theorem after1_14 (c : Dev nD) (t : Fin cfg1.N) : (dat1 V c).after 14 t = (outsAt1 V c t.val t.isLt).2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 12800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14]
  rw [show (dat1 V c).Φ t.succ = PhiS1 V c (t.val + 1) t.isLt from rfl, PhiS_succ1]
  have hN : t.val < 66 := lt_of_lt_of_eq t.isLt (show cfg1.N = 66 from N_1)
  by_cases h0 : t.val % 33 = 0
  · by_cases hz : t.val = 0
    · rw [PhiS_castSucc1 V c t, PhiS_zero1 V c _ _ hz, PhiA1_eq]
      rw [outsAt1_A V c t h0]
      unfold out1_A_11 out1_A_12 out1_A_13 out1_A_14 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      iintro ⟨H0, H1, H2, H3, H4, H5, H6, H7, H8, H9, H10, ⟨%e11, H11⟩, ⟨%e12, H12⟩, ⟨%e13, H13⟩, ⟨%e14, H14⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _)
    · rw [PhiS_castSucc1 V c t, PhiS_pos1 V c _ _ hz]
      rw [outsAt1_A V c t h0]
      unfold out1_A_11 out1_A_12 out1_A_13 out1_A_14 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexists _; iexact HS0
      iintro ⟨H0, H1, H2, H3, H4, H5, H6, H7, H8, H9, H10, ⟨%e11, H11⟩, ⟨%e12, H12⟩, ⟨%e13, H13⟩, ⟨%e14, H14⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _)
  · by_cases hz : t.val = 0
    · exfalso; have hN : t.val < 66 := lt_of_lt_of_eq t.isLt (show cfg1.N = 66 from N_1); omega
    · rw [PhiS_castSucc1 V c t, PhiS_pos1 V c _ _ hz]
      rw [outsAt1_B V c t h0]
      unfold out1_B_11 out1_B_12 out1_B_13 out1_B_14 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      iintro ⟨H0, H1, H2, H3, H4, H5, H6, H7, H8, H9, H10, ⟨%e11, H11⟩, ⟨%e12, H12⟩, ⟨%e13, H13⟩, ⟨%e14, H14⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨HS0, Hg⟩
  isplitl [HS0]
  · iexists _; iexact HS0
  iexact Hg

theorem hout1 (c : Dev nD) : (dat1 V c).Φ (Fin.last cfg1.N) ⊢ Pipeline.ΦA spec1 c :=
  Phi_out1 V c _ (by rw [Fin.val_last]; have : cfg1.N = 66 := N_1; omega)

end Cert.KernelIdeal.Two

end
-- ==== Proof.Whole.lean ====
/- The whole program: host operations, the forward call, the backward call. Every buffer's contents at each boundary, and the run. -/
module

public import proofs.«01_k».proof.Proof.R0Frame
public import proofs.«01_k».proof.Proof.R1Frame
public import Idealize.ShloMosaic.Lib.Pipeline.RegionsLoop
public import Idealize.ShloMosaic.Lib.Pipeline.FrameSuffix

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
/-- What each stretch of host operations writes. -/
abbrev hostOps0_W : List (Ref sig .tc) := [main_cst, main_v0, main_v1, main_v2, main_v3, main_v4, main_v5, main_v6, main_v7, main_cst_0, main_v8, main_v9, main_cst_1, main_v10, main_v11, main_v12, main_v13, main_v14, main_v15, main_v16, main_v17, main_cst_2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_call0_v2, main_v18]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v19, main_cst_3, main_v20, main_v21, main_v22, main_v23, main_v24, main_v25, main_v26, main_v27, main_cst_4, main_v28, main_v29, main_v30, main_v31, main_v32, main_v33, main_v34, main_cst_5, main_v35, main_v36, main_v37, main_v38, main_v39, main_v40, main_v41, main_v42, main_v43]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

/-- Core `c`'s buffers at launch; `W1`, `W2`, `W3` after each stretch of host operations, `W4` after the forward call, `W5` after the backward call. -/
abbrev W0 : Dev nD → Valuation τ sig (Elt F) := fun c b => (⟨m, fun _ => 0, ρ⟩ : MemSt nD τ sig (Elt F)).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
/-- After the forward call: its arrays at what the pipeline leaves, everything else as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact (dat0 (V3 m ρ) c).withArrays_arrAt launch₀0.sharedIn _ (A_eq0 (V3 m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the backward call: its arrays at what the pipeline leaves, everything else as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact (dat1 (V4 m ρ) c).withArrays_arrAt launch₀1.sharedIn _ (A_eq1 (V4 m ρ) c) w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

abbrev adm : (p : Fin 2) → (pcfgs (F := F) p).Adm := fun p => (cfgs p).toPCfg_adm
/-- The data of both pipelines, each at its call's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V3 m ρ) c
    refine BIBase.Entails.trans ?_ h
    unfold Pipeline.ΦA
    iintro ⟨Hp, -, Hr⟩
    isplitl [Hr]; · iexact Hr
    iexact Hp
  hout c := by
    have h : (pdats m ρ 0 c).Φ (Fin.last _) ⊢ (Pipeline.ΦA spec0 c : sProp 𝕄) := hout0 (V3 m ρ) c
    refine BIBase.Entails.trans h ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V4 m ρ) c
    refine BIBase.Entails.trans ?_ h
    unfold Pipeline.ΦA
    iintro ⟨Hp, -, Hr⟩
    isplitl [Hr]; · iexact Hr
    iexact Hp
  hout c := by
    have h : (pdats m ρ 1 c).Φ (Fin.last _) ⊢ (Pipeline.ΦA spec1 c : sProp 𝕄) := hout1 (V4 m ρ) c
    refine BIBase.Entails.trans h ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as segments: three host stretches and the two calls. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

-- the library lemma is found by unifying its conclusion with this one
set_option backward.isDefEq.respectTransparency.types false in
/-- The run: from any memory with zero counters every fair execution of the program terminates, every buffer that is
    not a call's own ends at the last boundary's contents, and every counter ends at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Two

end
-- ==== Proof.Frames.lean ====
/-
  The frames of the two retention calls: over the machine's floats and over the extended reals.
-/
module

public import proofs.«01_k».proof.Defs
public import proofs.«01_k».proof.Proof.Whole
public import proofs.«01_k».proof.Proof.Gen.Kernel

@[expose] public section

set_option maxRecDepth 100000
set_option maxHeartbeats 20000000

noncomputable section

namespace Cert.Proof

open Idealize.ShloMosaic Idealize.SL.Sem Idealize.ShloMosaic.TcCoe

attribute [local instance] Cert.Kernel.Gen.facts Cert.KernelIdeal.Gen.facts

theorem frame_ideal : Cert.quiescent_KernelIdeal := fun m ρ _ => Cert.KernelIdeal.Two.frame (F := Ideal) m ρ

set_option synthInstance.maxHeartbeats 400000 in
theorem body_fwd : @Cert.Kernel.cc0_ret_fwd Bits _ _ = @Cert.KernelIdeal.cc0_ret_fwd Bits _ _ := rfl

set_option synthInstance.maxHeartbeats 400000 in
theorem body_bwd : @Cert.Kernel.cc1_ret_bwd Bits _ _ = @Cert.KernelIdeal.cc1_ret_bwd Bits _ _ := rfl

/-- The two programs' labels have the same bodies. -/
theorem labels_eq : Cert.Kernel.defs₀ (F := Bits) = Cert.KernelIdeal.defs₀ := by
  unfold Cert.Kernel.defs₀ Cert.KernelIdeal.defs₀
  refine congrArg _ (funext fun l => funext fun a => ?_)
  match l, a with
  | 0, (t, s) =>
    dsimp only
    rw [body_fwd]
    rfl
  | 1, (t, s) =>
    dsimp only
    rw [body_bwd]
    rfl

theorem defs_eq : Cert.Kernel.defs (F := Bits) = Cert.KernelIdeal.defs :=
  congrArg (Pipeline.defs Cert.KernelIdeal.pcfgs) labels_eq

theorem main_eq : Cert.Kernel.main (F := Bits) = Cert.KernelIdeal.main := rfl

/-- The kernel's text is the same over both kinds of number, and so is its run. -/
theorem frame_kernel : Cert.quiescent_Kernel := fun m ρ _ => by
  rw [defs_eq, main_eq]
  exact (θ_run Cert.KernelIdeal.defs _ _).mono (fun _ h => h) (Cert.KernelIdeal.Two.frame (F := Bits) m ρ)

end Cert.Proof

end
-- ==== Proof.Products.lean ====
/-
  Products of matrices over the extended reals, read at an index: the three ways in which a product's operands lie, and
  a sum over the contracted axis taken block by block.
-/
module

public import Idealize.ShloMosaic.PureOps.Ideal.Laws
public import Idealize.ShloMosaic.Lib.ValueIdxCore
public import Idealize.ShloMosaic.Lib.ValueIdx
public import Idealize.ShloMosaic.Lib.MatmulPlain
public import Idealize.ShloMosaic.Lib.Pipeline.Value
public import Idealize.ShloMosaic.Lib.Pipeline.ValueKit.Acc
public import Mathlib.Algebra.BigOperators.Intervals

@[expose] public section

noncomputable section

namespace Cert.Products

open Idealize.ShloMosaic Idealize.ShloMosaic.ValueIdx
open scoped BigOperators

/-- A matrix read at a pair of natural numbers, zero outside it. -/
def at2 {a b : ℕ} (x : (⟨2, ![a, b]⟩ : Shape).Idx → EReal) (i j : ℕ) : EReal :=
  if h : i < a ∧ j < b then x (ix2 ⟨i, h.1⟩ ⟨j, h.2⟩) else 0

theorem at2_val {a b : ℕ} (x : (⟨2, ![a, b]⟩ : Shape).Idx → EReal) (i : Fin a) (j : Fin b) :
    at2 x i.val j.val = x (ix2 i j) := dif_pos ⟨i.isLt, j.isLt⟩

/-- An entry by its two coordinates. -/
theorem at2_of {a b : ℕ} (x : (⟨2, ![a, b]⟩ : Shape).Idx → EReal) (y : (⟨2, ![a, b]⟩ : Shape).Idx) (i j : ℕ)
    (hi : (y 0).val = i) (hj : (y 1).val = j) : x y = at2 x i j := by
  subst hi hj
  exact (congrArg x (eq_ix2 y)).trans (at2_val x (y 0) (y 1)).symm

/-- The left operand's rows against the right one's columns. -/
abbrev nnDims (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩
/-- Rows against rows. -/
abbrev ntDims (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩
/-- Columns against columns. -/
abbrev tnDims (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

theorem sum_nn {M K N : ℕ} (wf) (l : (⟨2, ![M, K]⟩ : Shape).Idx → EReal) (r : (⟨2, ![K, N]⟩ : Shape).Idx → EReal)
    (j : (⟨2, ![M, N]⟩ : Shape).Idx) :
    (∑ k : (nnDims M K N wf).contr.Idx, l ((nnDims M K N wf).lhsIdx j k) * r ((nnDims M K N wf).rhsIdx j k))
      = ∑ k ∈ Finset.range K, at2 l (j 0).val k * at2 r k (j 1).val := by
  rw [Finset.sum_range, ← Equiv.sum_comp (contrEquiv1 (nnDims M K N wf) K rfl rfl).symm]
  refine Finset.sum_congr rfl fun k _ => ?_
  have hk := contrEquiv1_symm_val (nnDims M K N wf) K rfl rfl k
  rw [at2_of l _ (j 0).val k.val rfl hk, at2_of r _ k.val (j 1).val hk rfl]

theorem sum_nt {M K N : ℕ} (wf) (l : (⟨2, ![M, K]⟩ : Shape).Idx → EReal) (r : (⟨2, ![N, K]⟩ : Shape).Idx → EReal)
    (j : (⟨2, ![M, N]⟩ : Shape).Idx) :
    (∑ k : (ntDims M K N wf).contr.Idx, l ((ntDims M K N wf).lhsIdx j k) * r ((ntDims M K N wf).rhsIdx j k))
      = ∑ k ∈ Finset.range K, at2 l (j 0).val k * at2 r (j 1).val k := by
  rw [Finset.sum_range, ← Equiv.sum_comp (contrEquiv1 (ntDims M K N wf) K rfl rfl).symm]
  refine Finset.sum_congr rfl fun k _ => ?_
  have hk := contrEquiv1_symm_val (ntDims M K N wf) K rfl rfl k
  rw [at2_of l _ (j 0).val k.val rfl hk, at2_of r _ (j 1).val k.val rfl hk]

theorem sum_tn {M K N : ℕ} (wf) (l : (⟨2, ![K, M]⟩ : Shape).Idx → EReal) (r : (⟨2, ![K, N]⟩ : Shape).Idx → EReal)
    (j : (⟨2, ![M, N]⟩ : Shape).Idx) :
    (∑ k : (tnDims M K N wf).contr.Idx, l ((tnDims M K N wf).lhsIdx j k) * r ((tnDims M K N wf).rhsIdx j k))
      = ∑ k ∈ Finset.range K, at2 l k (j 0).val * at2 r k (j 1).val := by
  rw [Finset.sum_range, ← Equiv.sum_comp (contrEquiv1 (tnDims M K N wf) K rfl rfl).symm]
  refine Finset.sum_congr rfl fun k _ => ?_
  have hk := contrEquiv1_symm_val (tnDims M K N wf) K rfl rfl k
  rw [at2_of l _ k.val (j 0).val hk rfl, at2_of r _ k.val (j 1).val hk rfl]

theorem mm_nn {M K N : ℕ} {φ₁ φ₂ : FTy} (wf) (prec : Option ContractPrecision) (l : FVec Ideal ⟨2, ![M, K]⟩ φ₁)
    (r : FVec Ideal ⟨2, ![K, N]⟩ φ₂) (acc : FVec Ideal ⟨2, ![M, N]⟩ .f32) (j : (⟨2, ![M, N]⟩ : Shape).Idx) :
    FloatOps.matmul (nnDims M K N wf) prec l r acc j
      = acc j + ∑ k ∈ Finset.range K, at2 l (j 0).val k * at2 r k (j 1).val := by
  rw [Ideal.matmul_apply, sum_nn]

theorem mm_nt {M K N : ℕ} {φ₁ φ₂ : FTy} (wf) (prec : Option ContractPrecision) (l : FVec Ideal ⟨2, ![M, K]⟩ φ₁)
    (r : FVec Ideal ⟨2, ![N, K]⟩ φ₂) (acc : FVec Ideal ⟨2, ![M, N]⟩ .f32) (j : (⟨2, ![M, N]⟩ : Shape).Idx) :
    FloatOps.matmul (ntDims M K N wf) prec l r acc j
      = acc j + ∑ k ∈ Finset.range K, at2 l (j 0).val k * at2 r (j 1).val k := by
  rw [Ideal.matmul_apply, sum_nt]

theorem mm_tn {M K N : ℕ} {φ₁ φ₂ : FTy} (wf) (prec : Option ContractPrecision) (l : FVec Ideal ⟨2, ![K, M]⟩ φ₁)
    (r : FVec Ideal ⟨2, ![K, N]⟩ φ₂) (acc : FVec Ideal ⟨2, ![M, N]⟩ .f32) (j : (⟨2, ![M, N]⟩ : Shape).Idx) :
    FloatOps.matmul (tnDims M K N wf) prec l r acc j
      = acc j + ∑ k ∈ Finset.range K, at2 l k (j 0).val * at2 r k (j 1).val := by
  rw [Ideal.matmul_apply, sum_tn]

theorem host_nn {M K N : ℕ} {φ₁ φ₂ : FTy} (wf) (prec : Option ContractPrecision) (s : HostSchedule)
    (l : FVec Ideal ⟨2, ![M, K]⟩ φ₁) (r : FVec Ideal ⟨2, ![K, N]⟩ φ₂) (j : (⟨2, ![M, N]⟩ : Shape).Idx) :
    FloatOps.dotGeneral (nnDims M K N wf) prec s l r j = ∑ k ∈ Finset.range K, at2 l (j 0).val k * at2 r k (j 1).val := by
  rw [Ideal.dotGeneral_apply, sum_nn]

theorem host_nt {M K N : ℕ} {φ₁ φ₂ : FTy} (wf) (prec : Option ContractPrecision) (s : HostSchedule)
    (l : FVec Ideal ⟨2, ![M, K]⟩ φ₁) (r : FVec Ideal ⟨2, ![N, K]⟩ φ₂) (j : (⟨2, ![M, N]⟩ : Shape).Idx) :
    FloatOps.dotGeneral (ntDims M K N wf) prec s l r j = ∑ k ∈ Finset.range K, at2 l (j 0).val k * at2 r (j 1).val k := by
  rw [Ideal.dotGeneral_apply, sum_nt]

theorem host_tn {M K N : ℕ} {φ₁ φ₂ : FTy} (wf) (prec : Option ContractPrecision) (s : HostSchedule)
    (l : FVec Ideal ⟨2, ![K, M]⟩ φ₁) (r : FVec Ideal ⟨2, ![K, N]⟩ φ₂) (j : (⟨2, ![M, N]⟩ : Shape).Idx) :
    FloatOps.dotGeneral (tnDims M K N wf) prec s l r j = ∑ k ∈ Finset.range K, at2 l k (j 0).val * at2 r k (j 1).val := by
  rw [Ideal.dotGeneral_apply, sum_tn]

/-- The next block of a sum taken block by block. -/
theorem sum_next (f : ℕ → EReal) (s t : ℕ) :
    (∑ k ∈ Finset.range (s * t), f k) + (∑ k ∈ Finset.range t, f (s * t + k)) = ∑ k ∈ Finset.range ((s + 1) * t), f k := by
  rw [Nat.succ_mul, Finset.sum_range_add]

/-- A transposed matrix at an index. -/
theorem swap {a b : ℕ} (x : (⟨2, ![a, b]⟩ : Shape).Idx → EReal) (h) (j : (⟨2, ![b, a]⟩ : Shape).Idx) :
    transpose ⟨2, ![b, a]⟩ [1, 0] x h j = x (ix2 (j 1) (j 0)) :=
  transpose_apply _ x h j _ fun d => by
    match d with
    | ⟨0, _⟩ => rfl
    | ⟨1, _⟩ => rfl

/-- Where `u` is not positive, the factor of the squared relu's gradient is zero by itself. -/
theorem gate (u r two : EReal) :
    Scalar.select (Ideal.cmp .ogt u 0) (r * (two * max u 0)) 0 = r * (two * max u 0) := by
  unfold Scalar.select
  by_cases h : 0 < u
  · rw [if_pos (show Ideal.cmp .ogt u 0 = 1 from by show BitVec.ofBool (decide (0 < u)) = 1; rw [decide_eq_true h]; rfl)]
  · rw [max_eq_right (not_lt.mp h), mul_zero, mul_zero]
    split <;> rfl

theorem zero_word : Ideal.ofBits .f32 0x00000000#32 = 0 := by simp [Ideal.ofBits, Ideal.ieee]

theorem origin : (![0, 0] : Fin 2 → Nat) = fun _ => 0 := funext fun a => by fin_cases a <;> rfl

end Cert.Products

end
-- ==== Proof.Dff2Value.lean ====
/-
  The gradient through the second product of the squared-relu layer and through the squared relu: what the call leaves, entry by entry, over the extended reals.
-/
module

public import proofs.«01_k».proof.Proof.Products
public import proofs.«01_k».proof.Proof.Gen.KDff2Ideal.Value
public import proofs.«01_k».proof.Proof.Gen.RDff2Ideal.Run
public import proofs.«01_k».proof.Defs

@[expose] public section

noncomputable section

namespace Cert.KDff2Ideal.Entries

open Cert.KDff2Ideal Cert.KDff2Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay3 (k0_pay2 k0_pay1 (iblk m c 0 t) (iblk m c 1 t)) (iblk m c 2 t) := by
  unfold outsAt0 out0_A_3
  rw [View.read_writes_eq_canon _ _ _ (fun _ => cover0_A_3 ..)]
  unfold kernelRun0_A
  dsimp only
  sl_unfold_words
  rw [View.canon_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 4 ∧ win0_0.index t (1 : Fin 2) = 0 ∧ win0_1.index t (0 : Fin 2) = t.val % 4 ∧ win0_1.index t (1 : Fin 2) = 0 ∧ win0_2.index t (0 : Fin 2) = t.val / 4 ∧ win0_2.index t (1 : Fin 2) = t.val % 4 ∧ win0_3.index t (0 : Fin 2) = t.val / 4 ∧ win0_3.index t (1 : Fin 2) = t.val % 4 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 4) * 1408 + i) ((0) * 1024 + j) := by
  obtain ⟨a0, a1, b0, b1, e0, e1, o3_0, o3_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 1024) (hj : j < 1024) :
    at2 (iblk m c 1 t : S1024x1024.Idx → EReal) i j = at2 (m ((c : Thread nD τ).loc main_arg1)) ((t.val % 4) * 1024 + i) ((0) * 1024 + j) := by
  obtain ⟨a0, a1, b0, b1, e0, e1, o3_0, o3_1⟩ := places t
  refine (at2_val _ (⟨i, hi⟩ : Fin 1024) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 1024 + 1 * j = _; rw [b1]; omega

theorem blk2 (c : Dev nD) (t : Fin cfg0.N) (i j : ℕ) (hi : i < 1408) (hj : j < 1024) :
    at2 (iblk m c 2 t : S1408x1024.Idx → EReal) i j = at2 (m ((c : Thread nD τ).loc main_arg2)) ((t.val / 4) * 1408 + i) ((t.val % 4) * 1024 + j) := by
  obtain ⟨a0, a1, b0, b1, e0, e1, o3_0, o3_1⟩ := places t
  refine (at2_val _ (⟨i, hi⟩ : Fin 1408) (⟨j, hj⟩ : Fin 1024)).trans ?_
  unfold iblk
  rw [View.read_apply]
  show V m c main_arg2 _ = _
  unfold V
  refine at2_of (m ((c : Thread nD τ).loc main_arg2)) _ _ _ ?_ ?_
  · show win0_2.index t (0 : Fin 2) * 1408 + 1 * i = _; rw [e0]; omega
  · show win0_2.index t (1 : Fin 2) * 1024 + 1 * j = _; rw [e1]; omega

/-- One step of the accumulation. -/
theorem step (v : Vec Ideal S1408x1024 .f32) (x : Vec Ideal S1408x1024 .f32) (y : Vec Ideal S1024x1024 .bf16) (j : S1408x1024.Idx) :
    k0_pay2 v x y j = v j + ∑ k ∈ Finset.range 1024, at2 x ((j 0).val) (k) * at2 y ((j 1).val) (k) := by
  unfold k0_pay2
  dsimp only
  rw [shapeCast_self, addf_apply]
  refine congrArg (v j + ·) ?_
  refine (mm_nt (M := 1408) (K := 1024) (N := 1024) _ _ _ _ _ j).trans ?_
  rw [constant_apply, zero_word, zero_add]
  rfl

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x1024.Idx) :
    ∑ k ∈ Finset.range 1024, at2 (iblk m c 0 t : S1408x1024.Idx → EReal) ((j 0).val) (k) * at2 (iblk m c 1 t : S1024x1024.Idx → EReal) ((j 1).val) (k)
      = ∑ k ∈ Finset.range 1024, at2 (m ((c : Thread nD τ).loc main_arg0)) ((t.val / 4) * 1408 + (j 0).val) ((0) * 1024 + k) * at2 (m ((c : Thread nD τ).loc main_arg1)) ((t.val % 4) * 1024 + (j 1).val) ((0) * 1024 + k) := by
  refine Finset.sum_congr rfl fun k hk => ?_
  have hk := Finset.mem_range.mp hk
  rw [blk0 m c t _ _ (j 0).isLt hk, blk1 m c t _ _ (j 1).isLt hk]

/-- The whole product at a point that completes a block. -/
theorem whole (c : Dev nD) (t : Fin cfg0.N) (j : S1408x1024.Idx) :
    k0_pay2 k0_pay1 (iblk m c 0 t) (iblk m c 1 t) j = part m c 1024 (t.val / 4 * 1408 + (j 0).val) ((t.val % 4) * 1024 + (j 1).val) := by
  rw [step, start, zero_add, block]
  unfold part
  simp only [Nat.zero_mul, Nat.zero_add]

/-- What entry `(i, j)` of the result is. -/
def entry (c : Dev nD) (i j : ℕ) : EReal :=
  part m c 1024 i j * (Ideal.ofBits .f32 0x40000000#32 * max (at2 (m ((c : Thread nD τ).loc main_arg2)) i j) 0)

theorem out (c : Dev nD) (t : Fin cfg0.N) (j : S1408x1024.Idx) :
    (outsAt0 m c t) j = entry m c (t.val / 4 * 1408 + (j 0).val) ((t.val % 4) * 1024 + (j 1).val) := by
  have key := whole m c t j
  rw [out_A]
  unfold k0_pay3
  dsimp only
  rw [truncf_apply, mulf_apply, mulf_apply, maximumf_apply, broadcast_apply, broadcast_apply, key]
  unfold entry
  refine congrArg (_ * ·) (congrArg (_ * ·) ?_)
  refine congrArg₂ max ?_ zero_word
  rw [← blk2 m c t _ _ (j 0).isLt (j 1).isLt]
  exact at2_of _ j _ _ rfl rfl

/-- The array that the call writes: every entry. -/
def result (c : Dev nD) : Buf (Elt Ideal) ((c : Thread nD τ).loc main_v0) := fun i => entry m c (i 0).val (i 1).val

theorem mem_block (t : Fin cfg0.N) (i : S4224x4096.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0).slice (win0_3.rect t)).set ↔ _
  rw [View.set_slice_whole, Rect.mem_set_unit]
  exact Iff.rfl

theorem flushed_result (c : Dev nD) (t : Fin cfg0.N) (hf : (cfg0.win 3).flush t = true) :
    (dats m 0 c).flushed 3 t = ((cfg0.win 3).blk t).view.read (Elt Ideal) (result m c) := by
  rw [Value.flushed3]
  obtain ⟨a0, a1, b0, b1, e0, e1, o3_0, o3_1⟩ := places t
  funext y
  rw [View.read_apply]
  show (outsAt0 m c t) y = entry m c (win0_3.index t (0 : Fin 2) * 1408 + 1 * (y 0).val) (win0_3.index t (1 : Fin 2) * 1024 + 1 * (y 1).val)
  rw [o3_0, o3_1, Nat.one_mul, Nat.one_mul]
  exact out m c t y

theorem final (c : Dev nD) : (dats m 0 c).arrAt 3 cfg0.N = result m c :=
  (dats m 0 c).arrAt_eq_of_cover 3 _ (flushed_result m c) fun i => by
    have h0 : (i 0).val < 4224 := (i 0).isLt
    have h1 : (i 1).val < 4096 := (i 1).isLt
    have hN : cfg0.N = 12 := N_0
    refine ⟨⟨((i 0).val / 1408 * 4 + (i 1).val / 1024) * 1 + 0, by omega⟩, ?_, ?_⟩
    · exact flush0_3 _
    · rw [mem_block]
      obtain ⟨a0, a1, b0, b1, e0, e1, o3_0, o3_1⟩ := places ⟨((i 0).val / 1408 * 4 + (i 1).val / 1024) * 1 + 0, by omega⟩
      dsimp only at o3_0 o3_1
      intro a
      match a with
      | ⟨0, _⟩ => show win0_3.index _ (0 : Fin 2) * 1408 ≤ (i 0).val ∧ (i 0).val < win0_3.index _ (0 : Fin 2) * 1408 + 1408; rw [o3_0]; omega
      | ⟨1, _⟩ => show win0_3.index _ (1 : Fin 2) * 1024 ≤ (i 1).val ∧ (i 1).val < win0_3.index _ (1 : Fin 2) * 1024 + 1024; rw [o3_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).1.trans (final m c), (h c).2⟩) (Value.run_blocks m ρ)

end Cert.KDff2Ideal.Entries

namespace Cert.RDff2Ideal.Entries

open Cert.RDff2Ideal Cert.RDff2Ideal.Gen Idealize.ShloMosaic Idealize.ShloMosaic.ValueIdx Cert.Products
open scoped BigOperators

/-- The reference's product at an index. -/
theorem product (x : FVec Ideal S4224x1024 .f32) (y : FVec Ideal S4096x1024 .bf16) (i : S4224x4096.Idx) :
    (Host.dotGeneral dot_S4224x1024_S4096x1024_S4224x4096_1_1_0_0_n_n none x (extf .f32 y bitsLt_bf16_f32) : FVec Ideal S4224x4096 .f32) i = ∑ k ∈ Finset.range 1024, at2 x (i 0).val k * at2 y (i 1).val k :=
  host_nt (M := 4224) (K := 1024) (N := 4096) _ _ _ _ _ i

/-- The reference's result at an index. -/
theorem value (x : FVec Ideal S4224x1024 .f32) (y : FVec Ideal S4096x1024 .bf16) (z : FVec Ideal S4224x4096 .f32) (i : S4224x4096.Idx) :
    (truncf .bf16 (select (cmpf .ogt z (broadcastInDim S4224x4096 ![] bcast_S_S4224x4096 (constant S_ .f32 0x00000000#32))) (mulf (Host.dotGeneral dot_S4224x1024_S4096x1024_S4224x4096_1_1_0_0_n_n none x (extf .f32 y bitsLt_bf16_f32)) (mulf (broadcastInDim S4224x4096 ![] bcast_S_S4224x4096 (constant S_ .f32 0x40000000#32)) (maximumf z (broadcastInDim S4224x4096 ![] bcast_S_S4224x4096 (constant S_ .f32 0x00000000#32))))) (broadcastInDim S4224x4096 ![] bcast_S_S4224x4096 (constant S_ .f32 0x00000000#32))) bitsLt_bf16_f32 : FVec Ideal S4224x4096 .bf16) i = (∑ k ∈ Finset.range 1024, at2 x (i 0).val k * at2 y (i 1).val k) * (Ideal.ofBits .f32 0x40000000#32 * max (at2 z (i 0).val (i 1).val) 0) := by
  rw [truncf_apply, select_apply, cmpf_apply, mulf_apply, mulf_apply, maximumf_apply, product, at2_of z i _ _ rfl rfl]
  have e : ∀ (r : EReal), Scalar.select (Ideal.cmp .ogt (z i) (Ideal.ofBits .f32 0x00000000#32)) (r * (Ideal.ofBits .f32 0x40000000#32 * max (z i) (Ideal.ofBits .f32 0x00000000#32))) (Ideal.ofBits .f32 0x00000000#32) = r * (Ideal.ofBits .f32 0x40000000#32 * max (z i) 0) := by
    intro r; rw [zero_word]; exact gate _ _ _
  rw [← at2_of z i _ _ rfl rfl]
  exact e _

end Cert.RDff2Ideal.Entries

namespace Cert.Proof

open Idealize.ShloMosaic Idealize.SL.Sem Idealize.ShloMosaic.TcCoe

attribute [local instance] Cert.KDff2Ideal.Gen.facts Cert.RDff2Ideal.Gen.facts

/-- The call and its reference leave the same results. -/
theorem algebraic_Dff2 : Cert.algebraic_KDff2Ideal_RDff2Ideal := by
  intro m ρ m' ρ' _ hag
  refine ⟨fun c => Cert.KDff2Ideal.Entries.result m c, Cert.KDff2Ideal.Entries.run m ρ, (θ_run _ _ _).mono (fun r h c => ⟨(h c).1.trans ?_, (h c).2⟩) (Cert.RDff2Ideal.Value.run (F := Ideal) m' ρ')⟩
  · obtain ⟨h0, h1, h2⟩ := hag c
    rw [h0, h1, h2]
    exact funext fun i => Cert.RDff2Ideal.Entries.value _ _ _ i

/-- The reference ends with its arguments as they were. -/
theorem frame_RDff2 : Cert.quiescent_RDff2Ideal := fun m ρ _ =>
  (θ_run Cert.RDff2Ideal.defs _ _).mono (fun r h => ⟨fun c => (h c).2, sem_eq_zero_of_no_sems (by decide) r.2⟩) (Cert.RDff2Ideal.Value.run (F := Ideal) m ρ)

end Cert.Proof

end
-- ==== Proof.Gff2Value.lean ====
/-
  The gradient of the squared-relu layer's second weight: what the call leaves, entry by entry, over the extended reals.
-/
module

public import proofs.«01_k».proof.Proof.Products
public import proofs.«01_k».proof.Proof.Gen.KGff2Ideal.Value
public import proofs.«01_k».proof.Proof.Gen.RGff2Ideal.Run
public import proofs.«01_k».proof.Defs

@[expose] public section

noncomputable section

namespace Cert.KGff2Ideal.Entries

open Cert.KGff2Ideal Cert.KGff2Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 11 ∧ win0_1.index t (0 : Fin 2) = t.val % 11 ∧ win0_1.index t (1 : Fin 2) = t.val / 11 % 1 ∧ win0_2.index t (0 : Fin 2) = t.val / 11 ∧ win0_2.index t (1 : Fin 2) = t.val / 11 % 1 :=
  (by decide +kernel : ∀ t : Fin grid0.N, _)

theorem blk0 (c : Dev nD) (t : Fin cfg0.N) (i j : ℕ) (hi : i < 384) (hj : j < 1024) :
    at2 (iblk m c 0 t : S384x1024.Idx → EReal) i j = at2 (m ((c : Thread nD τ).loc main_arg0)) ((t.val % 11) * 384 + i) ((t.val / 11) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 1024 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 11) * 384 + i) ((t.val / 11 % 1) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S1024x1024 .f32) (x : Vec Ideal S384x1024 .bf16) (y : Vec Ideal S384x1024 .f32) (j : S1024x1024.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 1024) (K := 384) (N := 1024) _ _ _ _ _ j).trans ?_
  rw [constant_apply, zero_word, zero_add]
  rfl

theorem start (j : S1024x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S1024x1024.Idx) :
    ∑ k ∈ Finset.range 384, at2 (iblk m c 0 t : S384x1024.Idx → EReal) (k) ((j 0).val) * at2 (iblk m c 1 t : S384x1024.Idx → EReal) (k) ((j 1).val)
      = ∑ k ∈ Finset.range 384, at2 (m ((c : Thread nD τ).loc main_arg0)) ((t.val % 11) * 384 + k) ((t.val / 11) * 1024 + (j 0).val) * at2 (m ((c : Thread nD τ).loc main_arg1)) ((t.val % 11) * 384 + k) ((t.val / 11 % 1) * 1024 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S1024x1024.Idx),
    (outsAt0 m c (11 * q + s) h).2 j = part m c ((s + 1) * 384) (q / 1 * 1024 + (j 0).val) (q % 1 * 1024 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 1 = q % 1 by omega, show (11 * q + 0) / 11 = q / 1 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 1 = q % 1 by omega, show (11 * q + (s + 1)) / 11 = q / 1 by omega, show (11 * q + (s + 1)) % 11 = s + 1 by omega]
    exact sum_next (fun k => at2 (m ((c : Thread nD τ).loc main_arg0)) (k) (q / 1 * 1024 + (j 0).val) * at2 (m ((c : Thread nD τ).loc main_arg1)) (k) (q % 1 * 1024 + (j 1).val)) (s + 1) 384

/-- The whole product at a point that completes a block. -/
theorem whole (c : Dev nD) (t : Fin cfg0.N) (h1 : t.val % 11 = 10) (j : S1024x1024.Idx) :
    k0_pay2 (outsAt0 m c (t.val - 1) (Nat.lt_of_le_of_lt (Nat.sub_le _ _) t.isLt)).2 (iblk m c 0 t) (iblk m c 1 t) j = part m c 4224 (t.val / 11 * 1024 + (j 0).val) ((t.val / 11 % 1) * 1024 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 1 * 1024 + (j 0).val) (t.val / 11 % 1 * 1024 + (j 1).val) := by
    intro n hn hh; subst hh; exact acc m c 9 (t.val / 11) (by omega) hn j
  rw [step, e2 _ _ (by omega), block, h1, show t.val / 11 / 1 = t.val / 11 by omega]
  exact sum_next (fun k => at2 (m ((c : Thread nD τ).loc main_arg0)) (k) (t.val / 11 * 1024 + (j 0).val) * at2 (m ((c : Thread nD τ).loc main_arg1)) (k) (t.val / 11 % 1 * 1024 + (j 1).val)) 10 384

/-- What entry `(i, j)` of the result is. -/
def entry (c : Dev nD) (i j : ℕ) : EReal :=
  part m c 4224 i j

theorem out (c : Dev nD) (t : Fin cfg0.N) (h1 : t.val % 11 = 10) (j : S1024x1024.Idx) :
    (outsAt0 m c t.val t.isLt).1 j = entry m c (t.val / 11 * 1024 + (j 0).val) ((t.val / 11 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 1024 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 4096 := (i 0).isLt
    have h1 : (i 1).val < 1024 := (i 1).isLt
    have hN : cfg0.N = 44 := N_0
    refine ⟨⟨((i 0).val / 1024 * 1 + (i 1).val / 1024) * 11 + 10, by omega⟩, ?_, ?_⟩
    · exact (flush0_2 _).mpr (by dsimp only; omega)
    · rw [mem_block]
      obtain ⟨a0, a1, b0, b1, o2_0, o2_1⟩ := places ⟨((i 0).val / 1024 * 1 + (i 1).val / 1024) * 11 + 10, by omega⟩
      dsimp only at o2_0 o2_1
      intro a
      match a with
      | ⟨0, _⟩ => show win0_2.index _ (0 : Fin 2) * 1024 ≤ (i 0).val ∧ (i 0).val < win0_2.index _ (0 : Fin 2) * 1024 + 1024; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGff2Ideal.Entries

namespace Cert.RGff2Ideal.Entries

open Cert.RGff2Ideal Cert.RGff2Ideal.Gen Idealize.ShloMosaic Idealize.ShloMosaic.ValueIdx Cert.Products
open scoped BigOperators

/-- The reference's product at an index. -/
theorem product (x : FVec Ideal S4224x4096 .bf16) (y : FVec Ideal S4224x1024 .f32) (i : S4096x1024.Idx) :
    (transpose S4096x1024 [1, 0] (Host.dotGeneral dot_S4224x1024_S4224x4096_S1024x4096_0_0_1_1_n_n none y (extf .f32 x bitsLt_bf16_f32)) transposes_S1024x4096_S4096x1024_1_0 : FVec Ideal S4096x1024 .f32) i = ∑ k ∈ Finset.range 4224, at2 x k (i 0).val * at2 y k (i 1).val := by
  refine (swap _ _ i).trans ?_
  refine (host_tn (M := 1024) (K := 4224) (N := 4096) _ _ _ _ _ (ix2 (i 1) (i 0))).trans ?_
  exact Finset.sum_congr rfl fun k _ => mul_comm _ _

/-- The reference's result at an index. -/
theorem value (x : FVec Ideal S4224x4096 .bf16) (y : FVec Ideal S4224x1024 .f32) (i : S4096x1024.Idx) :
    (transpose S4096x1024 [1, 0] (Host.dotGeneral dot_S4224x1024_S4224x4096_S1024x4096_0_0_1_1_n_n none y (extf .f32 x bitsLt_bf16_f32)) transposes_S1024x4096_S4096x1024_1_0 : FVec Ideal S4096x1024 .f32) i = ∑ k ∈ Finset.range 4224, at2 x k (i 0).val * at2 y k (i 1).val := by
  exact product x y i

end Cert.RGff2Ideal.Entries

namespace Cert.Proof

open Idealize.ShloMosaic Idealize.SL.Sem Idealize.ShloMosaic.TcCoe

attribute [local instance] Cert.KGff2Ideal.Gen.facts Cert.RGff2Ideal.Gen.facts

/-- The call and its reference leave the same results. -/
theorem algebraic_Gff2 : Cert.algebraic_KGff2Ideal_RGff2Ideal := by
  intro m ρ m' ρ' _ hag
  refine ⟨fun c => Cert.KGff2Ideal.Entries.result m c, Cert.KGff2Ideal.Entries.run m ρ, (θ_run _ _ _).mono (fun r h c => ⟨(h c).1.trans ?_, (h c).2⟩) (Cert.RGff2Ideal.Value.run (F := Ideal) m' ρ')⟩
  · obtain ⟨h0, h1⟩ := hag c
    rw [h0, h1]
    exact funext fun i => Cert.RGff2Ideal.Entries.value _ _ i

/-- The reference ends with its arguments as they were. -/
theorem frame_RGff2 : Cert.quiescent_RGff2Ideal := fun m ρ _ =>
  (θ_run Cert.RGff2Ideal.defs _ _).mono (fun r h => ⟨fun c => (h c).2, sem_eq_zero_of_no_sems (by decide) r.2⟩) (Cert.RGff2Ideal.Value.run (F := Ideal) m ρ)

end Cert.Proof

end
-- ==== Proof.Dff1Value.lean ====
/-
  The gradient of the squared-relu layer's input, the residual's added: what the call leaves, entry by entry, over the extended reals.
-/
module

public import proofs.«01_k».proof.Proof.Products
public import proofs.«01_k».proof.Proof.Gen.KDff1Ideal.Value
public import proofs.«01_k».proof.Proof.Gen.RDff1Ideal.Run
public import proofs.«01_k».proof.Defs

@[expose] public section

noncomputable section

namespace Cert.KDff1Ideal.Entries

open Cert.KDff1Ideal Cert.KDff1Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

/-- The accumulator after a further block. -/
theorem acc_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

/-- The output block after the last block of the contracted axis. -/
theorem out_C (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  unfold out0_C_3
  rw [View.read_writes_eq_canon _ _ _ (fun _ => cover0_C_3 ..)]
  unfold kernelRun0_C
  dsimp only
  sl_unfold_words
  rw [View.canon_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 4 ∧ win0_0.index t (1 : Fin 2) = t.val % 4 ∧ win0_1.index t (0 : Fin 2) = t.val / 4 % 1 ∧ win0_1.index t (1 : Fin 2) = t.val % 4 ∧ win0_2.index t (0 : Fin 2) = t.val / 4 ∧ win0_2.index t (1 : Fin 2) = t.val / 4 % 1 ∧ win0_3.index t (0 : Fin 2) = t.val / 4 ∧ win0_3.index t (1 : Fin 2) = t.val / 4 % 1 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 4) * 1408 + i) ((t.val % 4) * 1024 + j) := by
  obtain ⟨a0, a1, b0, b1, e0, e1, o3_0, o3_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 1024) (hj : j < 1024) :
    at2 (iblk m c 1 t : S1024x1024.Idx → EReal) i j = at2 (m ((c : Thread nD τ).loc main_arg1)) ((t.val / 4 % 1) * 1024 + i) ((t.val % 4) * 1024 + j) := by
  obtain ⟨a0, a1, b0, b1, e0, e1, o3_0, o3_1⟩ := places t
  refine (at2_val _ (⟨i, hi⟩ : Fin 1024) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 1024 + 1 * j = _; rw [b1]; omega

theorem blk2 (c : Dev nD) (t : Fin cfg0.N) (i j : ℕ) (hi : i < 1408) (hj : j < 1024) :
    at2 (iblk m c 2 t : S1408x1024.Idx → EReal) i j = at2 (m ((c : Thread nD τ).loc main_arg2)) ((t.val / 4) * 1408 + i) ((t.val / 4 % 1) * 1024 + j) := by
  obtain ⟨a0, a1, b0, b1, e0, e1, o3_0, o3_1⟩ := places t
  refine (at2_val _ (⟨i, hi⟩ : Fin 1408) (⟨j, hj⟩ : Fin 1024)).trans ?_
  unfold iblk
  rw [View.read_apply]
  show V m c main_arg2 _ = _
  unfold V
  refine at2_of (m ((c : Thread nD τ).loc main_arg2)) _ _ _ ?_ ?_
  · show win0_2.index t (0 : Fin 2) * 1408 + 1 * i = _; rw [e0]; omega
  · show win0_2.index t (1 : Fin 2) * 1024 + 1 * j = _; rw [e1]; omega

/-- One step of the accumulation. -/
theorem step (v : Vec Ideal S1408x1024 .f32) (x : Vec Ideal S1408x1024 .bf16) (y : Vec Ideal S1024x1024 .bf16) (j : S1408x1024.Idx) :
    k0_pay2 v x y j = v j + ∑ k ∈ Finset.range 1024, at2 x ((j 0).val) (k) * at2 y ((j 1).val) (k) := by
  unfold k0_pay2
  dsimp only
  rw [shapeCast_self, addf_apply]
  refine congrArg (v j + ·) ?_
  refine (mm_nt (M := 1408) (K := 1024) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x1024.Idx) :
    ∑ k ∈ Finset.range 1024, at2 (iblk m c 0 t : S1408x1024.Idx → EReal) ((j 0).val) (k) * at2 (iblk m c 1 t : S1024x1024.Idx → EReal) ((j 1).val) (k)
      = ∑ k ∈ Finset.range 1024, at2 (m ((c : Thread nD τ).loc main_arg0)) ((t.val / 4) * 1408 + (j 0).val) ((t.val % 4) * 1024 + k) * at2 (m ((c : Thread nD τ).loc main_arg1)) ((t.val / 4 % 1) * 1024 + (j 1).val) ((t.val % 4) * 1024 + k) := by
  refine Finset.sum_congr rfl fun k hk => ?_
  have hk := Finset.mem_range.mp hk
  rw [blk0 m c t _ _ (j 0).isLt hk, blk1 m c t _ _ (j 1).isLt hk]

/-- The accumulator holds the partial product. -/
theorem acc (c : Dev nD) : ∀ (s q : ℕ) (hs : s < 3) (h : 4 * q + s < cfg0.N) (j : S1408x1024.Idx),
    (outsAt0 m c (4 * q + s) h).2 j = part m c ((s + 1) * 1024) (q / 1 * 1408 + (j 0).val) (q % 1 * 1024 + (j 1).val)
  | 0, q, hs, h, j => by
    have e := acc_A m c ⟨4 * q + 0, h⟩ (by dsimp only; omega) (by dsimp only; omega)
    dsimp only at e
    rw [e, step, start, zero_add, block]
    dsimp only
    rw [show (4 * q + 0) / 4 % 1 = q % 1 by omega, show (4 * q + 0) / 4 = q / 1 by omega, show (4 * q + 0) % 4 = 0 by omega]
    unfold part
    simp only [Nat.zero_mul, Nat.zero_add, Nat.one_mul]
  | s + 1, q, hs, h, j => by
    have e := acc_B m c ⟨4 * q + (s + 1), h⟩ (by dsimp only; omega) (by dsimp only; omega)
    dsimp only at e
    have ih := acc c s q (by omega) (by omega) j
    rw [e, step, block]
    dsimp only
    have e2 : (outsAt0 m c (4 * q + (s + 1) - 1) (Nat.lt_of_le_of_lt (Nat.sub_le _ _) h)).2 j = _ := ih
    rw [e2]
    rw [show (4 * q + (s + 1)) / 4 % 1 = q % 1 by omega, show (4 * q + (s + 1)) / 4 = q / 1 by omega, show (4 * q + (s + 1)) % 4 = s + 1 by omega]
    exact sum_next (fun k => at2 (m ((c : Thread nD τ).loc main_arg0)) (q / 1 * 1408 + (j 0).val) (k) * at2 (m ((c : Thread nD τ).loc main_arg1)) (q % 1 * 1024 + (j 1).val) (k)) (s + 1) 1024

/-- The whole product at a point that completes a block. -/
theorem whole (c : Dev nD) (t : Fin cfg0.N) (h1 : t.val % 4 = 3) (j : S1408x1024.Idx) :
    k0_pay2 (outsAt0 m c (t.val - 1) (Nat.lt_of_le_of_lt (Nat.sub_le _ _) t.isLt)).2 (iblk m c 0 t) (iblk m c 1 t) j = part m c 4096 (t.val / 4 * 1408 + (j 0).val) ((t.val / 4 % 1) * 1024 + (j 1).val) := by
  have ht : 4 * (t.val / 4) + 2 < cfg0.N := by have := t.isLt; omega
  have e2 : ∀ (n : ℕ) (hn : n < cfg0.N), n = 4 * (t.val / 4) + 2 →
      (outsAt0 m c n hn).2 j = part m c (3 * 1024) (t.val / 4 / 1 * 1408 + (j 0).val) (t.val / 4 % 1 * 1024 + (j 1).val) := by
    intro n hn hh; subst hh; exact acc m c 2 (t.val / 4) (by omega) hn j
  rw [step, e2 _ _ (by omega), block, h1, show t.val / 4 / 1 = t.val / 4 by omega]
  exact sum_next (fun k => at2 (m ((c : Thread nD τ).loc main_arg0)) (t.val / 4 * 1408 + (j 0).val) (k) * at2 (m ((c : Thread nD τ).loc main_arg1)) (t.val / 4 % 1 * 1024 + (j 1).val) (k)) 3 1024

/-- What entry `(i, j)` of the result is. -/
def entry (c : Dev nD) (i j : ℕ) : EReal :=
  part m c 4096 i j + Ideal.ofBits .f32 0x3FD744FD#32 * at2 (m ((c : Thread nD τ).loc main_arg2)) i j

theorem out (c : Dev nD) (t : Fin cfg0.N) (h1 : t.val % 4 = 3) (j : S1408x1024.Idx) :
    (outsAt0 m c t.val t.isLt).1 j = entry m c (t.val / 4 * 1408 + (j 0).val) ((t.val / 4 % 1) * 1024 + (j 1).val) := by
  have key := whole m c t h1 j
  rw [out_C m c t (by omega) h1]
  unfold k0_pay3
  dsimp only
  rw [addf_apply, mulf_apply, broadcast_apply, key]
  unfold entry
  refine congrArg (_ + ·) (congrArg (_ * ·) ?_)
  rw [← blk2 m c t _ _ (j 0).isLt (j 1).isLt]
  exact at2_of _ j _ _ rfl rfl

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0).slice (win0_3.rect t)).set ↔ _
  rw [View.set_slice_whole, Rect.mem_set_unit]
  exact Iff.rfl

theorem flushed_result (c : Dev nD) (t : Fin cfg0.N) (hf : (cfg0.win 3).flush t = true) :
    (dats m 0 c).flushed 3 t = ((cfg0.win 3).blk t).view.read (Elt Ideal) (result m c) := by
  rw [Value.flushed3]
  obtain ⟨a0, a1, b0, b1, e0, e1, o3_0, o3_1⟩ := places t
  funext y
  rw [View.read_apply]
  show (outsAt0 m c t.val t.isLt).1 y = entry m c (win0_3.index t (0 : Fin 2) * 1408 + 1 * (y 0).val) (win0_3.index t (1 : Fin 2) * 1024 + 1 * (y 1).val)
  rw [o3_0, o3_1, Nat.one_mul, Nat.one_mul]
  exact out m c t ((flush0_3 t).mp hf) y

theorem final (c : Dev nD) : (dats m 0 c).arrAt 3 cfg0.N = result m c :=
  (dats m 0 c).arrAt_eq_of_cover 3 _ (flushed_result m c) fun i => by
    have h0 : (i 0).val < 4224 := (i 0).isLt
    have h1 : (i 1).val < 1024 := (i 1).isLt
    have hN : cfg0.N = 12 := N_0
    refine ⟨⟨((i 0).val / 1408 * 1 + (i 1).val / 1024) * 4 + 3, by omega⟩, ?_, ?_⟩
    · exact (flush0_3 _).mpr (by dsimp only; omega)
    · rw [mem_block]
      obtain ⟨a0, a1, b0, b1, e0, e1, o3_0, o3_1⟩ := places ⟨((i 0).val / 1408 * 1 + (i 1).val / 1024) * 4 + 3, by omega⟩
      dsimp only at o3_0 o3_1
      intro a
      match a with
      | ⟨0, _⟩ => show win0_3.index _ (0 : Fin 2) * 1408 ≤ (i 0).val ∧ (i 0).val < win0_3.index _ (0 : Fin 2) * 1408 + 1408; rw [o3_0]; omega
      | ⟨1, _⟩ => show win0_3.index _ (1 : Fin 2) * 1024 ≤ (i 1).val ∧ (i 1).val < win0_3.index _ (1 : Fin 2) * 1024 + 1024; rw [o3_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).1.trans (final m c), (h c).2⟩) (Value.run_blocks m ρ)

end Cert.KDff1Ideal.Entries

namespace Cert.RDff1Ideal.Entries

open Cert.RDff1Ideal Cert.RDff1Ideal.Gen Idealize.ShloMosaic Idealize.ShloMosaic.ValueIdx Cert.Products
open scoped BigOperators

/-- The reference's product at an index. -/
theorem product (x : FVec Ideal S4224x4096 .bf16) (y : FVec Ideal S1024x4096 .bf16) (i : S4224x1024.Idx) :
    (Host.dotGeneral dot_S4224x4096_S1024x4096_S4224x1024_1_1_0_0_n_n none (extf .f32 x bitsLt_bf16_f32) (extf .f32 y bitsLt_bf16_f32) : FVec Ideal S4224x1024 .f32) i = ∑ k ∈ Finset.range 4096, at2 x (i 0).val k * at2 y (i 1).val k :=
  host_nt (M := 4224) (K := 4096) (N := 1024) _ _ _ _ _ i

/-- The reference's result at an index. -/
theorem value (x : FVec Ideal S4224x4096 .bf16) (y : FVec Ideal S1024x4096 .bf16) (z : FVec Ideal S4224x1024 .f32) (i : S4224x1024.Idx) :
    (addf (Host.dotGeneral dot_S4224x4096_S1024x4096_S4224x1024_1_1_0_0_n_n none (extf .f32 x bitsLt_bf16_f32) (extf .f32 y bitsLt_bf16_f32)) (mulf (broadcastInDim S4224x1024 ![] bcast_S_S4224x1024 (constant S_ .f32 0x3FD744FD#32)) z) : FVec Ideal S4224x1024 .f32) i = (∑ k ∈ Finset.range 4096, at2 x (i 0).val k * at2 y (i 1).val k) + Ideal.ofBits .f32 0x3FD744FD#32 * at2 z (i 0).val (i 1).val := by
  rw [addf_apply, mulf_apply, product, ← at2_of z i _ _ rfl rfl]
  rfl

end Cert.RDff1Ideal.Entries

namespace Cert.Proof

open Idealize.ShloMosaic Idealize.SL.Sem Idealize.ShloMosaic.TcCoe

attribute [local instance] Cert.KDff1Ideal.Gen.facts Cert.RDff1Ideal.Gen.facts

/-- The call and its reference leave the same results. -/
theorem algebraic_Dff1 : Cert.algebraic_KDff1Ideal_RDff1Ideal := by
  intro m ρ m' ρ' _ hag
  refine ⟨fun c => Cert.KDff1Ideal.Entries.result m c, Cert.KDff1Ideal.Entries.run m ρ, (θ_run _ _ _).mono (fun r h c => ⟨(h c).1.trans ?_, (h c).2⟩) (Cert.RDff1Ideal.Value.run (F := Ideal) m' ρ')⟩
  · obtain ⟨h0, h1, h2⟩ := hag c
    rw [h0, h1, h2]
    exact funext fun i => Cert.RDff1Ideal.Entries.value _ _ _ i

/-- The reference ends with its arguments as they were. -/
theorem frame_RDff1 : Cert.quiescent_RDff1Ideal := fun m ρ _ =>
  (θ_run Cert.RDff1Ideal.defs _ _).mono (fun r h => ⟨fun c => (h c).2, sem_eq_zero_of_no_sems (by decide) r.2⟩) (Cert.RDff1Ideal.Value.run (F := Ideal) m ρ)

end Cert.Proof

end
-- ==== Proof.Gff1Value.lean ====
/-
  The gradient of the squared-relu layer's first weight: what the call leaves, entry by entry, over the extended reals.
-/
module

public import proofs.«01_k».proof.Proof.Products
public import proofs.«01_k».proof.Proof.Gen.KGff1Ideal.Value
public import proofs.«01_k».proof.Proof.Gen.RGff1Ideal.Run
public import proofs.«01_k».proof.Defs

@[expose] public section

noncomputable section

namespace Cert.KGff1Ideal.Entries

open Cert.KGff1Ideal Cert.KGff1Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S1024x1024) origin]
  simp only [View.readAt_eq_ld, (hs0_0 t).read_unread, (hs0_1 t).read_unread, (Memref.isWhole_whole _).read_unread, View.ld_unit_zero (S := S1024x1024) origin, View.ld_unit_zero (S := S384x1024) origin, View.ld_unit_zero (S := S384x1024) origin, View.readCov_unit_zero (S := S1024x1024) _ origin, View.readCov_cons_unit_lit' (S := S1024x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 44 ∧ win0_1.index t (0 : Fin 2) = t.val % 11 ∧ win0_1.index t (1 : Fin 2) = t.val / 11 % 4 ∧ win0_2.index t (0 : Fin 2) = t.val / 44 ∧ win0_2.index t (1 : Fin 2) = t.val / 11 % 4 :=
  (by decide +kernel : ∀ t : Fin grid0.N, _)

theorem blk0 (c : Dev nD) (t : Fin cfg0.N) (i j : ℕ) (hi : i < 384) (hj : j < 1024) :
    at2 (iblk m c 0 t : S384x1024.Idx → EReal) i j = at2 (m ((c : Thread nD τ).loc main_arg0)) ((t.val % 11) * 384 + i) ((t.val / 44) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 1024 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 11) * 384 + i) ((t.val / 11 % 4) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S1024x1024 .f32) (x : Vec Ideal S384x1024 .bf16) (y : Vec Ideal S384x1024 .bf16) (j : S1024x1024.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 1024) (K := 384) (N := 1024) _ _ _ _ _ j).trans ?_
  rw [constant_apply, zero_word, zero_add]

theorem start (j : S1024x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S1024x1024.Idx) :
    ∑ k ∈ Finset.range 384, at2 (iblk m c 0 t : S384x1024.Idx → EReal) (k) ((j 0).val) * at2 (iblk m c 1 t : S384x1024.Idx → EReal) (k) ((j 1).val)
      = ∑ k ∈ Finset.range 384, at2 (m ((c : Thread nD τ).loc main_arg0)) ((t.val % 11) * 384 + k) ((t.val / 44) * 1024 + (j 0).val) * at2 (m ((c : Thread nD τ).loc main_arg1)) ((t.val % 11) * 384 + k) ((t.val / 11 % 4) * 1024 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S1024x1024.Idx),
    (outsAt0 m c (11 * q + s) h).2 j = part m c ((s + 1) * 384) (q / 4 * 1024 + (j 0).val) (q % 4 * 1024 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 4 = q % 4 by omega, show (11 * q + 0) / 44 = q / 4 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 4 = q % 4 by omega, show (11 * q + (s + 1)) / 44 = q / 4 by omega, show (11 * q + (s + 1)) % 11 = s + 1 by omega]
    exact sum_next (fun k => at2 (m ((c : Thread nD τ).loc main_arg0)) (k) (q / 4 * 1024 + (j 0).val) * at2 (m ((c : Thread nD τ).loc main_arg1)) (k) (q % 4 * 1024 + (j 1).val)) (s + 1) 384

/-- The whole product at a point that completes a block. -/
theorem whole (c : Dev nD) (t : Fin cfg0.N) (h1 : t.val % 11 = 10) (j : S1024x1024.Idx) :
    k0_pay2 (outsAt0 m c (t.val - 1) (Nat.lt_of_le_of_lt (Nat.sub_le _ _) t.isLt)).2 (iblk m c 0 t) (iblk m c 1 t) j = part m c 4224 (t.val / 44 * 1024 + (j 0).val) ((t.val / 11 % 4) * 1024 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 4 * 1024 + (j 0).val) (t.val / 11 % 4 * 1024 + (j 1).val) := by
    intro n hn hh; subst hh; exact acc m c 9 (t.val / 11) (by omega) hn j
  rw [step, e2 _ _ (by omega), block, h1, show t.val / 11 / 4 = t.val / 44 by omega]
  exact sum_next (fun k => at2 (m ((c : Thread nD τ).loc main_arg0)) (k) (t.val / 44 * 1024 + (j 0).val) * at2 (m ((c : Thread nD τ).loc main_arg1)) (k) (t.val / 11 % 4 * 1024 + (j 1).val)) 10 384

/-- What entry `(i, j)` of the result is. -/
def entry (c : Dev nD) (i j : ℕ) : EReal :=
  part m c 4224 i j

theorem out (c : Dev nD) (t : Fin cfg0.N) (h1 : t.val % 11 = 10) (j : S1024x1024.Idx) :
    (outsAt0 m c t.val t.isLt).1 j = entry m c (t.val / 44 * 1024 + (j 0).val) ((t.val / 11 % 4) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S1024x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 1024 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 1024 := (i 0).isLt
    have h1 : (i 1).val < 4096 := (i 1).isLt
    have hN : cfg0.N = 44 := N_0
    refine ⟨⟨((i 0).val / 1024 * 4 + (i 1).val / 1024) * 11 + 10, by omega⟩, ?_, ?_⟩
    · exact (flush0_2 _).mpr (by dsimp only; omega)
    · rw [mem_block]
      obtain ⟨a0, a1, b0, b1, o2_0, o2_1⟩ := places ⟨((i 0).val / 1024 * 4 + (i 1).val / 1024) * 11 + 10, by omega⟩
      dsimp only at o2_0 o2_1
      intro a
      match a with
      | ⟨0, _⟩ => show win0_2.index _ (0 : Fin 2) * 1024 ≤ (i 0).val ∧ (i 0).val < win0_2.index _ (0 : Fin 2) * 1024 + 1024; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGff1Ideal.Entries

namespace Cert.RGff1Ideal.Entries

open Cert.RGff1Ideal Cert.RGff1Ideal.Gen Idealize.ShloMosaic Idealize.ShloMosaic.ValueIdx Cert.Products
open scoped BigOperators

/-- The reference's product at an index. -/
theorem product (x : FVec Ideal S4224x1024 .bf16) (y : FVec Ideal S4224x4096 .bf16) (i : S1024x4096.Idx) :
    (transpose S1024x4096 [1, 0] (Host.dotGeneral dot_S4224x4096_S4224x1024_S4096x1024_0_0_1_1_n_n none (extf .f32 y bitsLt_bf16_f32) (extf .f32 x bitsLt_bf16_f32)) transposes_S4096x1024_S1024x4096_1_0 : FVec Ideal S1024x4096 .f32) i = ∑ k ∈ Finset.range 4224, at2 x k (i 0).val * at2 y k (i 1).val := by
  refine (swap _ _ i).trans ?_
  refine (host_tn (M := 4096) (K := 4224) (N := 1024) _ _ _ _ _ (ix2 (i 1) (i 0))).trans ?_
  exact Finset.sum_congr rfl fun k _ => mul_comm _ _

/-- The reference's result at an index. -/
theorem value (x : FVec Ideal S4224x1024 .bf16) (y : FVec Ideal S4224x4096 .bf16) (i : S1024x4096.Idx) :
    (transpose S1024x4096 [1, 0] (Host.dotGeneral dot_S4224x4096_S4224x1024_S4096x1024_0_0_1_1_n_n none (extf .f32 y bitsLt_bf16_f32) (extf .f32 x bitsLt_bf16_f32)) transposes_S4096x1024_S1024x4096_1_0 : FVec Ideal S1024x4096 .f32) i = ∑ k ∈ Finset.range 4224, at2 x k (i 0).val * at2 y k (i 1).val := by
  exact product x y i

end Cert.RGff1Ideal.Entries

namespace Cert.Proof

open Idealize.ShloMosaic Idealize.SL.Sem Idealize.ShloMosaic.TcCoe

attribute [local instance] Cert.KGff1Ideal.Gen.facts Cert.RGff1Ideal.Gen.facts

/-- The call and its reference leave the same results. -/
theorem algebraic_Gff1 : Cert.algebraic_KGff1Ideal_RGff1Ideal := by
  intro m ρ m' ρ' _ hag
  refine ⟨fun c => Cert.KGff1Ideal.Entries.result m c, Cert.KGff1Ideal.Entries.run m ρ, (θ_run _ _ _).mono (fun r h c => ⟨(h c).1.trans ?_, (h c).2⟩) (Cert.RGff1Ideal.Value.run (F := Ideal) m' ρ')⟩
  · obtain ⟨h0, h1⟩ := hag c
    rw [h0, h1]
    exact funext fun i => Cert.RGff1Ideal.Entries.value _ _ i

/-- The reference ends with its arguments as they were. -/
theorem frame_RGff1 : Cert.quiescent_RGff1Ideal := fun m ρ _ =>
  (θ_run Cert.RGff1Ideal.defs _ _).mono (fun r h => ⟨fun c => (h c).2, sem_eq_zero_of_no_sems (by decide) r.2⟩) (Cert.RGff1Ideal.Value.run (F := Ideal) m ρ)

end Cert.Proof

end
-- ==== Proof.DoutValue.lean ====
/-
  The gradient of the mixed heads: what the call leaves, entry by entry, over the extended reals.
-/
module

public import proofs.«01_k».proof.Proof.Products
public import proofs.«01_k».proof.Proof.Gen.KDoutIdeal.Value
public import proofs.«01_k».proof.Proof.Gen.RDoutIdeal.Run
public import proofs.«01_k».proof.Defs

@[expose] public section

noncomputable section

namespace Cert.KDoutIdeal.Entries

open Cert.KDoutIdeal Cert.KDoutIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay2 k0_pay1 (iblk m c 0 t) (iblk m c 1 t) := by
  unfold outsAt0 out0_A_2
  rw [View.read_writes_eq_canon _ _ _ (fun _ => cover0_A_2 ..)]
  unfold kernelRun0_A
  dsimp only
  sl_unfold_words
  rw [View.canon_unit_zero (S := S1408x768) origin]
  simp only [View.readAt_eq_ld, (hs0_0 t).read_unread, (hs0_1 t).read_unread, (Memref.isWhole_whole _).read_unread, View.ld_unit_zero (S := S1408x768) origin, View.ld_unit_zero (S := S1408x1024) origin, View.ld_unit_zero (S := S768x1024) origin, View.readCov_unit_zero (S := S1408x768) _ origin, View.readCov_cons_unit_lit' (S := S1408x768) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 2 ∧ win0_0.index t (1 : Fin 2) = 0 ∧ win0_1.index t (0 : Fin 2) = t.val % 2 ∧ win0_1.index t (1 : Fin 2) = 0 ∧ win0_2.index t (0 : Fin 2) = t.val / 2 ∧ win0_2.index t (1 : Fin 2) = t.val % 2 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 2) * 1408 + i) ((0) * 1024 + j) := by
  obtain ⟨a0, a1, b0, b1, o2_0, o2_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 768) (hj : j < 1024) :
    at2 (iblk m c 1 t : S768x1024.Idx → EReal) i j = at2 (m ((c : Thread nD τ).loc main_arg1)) ((t.val % 2) * 768 + i) ((0) * 1024 + j) := by
  obtain ⟨a0, a1, b0, b1, o2_0, o2_1⟩ := places t
  refine (at2_val _ (⟨i, hi⟩ : Fin 768) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 768 + 1 * i = _; rw [b0]; omega
  · show win0_1.index t (1 : Fin 2) * 1024 + 1 * j = _; rw [b1]; omega

/-- One step of the accumulation. -/
theorem step (v : Vec Ideal S1408x768 .f32) (x : Vec Ideal S1408x1024 .f32) (y : Vec Ideal S768x1024 .bf16) (j : S1408x768.Idx) :
    k0_pay2 v x y j = v j + ∑ k ∈ Finset.range 1024, at2 x ((j 0).val) (k) * at2 y ((j 1).val) (k) := by
  unfold k0_pay2
  dsimp only
  rw [shapeCast_self, addf_apply]
  refine congrArg (v j + ·) ?_
  refine (mm_nt (M := 1408) (K := 1024) (N := 768) _ _ _ _ _ j).trans ?_
  rw [constant_apply, zero_word, zero_add]
  rfl

theorem start (j : S1408x768.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x768.Idx) :
    ∑ k ∈ Finset.range 1024, at2 (iblk m c 0 t : S1408x1024.Idx → EReal) ((j 0).val) (k) * at2 (iblk m c 1 t : S768x1024.Idx → EReal) ((j 1).val) (k)
      = ∑ k ∈ Finset.range 1024, at2 (m ((c : Thread nD τ).loc main_arg0)) ((t.val / 2) * 1408 + (j 0).val) ((0) * 1024 + k) * at2 (m ((c : Thread nD τ).loc main_arg1)) ((t.val % 2) * 768 + (j 1).val) ((0) * 1024 + k) := by
  refine Finset.sum_congr rfl fun k hk => ?_
  have hk := Finset.mem_range.mp hk
  rw [blk0 m c t _ _ (j 0).isLt hk, blk1 m c t _ _ (j 1).isLt hk]

/-- The whole product at a point that completes a block. -/
theorem whole (c : Dev nD) (t : Fin cfg0.N) (j : S1408x768.Idx) :
    k0_pay2 k0_pay1 (iblk m c 0 t) (iblk m c 1 t) j = part m c 1024 (t.val / 2 * 1408 + (j 0).val) ((t.val % 2) * 768 + (j 1).val) := by
  rw [step, start, zero_add, block]
  unfold part
  simp only [Nat.zero_mul, Nat.zero_add]

/-- What entry `(i, j)` of the result is. -/
def entry (c : Dev nD) (i j : ℕ) : EReal :=
  part m c 1024 i j

theorem out (c : Dev nD) (t : Fin cfg0.N) (j : S1408x768.Idx) :
    (outsAt0 m c t) j = entry m c (t.val / 2 * 1408 + (j 0).val) ((t.val % 2) * 768 + (j 1).val) := by
  have key := whole m c t j
  rw [out_A]
  exact key

/-- The array that the call writes: every entry. -/
def result (c : Dev nD) : Buf (Elt Ideal) ((c : Thread nD τ).loc main_v0) := fun i => entry m c (i 0).val (i 1).val

theorem mem_block (t : Fin cfg0.N) (i : S4224x1536.Idx) :
    i ∈ ((cfg0.win 2).blk t).view.set ↔ ∀ a : Fin 2, win0_2.index t a * S1408x768.size a ≤ (i a).val ∧ (i a).val < win0_2.index t a * S1408x768.size a + S1408x768.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 768 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 1536 := (i 1).isLt
    have hN : cfg0.N = 6 := N_0
    refine ⟨⟨((i 0).val / 1408 * 2 + (i 1).val / 768) * 1 + 0, by omega⟩, ?_, ?_⟩
    · exact flush0_2 _
    · rw [mem_block]
      obtain ⟨a0, a1, b0, b1, o2_0, o2_1⟩ := places ⟨((i 0).val / 1408 * 2 + (i 1).val / 768) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 768 ≤ (i 1).val ∧ (i 1).val < win0_2.index _ (1 : Fin 2) * 768 + 768; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KDoutIdeal.Entries

namespace Cert.RDoutIdeal.Entries

open Cert.RDoutIdeal Cert.RDoutIdeal.Gen Idealize.ShloMosaic Idealize.ShloMosaic.ValueIdx Cert.Products
open scoped BigOperators

/-- The reference's product at an index. -/
theorem product (x : FVec Ideal S4224x1024 .f32) (y : FVec Ideal S1536x1024 .bf16) (i : S4224x1536.Idx) :
    (Host.dotGeneral dot_S4224x1024_S1536x1024_S4224x1536_1_1_0_0_n_n none x (extf .f32 y bitsLt_bf16_f32) : FVec Ideal S4224x1536 .f32) i = ∑ k ∈ Finset.range 1024, at2 x (i 0).val k * at2 y (i 1).val k :=
  host_nt (M := 4224) (K := 1024) (N := 1536) _ _ _ _ _ i

/-- The reference's result at an index. -/
theorem value (x : FVec Ideal S4224x1024 .f32) (y : FVec Ideal S1536x1024 .bf16) (i : S4224x1536.Idx) :
    (Host.dotGeneral dot_S4224x1024_S1536x1024_S4224x1536_1_1_0_0_n_n none x (extf .f32 y bitsLt_bf16_f32) : FVec Ideal S4224x1536 .f32) i = ∑ k ∈ Finset.range 1024, at2 x (i 0).val k * at2 y (i 1).val k := by
  exact product x y i

end Cert.RDoutIdeal.Entries

namespace Cert.Proof

open Idealize.ShloMosaic Idealize.SL.Sem Idealize.ShloMosaic.TcCoe

attribute [local instance] Cert.KDoutIdeal.Gen.facts Cert.RDoutIdeal.Gen.facts

/-- The call and its reference leave the same results. -/
theorem algebraic_Dout : Cert.algebraic_KDoutIdeal_RDoutIdeal := by
  intro m ρ m' ρ' _ hag
  refine ⟨fun c => Cert.KDoutIdeal.Entries.result m c, Cert.KDoutIdeal.Entries.run m ρ, (θ_run _ _ _).mono (fun r h c => ⟨(h c).1.trans ?_, (h c).2⟩) (Cert.RDoutIdeal.Value.run (F := Ideal) m' ρ')⟩
  · obtain ⟨h0, h1⟩ := hag c
    rw [h0, h1]
    exact funext fun i => Cert.RDoutIdeal.Entries.value _ _ i

/-- The reference ends with its arguments as they were. -/
theorem frame_RDout : Cert.quiescent_RDoutIdeal := fun m ρ _ =>
  (θ_run Cert.RDoutIdeal.defs _ _).mono (fun r h => ⟨fun c => (h c).2, sem_eq_zero_of_no_sems (by decide) r.2⟩) (Cert.RDoutIdeal.Value.run (F := Ideal) m ρ)

end Cert.Proof

end
-- ==== Proof.GoutValue.lean ====
/-
  The gradient of the output projection's weight: what the call leaves, entry by entry, over the extended reals.
-/
module

public import proofs.«01_k».proof.Proof.Products
public import proofs.«01_k».proof.Proof.Gen.KGoutIdeal.Value
public import proofs.«01_k».proof.Proof.Gen.RGoutIdeal.Run
public import proofs.«01_k».proof.Defs

@[expose] public section

noncomputable section

namespace Cert.KGoutIdeal.Entries

open Cert.KGoutIdeal Cert.KGoutIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S768x1024) origin]
  simp only [View.readAt_eq_ld, (hs0_0 t).read_unread, (hs0_1 t).read_unread, (Memref.isWhole_whole _).read_unread, View.ld_unit_zero (S := S768x1024) origin, View.ld_unit_zero (S := S384x768) origin, View.ld_unit_zero (S := S384x1024) origin, View.readCov_unit_zero (S := S768x1024) _ origin, View.readCov_cons_unit_lit' (S := S768x1024) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S768x1024) origin]
  simp only [View.readAt_eq_ld, (hs0_0 t).read_unread, (hs0_1 t).read_unread, (Memref.isWhole_whole _).read_unread, View.ld_unit_zero (S := S768x1024) origin, View.ld_unit_zero (S := S384x768) origin, View.ld_unit_zero (S := S384x1024) origin, View.readCov_unit_zero (S := S768x1024) _ origin, View.readCov_cons_unit_lit' (S := S768x1024) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S768x1024) origin]
  simp only [View.readAt_eq_ld, (hs0_0 t).read_unread, (hs0_1 t).read_unread, (Memref.isWhole_whole _).read_unread, View.ld_unit_zero (S := S768x1024) origin, View.ld_unit_zero (S := S384x768) origin, View.ld_unit_zero (S := S384x1024) origin, View.readCov_unit_zero (S := S768x1024) _ origin, View.readCov_cons_unit_lit' (S := S768x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 11 ∧ win0_1.index t (0 : Fin 2) = t.val % 11 ∧ win0_1.index t (1 : Fin 2) = t.val / 11 % 1 ∧ win0_2.index t (0 : Fin 2) = t.val / 11 ∧ win0_2.index t (1 : Fin 2) = t.val / 11 % 1 :=
  (by decide +kernel : ∀ t : Fin grid0.N, _)

theorem blk0 (c : Dev nD) (t : Fin cfg0.N) (i j : ℕ) (hi : i < 384) (hj : j < 768) :
    at2 (iblk m c 0 t : S384x768.Idx → EReal) i j = at2 (m ((c : Thread nD τ).loc main_arg0)) ((t.val % 11) * 384 + i) ((t.val / 11) * 768 + j) := by
  obtain ⟨a0, a1, b0, b1, o2_0, o2_1⟩ := places t
  refine (at2_val _ (⟨i, hi⟩ : Fin 384) (⟨j, hj⟩ : Fin 768)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 768 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 11) * 384 + i) ((t.val / 11 % 1) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S768x1024 .f32) (x : Vec Ideal S384x768 .bf16) (y : Vec Ideal S384x1024 .f32) (j : S768x1024.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 768) (K := 384) (N := 1024) _ _ _ _ _ j).trans ?_
  rw [constant_apply, zero_word, zero_add]
  rfl

theorem start (j : S768x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S768x1024.Idx) :
    ∑ k ∈ Finset.range 384, at2 (iblk m c 0 t : S384x768.Idx → EReal) (k) ((j 0).val) * at2 (iblk m c 1 t : S384x1024.Idx → EReal) (k) ((j 1).val)
      = ∑ k ∈ Finset.range 384, at2 (m ((c : Thread nD τ).loc main_arg0)) ((t.val % 11) * 384 + k) ((t.val / 11) * 768 + (j 0).val) * at2 (m ((c : Thread nD τ).loc main_arg1)) ((t.val % 11) * 384 + k) ((t.val / 11 % 1) * 1024 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S768x1024.Idx),
    (outsAt0 m c (11 * q + s) h).2 j = part m c ((s + 1) * 384) (q / 1 * 768 + (j 0).val) (q % 1 * 1024 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 1 = q % 1 by omega, show (11 * q + 0) / 11 = q / 1 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 1 = q % 1 by omega, show (11 * q + (s + 1)) / 11 = q / 1 by omega, show (11 * q + (s + 1)) % 11 = s + 1 by omega]
    exact sum_next (fun k => at2 (m ((c : Thread nD τ).loc main_arg0)) (k) (q / 1 * 768 + (j 0).val) * at2 (m ((c : Thread nD τ).loc main_arg1)) (k) (q % 1 * 1024 + (j 1).val)) (s + 1) 384

/-- The whole product at a point that completes a block. -/
theorem whole (c : Dev nD) (t : Fin cfg0.N) (h1 : t.val % 11 = 10) (j : S768x1024.Idx) :
    k0_pay2 (outsAt0 m c (t.val - 1) (Nat.lt_of_le_of_lt (Nat.sub_le _ _) t.isLt)).2 (iblk m c 0 t) (iblk m c 1 t) j = part m c 4224 (t.val / 11 * 768 + (j 0).val) ((t.val / 11 % 1) * 1024 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 1 * 768 + (j 0).val) (t.val / 11 % 1 * 1024 + (j 1).val) := by
    intro n hn hh; subst hh; exact acc m c 9 (t.val / 11) (by omega) hn j
  rw [step, e2 _ _ (by omega), block, h1, show t.val / 11 / 1 = t.val / 11 by omega]
  exact sum_next (fun k => at2 (m ((c : Thread nD τ).loc main_arg0)) (k) (t.val / 11 * 768 + (j 0).val) * at2 (m ((c : Thread nD τ).loc main_arg1)) (k) (t.val / 11 % 1 * 1024 + (j 1).val)) 10 384

/-- What entry `(i, j)` of the result is. -/
def entry (c : Dev nD) (i j : ℕ) : EReal :=
  part m c 4224 i j

theorem out (c : Dev nD) (t : Fin cfg0.N) (h1 : t.val % 11 = 10) (j : S768x1024.Idx) :
    (outsAt0 m c t.val t.isLt).1 j = entry m c (t.val / 11 * 768 + (j 0).val) ((t.val / 11 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S1536x1024.Idx) :
    i ∈ ((cfg0.win 2).blk t).view.set ↔ ∀ a : Fin 2, win0_2.index t a * S768x1024.size a ≤ (i a).val ∧ (i a).val < win0_2.index t a * S768x1024.size a + S768x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 768 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 1536 := (i 0).isLt
    have h1 : (i 1).val < 1024 := (i 1).isLt
    have hN : cfg0.N = 22 := N_0
    refine ⟨⟨((i 0).val / 768 * 1 + (i 1).val / 1024) * 11 + 10, by omega⟩, ?_, ?_⟩
    · exact (flush0_2 _).mpr (by dsimp only; omega)
    · rw [mem_block]
      obtain ⟨a0, a1, b0, b1, o2_0, o2_1⟩ := places ⟨((i 0).val / 768 * 1 + (i 1).val / 1024) * 11 + 10, by omega⟩
      dsimp only at o2_0 o2_1
      intro a
      match a with
      | ⟨0, _⟩ => show win0_2.index _ (0 : Fin 2) * 768 ≤ (i 0).val ∧ (i 0).val < win0_2.index _ (0 : Fin 2) * 768 + 768; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGoutIdeal.Entries

namespace Cert.RGoutIdeal.Entries

open Cert.RGoutIdeal Cert.RGoutIdeal.Gen Idealize.ShloMosaic Idealize.ShloMosaic.ValueIdx Cert.Products
open scoped BigOperators

/-- The reference's product at an index. -/
theorem product (x : FVec Ideal S4224x1536 .bf16) (y : FVec Ideal S4224x1024 .f32) (i : S1536x1024.Idx) :
    (transpose S1536x1024 [1, 0] (Host.dotGeneral dot_S4224x1024_S4224x1536_S1024x1536_0_0_1_1_n_n none y (extf .f32 x bitsLt_bf16_f32)) transposes_S1024x1536_S1536x1024_1_0 : FVec Ideal S1536x1024 .f32) i = ∑ k ∈ Finset.range 4224, at2 x k (i 0).val * at2 y k (i 1).val := by
  refine (swap _ _ i).trans ?_
  refine (host_tn (M := 1024) (K := 4224) (N := 1536) _ _ _ _ _ (ix2 (i 1) (i 0))).trans ?_
  exact Finset.sum_congr rfl fun k _ => mul_comm _ _

/-- The reference's result at an index. -/
theorem value (x : FVec Ideal S4224x1536 .bf16) (y : FVec Ideal S4224x1024 .f32) (i : S1536x1024.Idx) :
    (transpose S1536x1024 [1, 0] (Host.dotGeneral dot_S4224x1024_S4224x1536_S1024x1536_0_0_1_1_n_n none y (extf .f32 x bitsLt_bf16_f32)) transposes_S1024x1536_S1536x1024_1_0 : FVec Ideal S1536x1024 .f32) i = ∑ k ∈ Finset.range 4224, at2 x k (i 0).val * at2 y k (i 1).val := by
  exact product x y i

end Cert.RGoutIdeal.Entries

namespace Cert.Proof

open Idealize.ShloMosaic Idealize.SL.Sem Idealize.ShloMosaic.TcCoe

attribute [local instance] Cert.KGoutIdeal.Gen.facts Cert.RGoutIdeal.Gen.facts

/-- The call and its reference leave the same results. -/
theorem algebraic_Gout : Cert.algebraic_KGoutIdeal_RGoutIdeal := by
  intro m ρ m' ρ' _ hag
  refine ⟨fun c => Cert.KGoutIdeal.Entries.result m c, Cert.KGoutIdeal.Entries.run m ρ, (θ_run _ _ _).mono (fun r h c => ⟨(h c).1.trans ?_, (h c).2⟩) (Cert.RGoutIdeal.Value.run (F := Ideal) m' ρ')⟩
  · obtain ⟨h0, h1⟩ := hag c
    rw [h0, h1]
    exact funext fun i => Cert.RGoutIdeal.Entries.value _ _ i

/-- The reference ends with its arguments as they were. -/
theorem frame_RGout : Cert.quiescent_RGoutIdeal := fun m ρ _ =>
  (θ_run Cert.RGoutIdeal.defs _ _).mono (fun r h => ⟨fun c => (h c).2, sem_eq_zero_of_no_sems (by decide) r.2⟩) (Cert.RGoutIdeal.Value.run (F := Ideal) m ρ)

end Cert.Proof

end
-- ==== Proof.DuqValue.lean ====
/-
  The gradient of the normalised query latent: what the call leaves, entry by entry, over the extended reals.
-/
module

public import proofs.«01_k».proof.Proof.Products
public import proofs.«01_k».proof.Proof.Gen.KDuqIdeal.Value
public import proofs.«01_k».proof.Proof.Gen.RDuqIdeal.Run
public import proofs.«01_k».proof.Defs

@[expose] public section

noncomputable section

namespace Cert.KDuqIdeal.Entries

open Cert.KDuqIdeal Cert.KDuqIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay2 k0_pay1 (iblk m c 0 t) (iblk m c 1 t) := by
  unfold outsAt0 out0_A_2
  rw [View.read_writes_eq_canon _ _ _ (fun _ => cover0_A_2 ..)]
  unfold kernelRun0_A
  dsimp only
  sl_unfold_words
  rw [View.canon_unit_zero (S := S1408x384) origin]
  simp only [View.readAt_eq_ld, (hs0_0 t).read_unread, (hs0_1 t).read_unread, (Memref.isWhole_whole _).read_unread, View.ld_unit_zero (S := S1408x384) origin, View.ld_unit_zero (S := S1408x1024) origin, View.ld_unit_zero (S := S384x1024) origin, View.readCov_unit_zero (S := S1408x384) _ origin, View.readCov_cons_unit_lit' (S := S1408x384) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 1 ∧ win0_0.index t (1 : Fin 2) = 0 ∧ win0_1.index t (0 : Fin 2) = t.val % 1 ∧ win0_1.index t (1 : Fin 2) = 0 ∧ win0_2.index t (0 : Fin 2) = t.val / 1 ∧ win0_2.index t (1 : Fin 2) = t.val % 1 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 1) * 1408 + i) ((0) * 1024 + j) := by
  obtain ⟨a0, a1, b0, b1, o2_0, o2_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 1) * 384 + i) ((0) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S1408x384 .f32) (x : Vec Ideal S1408x1024 .bf16) (y : Vec Ideal S384x1024 .bf16) (j : S1408x384.Idx) :
    k0_pay2 v x y j = v j + ∑ k ∈ Finset.range 1024, at2 x ((j 0).val) (k) * at2 y ((j 1).val) (k) := by
  unfold k0_pay2
  dsimp only
  rw [shapeCast_self, addf_apply]
  refine congrArg (v j + ·) ?_
  refine (mm_nt (M := 1408) (K := 1024) (N := 384) _ _ _ _ _ j).trans ?_
  rw [constant_apply, zero_word, zero_add]

theorem start (j : S1408x384.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x384.Idx) :
    ∑ k ∈ Finset.range 1024, at2 (iblk m c 0 t : S1408x1024.Idx → EReal) ((j 0).val) (k) * at2 (iblk m c 1 t : S384x1024.Idx → EReal) ((j 1).val) (k)
      = ∑ k ∈ Finset.range 1024, at2 (m ((c : Thread nD τ).loc main_arg0)) ((t.val / 1) * 1408 + (j 0).val) ((0) * 1024 + k) * at2 (m ((c : Thread nD τ).loc main_arg1)) ((t.val % 1) * 384 + (j 1).val) ((0) * 1024 + k) := by
  refine Finset.sum_congr rfl fun k hk => ?_
  have hk := Finset.mem_range.mp hk
  rw [blk0 m c t _ _ (j 0).isLt hk, blk1 m c t _ _ (j 1).isLt hk]

/-- The whole product at a point that completes a block. -/
theorem whole (c : Dev nD) (t : Fin cfg0.N) (j : S1408x384.Idx) :
    k0_pay2 k0_pay1 (iblk m c 0 t) (iblk m c 1 t) j = part m c 1024 (t.val / 1 * 1408 + (j 0).val) ((t.val % 1) * 384 + (j 1).val) := by
  rw [step, start, zero_add, block]
  unfold part
  simp only [Nat.zero_mul, Nat.zero_add]

/-- What entry `(i, j)` of the result is. -/
def entry (c : Dev nD) (i j : ℕ) : EReal :=
  part m c 1024 i j

theorem out (c : Dev nD) (t : Fin cfg0.N) (j : S1408x384.Idx) :
    (outsAt0 m c t) j = entry m c (t.val / 1 * 1408 + (j 0).val) ((t.val % 1) * 384 + (j 1).val) := by
  have key := whole m c t j
  rw [out_A]
  exact key

/-- The array that the call writes: every entry. -/
def result (c : Dev nD) : Buf (Elt Ideal) ((c : Thread nD τ).loc main_v0) := fun i => entry m c (i 0).val (i 1).val

theorem mem_block (t : Fin cfg0.N) (i : S4224x384.Idx) :
    i ∈ ((cfg0.win 2).blk t).view.set ↔ ∀ a : Fin 2, win0_2.index t a * S1408x384.size a ≤ (i a).val ∧ (i a).val < win0_2.index t a * S1408x384.size a + S1408x384.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 384 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 384 := (i 1).isLt
    have hN : cfg0.N = 3 := N_0
    refine ⟨⟨((i 0).val / 1408 * 1 + (i 1).val / 384) * 1 + 0, by omega⟩, ?_, ?_⟩
    · exact flush0_2 _
    · rw [mem_block]
      obtain ⟨a0, a1, b0, b1, o2_0, o2_1⟩ := places ⟨((i 0).val / 1408 * 1 + (i 1).val / 384) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 384 ≤ (i 1).val ∧ (i 1).val < win0_2.index _ (1 : Fin 2) * 384 + 384; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KDuqIdeal.Entries

namespace Cert.RDuqIdeal.Entries

open Cert.RDuqIdeal Cert.RDuqIdeal.Gen Idealize.ShloMosaic Idealize.ShloMosaic.ValueIdx Cert.Products
open scoped BigOperators

/-- The reference's product at an index. -/
theorem product (x : FVec Ideal S4224x1024 .bf16) (y : FVec Ideal S384x1024 .bf16) (i : S4224x384.Idx) :
    (Host.dotGeneral dot_S4224x1024_S384x1024_S4224x384_1_1_0_0_n_n none (extf .f32 x bitsLt_bf16_f32) (extf .f32 y bitsLt_bf16_f32) : FVec Ideal S4224x384 .f32) i = ∑ k ∈ Finset.range 1024, at2 x (i 0).val k * at2 y (i 1).val k :=
  host_nt (M := 4224) (K := 1024) (N := 384) _ _ _ _ _ i

/-- The reference's result at an index. -/
theorem value (x : FVec Ideal S4224x1024 .bf16) (y : FVec Ideal S384x1024 .bf16) (i : S4224x384.Idx) :
    (Host.dotGeneral dot_S4224x1024_S384x1024_S4224x384_1_1_0_0_n_n none (extf .f32 x bitsLt_bf16_f32) (extf .f32 y bitsLt_bf16_f32) : FVec Ideal S4224x384 .f32) i = ∑ k ∈ Finset.range 1024, at2 x (i 0).val k * at2 y (i 1).val k := by
  exact product x y i

end Cert.RDuqIdeal.Entries

namespace Cert.Proof

open Idealize.ShloMosaic Idealize.SL.Sem Idealize.ShloMosaic.TcCoe

attribute [local instance] Cert.KDuqIdeal.Gen.facts Cert.RDuqIdeal.Gen.facts

/-- The call and its reference leave the same results. -/
theorem algebraic_Duq : Cert.algebraic_KDuqIdeal_RDuqIdeal := by
  intro m ρ m' ρ' _ hag
  refine ⟨fun c => Cert.KDuqIdeal.Entries.result m c, Cert.KDuqIdeal.Entries.run m ρ, (θ_run _ _ _).mono (fun r h c => ⟨(h c).1.trans ?_, (h c).2⟩) (Cert.RDuqIdeal.Value.run (F := Ideal) m' ρ')⟩
  · obtain ⟨h0, h1⟩ := hag c
    rw [h0, h1]
    exact funext fun i => Cert.RDuqIdeal.Entries.value _ _ i

/-- The reference ends with its arguments as they were. -/
theorem frame_RDuq : Cert.quiescent_RDuqIdeal := fun m ρ _ =>
  (θ_run Cert.RDuqIdeal.defs _ _).mono (fun r h => ⟨fun c => (h c).2, sem_eq_zero_of_no_sems (by decide) r.2⟩) (Cert.RDuqIdeal.Value.run (F := Ideal) m ρ)

end Cert.Proof

end
-- ==== Proof.GuqValue.lean ====
/-
  The gradient of the query up-projection's weight: what the call leaves, entry by entry, over the extended reals.
-/
module

public import proofs.«01_k».proof.Proof.Products
public import proofs.«01_k».proof.Proof.Gen.KGuqIdeal.Value
public import proofs.«01_k».proof.Proof.Gen.RGuqIdeal.Run
public import proofs.«01_k».proof.Defs

@[expose] public section

noncomputable section

namespace Cert.KGuqIdeal.Entries

open Cert.KGuqIdeal Cert.KGuqIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S384x1024) origin]
  simp only [View.readAt_eq_ld, (hs0_0 t).read_unread, (hs0_1 t).read_unread, (Memref.isWhole_whole _).read_unread, View.ld_unit_zero (S := S384x1024) origin, View.ld_unit_zero (S := S384x384) origin, View.ld_unit_zero (S := S384x1024) origin, View.readCov_unit_zero (S := S384x1024) _ origin, View.readCov_cons_unit_lit' (S := S384x1024) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S384x1024) origin]
  simp only [View.readAt_eq_ld, (hs0_0 t).read_unread, (hs0_1 t).read_unread, (Memref.isWhole_whole _).read_unread, View.ld_unit_zero (S := S384x1024) origin, View.ld_unit_zero (S := S384x384) origin, View.ld_unit_zero (S := S384x1024) origin, View.readCov_unit_zero (S := S384x1024) _ origin, View.readCov_cons_unit_lit' (S := S384x1024) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S384x1024) origin]
  simp only [View.readAt_eq_ld, (hs0_0 t).read_unread, (hs0_1 t).read_unread, (Memref.isWhole_whole _).read_unread, View.ld_unit_zero (S := S384x1024) origin, View.ld_unit_zero (S := S384x384) origin, View.ld_unit_zero (S := S384x1024) origin, View.readCov_unit_zero (S := S384x1024) _ origin, View.readCov_cons_unit_lit' (S := S384x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 11 ∧ win0_1.index t (0 : Fin 2) = t.val % 11 ∧ win0_1.index t (1 : Fin 2) = t.val / 11 % 1 ∧ win0_2.index t (0 : Fin 2) = t.val / 11 ∧ win0_2.index t (1 : Fin 2) = t.val / 11 % 1 :=
  (by decide +kernel : ∀ t : Fin grid0.N, _)

theorem blk0 (c : Dev nD) (t : Fin cfg0.N) (i j : ℕ) (hi : i < 384) (hj : j < 384) :
    at2 (iblk m c 0 t : S384x384.Idx → EReal) i j = at2 (m ((c : Thread nD τ).loc main_arg0)) ((t.val % 11) * 384 + i) ((t.val / 11) * 384 + j) := by
  obtain ⟨a0, a1, b0, b1, o2_0, o2_1⟩ := places t
  refine (at2_val _ (⟨i, hi⟩ : Fin 384) (⟨j, hj⟩ : Fin 384)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 384 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 11) * 384 + i) ((t.val / 11 % 1) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S384x1024 .f32) (x : Vec Ideal S384x384 .bf16) (y : Vec Ideal S384x1024 .bf16) (j : S384x1024.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 384) (K := 384) (N := 1024) _ _ _ _ _ j).trans ?_
  rw [constant_apply, zero_word, zero_add]

theorem start (j : S384x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S384x1024.Idx) :
    ∑ k ∈ Finset.range 384, at2 (iblk m c 0 t : S384x384.Idx → EReal) (k) ((j 0).val) * at2 (iblk m c 1 t : S384x1024.Idx → EReal) (k) ((j 1).val)
      = ∑ k ∈ Finset.range 384, at2 (m ((c : Thread nD τ).loc main_arg0)) ((t.val % 11) * 384 + k) ((t.val / 11) * 384 + (j 0).val) * at2 (m ((c : Thread nD τ).loc main_arg1)) ((t.val % 11) * 384 + k) ((t.val / 11 % 1) * 1024 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S384x1024.Idx),
    (outsAt0 m c (11 * q + s) h).2 j = part m c ((s + 1) * 384) (q / 1 * 384 + (j 0).val) (q % 1 * 1024 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 1 = q % 1 by omega, show (11 * q + 0) / 11 = q / 1 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 1 = q % 1 by omega, show (11 * q + (s + 1)) / 11 = q / 1 by omega, show (11 * q + (s + 1)) % 11 = s + 1 by omega]
    exact sum_next (fun k => at2 (m ((c : Thread nD τ).loc main_arg0)) (k) (q / 1 * 384 + (j 0).val) * at2 (m ((c : Thread nD τ).loc main_arg1)) (k) (q % 1 * 1024 + (j 1).val)) (s + 1) 384

/-- The whole product at a point that completes a block. -/
theorem whole (c : Dev nD) (t : Fin cfg0.N) (h1 : t.val % 11 = 10) (j : S384x1024.Idx) :
    k0_pay2 (outsAt0 m c (t.val - 1) (Nat.lt_of_le_of_lt (Nat.sub_le _ _) t.isLt)).2 (iblk m c 0 t) (iblk m c 1 t) j = part m c 4224 (t.val / 11 * 384 + (j 0).val) ((t.val / 11 % 1) * 1024 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 1 * 384 + (j 0).val) (t.val / 11 % 1 * 1024 + (j 1).val) := by
    intro n hn hh; subst hh; exact acc m c 9 (t.val / 11) (by omega) hn j
  rw [step, e2 _ _ (by omega), block, h1, show t.val / 11 / 1 = t.val / 11 by omega]
  exact sum_next (fun k => at2 (m ((c : Thread nD τ).loc main_arg0)) (k) (t.val / 11 * 384 + (j 0).val) * at2 (m ((c : Thread nD τ).loc main_arg1)) (k) (t.val / 11 % 1 * 1024 + (j 1).val)) 10 384

/-- What entry `(i, j)` of the result is. -/
def entry (c : Dev nD) (i j : ℕ) : EReal :=
  part m c 4224 i j

theorem out (c : Dev nD) (t : Fin cfg0.N) (h1 : t.val % 11 = 10) (j : S384x1024.Idx) :
    (outsAt0 m c t.val t.isLt).1 j = entry m c (t.val / 11 * 384 + (j 0).val) ((t.val / 11 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S384x1024.Idx) :
    i ∈ ((cfg0.win 2).blk t).view.set ↔ ∀ a : Fin 2, win0_2.index t a * S384x1024.size a ≤ (i a).val ∧ (i a).val < win0_2.index t a * S384x1024.size a + S384x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 384 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 384 := (i 0).isLt
    have h1 : (i 1).val < 1024 := (i 1).isLt
    have hN : cfg0.N = 11 := N_0
    refine ⟨⟨((i 0).val / 384 * 1 + (i 1).val / 1024) * 11 + 10, by omega⟩, ?_, ?_⟩
    · exact (flush0_2 _).mpr (by dsimp only; omega)
    · rw [mem_block]
      obtain ⟨a0, a1, b0, b1, o2_0, o2_1⟩ := places ⟨((i 0).val / 384 * 1 + (i 1).val / 1024) * 11 + 10, by omega⟩
      dsimp only at o2_0 o2_1
      intro a
      match a with
      | ⟨0, _⟩ => show win0_2.index _ (0 : Fin 2) * 384 ≤ (i 0).val ∧ (i 0).val < win0_2.index _ (0 : Fin 2) * 384 + 384; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGuqIdeal.Entries

namespace Cert.RGuqIdeal.Entries

open Cert.RGuqIdeal Cert.RGuqIdeal.Gen Idealize.ShloMosaic Idealize.ShloMosaic.ValueIdx Cert.Products
open scoped BigOperators

/-- The reference's product at an index. -/
theorem product (x : FVec Ideal S4224x384 .bf16) (y : FVec Ideal S4224x1024 .bf16) (i : S384x1024.Idx) :
    (transpose S384x1024 [1, 0] (Host.dotGeneral dot_S4224x1024_S4224x384_S1024x384_0_0_1_1_n_n none (extf .f32 y bitsLt_bf16_f32) (extf .f32 x bitsLt_bf16_f32)) transposes_S1024x384_S384x1024_1_0 : FVec Ideal S384x1024 .f32) i = ∑ k ∈ Finset.range 4224, at2 x k (i 0).val * at2 y k (i 1).val := by
  refine (swap _ _ i).trans ?_
  refine (host_tn (M := 1024) (K := 4224) (N := 384) _ _ _ _ _ (ix2 (i 1) (i 0))).trans ?_
  exact Finset.sum_congr rfl fun k _ => mul_comm _ _

/-- The reference's result at an index. -/
theorem value (x : FVec Ideal S4224x384 .bf16) (y : FVec Ideal S4224x1024 .bf16) (i : S384x1024.Idx) :
    (transpose S384x1024 [1, 0] (Host.dotGeneral dot_S4224x1024_S4224x384_S1024x384_0_0_1_1_n_n none (extf .f32 y bitsLt_bf16_f32) (extf .f32 x bitsLt_bf16_f32)) transposes_S1024x384_S384x1024_1_0 : FVec Ideal S384x1024 .f32) i = ∑ k ∈ Finset.range 4224, at2 x k (i 0).val * at2 y k (i 1).val := by
  exact product x y i

end Cert.RGuqIdeal.Entries

namespace Cert.Proof

open Idealize.ShloMosaic Idealize.SL.Sem Idealize.ShloMosaic.TcCoe

attribute [local instance] Cert.KGuqIdeal.Gen.facts Cert.RGuqIdeal.Gen.facts

/-- The call and its reference leave the same results. -/
theorem algebraic_Guq : Cert.algebraic_KGuqIdeal_RGuqIdeal := by
  intro m ρ m' ρ' _ hag
  refine ⟨fun c => Cert.KGuqIdeal.Entries.result m c, Cert.KGuqIdeal.Entries.run m ρ, (θ_run _ _ _).mono (fun r h c => ⟨(h c).1.trans ?_, (h c).2⟩) (Cert.RGuqIdeal.Value.run (F := Ideal) m' ρ')⟩
  · obtain ⟨h0, h1⟩ := hag c
    rw [h0, h1]
    exact funext fun i => Cert.RGuqIdeal.Entries.value _ _ i

/-- The reference ends with its arguments as they were. -/
theorem frame_RGuq : Cert.quiescent_RGuqIdeal := fun m ρ _ =>
  (θ_run Cert.RGuqIdeal.defs _ _).mono (fun r h => ⟨fun c => (h c).2, sem_eq_zero_of_no_sems (by decide) r.2⟩) (Cert.RGuqIdeal.Value.run (F := Ideal) m ρ)

end Cert.Proof

end
-- ==== Proof.DukvValue.lean ====
/-
  The gradient of the normalised key-value latent: what the call leaves, entry by entry, over the extended reals.
-/
module

public import proofs.«01_k».proof.Proof.Products
public import proofs.«01_k».proof.Proof.Gen.KDukvIdeal.Value
public import proofs.«01_k».proof.Proof.Gen.RDukvIdeal.Run
public import proofs.«01_k».proof.Defs

@[expose] public section

noncomputable section

namespace Cert.KDukvIdeal.Entries

open Cert.KDukvIdeal Cert.KDukvIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay2 k0_pay1 (iblk m c 0 t) (iblk m c 1 t) := by
  unfold outsAt0 out0_A_2
  rw [View.read_writes_eq_canon _ _ _ (fun _ => cover0_A_2 ..)]
  unfold kernelRun0_A
  dsimp only
  sl_unfold_words
  rw [View.canon_unit_zero (S := S1408x256) origin]
  simp only [View.readAt_eq_ld, (hs0_0 t).read_unread, (hs0_1 t).read_unread, (Memref.isWhole_whole _).read_unread, View.ld_unit_zero (S := S1408x256) origin, View.ld_unit_zero (S := S1408x1024) origin, View.ld_unit_zero (S := S256x1024) origin, View.readCov_unit_zero (S := S1408x256) _ origin, View.readCov_cons_unit_lit' (S := S1408x256) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 1 ∧ win0_0.index t (1 : Fin 2) = 0 ∧ win0_1.index t (0 : Fin 2) = t.val % 1 ∧ win0_1.index t (1 : Fin 2) = 0 ∧ win0_2.index t (0 : Fin 2) = t.val / 1 ∧ win0_2.index t (1 : Fin 2) = t.val % 1 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 1) * 1408 + i) ((0) * 1024 + j) := by
  obtain ⟨a0, a1, b0, b1, o2_0, o2_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 256) (hj : j < 1024) :
    at2 (iblk m c 1 t : S256x1024.Idx → EReal) i j = at2 (m ((c : Thread nD τ).loc main_arg1)) ((t.val % 1) * 256 + i) ((0) * 1024 + j) := by
  obtain ⟨a0, a1, b0, b1, o2_0, o2_1⟩ := places t
  refine (at2_val _ (⟨i, hi⟩ : Fin 256) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 256 + 1 * i = _; rw [b0]; omega
  · show win0_1.index t (1 : Fin 2) * 1024 + 1 * j = _; rw [b1]; omega

/-- One step of the accumulation. -/
theorem step (v : Vec Ideal S1408x256 .f32) (x : Vec Ideal S1408x1024 .bf16) (y : Vec Ideal S256x1024 .bf16) (j : S1408x256.Idx) :
    k0_pay2 v x y j = v j + ∑ k ∈ Finset.range 1024, at2 x ((j 0).val) (k) * at2 y ((j 1).val) (k) := by
  unfold k0_pay2
  dsimp only
  rw [shapeCast_self, addf_apply]
  refine congrArg (v j + ·) ?_
  refine (mm_nt (M := 1408) (K := 1024) (N := 256) _ _ _ _ _ j).trans ?_
  rw [constant_apply, zero_word, zero_add]

theorem start (j : S1408x256.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x256.Idx) :
    ∑ k ∈ Finset.range 1024, at2 (iblk m c 0 t : S1408x1024.Idx → EReal) ((j 0).val) (k) * at2 (iblk m c 1 t : S256x1024.Idx → EReal) ((j 1).val) (k)
      = ∑ k ∈ Finset.range 1024, at2 (m ((c : Thread nD τ).loc main_arg0)) ((t.val / 1) * 1408 + (j 0).val) ((0) * 1024 + k) * at2 (m ((c : Thread nD τ).loc main_arg1)) ((t.val % 1) * 256 + (j 1).val) ((0) * 1024 + k) := by
  refine Finset.sum_congr rfl fun k hk => ?_
  have hk := Finset.mem_range.mp hk
  rw [blk0 m c t _ _ (j 0).isLt hk, blk1 m c t _ _ (j 1).isLt hk]

/-- The whole product at a point that completes a block. -/
theorem whole (c : Dev nD) (t : Fin cfg0.N) (j : S1408x256.Idx) :
    k0_pay2 k0_pay1 (iblk m c 0 t) (iblk m c 1 t) j = part m c 1024 (t.val / 1 * 1408 + (j 0).val) ((t.val % 1) * 256 + (j 1).val) := by
  rw [step, start, zero_add, block]
  unfold part
  simp only [Nat.zero_mul, Nat.zero_add]

/-- What entry `(i, j)` of the result is. -/
def entry (c : Dev nD) (i j : ℕ) : EReal :=
  part m c 1024 i j

theorem out (c : Dev nD) (t : Fin cfg0.N) (j : S1408x256.Idx) :
    (outsAt0 m c t) j = entry m c (t.val / 1 * 1408 + (j 0).val) ((t.val % 1) * 256 + (j 1).val) := by
  have key := whole m c t j
  rw [out_A]
  exact key

/-- The array that the call writes: every entry. -/
def result (c : Dev nD) : Buf (Elt Ideal) ((c : Thread nD τ).loc main_v0) := fun i => entry m c (i 0).val (i 1).val

theorem mem_block (t : Fin cfg0.N) (i : S4224x256.Idx) :
    i ∈ ((cfg0.win 2).blk t).view.set ↔ ∀ a : Fin 2, win0_2.index t a * S1408x256.size a ≤ (i a).val ∧ (i a).val < win0_2.index t a * S1408x256.size a + S1408x256.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 256 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 256 := (i 1).isLt
    have hN : cfg0.N = 3 := N_0
    refine ⟨⟨((i 0).val / 1408 * 1 + (i 1).val / 256) * 1 + 0, by omega⟩, ?_, ?_⟩
    · exact flush0_2 _
    · rw [mem_block]
      obtain ⟨a0, a1, b0, b1, o2_0, o2_1⟩ := places ⟨((i 0).val / 1408 * 1 + (i 1).val / 256) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 256 ≤ (i 1).val ∧ (i 1).val < win0_2.index _ (1 : Fin 2) * 256 + 256; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KDukvIdeal.Entries

namespace Cert.RDukvIdeal.Entries

open Cert.RDukvIdeal Cert.RDukvIdeal.Gen Idealize.ShloMosaic Idealize.ShloMosaic.ValueIdx Cert.Products
open scoped BigOperators

/-- The reference's product at an index. -/
theorem product (x : FVec Ideal S4224x1024 .bf16) (y : FVec Ideal S256x1024 .bf16) (i : S4224x256.Idx) :
    (Host.dotGeneral dot_S4224x1024_S256x1024_S4224x256_1_1_0_0_n_n none (extf .f32 x bitsLt_bf16_f32) (extf .f32 y bitsLt_bf16_f32) : FVec Ideal S4224x256 .f32) i = ∑ k ∈ Finset.range 1024, at2 x (i 0).val k * at2 y (i 1).val k :=
  host_nt (M := 4224) (K := 1024) (N := 256) _ _ _ _ _ i

/-- The reference's result at an index. -/
theorem value (x : FVec Ideal S4224x1024 .bf16) (y : FVec Ideal S256x1024 .bf16) (i : S4224x256.Idx) :
    (Host.dotGeneral dot_S4224x1024_S256x1024_S4224x256_1_1_0_0_n_n none (extf .f32 x bitsLt_bf16_f32) (extf .f32 y bitsLt_bf16_f32) : FVec Ideal S4224x256 .f32) i = ∑ k ∈ Finset.range 1024, at2 x (i 0).val k * at2 y (i 1).val k := by
  exact product x y i

end Cert.RDukvIdeal.Entries

namespace Cert.Proof

open Idealize.ShloMosaic Idealize.SL.Sem Idealize.ShloMosaic.TcCoe

attribute [local instance] Cert.KDukvIdeal.Gen.facts Cert.RDukvIdeal.Gen.facts

/-- The call and its reference leave the same results. -/
theorem algebraic_Dukv : Cert.algebraic_KDukvIdeal_RDukvIdeal := by
  intro m ρ m' ρ' _ hag
  refine ⟨fun c => Cert.KDukvIdeal.Entries.result m c, Cert.KDukvIdeal.Entries.run m ρ, (θ_run _ _ _).mono (fun r h c => ⟨(h c).1.trans ?_, (h c).2⟩) (Cert.RDukvIdeal.Value.run (F := Ideal) m' ρ')⟩
  · obtain ⟨h0, h1⟩ := hag c
    rw [h0, h1]
    exact funext fun i => Cert.RDukvIdeal.Entries.value _ _ i

/-- The reference ends with its arguments as they were. -/
theorem frame_RDukv : Cert.quiescent_RDukvIdeal := fun m ρ _ =>
  (θ_run Cert.RDukvIdeal.defs _ _).mono (fun r h => ⟨fun c => (h c).2, sem_eq_zero_of_no_sems (by decide) r.2⟩) (Cert.RDukvIdeal.Value.run (F := Ideal) m ρ)

end Cert.Proof

end
-- ==== Proof.GukvValue.lean ====
/-
  The gradient of the key-value up-projection's weight: what the call leaves, entry by entry, over the extended reals.
-/
module

public import proofs.«01_k».proof.Proof.Products
public import proofs.«01_k».proof.Proof.Gen.KGukvIdeal.Value
public import proofs.«01_k».proof.Proof.Gen.RGukvIdeal.Run
public import proofs.«01_k».proof.Defs

@[expose] public section

noncomputable section

namespace Cert.KGukvIdeal.Entries

open Cert.KGukvIdeal Cert.KGukvIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S256x1024) origin]
  simp only [View.readAt_eq_ld, (hs0_0 t).read_unread, (hs0_1 t).read_unread, (Memref.isWhole_whole _).read_unread, View.ld_unit_zero (S := S256x1024) origin, View.ld_unit_zero (S := S384x256) origin, View.ld_unit_zero (S := S384x1024) origin, View.readCov_unit_zero (S := S256x1024) _ origin, View.readCov_cons_unit_lit' (S := S256x1024) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S256x1024) origin]
  simp only [View.readAt_eq_ld, (hs0_0 t).read_unread, (hs0_1 t).read_unread, (Memref.isWhole_whole _).read_unread, View.ld_unit_zero (S := S256x1024) origin, View.ld_unit_zero (S := S384x256) origin, View.ld_unit_zero (S := S384x1024) origin, View.readCov_unit_zero (S := S256x1024) _ origin, View.readCov_cons_unit_lit' (S := S256x1024) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S256x1024) origin]
  simp only [View.readAt_eq_ld, (hs0_0 t).read_unread, (hs0_1 t).read_unread, (Memref.isWhole_whole _).read_unread, View.ld_unit_zero (S := S256x1024) origin, View.ld_unit_zero (S := S384x256) origin, View.ld_unit_zero (S := S384x1024) origin, View.readCov_unit_zero (S := S256x1024) _ origin, View.readCov_cons_unit_lit' (S := S256x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 11 ∧ win0_1.index t (0 : Fin 2) = t.val % 11 ∧ win0_1.index t (1 : Fin 2) = t.val / 11 % 1 ∧ win0_2.index t (0 : Fin 2) = t.val / 11 ∧ win0_2.index t (1 : Fin 2) = t.val / 11 % 1 :=
  (by decide +kernel : ∀ t : Fin grid0.N, _)

theorem blk0 (c : Dev nD) (t : Fin cfg0.N) (i j : ℕ) (hi : i < 384) (hj : j < 256) :
    at2 (iblk m c 0 t : S384x256.Idx → EReal) i j = at2 (m ((c : Thread nD τ).loc main_arg0)) ((t.val % 11) * 384 + i) ((t.val / 11) * 256 + j) := by
  obtain ⟨a0, a1, b0, b1, o2_0, o2_1⟩ := places t
  refine (at2_val _ (⟨i, hi⟩ : Fin 384) (⟨j, hj⟩ : Fin 256)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 256 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((t.val % 11) * 384 + i) ((t.val / 11 % 1) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S256x1024 .f32) (x : Vec Ideal S384x256 .bf16) (y : Vec Ideal S384x1024 .bf16) (j : S256x1024.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 256) (K := 384) (N := 1024) _ _ _ _ _ j).trans ?_
  rw [constant_apply, zero_word, zero_add]

theorem start (j : S256x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S256x1024.Idx) :
    ∑ k ∈ Finset.range 384, at2 (iblk m c 0 t : S384x256.Idx → EReal) (k) ((j 0).val) * at2 (iblk m c 1 t : S384x1024.Idx → EReal) (k) ((j 1).val)
      = ∑ k ∈ Finset.range 384, at2 (m ((c : Thread nD τ).loc main_arg0)) ((t.val % 11) * 384 + k) ((t.val / 11) * 256 + (j 0).val) * at2 (m ((c : Thread nD τ).loc main_arg1)) ((t.val % 11) * 384 + k) ((t.val / 11 % 1) * 1024 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S256x1024.Idx),
    (outsAt0 m c (11 * q + s) h).2 j = part m c ((s + 1) * 384) (q / 1 * 256 + (j 0).val) (q % 1 * 1024 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 1 = q % 1 by omega, show (11 * q + 0) / 11 = q / 1 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 1 = q % 1 by omega, show (11 * q + (s + 1)) / 11 = q / 1 by omega, show (11 * q + (s + 1)) % 11 = s + 1 by omega]
    exact sum_next (fun k => at2 (m ((c : Thread nD τ).loc main_arg0)) (k) (q / 1 * 256 + (j 0).val) * at2 (m ((c : Thread nD τ).loc main_arg1)) (k) (q % 1 * 1024 + (j 1).val)) (s + 1) 384

/-- The whole product at a point that completes a block. -/
theorem whole (c : Dev nD) (t : Fin cfg0.N) (h1 : t.val % 11 = 10) (j : S256x1024.Idx) :
    k0_pay2 (outsAt0 m c (t.val - 1) (Nat.lt_of_le_of_lt (Nat.sub_le _ _) t.isLt)).2 (iblk m c 0 t) (iblk m c 1 t) j = part m c 4224 (t.val / 11 * 256 + (j 0).val) ((t.val / 11 % 1) * 1024 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 1 * 256 + (j 0).val) (t.val / 11 % 1 * 1024 + (j 1).val) := by
    intro n hn hh; subst hh; exact acc m c 9 (t.val / 11) (by omega) hn j
  rw [step, e2 _ _ (by omega), block, h1, show t.val / 11 / 1 = t.val / 11 by omega]
  exact sum_next (fun k => at2 (m ((c : Thread nD τ).loc main_arg0)) (k) (t.val / 11 * 256 + (j 0).val) * at2 (m ((c : Thread nD τ).loc main_arg1)) (k) (t.val / 11 % 1 * 1024 + (j 1).val)) 10 384

/-- What entry `(i, j)` of the result is. -/
def entry (c : Dev nD) (i j : ℕ) : EReal :=
  part m c 4224 i j

theorem out (c : Dev nD) (t : Fin cfg0.N) (h1 : t.val % 11 = 10) (j : S256x1024.Idx) :
    (outsAt0 m c t.val t.isLt).1 j = entry m c (t.val / 11 * 256 + (j 0).val) ((t.val / 11 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S256x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 256 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 256 := (i 0).isLt
    have h1 : (i 1).val < 1024 := (i 1).isLt
    have hN : cfg0.N = 11 := N_0
    refine ⟨⟨((i 0).val / 256 * 1 + (i 1).val / 1024) * 11 + 10, by omega⟩, ?_, ?_⟩
    · exact (flush0_2 _).mpr (by dsimp only; omega)
    · rw [mem_block]
      obtain ⟨a0, a1, b0, b1, o2_0, o2_1⟩ := places ⟨((i 0).val / 256 * 1 + (i 1).val / 1024) * 11 + 10, by omega⟩
      dsimp only at o2_0 o2_1
      intro a
      match a with
      | ⟨0, _⟩ => show win0_2.index _ (0 : Fin 2) * 256 ≤ (i 0).val ∧ (i 0).val < win0_2.index _ (0 : Fin 2) * 256 + 256; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGukvIdeal.Entries

namespace Cert.RGukvIdeal.Entries

open Cert.RGukvIdeal Cert.RGukvIdeal.Gen Idealize.ShloMosaic Idealize.ShloMosaic.ValueIdx Cert.Products
open scoped BigOperators

/-- The reference's product at an index. -/
theorem product (x : FVec Ideal S4224x256 .bf16) (y : FVec Ideal S4224x1024 .bf16) (i : S256x1024.Idx) :
    (transpose S256x1024 [1, 0] (Host.dotGeneral dot_S4224x1024_S4224x256_S1024x256_0_0_1_1_n_n none (extf .f32 y bitsLt_bf16_f32) (extf .f32 x bitsLt_bf16_f32)) transposes_S1024x256_S256x1024_1_0 : FVec Ideal S256x1024 .f32) i = ∑ k ∈ Finset.range 4224, at2 x k (i 0).val * at2 y k (i 1).val := by
  refine (swap _ _ i).trans ?_
  refine (host_tn (M := 1024) (K := 4224) (N := 256) _ _ _ _ _ (ix2 (i 1) (i 0))).trans ?_
  exact Finset.sum_congr rfl fun k _ => mul_comm _ _

/-- The reference's result at an index. -/
theorem value (x : FVec Ideal S4224x256 .bf16) (y : FVec Ideal S4224x1024 .bf16) (i : S256x1024.Idx) :
    (transpose S256x1024 [1, 0] (Host.dotGeneral dot_S4224x1024_S4224x256_S1024x256_0_0_1_1_n_n none (extf .f32 y bitsLt_bf16_f32) (extf .f32 x bitsLt_bf16_f32)) transposes_S1024x256_S256x1024_1_0 : FVec Ideal S256x1024 .f32) i = ∑ k ∈ Finset.range 4224, at2 x k (i 0).val * at2 y k (i 1).val := by
  exact product x y i

end Cert.RGukvIdeal.Entries

namespace Cert.Proof

open Idealize.ShloMosaic Idealize.SL.Sem Idealize.ShloMosaic.TcCoe

attribute [local instance] Cert.KGukvIdeal.Gen.facts Cert.RGukvIdeal.Gen.facts

/-- The call and its reference leave the same results. -/
theorem algebraic_Gukv : Cert.algebraic_KGukvIdeal_RGukvIdeal := by
  intro m ρ m' ρ' _ hag
  refine ⟨fun c => Cert.KGukvIdeal.Entries.result m c, Cert.KGukvIdeal.Entries.run m ρ, (θ_run _ _ _).mono (fun r h c => ⟨(h c).1.trans ?_, (h c).2⟩) (Cert.RGukvIdeal.Value.run (F := Ideal) m' ρ')⟩
  · obtain ⟨h0, h1⟩ := hag c
    rw [h0, h1]
    exact funext fun i => Cert.RGukvIdeal.Entries.value _ _ i

/-- The reference ends with its arguments as they were. -/
theorem frame_RGukv : Cert.quiescent_RGukvIdeal := fun m ρ _ =>
  (θ_run Cert.RGukvIdeal.defs _ _).mono (fun r h => ⟨fun c => (h c).2, sem_eq_zero_of_no_sems (by decide) r.2⟩) (Cert.RGukvIdeal.Value.run (F := Ideal) m ρ)

end Cert.Proof

end
-- ==== Proof.DinValue.lean ====
/-
  The gradient of the layer's input, the residual's added: what the call leaves, entry by entry, over the extended reals.
-/
module

public import proofs.«01_k».proof.Proof.Products
public import proofs.«01_k».proof.Proof.Gen.KDinIdeal.Value
public import proofs.«01_k».proof.Proof.Gen.RDinIdeal.Run
public import proofs.«01_k».proof.Defs

@[expose] public section

noncomputable section

namespace Cert.KDinIdeal.Entries

open Cert.KDinIdeal Cert.KDinIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 5 = 0) (h1 : ¬t.val % 5 = 4) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x768) origin, View.ld_unit_zero (S := S1024x768) origin, View.readCov_unit_zero (S := S1408x1024) _ origin, View.readCov_cons_unit_lit' (S := S1408x1024) _ _ _ _ _ (congrFun origin) (congrFun origin)]

/-- The accumulator after a further block. -/
theorem acc_B (c : Dev nD) (t : Fin cfg0.N) (h0 : ¬t.val % 5 = 0) (h1 : ¬t.val % 5 = 4) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x768) origin, View.ld_unit_zero (S := S1024x768) origin, View.readCov_unit_zero (S := S1408x1024) _ origin, View.readCov_cons_unit_lit' (S := S1408x1024) _ _ _ _ _ (congrFun origin) (congrFun origin)]

/-- The output block after the last block of the contracted axis. -/
theorem out_C (c : Dev nD) (t : Fin cfg0.N) (h0 : ¬t.val % 5 = 0) (h1 : t.val % 5 = 4) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  unfold out0_C_3
  rw [View.read_writes_eq_canon _ _ _ (fun _ => cover0_C_3 ..)]
  unfold kernelRun0_C
  dsimp only
  sl_unfold_words
  rw [View.canon_unit_zero (S := S1408x1024) origin]
  simp only [View.readAt_eq_ld, (hs0_0 t).read_unread, (hs0_1 t).read_unread, (hs0_2 t).read_unread, (Memref.isWhole_whole _).read_unread, View.ld_unit_zero (S := S1408x1024) origin, View.ld_unit_zero (S := S1408x768) origin, View.ld_unit_zero (S := S1024x768) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 5 ∧ win0_0.index t (1 : Fin 2) = t.val % 5 ∧ win0_1.index t (0 : Fin 2) = t.val / 5 % 1 ∧ win0_1.index t (1 : Fin 2) = t.val % 5 ∧ win0_2.index t (0 : Fin 2) = t.val / 5 ∧ win0_2.index t (1 : Fin 2) = t.val / 5 % 1 ∧ win0_3.index t (0 : Fin 2) = t.val / 5 ∧ win0_3.index t (1 : Fin 2) = t.val / 5 % 1 :=
  (by decide +kernel : ∀ t : Fin grid0.N, _)

theorem blk0 (c : Dev nD) (t : Fin cfg0.N) (i j : ℕ) (hi : i < 1408) (hj : j < 768) :
    at2 (iblk m c 0 t : S1408x768.Idx → EReal) i j = at2 (m ((c : Thread nD τ).loc main_arg0)) ((t.val / 5) * 1408 + i) ((t.val % 5) * 768 + j) := by
  obtain ⟨a0, a1, b0, b1, e0, e1, o3_0, o3_1⟩ := places t
  refine (at2_val _ (⟨i, hi⟩ : Fin 1408) (⟨j, hj⟩ : Fin 768)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 768 + 1 * j = _; rw [a1]; omega

theorem blk1 (c : Dev nD) (t : Fin cfg0.N) (i j : ℕ) (hi : i < 1024) (hj : j < 768) :
    at2 (iblk m c 1 t : S1024x768.Idx → EReal) i j = at2 (m ((c : Thread nD τ).loc main_arg1)) ((t.val / 5 % 1) * 1024 + i) ((t.val % 5) * 768 + j) := by
  obtain ⟨a0, a1, b0, b1, e0, e1, o3_0, o3_1⟩ := places t
  refine (at2_val _ (⟨i, hi⟩ : Fin 1024) (⟨j, hj⟩ : Fin 768)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 768 + 1 * j = _; rw [b1]; omega

theorem blk2 (c : Dev nD) (t : Fin cfg0.N) (i j : ℕ) (hi : i < 1408) (hj : j < 1024) :
    at2 (iblk m c 2 t : S1408x1024.Idx → EReal) i j = at2 (m ((c : Thread nD τ).loc main_arg2)) ((t.val / 5) * 1408 + i) ((t.val / 5 % 1) * 1024 + j) := by
  obtain ⟨a0, a1, b0, b1, e0, e1, o3_0, o3_1⟩ := places t
  refine (at2_val _ (⟨i, hi⟩ : Fin 1408) (⟨j, hj⟩ : Fin 1024)).trans ?_
  unfold iblk
  rw [View.read_apply]
  show V m c main_arg2 _ = _
  unfold V
  refine at2_of (m ((c : Thread nD τ).loc main_arg2)) _ _ _ ?_ ?_
  · show win0_2.index t (0 : Fin 2) * 1408 + 1 * i = _; rw [e0]; omega
  · show win0_2.index t (1 : Fin 2) * 1024 + 1 * j = _; rw [e1]; omega

/-- One step of the accumulation. -/
theorem step (v : Vec Ideal S1408x1024 .f32) (x : Vec Ideal S1408x768 .bf16) (y : Vec Ideal S1024x768 .bf16) (j : S1408x1024.Idx) :
    k0_pay2 v x y j = v j + ∑ k ∈ Finset.range 768, at2 x ((j 0).val) (k) * at2 y ((j 1).val) (k) := by
  unfold k0_pay2
  dsimp only
  rw [shapeCast_self, addf_apply]
  refine congrArg (v j + ·) ?_
  refine (mm_nt (M := 1408) (K := 768) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (j) (k)

theorem block (c : Dev nD) (t : Fin cfg0.N) (j : S1408x1024.Idx) :
    ∑ k ∈ Finset.range 768, at2 (iblk m c 0 t : S1408x768.Idx → EReal) ((j 0).val) (k) * at2 (iblk m c 1 t : S1024x768.Idx → EReal) ((j 1).val) (k)
      = ∑ k ∈ Finset.range 768, at2 (m ((c : Thread nD τ).loc main_arg0)) ((t.val / 5) * 1408 + (j 0).val) ((t.val % 5) * 768 + k) * at2 (m ((c : Thread nD τ).loc main_arg1)) ((t.val / 5 % 1) * 1024 + (j 1).val) ((t.val % 5) * 768 + k) := by
  refine Finset.sum_congr rfl fun k hk => ?_
  have hk := Finset.mem_range.mp hk
  rw [blk0 m c t _ _ (j 0).isLt hk, blk1 m c t _ _ (j 1).isLt hk]

/-- The accumulator holds the partial product. -/
theorem acc (c : Dev nD) : ∀ (s q : ℕ) (hs : s < 4) (h : 5 * q + s < cfg0.N) (j : S1408x1024.Idx),
    (outsAt0 m c (5 * q + s) h).2 j = part m c ((s + 1) * 768) (q / 1 * 1408 + (j 0).val) (q % 1 * 1024 + (j 1).val)
  | 0, q, hs, h, j => by
    have e := acc_A m c ⟨5 * q + 0, h⟩ (by dsimp only; omega) (by dsimp only; omega)
    dsimp only at e
    rw [e, step, start, zero_add, block]
    dsimp only
    rw [show (5 * q + 0) / 5 % 1 = q % 1 by omega, show (5 * q + 0) / 5 = q / 1 by omega, show (5 * q + 0) % 5 = 0 by omega]
    unfold part
    simp only [Nat.zero_mul, Nat.zero_add, Nat.one_mul]
  | s + 1, q, hs, h, j => by
    have e := acc_B m c ⟨5 * q + (s + 1), h⟩ (by dsimp only; omega) (by dsimp only; omega)
    dsimp only at e
    have ih := acc c s q (by omega) (by omega) j
    rw [e, step, block]
    dsimp only
    have e2 : (outsAt0 m c (5 * q + (s + 1) - 1) (Nat.lt_of_le_of_lt (Nat.sub_le _ _) h)).2 j = _ := ih
    rw [e2]
    rw [show (5 * q + (s + 1)) / 5 % 1 = q % 1 by omega, show (5 * q + (s + 1)) / 5 = q / 1 by omega, show (5 * q + (s + 1)) % 5 = s + 1 by omega]
    exact sum_next (fun k => at2 (m ((c : Thread nD τ).loc main_arg0)) (q / 1 * 1408 + (j 0).val) (k) * at2 (m ((c : Thread nD τ).loc main_arg1)) (q % 1 * 1024 + (j 1).val) (k)) (s + 1) 768

/-- The whole product at a point that completes a block. -/
theorem whole (c : Dev nD) (t : Fin cfg0.N) (h1 : t.val % 5 = 4) (j : S1408x1024.Idx) :
    k0_pay2 (outsAt0 m c (t.val - 1) (Nat.lt_of_le_of_lt (Nat.sub_le _ _) t.isLt)).2 (iblk m c 0 t) (iblk m c 1 t) j = part m c 3840 (t.val / 5 * 1408 + (j 0).val) ((t.val / 5 % 1) * 1024 + (j 1).val) := by
  have ht : 5 * (t.val / 5) + 3 < cfg0.N := by have := t.isLt; omega
  have e2 : ∀ (n : ℕ) (hn : n < cfg0.N), n = 5 * (t.val / 5) + 3 →
      (outsAt0 m c n hn).2 j = part m c (4 * 768) (t.val / 5 / 1 * 1408 + (j 0).val) (t.val / 5 % 1 * 1024 + (j 1).val) := by
    intro n hn hh; subst hh; exact acc m c 3 (t.val / 5) (by omega) hn j
  rw [step, e2 _ _ (by omega), block, h1, show t.val / 5 / 1 = t.val / 5 by omega]
  exact sum_next (fun k => at2 (m ((c : Thread nD τ).loc main_arg0)) (t.val / 5 * 1408 + (j 0).val) (k) * at2 (m ((c : Thread nD τ).loc main_arg1)) (t.val / 5 % 1 * 1024 + (j 1).val) (k)) 4 768

/-- What entry `(i, j)` of the result is. -/
def entry (c : Dev nD) (i j : ℕ) : EReal :=
  part m c 3840 i j + Ideal.ofBits .f32 0x3FD744FD#32 * at2 (m ((c : Thread nD τ).loc main_arg2)) i j

theorem out (c : Dev nD) (t : Fin cfg0.N) (h1 : t.val % 5 = 4) (j : S1408x1024.Idx) :
    (outsAt0 m c t.val t.isLt).1 j = entry m c (t.val / 5 * 1408 + (j 0).val) ((t.val / 5 % 1) * 1024 + (j 1).val) := by
  have key := whole m c t h1 j
  rw [out_C m c t (by omega) h1]
  unfold k0_pay3
  dsimp only
  rw [addf_apply, mulf_apply, broadcast_apply, key]
  unfold entry
  refine congrArg (_ + ·) (congrArg (_ * ·) ?_)
  rw [← blk2 m c t _ _ (j 0).isLt (j 1).isLt]
  exact at2_of _ j _ _ rfl rfl

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0).slice (win0_3.rect t)).set ↔ _
  rw [View.set_slice_whole, Rect.mem_set_unit]
  exact Iff.rfl

theorem flushed_result (c : Dev nD) (t : Fin cfg0.N) (hf : (cfg0.win 3).flush t = true) :
    (dats m 0 c).flushed 3 t = ((cfg0.win 3).blk t).view.read (Elt Ideal) (result m c) := by
  rw [Value.flushed3]
  obtain ⟨a0, a1, b0, b1, e0, e1, o3_0, o3_1⟩ := places t
  funext y
  rw [View.read_apply]
  show (outsAt0 m c t.val t.isLt).1 y = entry m c (win0_3.index t (0 : Fin 2) * 1408 + 1 * (y 0).val) (win0_3.index t (1 : Fin 2) * 1024 + 1 * (y 1).val)
  rw [o3_0, o3_1, Nat.one_mul, Nat.one_mul]
  exact out m c t ((flush0_3 t).mp hf) y

theorem final (c : Dev nD) : (dats m 0 c).arrAt 3 cfg0.N = result m c :=
  (dats m 0 c).arrAt_eq_of_cover 3 _ (flushed_result m c) fun i => by
    have h0 : (i 0).val < 4224 := (i 0).isLt
    have h1 : (i 1).val < 1024 := (i 1).isLt
    have hN : cfg0.N = 15 := N_0
    refine ⟨⟨((i 0).val / 1408 * 1 + (i 1).val / 1024) * 5 + 4, by omega⟩, ?_, ?_⟩
    · exact (flush0_3 _).mpr (by dsimp only; omega)
    · rw [mem_block]
      obtain ⟨a0, a1, b0, b1, e0, e1, o3_0, o3_1⟩ := places ⟨((i 0).val / 1408 * 1 + (i 1).val / 1024) * 5 + 4, by omega⟩
      dsimp only at o3_0 o3_1
      intro a
      match a with
      | ⟨0, _⟩ => show win0_3.index _ (0 : Fin 2) * 1408 ≤ (i 0).val ∧ (i 0).val < win0_3.index _ (0 : Fin 2) * 1408 + 1408; rw [o3_0]; omega
      | ⟨1, _⟩ => show win0_3.index _ (1 : Fin 2) * 1024 ≤ (i 1).val ∧ (i 1).val < win0_3.index _ (1 : Fin 2) * 1024 + 1024; rw [o3_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).1.trans (final m c), (h c).2⟩) (Value.run_blocks m ρ)

end Cert.KDinIdeal.Entries

namespace Cert.RDinIdeal.Entries

open Cert.RDinIdeal Cert.RDinIdeal.Gen Idealize.ShloMosaic Idealize.ShloMosaic.ValueIdx Cert.Products
open scoped BigOperators

/-- The reference's product at an index. -/
theorem product (x : FVec Ideal S4224x3840 .bf16) (y : FVec Ideal S1024x3840 .bf16) (i : S4224x1024.Idx) :
    (Host.dotGeneral dot_S4224x3840_S1024x3840_S4224x1024_1_1_0_0_n_n none (extf .f32 x bitsLt_bf16_f32) (extf .f32 y bitsLt_bf16_f32) : FVec Ideal S4224x1024 .f32) i = ∑ k ∈ Finset.range 3840, at2 x (i 0).val k * at2 y (i 1).val k :=
  host_nt (M := 4224) (K := 3840) (N := 1024) _ _ _ _ _ i

/-- The reference's result at an index. -/
theorem value (x : FVec Ideal S4224x3840 .bf16) (y : FVec Ideal S1024x3840 .bf16) (z : FVec Ideal S4224x1024 .f32) (i : S4224x1024.Idx) :
    (addf (Host.dotGeneral dot_S4224x3840_S1024x3840_S4224x1024_1_1_0_0_n_n none (extf .f32 x bitsLt_bf16_f32) (extf .f32 y bitsLt_bf16_f32)) (mulf (broadcastInDim S4224x1024 ![] bcast_S_S4224x1024 (constant S_ .f32 0x3FD744FD#32)) z) : FVec Ideal S4224x1024 .f32) i = (∑ k ∈ Finset.range 3840, at2 x (i 0).val k * at2 y (i 1).val k) + Ideal.ofBits .f32 0x3FD744FD#32 * at2 z (i 0).val (i 1).val := by
  rw [addf_apply, mulf_apply, product, ← at2_of z i _ _ rfl rfl]
  rfl

end Cert.RDinIdeal.Entries

namespace Cert.Proof

open Idealize.ShloMosaic Idealize.SL.Sem Idealize.ShloMosaic.TcCoe

attribute [local instance] Cert.KDinIdeal.Gen.facts Cert.RDinIdeal.Gen.facts

/-- The call and its reference leave the same results. -/
theorem algebraic_Din : Cert.algebraic_KDinIdeal_RDinIdeal := by
  intro m ρ m' ρ' _ hag
  refine ⟨fun c => Cert.KDinIdeal.Entries.result m c, Cert.KDinIdeal.Entries.run m ρ, (θ_run _ _ _).mono (fun r h c => ⟨(h c).1.trans ?_, (h c).2⟩) (Cert.RDinIdeal.Value.run (F := Ideal) m' ρ')⟩
  · obtain ⟨h0, h1, h2⟩ := hag c
    rw [h0, h1, h2]
    exact funext fun i => Cert.RDinIdeal.Entries.value _ _ _ i

/-- The reference ends with its arguments as they were. -/
theorem frame_RDin : Cert.quiescent_RDinIdeal := fun m ρ _ =>
  (θ_run Cert.RDinIdeal.defs _ _).mono (fun r h => ⟨fun c => (h c).2, sem_eq_zero_of_no_sems (by decide) r.2⟩) (Cert.RDinIdeal.Value.run (F := Ideal) m ρ)

end Cert.Proof

end
-- ==== Proof.GinValue.lean ====
/-
  The gradient of the input projection's weight: what the call leaves, entry by entry, over the extended reals.
-/
module

public import proofs.«01_k».proof.Proof.Products
public import proofs.«01_k».proof.Proof.Gen.KGinIdeal.Value
public import proofs.«01_k».proof.Proof.Gen.RGinIdeal.Run
public import proofs.«01_k».proof.Defs

@[expose] public section

noncomputable section

namespace Cert.KGinIdeal.Entries

open Cert.KGinIdeal Cert.KGinIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 11 = 0) (h1 : ¬t.val % 11 = 10) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1920) origin]
  simp only [View.readAt_eq_ld, (hs0_0 t).read_unread, (hs0_1 t).read_unread, (Memref.isWhole_whole _).read_unread, View.ld_unit_zero (S := S1024x1920) origin, View.ld_unit_zero (S := S384x1024) origin, View.ld_unit_zero (S := S384x1920) origin, View.readCov_unit_zero (S := S1024x1920) _ origin, View.readCov_cons_unit_lit' (S := S1024x1920) _ _ _ _ _ (congrFun origin) (congrFun origin)]

/-- The accumulator after a further block. -/
theorem acc_B (c : Dev nD) (t : Fin cfg0.N) (h0 : ¬t.val % 11 = 0) (h1 : ¬t.val % 11 = 10) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1024x1920) origin]
  simp only [View.readAt_eq_ld, (hs0_0 t).read_unread, (hs0_1 t).read_unread, (Memref.isWhole_whole _).read_unread, View.ld_unit_zero (S := S1024x1920) origin, View.ld_unit_zero (S := S384x1024) origin, View.ld_unit_zero (S := S384x1920) origin, View.readCov_unit_zero (S := S1024x1920) _ origin, View.readCov_cons_unit_lit' (S := S1024x1920) _ _ _ _ _ (congrFun origin) (congrFun origin)]

/-- The output block after the last block of the contracted axis. -/
theorem out_C (c : Dev nD) (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S1024x1920) origin]
  simp only [View.readAt_eq_ld, (hs0_0 t).read_unread, (hs0_1 t).read_unread, (Memref.isWhole_whole _).read_unread, View.ld_unit_zero (S := S1024x1920) origin, View.ld_unit_zero (S := S384x1024) origin, View.ld_unit_zero (S := S384x1920) origin, View.readCov_unit_zero (S := S1024x1920) _ origin, View.readCov_cons_unit_lit' (S := S1024x1920) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val % 11 ∧ win0_0.index t (1 : Fin 2) = t.val / 22 ∧ win0_1.index t (0 : Fin 2) = t.val % 11 ∧ win0_1.index t (1 : Fin 2) = t.val / 11 % 2 ∧ win0_2.index t (0 : Fin 2) = t.val / 22 ∧ win0_2.index t (1 : Fin 2) = t.val / 11 % 2 :=
  (by decide +kernel : ∀ t : Fin grid0.N, _)

theorem blk0 (c : Dev nD) (t : Fin cfg0.N) (i j : ℕ) (hi : i < 384) (hj : j < 1024) :
    at2 (iblk m c 0 t : S384x1024.Idx → EReal) i j = at2 (m ((c : Thread nD τ).loc main_arg0)) ((t.val % 11) * 384 + i) ((t.val / 22) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 384 + 1 * i = _; rw [a0]; omega
  · show win0_0.index t (1 : Fin 2) * 1024 + 1 * j = _; rw [a1]; omega

theorem blk1 (c : Dev nD) (t : Fin cfg0.N) (i j : ℕ) (hi : i < 384) (hj : j < 1920) :
    at2 (iblk m c 1 t : S384x1920.Idx → EReal) i j = at2 (m ((c : Thread nD τ).loc main_arg1)) ((t.val % 11) * 384 + i) ((t.val / 11 % 2) * 1920 + j) := by
  obtain ⟨a0, a1, b0, b1, o2_0, o2_1⟩ := places t
  refine (at2_val _ (⟨i, hi⟩ : Fin 384) (⟨j, hj⟩ : Fin 1920)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1920 + 1 * j = _; rw [b1]; omega

/-- One step of the accumulation. -/
theorem step (v : Vec Ideal S1024x1920 .f32) (x : Vec Ideal S384x1024 .bf16) (y : Vec Ideal S384x1920 .bf16) (j : S1024x1920.Idx) :
    k0_pay2 v x y j = v j + ∑ k ∈ Finset.range 384, at2 x (k) ((j 0).val) * at2 y (k) ((j 1).val) := by
  unfold k0_pay2
  dsimp only
  rw [shapeCast_self, addf_apply]
  refine congrArg (v j + ·) ?_
  refine (mm_tn (M := 1024) (K := 384) (N := 1920) _ _ _ _ _ j).trans ?_
  rw [constant_apply, zero_word, zero_add]

theorem start (j : S1024x1920.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (k) (i) * at2 (m ((c : Thread nD τ).loc main_arg1)) (k) (j)

theorem block (c : Dev nD) (t : Fin cfg0.N) (j : S1024x1920.Idx) :
    ∑ k ∈ Finset.range 384, at2 (iblk m c 0 t : S384x1024.Idx → EReal) (k) ((j 0).val) * at2 (iblk m c 1 t : S384x1920.Idx → EReal) (k) ((j 1).val)
      = ∑ k ∈ Finset.range 384, at2 (m ((c : Thread nD τ).loc main_arg0)) ((t.val % 11) * 384 + k) ((t.val / 22) * 1024 + (j 0).val) * at2 (m ((c : Thread nD τ).loc main_arg1)) ((t.val % 11) * 384 + k) ((t.val / 11 % 2) * 1920 + (j 1).val) := by
  refine Finset.sum_congr rfl fun k hk => ?_
  have hk := Finset.mem_range.mp hk
  rw [blk0 m c t _ _ hk (j 0).isLt, blk1 m c t _ _ hk (j 1).isLt]

/-- The accumulator holds the partial product. -/
theorem acc (c : Dev nD) : ∀ (s q : ℕ) (hs : s < 10) (h : 11 * q + s < cfg0.N) (j : S1024x1920.Idx),
    (outsAt0 m c (11 * q + s) h).2 j = part m c ((s + 1) * 384) (q / 2 * 1024 + (j 0).val) (q % 2 * 1920 + (j 1).val)
  | 0, q, hs, h, j => by
    have e := acc_A m c ⟨11 * q + 0, h⟩ (by dsimp only; omega) (by dsimp only; omega)
    dsimp only at e
    rw [e, step, start, zero_add, block]
    dsimp only
    rw [show (11 * q + 0) / 11 % 2 = q % 2 by omega, show (11 * q + 0) / 22 = q / 2 by omega, show (11 * q + 0) % 11 = 0 by omega]
    unfold part
    simp only [Nat.zero_mul, Nat.zero_add, Nat.one_mul]
  | s + 1, q, hs, h, j => by
    have e := acc_B m c ⟨11 * q + (s + 1), h⟩ (by dsimp only; omega) (by dsimp only; omega)
    dsimp only at e
    have ih := acc c s q (by omega) (by omega) j
    rw [e, step, block]
    dsimp only
    have e2 : (outsAt0 m c (11 * q + (s + 1) - 1) (Nat.lt_of_le_of_lt (Nat.sub_le _ _) h)).2 j = _ := ih
    rw [e2]
    rw [show (11 * q + (s + 1)) / 11 % 2 = q % 2 by omega, show (11 * q + (s + 1)) / 22 = q / 2 by omega, show (11 * q + (s + 1)) % 11 = s + 1 by omega]
    exact sum_next (fun k => at2 (m ((c : Thread nD τ).loc main_arg0)) (k) (q / 2 * 1024 + (j 0).val) * at2 (m ((c : Thread nD τ).loc main_arg1)) (k) (q % 2 * 1920 + (j 1).val)) (s + 1) 384

/-- The whole product at a point that completes a block. -/
theorem whole (c : Dev nD) (t : Fin cfg0.N) (h1 : t.val % 11 = 10) (j : S1024x1920.Idx) :
    k0_pay2 (outsAt0 m c (t.val - 1) (Nat.lt_of_le_of_lt (Nat.sub_le _ _) t.isLt)).2 (iblk m c 0 t) (iblk m c 1 t) j = part m c 4224 (t.val / 22 * 1024 + (j 0).val) ((t.val / 11 % 2) * 1920 + (j 1).val) := by
  have ht : 11 * (t.val / 11) + 9 < cfg0.N := by have := t.isLt; omega
  have e2 : ∀ (n : ℕ) (hn : n < cfg0.N), n = 11 * (t.val / 11) + 9 →
      (outsAt0 m c n hn).2 j = part m c (10 * 384) (t.val / 11 / 2 * 1024 + (j 0).val) (t.val / 11 % 2 * 1920 + (j 1).val) := by
    intro n hn hh; subst hh; exact acc m c 9 (t.val / 11) (by omega) hn j
  rw [step, e2 _ _ (by omega), block, h1, show t.val / 11 / 2 = t.val / 22 by omega]
  exact sum_next (fun k => at2 (m ((c : Thread nD τ).loc main_arg0)) (k) (t.val / 22 * 1024 + (j 0).val) * at2 (m ((c : Thread nD τ).loc main_arg1)) (k) (t.val / 11 % 2 * 1920 + (j 1).val)) 10 384

/-- What entry `(i, j)` of the result is. -/
def entry (c : Dev nD) (i j : ℕ) : EReal :=
  part m c 4224 i j

theorem out (c : Dev nD) (t : Fin cfg0.N) (h1 : t.val % 11 = 10) (j : S1024x1920.Idx) :
    (outsAt0 m c t.val t.isLt).1 j = entry m c (t.val / 22 * 1024 + (j 0).val) ((t.val / 11 % 2) * 1920 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S1024x3840.Idx) :
    i ∈ ((cfg0.win 2).blk t).view.set ↔ ∀ a : Fin 2, win0_2.index t a * S1024x1920.size a ≤ (i a).val ∧ (i a).val < win0_2.index t a * S1024x1920.size a + S1024x1920.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 1024 + 1 * (y 0).val) (win0_2.index t (1 : Fin 2) * 1920 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 1024 := (i 0).isLt
    have h1 : (i 1).val < 3840 := (i 1).isLt
    have hN : cfg0.N = 22 := N_0
    refine ⟨⟨((i 0).val / 1024 * 2 + (i 1).val / 1920) * 11 + 10, by omega⟩, ?_, ?_⟩
    · exact (flush0_2 _).mpr (by dsimp only; omega)
    · rw [mem_block]
      obtain ⟨a0, a1, b0, b1, o2_0, o2_1⟩ := places ⟨((i 0).val / 1024 * 2 + (i 1).val / 1920) * 11 + 10, by omega⟩
      dsimp only at o2_0 o2_1
      intro a
      match a with
      | ⟨0, _⟩ => show win0_2.index _ (0 : Fin 2) * 1024 ≤ (i 0).val ∧ (i 0).val < win0_2.index _ (0 : Fin 2) * 1024 + 1024; rw [o2_0]; omega
      | ⟨1, _⟩ => show win0_2.index _ (1 : Fin 2) * 1920 ≤ (i 1).val ∧ (i 1).val < win0_2.index _ (1 : Fin 2) * 1920 + 1920; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KGinIdeal.Entries

namespace Cert.RGinIdeal.Entries

open Cert.RGinIdeal Cert.RGinIdeal.Gen Idealize.ShloMosaic Idealize.ShloMosaic.ValueIdx Cert.Products
open scoped BigOperators

/-- The reference's product at an index. -/
theorem product (x : FVec Ideal S4224x1024 .bf16) (y : FVec Ideal S4224x3840 .bf16) (i : S1024x3840.Idx) :
    (transpose S1024x3840 [1, 0] (Host.dotGeneral dot_S4224x3840_S4224x1024_S3840x1024_0_0_1_1_n_n none (extf .f32 y bitsLt_bf16_f32) (extf .f32 x bitsLt_bf16_f32)) transposes_S3840x1024_S1024x3840_1_0 : FVec Ideal S1024x3840 .f32) i = ∑ k ∈ Finset.range 4224, at2 x k (i 0).val * at2 y k (i 1).val := by
  refine (swap _ _ i).trans ?_
  refine (host_tn (M := 3840) (K := 4224) (N := 1024) _ _ _ _ _ (ix2 (i 1) (i 0))).trans ?_
  exact Finset.sum_congr rfl fun k _ => mul_comm _ _

/-- The reference's result at an index. -/
theorem value (x : FVec Ideal S4224x1024 .bf16) (y : FVec Ideal S4224x3840 .bf16) (i : S1024x3840.Idx) :
    (transpose S1024x3840 [1, 0] (Host.dotGeneral dot_S4224x3840_S4224x1024_S3840x1024_0_0_1_1_n_n none (extf .f32 y bitsLt_bf16_f32) (extf .f32 x bitsLt_bf16_f32)) transposes_S3840x1024_S1024x3840_1_0 : FVec Ideal S1024x3840 .f32) i = ∑ k ∈ Finset.range 4224, at2 x k (i 0).val * at2 y k (i 1).val := by
  exact product x y i

end Cert.RGinIdeal.Entries

namespace Cert.Proof

open Idealize.ShloMosaic Idealize.SL.Sem Idealize.ShloMosaic.TcCoe

attribute [local instance] Cert.KGinIdeal.Gen.facts Cert.RGinIdeal.Gen.facts

/-- The call and its reference leave the same results. -/
theorem algebraic_Gin : Cert.algebraic_KGinIdeal_RGinIdeal := by
  intro m ρ m' ρ' _ hag
  refine ⟨fun c => Cert.KGinIdeal.Entries.result m c, Cert.KGinIdeal.Entries.run m ρ, (θ_run _ _ _).mono (fun r h c => ⟨(h c).1.trans ?_, (h c).2⟩) (Cert.RGinIdeal.Value.run (F := Ideal) m' ρ')⟩
  · obtain ⟨h0, h1⟩ := hag c
    rw [h0, h1]
    exact funext fun i => Cert.RGinIdeal.Entries.value _ _ i

/-- The reference ends with its arguments as they were. -/
theorem frame_RGin : Cert.quiescent_RGinIdeal := fun m ρ _ =>
  (θ_run Cert.RGinIdeal.defs _ _).mono (fun r h => ⟨fun c => (h c).2, sem_eq_zero_of_no_sems (by decide) r.2⟩) (Cert.RGinIdeal.Value.run (F := Ideal) m ρ)

end Cert.Proof

end
-- ==== Proof.Ff1Value.lean ====
/-
  The first product of the squared-relu layer and the squared relu: what the call leaves, entry by entry, over the extended reals.
-/
module

public import proofs.«01_k».proof.Proof.Products
public import proofs.«01_k».proof.Proof.Gen.KFf1Ideal.Value
public import proofs.«01_k».proof.Proof.Gen.RFf1Ideal.Run
public import proofs.«01_k».proof.Defs

@[expose] public section

noncomputable section

namespace Cert.KFf1Ideal.Entries

open Cert.KFf1Ideal Cert.KFf1Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A2 (c : Dev nD) (t : Fin cfg0.N) :
    (outsAt0 m c t).1 = k0_pay2 k0_pay1 (iblk m c 0 t) (iblk m c 1 t) := by
  unfold outsAt0 out0_A_2
  dsimp only
  rw [View.read_writes_eq_canon _ _ _ (fun _ => cover0_A_2 ..)]
  unfold kernelRun0_A
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

/-- What a point leaves in the output block. -/
theorem out_A3 (c : Dev nD) (t : Fin cfg0.N) :
    (outsAt0 m c t).2 = k0_pay3 (k0_pay2 k0_pay1 (iblk m c 0 t) (iblk m c 1 t)) := by
  unfold outsAt0 out0_A_3
  dsimp only
  rw [View.read_writes_eq_canon _ _ _ (fun _ => cover0_A_3 ..)]
  unfold kernelRun0_A
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 4 ∧ win0_0.index t (1 : Fin 2) = 0 ∧ win0_1.index t (0 : Fin 2) = 0 ∧ win0_1.index t (1 : Fin 2) = t.val % 4 ∧ win0_2.index t (0 : Fin 2) = t.val / 4 ∧ win0_2.index t (1 : Fin 2) = t.val % 4 ∧ win0_3.index t (0 : Fin 2) = t.val / 4 ∧ win0_3.index t (1 : Fin 2) = t.val % 4 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 4) * 1408 + i) ((0) * 1024 + j) := by
  obtain ⟨a0, a1, b0, b1, o2_0, o2_1, o3_0, o3_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 1024) (hj : j < 1024) :
    at2 (iblk m c 1 t : S1024x1024.Idx → EReal) i j = at2 (m ((c : Thread nD τ).loc main_arg1)) ((0) * 1024 + i) ((t.val % 4) * 1024 + j) := by
  obtain ⟨a0, a1, b0, b1, o2_0, o2_1, o3_0, o3_1⟩ := places t
  refine (at2_val _ (⟨i, hi⟩ : Fin 1024) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 1024 + 1 * j = _; rw [b1]; omega

/-- One step of the accumulation. -/
theorem step (v : Vec Ideal S1408x1024 .f32) (x : Vec Ideal S1408x1024 .bf16) (y : Vec Ideal S1024x1024 .bf16) (j : S1408x1024.Idx) :
    k0_pay2 v x y j = v j + ∑ k ∈ Finset.range 1024, at2 x ((j 0).val) (k) * at2 y (k) ((j 1).val) := by
  unfold k0_pay2
  dsimp only
  rw [shapeCast_self, addf_apply]
  refine congrArg (v j + ·) ?_
  refine (mm_nn (M := 1408) (K := 1024) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x1024.Idx) :
    ∑ k ∈ Finset.range 1024, at2 (iblk m c 0 t : S1408x1024.Idx → EReal) ((j 0).val) (k) * at2 (iblk m c 1 t : S1024x1024.Idx → EReal) (k) ((j 1).val)
      = ∑ k ∈ Finset.range 1024, at2 (m ((c : Thread nD τ).loc main_arg0)) ((t.val / 4) * 1408 + (j 0).val) ((0) * 1024 + k) * at2 (m ((c : Thread nD τ).loc main_arg1)) ((0) * 1024 + k) ((t.val % 4) * 1024 + (j 1).val) := by
  refine Finset.sum_congr rfl fun k hk => ?_
  have hk := Finset.mem_range.mp hk
  rw [blk0 m c t _ _ (j 0).isLt hk, blk1 m c t _ _ hk (j 1).isLt]

/-- The whole product at a point that completes a block. -/
theorem whole (c : Dev nD) (t : Fin cfg0.N) (j : S1408x1024.Idx) :
    k0_pay2 k0_pay1 (iblk m c 0 t) (iblk m c 1 t) j = part m c 1024 (t.val / 4 * 1408 + (j 0).val) ((t.val % 4) * 1024 + (j 1).val) := by
  rw [step, start, zero_add, block]
  unfold part
  simp only [Nat.zero_mul, Nat.zero_add]

/-- What entry `(i, j)` of the result is. -/
def entry2 (c : Dev nD) (i j : ℕ) : EReal :=
  part m c 1024 i j

theorem out2 (c : Dev nD) (t : Fin cfg0.N) (j : S1408x1024.Idx) :
    (outsAt0 m c t).1 j = entry2 m c (t.val / 4 * 1408 + (j 0).val) ((t.val % 4) * 1024 + (j 1).val) := by
  have key := whole m c t j
  rw [out_A2]
  exact key

/-- The array that the call writes: every entry. -/
def result2 (c : Dev nD) : Buf (Elt Ideal) ((c : Thread nD τ).loc main_v0_0) := fun i => entry2 m c (i 0).val (i 1).val

theorem mem_block2 (t : Fin cfg0.N) (i : S4224x4096.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0_0).slice (win0_2.rect t)).set ↔ _
  rw [View.set_slice_whole, Rect.mem_set_unit]
  exact Iff.rfl

theorem flushed_result2 (c : Dev nD) (t : Fin cfg0.N) (hf : (cfg0.win 2).flush t = true) :
    (dats m 0 c).flushed 2 t = ((cfg0.win 2).blk t).view.read (Elt Ideal) (result2 m c) := by
  rw [Value.flushed2]
  obtain ⟨a0, a1, b0, b1, o2_0, o2_1, o3_0, o3_1⟩ := places t
  funext y
  rw [View.read_apply]
  show (outsAt0 m c t).1 y = entry2 m c (win0_2.index t (0 : Fin 2) * 1408 + 1 * (y 0).val) (win0_2.index t (1 : Fin 2) * 1024 + 1 * (y 1).val)
  rw [o2_0, o2_1, Nat.one_mul, Nat.one_mul]
  exact out2 m c t y

theorem final2 (c : Dev nD) : (dats m 0 c).arrAt 2 cfg0.N = result2 m c :=
  (dats m 0 c).arrAt_eq_of_cover 2 _ (flushed_result2 m c) fun i => by
    have h0 : (i 0).val < 4224 := (i 0).isLt
    have h1 : (i 1).val < 4096 := (i 1).isLt
    have hN : cfg0.N = 12 := N_0
    refine ⟨⟨((i 0).val / 1408 * 4 + (i 1).val / 1024) * 1 + 0, by omega⟩, ?_, ?_⟩
    · exact flush0_2 _
    · rw [mem_block2]
      obtain ⟨a0, a1, b0, b1, o2_0, o2_1, o3_0, o3_1⟩ := places ⟨((i 0).val / 1408 * 4 + (i 1).val / 1024) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 1024 ≤ (i 1).val ∧ (i 1).val < win0_2.index _ (1 : Fin 2) * 1024 + 1024; rw [o2_1]; omega

/-- What entry `(i, j)` of the result is. -/
def entry3 (c : Dev nD) (i j : ℕ) : EReal :=
  max (part m c 1024 i j) 0 * max (part m c 1024 i j) 0

theorem out3 (c : Dev nD) (t : Fin cfg0.N) (j : S1408x1024.Idx) :
    (outsAt0 m c t).2 j = entry3 m c (t.val / 4 * 1408 + (j 0).val) ((t.val % 4) * 1024 + (j 1).val) := by
  have key := whole m c t j
  rw [out_A3]
  unfold k0_pay3
  dsimp only
  rw [truncf_apply, mulf_apply, maximumf_apply, broadcast_apply, key]
  unfold entry3
  exact congrArg (fun z => max _ z * max _ z) zero_word

/-- The array that the call writes: every entry. -/
def result3 (c : Dev nD) : Buf (Elt Ideal) ((c : Thread nD τ).loc main_v0_1) := fun i => entry3 m c (i 0).val (i 1).val

theorem mem_block3 (t : Fin cfg0.N) (i : S4224x4096.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0_1).slice (win0_3.rect t)).set ↔ _
  rw [View.set_slice_whole, Rect.mem_set_unit]
  exact Iff.rfl

theorem flushed_result3 (c : Dev nD) (t : Fin cfg0.N) (hf : (cfg0.win 3).flush t = true) :
    (dats m 0 c).flushed 3 t = ((cfg0.win 3).blk t).view.read (Elt Ideal) (result3 m c) := by
  rw [Value.flushed3]
  obtain ⟨a0, a1, b0, b1, o2_0, o2_1, o3_0, o3_1⟩ := places t
  funext y
  rw [View.read_apply]
  show (outsAt0 m c t).2 y = entry3 m c (win0_3.index t (0 : Fin 2) * 1408 + 1 * (y 0).val) (win0_3.index t (1 : Fin 2) * 1024 + 1 * (y 1).val)
  rw [o3_0, o3_1, Nat.one_mul, Nat.one_mul]
  exact out3 m c t y

theorem final3 (c : Dev nD) : (dats m 0 c).arrAt 3 cfg0.N = result3 m c :=
  (dats m 0 c).arrAt_eq_of_cover 3 _ (flushed_result3 m c) fun i => by
    have h0 : (i 0).val < 4224 := (i 0).isLt
    have h1 : (i 1).val < 4096 := (i 1).isLt
    have hN : cfg0.N = 12 := N_0
    refine ⟨⟨((i 0).val / 1408 * 4 + (i 1).val / 1024) * 1 + 0, by omega⟩, ?_, ?_⟩
    · exact flush0_3 _
    · rw [mem_block3]
      obtain ⟨a0, a1, b0, b1, o2_0, o2_1, o3_0, o3_1⟩ := places ⟨((i 0).val / 1408 * 4 + (i 1).val / 1024) * 1 + 0, by omega⟩
      dsimp only at o3_0 o3_1
      intro a
      match a with
      | ⟨0, _⟩ => show win0_3.index _ (0 : Fin 2) * 1408 ≤ (i 0).val ∧ (i 0).val < win0_3.index _ (0 : Fin 2) * 1408 + 1408; rw [o3_0]; omega
      | ⟨1, _⟩ => show win0_3.index _ (1 : Fin 2) * 1024 ≤ (i 1).val ∧ (i 1).val < win0_3.index _ (1 : Fin 2) * 1024 + 1024; rw [o3_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0_0) = result2 m c
      ∧ r.2.mem ((c : Thread nD τ).loc main_v0_1) = result3 m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final2 m c), (h c).2.1.trans (final3 m c), (h c).2.2⟩) (Value.run_blocks m ρ)

end Cert.KFf1Ideal.Entries

namespace Cert.RFf1Ideal.Entries

open Cert.RFf1Ideal Cert.RFf1Ideal.Gen Idealize.ShloMosaic Idealize.ShloMosaic.ValueIdx Cert.Products
open scoped BigOperators

/-- The reference's product at an index. -/
theorem product (x : FVec Ideal S4224x1024 .bf16) (y : FVec Ideal S1024x4096 .bf16) (i : S4224x4096.Idx) :
    (Host.dotGeneral dot_S4224x1024_S1024x4096_S4224x4096_1_0_0_1_n_n none (extf .f32 x bitsLt_bf16_f32) (extf .f32 y bitsLt_bf16_f32) : FVec Ideal S4224x4096 .f32) i = ∑ k ∈ Finset.range 1024, at2 x (i 0).val k * at2 y k (i 1).val :=
  host_nn (M := 4224) (K := 1024) (N := 4096) _ _ _ _ _ i

/-- The reference's result at an index. -/
theorem value2 (x : FVec Ideal S4224x1024 .bf16) (y : FVec Ideal S1024x4096 .bf16) (i : S4224x4096.Idx) :
    (Host.dotGeneral dot_S4224x1024_S1024x4096_S4224x4096_1_0_0_1_n_n none (extf .f32 x bitsLt_bf16_f32) (extf .f32 y bitsLt_bf16_f32) : FVec Ideal S4224x4096 .f32) i = ∑ k ∈ Finset.range 1024, at2 x (i 0).val k * at2 y k (i 1).val := by
  exact product x y i

/-- The reference's result at an index. -/
theorem value3 (x : FVec Ideal S4224x1024 .bf16) (y : FVec Ideal S1024x4096 .bf16) (i : S4224x4096.Idx) :
    (truncf .bf16 (mulf (maximumf (Host.dotGeneral dot_S4224x1024_S1024x4096_S4224x4096_1_0_0_1_n_n none (extf .f32 x bitsLt_bf16_f32) (extf .f32 y bitsLt_bf16_f32)) (broadcastInDim S4224x4096 ![] bcast_S_S4224x4096 (constant S_ .f32 0x00000000#32))) (maximumf (Host.dotGeneral dot_S4224x1024_S1024x4096_S4224x4096_1_0_0_1_n_n none (extf .f32 x bitsLt_bf16_f32) (extf .f32 y bitsLt_bf16_f32)) (broadcastInDim S4224x4096 ![] bcast_S_S4224x4096 (constant S_ .f32 0x00000000#32)))) bitsLt_bf16_f32 : FVec Ideal S4224x4096 .bf16) i = max (∑ k ∈ Finset.range 1024, at2 x (i 0).val k * at2 y k (i 1).val) 0 * max (∑ k ∈ Finset.range 1024, at2 x (i 0).val k * at2 y k (i 1).val) 0 := by
  rw [truncf_apply, mulf_apply, maximumf_apply, product]
  exact congrArg (fun z => max _ z * max _ z) zero_word

end Cert.RFf1Ideal.Entries

namespace Cert.Proof

open Idealize.ShloMosaic Idealize.SL.Sem Idealize.ShloMosaic.TcCoe

attribute [local instance] Cert.KFf1Ideal.Gen.facts Cert.RFf1Ideal.Gen.facts

/-- The call and its reference leave the same results. -/
theorem algebraic_Ff1 : Cert.algebraic_KFf1Ideal_RFf1Ideal := by
  intro m ρ m' ρ' _ hag
  refine ⟨fun c => Cert.KFf1Ideal.Entries.result2 m c, fun c => Cert.KFf1Ideal.Entries.result3 m c, Cert.KFf1Ideal.Entries.run m ρ, (θ_run _ _ _).mono (fun r h c => ⟨(h c).1.trans ?_, (h c).2.1.trans ?_, (h c).2.2⟩) (Cert.RFf1Ideal.Value.run (F := Ideal) m' ρ')⟩
  · obtain ⟨h0, h1⟩ := hag c
    rw [h0, h1]
    exact funext fun i => Cert.RFf1Ideal.Entries.value2 _ _ i
  · obtain ⟨h0, h1⟩ := hag c
    rw [h0, h1]
    exact funext fun i => Cert.RFf1Ideal.Entries.value3 _ _ i

/-- The reference ends with its arguments as they were. -/
theorem frame_RFf1 : Cert.quiescent_RFf1Ideal := fun m ρ _ =>
  (θ_run Cert.RFf1Ideal.defs _ _).mono (fun r h => ⟨fun c => (h c).2.2, sem_eq_zero_of_no_sems (by decide) r.2⟩) (Cert.RFf1Ideal.Value.run (F := Ideal) m ρ)

end Cert.Proof

end
-- ==== Proof.Ff2Value.lean ====
/-
  The second product of the squared-relu layer: what the call leaves, entry by entry, over the extended reals.
-/
module

public import proofs.«01_k».proof.Proof.Products
public import proofs.«01_k».proof.Proof.Gen.KFf2Ideal.Value
public import proofs.«01_k».proof.Proof.Gen.RFf2Ideal.Run
public import proofs.«01_k».proof.Defs

@[expose] public section

noncomputable section

namespace Cert.KFf2Ideal.Entries

open Cert.KFf2Ideal Cert.KFf2Ideal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1408x1024) origin]
  simp only [View.readAt_eq_ld, (hs0_0 t).read_unread, (hs0_1 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

/-- The accumulator after a further block. -/
theorem acc_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

/-- The output block after the last block of the contracted axis. -/
theorem out_C (c : Dev nD) (t : Fin cfg0.N) (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (fun _ => cover0_C_2 ..)]
  unfold kernelRun0_C
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x1024) origin, View.ld_unit_zero (S := S1024x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 4 ∧ win0_0.index t (1 : Fin 2) = t.val % 4 ∧ win0_1.index t (0 : Fin 2) = t.val % 4 ∧ win0_1.index t (1 : Fin 2) = t.val / 4 % 1 ∧ win0_2.index t (0 : Fin 2) = t.val / 4 ∧ win0_2.index t (1 : Fin 2) = t.val / 4 % 1 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 4) * 1408 + i) ((t.val % 4) * 1024 + j) := by
  obtain ⟨a0, a1, b0, b1, o2_0, o2_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 1024) (hj : j < 1024) :
    at2 (iblk m c 1 t : S1024x1024.Idx → EReal) i j = at2 (m ((c : Thread nD τ).loc main_arg1)) ((t.val % 4) * 1024 + i) ((t.val / 4 % 1) * 1024 + j) := by
  obtain ⟨a0, a1, b0, b1, o2_0, o2_1⟩ := places t
  refine (at2_val _ (⟨i, hi⟩ : Fin 1024) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 1024 + 1 * j = _; rw [b1]; omega

/-- One step of the accumulation. -/
theorem step (v : Vec Ideal S1408x1024 .f32) (x : Vec Ideal S1408x1024 .bf16) (y : Vec Ideal S1024x1024 .bf16) (j : S1408x1024.Idx) :
    k0_pay2 v x y j = v j + ∑ k ∈ Finset.range 1024, at2 x ((j 0).val) (k) * at2 y (k) ((j 1).val) := by
  unfold k0_pay2
  dsimp only
  rw [shapeCast_self, addf_apply]
  refine congrArg (v j + ·) ?_
  refine (mm_nn (M := 1408) (K := 1024) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x1024.Idx) :
    ∑ k ∈ Finset.range 1024, at2 (iblk m c 0 t : S1408x1024.Idx → EReal) ((j 0).val) (k) * at2 (iblk m c 1 t : S1024x1024.Idx → EReal) (k) ((j 1).val)
      = ∑ k ∈ Finset.range 1024, at2 (m ((c : Thread nD τ).loc main_arg0)) ((t.val / 4) * 1408 + (j 0).val) ((t.val % 4) * 1024 + k) * at2 (m ((c : Thread nD τ).loc main_arg1)) ((t.val % 4) * 1024 + k) ((t.val / 4 % 1) * 1024 + (j 1).val) := by
  refine Finset.sum_congr rfl fun k hk => ?_
  have hk := Finset.mem_range.mp hk
  rw [blk0 m c t _ _ (j 0).isLt hk, blk1 m c t _ _ hk (j 1).isLt]

/-- The accumulator holds the partial product. -/
theorem acc (c : Dev nD) : ∀ (s q : ℕ) (hs : s < 3) (h : 4 * q + s < cfg0.N) (j : S1408x1024.Idx),
    (outsAt0 m c (4 * q + s) h).2 j = part m c ((s + 1) * 1024) (q / 1 * 1408 + (j 0).val) (q % 1 * 1024 + (j 1).val)
  | 0, q, hs, h, j => by
    have e := acc_A m c ⟨4 * q + 0, h⟩ (by dsimp only; omega) (by dsimp only; omega)
    dsimp only at e
    rw [e, step, start, zero_add, block]
    dsimp only
    rw [show (4 * q + 0) / 4 % 1 = q % 1 by omega, show (4 * q + 0) / 4 = q / 1 by omega, show (4 * q + 0) % 4 = 0 by omega]
    unfold part
    simp only [Nat.zero_mul, Nat.zero_add, Nat.one_mul]
  | s + 1, q, hs, h, j => by
    have e := acc_B m c ⟨4 * q + (s + 1), h⟩ (by dsimp only; omega) (by dsimp only; omega)
    dsimp only at e
    have ih := acc c s q (by omega) (by omega) j
    rw [e, step, block]
    dsimp only
    have e2 : (outsAt0 m c (4 * q + (s + 1) - 1) (Nat.lt_of_le_of_lt (Nat.sub_le _ _) h)).2 j = _ := ih
    rw [e2]
    rw [show (4 * q + (s + 1)) / 4 % 1 = q % 1 by omega, show (4 * q + (s + 1)) / 4 = q / 1 by omega, show (4 * q + (s + 1)) % 4 = s + 1 by omega]
    exact sum_next (fun k => at2 (m ((c : Thread nD τ).loc main_arg0)) (q / 1 * 1408 + (j 0).val) (k) * at2 (m ((c : Thread nD τ).loc main_arg1)) (k) (q % 1 * 1024 + (j 1).val)) (s + 1) 1024

/-- The whole product at a point that completes a block. -/
theorem whole (c : Dev nD) (t : Fin cfg0.N) (h1 : t.val % 4 = 3) (j : S1408x1024.Idx) :
    k0_pay2 (outsAt0 m c (t.val - 1) (Nat.lt_of_le_of_lt (Nat.sub_le _ _) t.isLt)).2 (iblk m c 0 t) (iblk m c 1 t) j = part m c 4096 (t.val / 4 * 1408 + (j 0).val) ((t.val / 4 % 1) * 1024 + (j 1).val) := by
  have ht : 4 * (t.val / 4) + 2 < cfg0.N := by have := t.isLt; omega
  have e2 : ∀ (n : ℕ) (hn : n < cfg0.N), n = 4 * (t.val / 4) + 2 →
      (outsAt0 m c n hn).2 j = part m c (3 * 1024) (t.val / 4 / 1 * 1408 + (j 0).val) (t.val / 4 % 1 * 1024 + (j 1).val) := by
    intro n hn hh; subst hh; exact acc m c 2 (t.val / 4) (by omega) hn j
  rw [step, e2 _ _ (by omega), block, h1, show t.val / 4 / 1 = t.val / 4 by omega]
  exact sum_next (fun k => at2 (m ((c : Thread nD τ).loc main_arg0)) (t.val / 4 * 1408 + (j 0).val) (k) * at2 (m ((c : Thread nD τ).loc main_arg1)) (k) (t.val / 4 % 1 * 1024 + (j 1).val)) 3 1024

/-- What entry `(i, j)` of the result is. -/
def entry (c : Dev nD) (i j : ℕ) : EReal :=
  part m c 4096 i j

theorem out (c : Dev nD) (t : Fin cfg0.N) (h1 : t.val % 4 = 3) (j : S1408x1024.Idx) :
    (outsAt0 m c t.val t.isLt).1 j = entry m c (t.val / 4 * 1408 + (j 0).val) ((t.val / 4 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 1408 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 1024 := (i 1).isLt
    have hN : cfg0.N = 12 := N_0
    refine ⟨⟨((i 0).val / 1408 * 1 + (i 1).val / 1024) * 4 + 3, by omega⟩, ?_, ?_⟩
    · exact (flush0_2 _).mpr (by dsimp only; omega)
    · rw [mem_block]
      obtain ⟨a0, a1, b0, b1, o2_0, o2_1⟩ := places ⟨((i 0).val / 1408 * 1 + (i 1).val / 1024) * 4 + 3, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KFf2Ideal.Entries

namespace Cert.RFf2Ideal.Entries

open Cert.RFf2Ideal Cert.RFf2Ideal.Gen Idealize.ShloMosaic Idealize.ShloMosaic.ValueIdx Cert.Products
open scoped BigOperators

/-- The reference's product at an index. -/
theorem product (x : FVec Ideal S4224x4096 .bf16) (y : FVec Ideal S4096x1024 .bf16) (i : S4224x1024.Idx) :
    (Host.dotGeneral dot_S4224x4096_S4096x1024_S4224x1024_1_0_0_1_n_n none (extf .f32 x bitsLt_bf16_f32) (extf .f32 y bitsLt_bf16_f32) : FVec Ideal S4224x1024 .f32) i = ∑ k ∈ Finset.range 4096, at2 x (i 0).val k * at2 y k (i 1).val :=
  host_nn (M := 4224) (K := 4096) (N := 1024) _ _ _ _ _ i

/-- The reference's result at an index. -/
theorem value (x : FVec Ideal S4224x4096 .bf16) (y : FVec Ideal S4096x1024 .bf16) (i : S4224x1024.Idx) :
    (Host.dotGeneral dot_S4224x4096_S4096x1024_S4224x1024_1_0_0_1_n_n none (extf .f32 x bitsLt_bf16_f32) (extf .f32 y bitsLt_bf16_f32) : FVec Ideal S4224x1024 .f32) i = ∑ k ∈ Finset.range 4096, at2 x (i 0).val k * at2 y k (i 1).val := by
  exact product x y i

end Cert.RFf2Ideal.Entries

namespace Cert.Proof

open Idealize.ShloMosaic Idealize.SL.Sem Idealize.ShloMosaic.TcCoe

attribute [local instance] Cert.KFf2Ideal.Gen.facts Cert.RFf2Ideal.Gen.facts

/-- The call and its reference leave the same results. -/
theorem algebraic_Ff2 : Cert.algebraic_KFf2Ideal_RFf2Ideal := by
  intro m ρ m' ρ' _ hag
  refine ⟨fun c => Cert.KFf2Ideal.Entries.result m c, Cert.KFf2Ideal.Entries.run m ρ, (θ_run _ _ _).mono (fun r h c => ⟨(h c).1.trans ?_, (h c).2⟩) (Cert.RFf2Ideal.Value.run (F := Ideal) m' ρ')⟩
  · obtain ⟨h0, h1⟩ := hag c
    rw [h0, h1]
    exact funext fun i => Cert.RFf2Ideal.Entries.value _ _ i

/-- The reference ends with its arguments as they were. -/
theorem frame_RFf2 : Cert.quiescent_RFf2Ideal := fun m ρ _ =>
  (θ_run Cert.RFf2Ideal.defs _ _).mono (fun r h => ⟨fun c => (h c).2, sem_eq_zero_of_no_sems (by decide) r.2⟩) (Cert.RFf2Ideal.Value.run (F := Ideal) m ρ)

end Cert.Proof

end
-- ==== Proof.InValue.lean ====
/-
  The input projection: what the call leaves, entry by entry, over the extended reals.
-/
module

public import proofs.«01_k».proof.Proof.Products
public import proofs.«01_k».proof.Proof.Gen.KInIdeal.Value
public import proofs.«01_k».proof.Proof.Gen.RInIdeal.Run
public import proofs.«01_k».proof.Defs

@[expose] public section

noncomputable section

namespace Cert.KInIdeal.Entries

open Cert.KInIdeal Cert.KInIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay2 k0_pay1 (iblk m c 0 t) (iblk m c 1 t) := by
  unfold outsAt0 out0_A_2
  rw [View.read_writes_eq_canon _ _ _ (fun _ => cover0_A_2 ..)]
  unfold kernelRun0_A
  dsimp only
  sl_unfold_words
  rw [View.canon_unit_zero (S := S1408x768) origin]
  simp only [View.readAt_eq_ld, (hs0_0 t).read_unread, (hs0_1 t).read_unread, (Memref.isWhole_whole _).read_unread, View.ld_unit_zero (S := S1408x768) origin, View.ld_unit_zero (S := S1408x1024) origin, View.ld_unit_zero (S := S1024x768) origin, View.readCov_unit_zero (S := S1408x768) _ origin, View.readCov_cons_unit_lit' (S := S1408x768) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 5 ∧ win0_0.index t (1 : Fin 2) = 0 ∧ win0_1.index t (0 : Fin 2) = 0 ∧ win0_1.index t (1 : Fin 2) = t.val % 5 ∧ win0_2.index t (0 : Fin 2) = t.val / 5 ∧ win0_2.index t (1 : Fin 2) = t.val % 5 :=
  (by decide +kernel : ∀ t : Fin grid0.N, _)

theorem blk0 (c : Dev nD) (t : Fin cfg0.N) (i j : ℕ) (hi : i < 1408) (hj : j < 1024) :
    at2 (iblk m c 0 t : S1408x1024.Idx → EReal) i j = at2 (m ((c : Thread nD τ).loc main_arg0)) ((t.val / 5) * 1408 + i) ((0) * 1024 + j) := by
  obtain ⟨a0, a1, b0, b1, o2_0, o2_1⟩ := places t
  refine (at2_val _ (⟨i, hi⟩ : Fin 1408) (⟨j, hj⟩ : Fin 1024)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 1024 + 1 * j = _; rw [a1]; omega

theorem blk1 (c : Dev nD) (t : Fin cfg0.N) (i j : ℕ) (hi : i < 1024) (hj : j < 768) :
    at2 (iblk m c 1 t : S1024x768.Idx → EReal) i j = at2 (m ((c : Thread nD τ).loc main_arg1)) ((0) * 1024 + i) ((t.val % 5) * 768 + j) := by
  obtain ⟨a0, a1, b0, b1, o2_0, o2_1⟩ := places t
  refine (at2_val _ (⟨i, hi⟩ : Fin 1024) (⟨j, hj⟩ : Fin 768)).trans ?_
  unfold iblk
  rw [View.read_apply]
  show V m c main_arg1 _ = _
  unfold V
  refine at2_of (m ((c : Thread nD τ).loc main_arg1)) _ _ _ ?_ ?_
  · show win0_1.index t (0 : Fin 2) * 1024 + 1 * i = _; rw [b0]; omega
  · show win0_1.index t (1 : Fin 2) * 768 + 1 * j = _; rw [b1]; omega

/-- One step of the accumulation. -/
theorem step (v : Vec Ideal S1408x768 .f32) (x : Vec Ideal S1408x1024 .bf16) (y : Vec Ideal S1024x768 .bf16) (j : S1408x768.Idx) :
    k0_pay2 v x y j = v j + ∑ k ∈ Finset.range 1024, at2 x ((j 0).val) (k) * at2 y (k) ((j 1).val) := by
  unfold k0_pay2
  dsimp only
  rw [shapeCast_self, addf_apply]
  refine congrArg (v j + ·) ?_
  refine (mm_nn (M := 1408) (K := 1024) (N := 768) _ _ _ _ _ j).trans ?_
  rw [constant_apply, zero_word, zero_add]

theorem start (j : S1408x768.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x768.Idx) :
    ∑ k ∈ Finset.range 1024, at2 (iblk m c 0 t : S1408x1024.Idx → EReal) ((j 0).val) (k) * at2 (iblk m c 1 t : S1024x768.Idx → EReal) (k) ((j 1).val)
      = ∑ k ∈ Finset.range 1024, at2 (m ((c : Thread nD τ).loc main_arg0)) ((t.val / 5) * 1408 + (j 0).val) ((0) * 1024 + k) * at2 (m ((c : Thread nD τ).loc main_arg1)) ((0) * 1024 + k) ((t.val % 5) * 768 + (j 1).val) := by
  refine Finset.sum_congr rfl fun k hk => ?_
  have hk := Finset.mem_range.mp hk
  rw [blk0 m c t _ _ (j 0).isLt hk, blk1 m c t _ _ hk (j 1).isLt]

/-- The whole product at a point that completes a block. -/
theorem whole (c : Dev nD) (t : Fin cfg0.N) (j : S1408x768.Idx) :
    k0_pay2 k0_pay1 (iblk m c 0 t) (iblk m c 1 t) j = part m c 1024 (t.val / 5 * 1408 + (j 0).val) ((t.val % 5) * 768 + (j 1).val) := by
  rw [step, start, zero_add, block]
  unfold part
  simp only [Nat.zero_mul, Nat.zero_add]

/-- What entry `(i, j)` of the result is. -/
def entry (c : Dev nD) (i j : ℕ) : EReal :=
  part m c 1024 i j

theorem out (c : Dev nD) (t : Fin cfg0.N) (j : S1408x768.Idx) :
    (outsAt0 m c t) j = entry m c (t.val / 5 * 1408 + (j 0).val) ((t.val % 5) * 768 + (j 1).val) := by
  have key := whole m c t j
  rw [out_A]
  exact key

/-- The array that the call writes: every entry. -/
def result (c : Dev nD) : Buf (Elt Ideal) ((c : Thread nD τ).loc main_v0) := fun i => entry m c (i 0).val (i 1).val

theorem mem_block (t : Fin cfg0.N) (i : S4224x3840.Idx) :
    i ∈ ((cfg0.win 2).blk t).view.set ↔ ∀ a : Fin 2, win0_2.index t a * S1408x768.size a ≤ (i a).val ∧ (i a).val < win0_2.index t a * S1408x768.size a + S1408x768.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 768 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 3840 := (i 1).isLt
    have hN : cfg0.N = 15 := N_0
    refine ⟨⟨((i 0).val / 1408 * 5 + (i 1).val / 768) * 1 + 0, by omega⟩, ?_, ?_⟩
    · exact flush0_2 _
    · rw [mem_block]
      obtain ⟨a0, a1, b0, b1, o2_0, o2_1⟩ := places ⟨((i 0).val / 1408 * 5 + (i 1).val / 768) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 768 ≤ (i 1).val ∧ (i 1).val < win0_2.index _ (1 : Fin 2) * 768 + 768; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KInIdeal.Entries

namespace Cert.RInIdeal.Entries

open Cert.RInIdeal Cert.RInIdeal.Gen Idealize.ShloMosaic Idealize.ShloMosaic.ValueIdx Cert.Products
open scoped BigOperators

/-- The reference's product at an index. -/
theorem product (x : FVec Ideal S4224x1024 .bf16) (y : FVec Ideal S1024x3840 .bf16) (i : S4224x3840.Idx) :
    (Host.dotGeneral dot_S4224x1024_S1024x3840_S4224x3840_1_0_0_1_n_n none (extf .f32 x bitsLt_bf16_f32) (extf .f32 y bitsLt_bf16_f32) : FVec Ideal S4224x3840 .f32) i = ∑ k ∈ Finset.range 1024, at2 x (i 0).val k * at2 y k (i 1).val :=
  host_nn (M := 4224) (K := 1024) (N := 3840) _ _ _ _ _ i

/-- The reference's result at an index. -/
theorem value (x : FVec Ideal S4224x1024 .bf16) (y : FVec Ideal S1024x3840 .bf16) (i : S4224x3840.Idx) :
    (Host.dotGeneral dot_S4224x1024_S1024x3840_S4224x3840_1_0_0_1_n_n none (extf .f32 x bitsLt_bf16_f32) (extf .f32 y bitsLt_bf16_f32) : FVec Ideal S4224x3840 .f32) i = ∑ k ∈ Finset.range 1024, at2 x (i 0).val k * at2 y k (i 1).val := by
  exact product x y i

end Cert.RInIdeal.Entries

namespace Cert.Proof

open Idealize.ShloMosaic Idealize.SL.Sem Idealize.ShloMosaic.TcCoe

attribute [local instance] Cert.KInIdeal.Gen.facts Cert.RInIdeal.Gen.facts

/-- The call and its reference leave the same results. -/
theorem algebraic_In : Cert.algebraic_KInIdeal_RInIdeal := by
  intro m ρ m' ρ' _ hag
  refine ⟨fun c => Cert.KInIdeal.Entries.result m c, Cert.KInIdeal.Entries.run m ρ, (θ_run _ _ _).mono (fun r h c => ⟨(h c).1.trans ?_, (h c).2⟩) (Cert.RInIdeal.Value.run (F := Ideal) m' ρ')⟩
  · obtain ⟨h0, h1⟩ := hag c
    rw [h0, h1]
    exact funext fun i => Cert.RInIdeal.Entries.value _ _ i

/-- The reference ends with its arguments as they were. -/
theorem frame_RIn : Cert.quiescent_RInIdeal := fun m ρ _ =>
  (θ_run Cert.RInIdeal.defs _ _).mono (fun r h => ⟨fun c => (h c).2, sem_eq_zero_of_no_sems (by decide) r.2⟩) (Cert.RInIdeal.Value.run (F := Ideal) m ρ)

end Cert.Proof

end
-- ==== Proof.OutValue.lean ====
/-
  The output projection: what the call leaves, entry by entry, over the extended reals.
-/
module

public import proofs.«01_k».proof.Proof.Products
public import proofs.«01_k».proof.Proof.Gen.KOutIdeal.Value
public import proofs.«01_k».proof.Proof.Gen.ROutIdeal.Run
public import proofs.«01_k».proof.Defs

@[expose] public section

noncomputable section

namespace Cert.KOutIdeal.Entries

open Cert.KOutIdeal Cert.KOutIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- The accumulator after the first block of the contracted axis. -/
theorem acc_A (c : Dev nD) (t : Fin cfg0.N) (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1408x1024) origin]
  simp only [View.readAt_eq_ld, (hs0_0 t).read_unread, (hs0_1 t).read_unread, (Memref.isWhole_whole _).read_unread, View.ld_unit_zero (S := S1408x1024) origin, View.ld_unit_zero (S := S1408x768) origin, View.ld_unit_zero (S := S768x1024) origin, View.readCov_unit_zero (S := S1408x1024) _ origin, View.readCov_cons_unit_lit' (S := S1408x1024) _ _ _ _ _ (congrFun origin) (congrFun origin)]

/-- The output block after the last block of the contracted axis. -/
theorem out_C (c : Dev nD) (t : Fin cfg0.N) (h0 : ¬t.val % 2 = 0) (h1 : t.val % 2 = 1) :
    (outsAt0 m c t.val t.isLt).1 = k0_pay2 (outsAt0 m c (t.val - 1) (Nat.lt_of_le_of_lt (Nat.sub_le _ _) t.isLt)).2 (iblk m c 0 t) (iblk m c 1 t) := by
  rw [outsAt0_B m c t h0 h1]
  dsimp only
  unfold out0_B_2
  rw [View.read_writes_eq_canon _ _ _ (fun _ => cover0_B_2 ..)]
  unfold kernelRun0_B
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x768) origin, View.ld_unit_zero (S := S768x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 2 ∧ win0_0.index t (1 : Fin 2) = t.val % 2 ∧ win0_1.index t (0 : Fin 2) = t.val % 2 ∧ win0_1.index t (1 : Fin 2) = t.val / 2 % 1 ∧ win0_2.index t (0 : Fin 2) = t.val / 2 ∧ win0_2.index t (1 : Fin 2) = t.val / 2 % 1 :=
  (by decide +kernel : ∀ t : Fin grid0.N, _)

theorem blk0 (c : Dev nD) (t : Fin cfg0.N) (i j : ℕ) (hi : i < 1408) (hj : j < 768) :
    at2 (iblk m c 0 t : S1408x768.Idx → EReal) i j = at2 (m ((c : Thread nD τ).loc main_arg0)) ((t.val / 2) * 1408 + i) ((t.val % 2) * 768 + j) := by
  obtain ⟨a0, a1, b0, b1, o2_0, o2_1⟩ := places t
  refine (at2_val _ (⟨i, hi⟩ : Fin 1408) (⟨j, hj⟩ : Fin 768)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 768 + 1 * j = _; rw [a1]; omega

theorem blk1 (c : Dev nD) (t : Fin cfg0.N) (i j : ℕ) (hi : i < 768) (hj : j < 1024) :
    at2 (iblk m c 1 t : S768x1024.Idx → EReal) i j = at2 (m ((c : Thread nD τ).loc main_arg1)) ((t.val % 2) * 768 + i) ((t.val / 2 % 1) * 1024 + j) := by
  obtain ⟨a0, a1, b0, b1, o2_0, o2_1⟩ := places t
  refine (at2_val _ (⟨i, hi⟩ : Fin 768) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 768 + 1 * i = _; rw [b0]; omega
  · show win0_1.index t (1 : Fin 2) * 1024 + 1 * j = _; rw [b1]; omega

/-- One step of the accumulation. -/
theorem step (v : Vec Ideal S1408x1024 .f32) (x : Vec Ideal S1408x768 .bf16) (y : Vec Ideal S768x1024 .bf16) (j : S1408x1024.Idx) :
    k0_pay2 v x y j = v j + ∑ k ∈ Finset.range 768, at2 x ((j 0).val) (k) * at2 y (k) ((j 1).val) := by
  unfold k0_pay2
  dsimp only
  rw [shapeCast_self, addf_apply]
  refine congrArg (v j + ·) ?_
  refine (mm_nn (M := 1408) (K := 768) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x1024.Idx) :
    ∑ k ∈ Finset.range 768, at2 (iblk m c 0 t : S1408x768.Idx → EReal) ((j 0).val) (k) * at2 (iblk m c 1 t : S768x1024.Idx → EReal) (k) ((j 1).val)
      = ∑ k ∈ Finset.range 768, at2 (m ((c : Thread nD τ).loc main_arg0)) ((t.val / 2) * 1408 + (j 0).val) ((t.val % 2) * 768 + k) * at2 (m ((c : Thread nD τ).loc main_arg1)) ((t.val % 2) * 768 + k) ((t.val / 2 % 1) * 1024 + (j 1).val) := by
  refine Finset.sum_congr rfl fun k hk => ?_
  have hk := Finset.mem_range.mp hk
  rw [blk0 m c t _ _ (j 0).isLt hk, blk1 m c t _ _ hk (j 1).isLt]

/-- The accumulator holds the partial product. -/
theorem acc (c : Dev nD) : ∀ (s q : ℕ) (hs : s < 1) (h : 2 * q + s < cfg0.N) (j : S1408x1024.Idx),
    (outsAt0 m c (2 * q + s) h).2 j = part m c ((s + 1) * 768) (q / 1 * 1408 + (j 0).val) (q % 1 * 1024 + (j 1).val)
  | 0, q, hs, h, j => by
    have e := acc_A m c ⟨2 * q + 0, h⟩ (by dsimp only; omega) (by dsimp only; omega)
    dsimp only at e
    rw [e, step, start, zero_add, block]
    dsimp only
    rw [show (2 * q + 0) / 2 % 1 = q % 1 by omega, show (2 * q + 0) / 2 = q / 1 by omega, show (2 * q + 0) % 2 = 0 by omega]
    unfold part
    simp only [Nat.zero_mul, Nat.zero_add, Nat.one_mul]
  | s + 1, q, hs, h, j => by
    omega

/-- The whole product at a point that completes a block. -/
theorem whole (c : Dev nD) (t : Fin cfg0.N) (h1 : t.val % 2 = 1) (j : S1408x1024.Idx) :
    k0_pay2 (outsAt0 m c (t.val - 1) (Nat.lt_of_le_of_lt (Nat.sub_le _ _) t.isLt)).2 (iblk m c 0 t) (iblk m c 1 t) j = part m c 1536 (t.val / 2 * 1408 + (j 0).val) ((t.val / 2 % 1) * 1024 + (j 1).val) := by
  have ht : 2 * (t.val / 2) + 0 < cfg0.N := by have := t.isLt; omega
  have e2 : ∀ (n : ℕ) (hn : n < cfg0.N), n = 2 * (t.val / 2) + 0 →
      (outsAt0 m c n hn).2 j = part m c (1 * 768) (t.val / 2 / 1 * 1408 + (j 0).val) (t.val / 2 % 1 * 1024 + (j 1).val) := by
    intro n hn hh; subst hh; exact acc m c 0 (t.val / 2) (by omega) hn j
  rw [step, e2 _ _ (by omega), block, h1, show t.val / 2 / 1 = t.val / 2 by omega]
  exact sum_next (fun k => at2 (m ((c : Thread nD τ).loc main_arg0)) (t.val / 2 * 1408 + (j 0).val) (k) * at2 (m ((c : Thread nD τ).loc main_arg1)) (k) (t.val / 2 % 1 * 1024 + (j 1).val)) 1 768

/-- What entry `(i, j)` of the result is. -/
def entry (c : Dev nD) (i j : ℕ) : EReal :=
  part m c 1536 i j

theorem out (c : Dev nD) (t : Fin cfg0.N) (h1 : t.val % 2 = 1) (j : S1408x1024.Idx) :
    (outsAt0 m c t.val t.isLt).1 j = entry m c (t.val / 2 * 1408 + (j 0).val) ((t.val / 2 % 1) * 1024 + (j 1).val) := by
  have key := whole m c t h1 j
  rw [out_C m c t (by omega) h1]
  exact key

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t.val t.isLt).1 y = entry m c (win0_2.index t (0 : Fin 2) * 1408 + 1 * (y 0).val) (win0_2.index t (1 : Fin 2) * 1024 + 1 * (y 1).val)
  rw [o2_0, o2_1, Nat.one_mul, Nat.one_mul]
  exact out m c t ((flush0_2 t).mp hf) y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 1024 := (i 1).isLt
    have hN : cfg0.N = 6 := N_0
    refine ⟨⟨((i 0).val / 1408 * 1 + (i 1).val / 1024) * 2 + 1, by omega⟩, ?_, ?_⟩
    · exact (flush0_2 _).mpr (by dsimp only; omega)
    · rw [mem_block]
      obtain ⟨a0, a1, b0, b1, o2_0, o2_1⟩ := places ⟨((i 0).val / 1408 * 1 + (i 1).val / 1024) * 2 + 1, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KOutIdeal.Entries

namespace Cert.ROutIdeal.Entries

open Cert.ROutIdeal Cert.ROutIdeal.Gen Idealize.ShloMosaic Idealize.ShloMosaic.ValueIdx Cert.Products
open scoped BigOperators

/-- The reference's product at an index. -/
theorem product (x : FVec Ideal S4224x1536 .bf16) (y : FVec Ideal S1536x1024 .bf16) (i : S4224x1024.Idx) :
    (Host.dotGeneral dot_S4224x1536_S1536x1024_S4224x1024_1_0_0_1_n_n none (extf .f32 x bitsLt_bf16_f32) (extf .f32 y bitsLt_bf16_f32) : FVec Ideal S4224x1024 .f32) i = ∑ k ∈ Finset.range 1536, at2 x (i 0).val k * at2 y k (i 1).val :=
  host_nn (M := 4224) (K := 1536) (N := 1024) _ _ _ _ _ i

/-- The reference's result at an index. -/
theorem value (x : FVec Ideal S4224x1536 .bf16) (y : FVec Ideal S1536x1024 .bf16) (i : S4224x1024.Idx) :
    (Host.dotGeneral dot_S4224x1536_S1536x1024_S4224x1024_1_0_0_1_n_n none (extf .f32 x bitsLt_bf16_f32) (extf .f32 y bitsLt_bf16_f32) : FVec Ideal S4224x1024 .f32) i = ∑ k ∈ Finset.range 1536, at2 x (i 0).val k * at2 y k (i 1).val := by
  exact product x y i

end Cert.ROutIdeal.Entries

namespace Cert.Proof

open Idealize.ShloMosaic Idealize.SL.Sem Idealize.ShloMosaic.TcCoe

attribute [local instance] Cert.KOutIdeal.Gen.facts Cert.ROutIdeal.Gen.facts

/-- The call and its reference leave the same results. -/
theorem algebraic_Out : Cert.algebraic_KOutIdeal_ROutIdeal := by
  intro m ρ m' ρ' _ hag
  refine ⟨fun c => Cert.KOutIdeal.Entries.result m c, Cert.KOutIdeal.Entries.run m ρ, (θ_run _ _ _).mono (fun r h c => ⟨(h c).1.trans ?_, (h c).2⟩) (Cert.ROutIdeal.Value.run (F := Ideal) m' ρ')⟩
  · obtain ⟨h0, h1⟩ := hag c
    rw [h0, h1]
    exact funext fun i => Cert.ROutIdeal.Entries.value _ _ i

/-- The reference ends with its arguments as they were. -/
theorem frame_ROut : Cert.quiescent_ROutIdeal := fun m ρ _ =>
  (θ_run Cert.ROutIdeal.defs _ _).mono (fun r h => ⟨fun c => (h c).2, sem_eq_zero_of_no_sems (by decide) r.2⟩) (Cert.ROutIdeal.Value.run (F := Ideal) m ρ)

end Cert.Proof

end
-- ==== Proof.UqValue.lean ====
/-
  The query up-projection: what the call leaves, entry by entry, over the extended reals.
-/
module

public import proofs.«01_k».proof.Proof.Products
public import proofs.«01_k».proof.Proof.Gen.KUqIdeal.Value
public import proofs.«01_k».proof.Proof.Gen.RUqIdeal.Run
public import proofs.«01_k».proof.Defs

@[expose] public section

noncomputable section

namespace Cert.KUqIdeal.Entries

open Cert.KUqIdeal Cert.KUqIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay2 k0_pay1 (iblk m c 0 t) (iblk m c 1 t) := by
  unfold outsAt0 out0_A_2
  rw [View.read_writes_eq_canon _ _ _ (fun _ => cover0_A_2 ..)]
  unfold kernelRun0_A
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x384) origin, View.ld_unit_zero (S := S384x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 1 ∧ win0_0.index t (1 : Fin 2) = 0 ∧ win0_1.index t (0 : Fin 2) = 0 ∧ win0_1.index t (1 : Fin 2) = t.val % 1 ∧ win0_2.index t (0 : Fin 2) = t.val / 1 ∧ win0_2.index t (1 : Fin 2) = t.val % 1 :=
  (by decide +kernel : ∀ t : Fin grid0.N, _)

theorem blk0 (c : Dev nD) (t : Fin cfg0.N) (i j : ℕ) (hi : i < 1408) (hj : j < 384) :
    at2 (iblk m c 0 t : S1408x384.Idx → EReal) i j = at2 (m ((c : Thread nD τ).loc main_arg0)) ((t.val / 1) * 1408 + i) ((0) * 384 + j) := by
  obtain ⟨a0, a1, b0, b1, o2_0, o2_1⟩ := places t
  refine (at2_val _ (⟨i, hi⟩ : Fin 1408) (⟨j, hj⟩ : Fin 384)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 384 + 1 * j = _; rw [a1]; omega

theorem blk1 (c : Dev nD) (t : Fin cfg0.N) (i j : ℕ) (hi : i < 384) (hj : j < 1024) :
    at2 (iblk m c 1 t : S384x1024.Idx → EReal) i j = at2 (m ((c : Thread nD τ).loc main_arg1)) ((0) * 384 + i) ((t.val % 1) * 1024 + j) := by
  obtain ⟨a0, a1, b0, b1, o2_0, o2_1⟩ := places t
  refine (at2_val _ (⟨i, hi⟩ : Fin 384) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 384 + 1 * i = _; rw [b0]; omega
  · show win0_1.index t (1 : Fin 2) * 1024 + 1 * j = _; rw [b1]; omega

/-- One step of the accumulation. -/
theorem step (v : Vec Ideal S1408x1024 .f32) (x : Vec Ideal S1408x384 .bf16) (y : Vec Ideal S384x1024 .bf16) (j : S1408x1024.Idx) :
    k0_pay2 v x y j = v j + ∑ k ∈ Finset.range 384, at2 x ((j 0).val) (k) * at2 y (k) ((j 1).val) := by
  unfold k0_pay2
  dsimp only
  rw [shapeCast_self, addf_apply]
  refine congrArg (v j + ·) ?_
  refine (mm_nn (M := 1408) (K := 384) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x1024.Idx) :
    ∑ k ∈ Finset.range 384, at2 (iblk m c 0 t : S1408x384.Idx → EReal) ((j 0).val) (k) * at2 (iblk m c 1 t : S384x1024.Idx → EReal) (k) ((j 1).val)
      = ∑ k ∈ Finset.range 384, at2 (m ((c : Thread nD τ).loc main_arg0)) ((t.val / 1) * 1408 + (j 0).val) ((0) * 384 + k) * at2 (m ((c : Thread nD τ).loc main_arg1)) ((0) * 384 + k) ((t.val % 1) * 1024 + (j 1).val) := by
  refine Finset.sum_congr rfl fun k hk => ?_
  have hk := Finset.mem_range.mp hk
  rw [blk0 m c t _ _ (j 0).isLt hk, blk1 m c t _ _ hk (j 1).isLt]

/-- The whole product at a point that completes a block. -/
theorem whole (c : Dev nD) (t : Fin cfg0.N) (j : S1408x1024.Idx) :
    k0_pay2 k0_pay1 (iblk m c 0 t) (iblk m c 1 t) j = part m c 384 (t.val / 1 * 1408 + (j 0).val) ((t.val % 1) * 1024 + (j 1).val) := by
  rw [step, start, zero_add, block]
  unfold part
  simp only [Nat.zero_mul, Nat.zero_add]

/-- What entry `(i, j)` of the result is. -/
def entry (c : Dev nD) (i j : ℕ) : EReal :=
  part m c 384 i j

theorem out (c : Dev nD) (t : Fin cfg0.N) (j : S1408x1024.Idx) :
    (outsAt0 m c t) j = entry m c (t.val / 1 * 1408 + (j 0).val) ((t.val % 1) * 1024 + (j 1).val) := by
  have key := whole m c t j
  rw [out_A]
  exact key

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 1024 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 1024 := (i 1).isLt
    have hN : cfg0.N = 3 := N_0
    refine ⟨⟨((i 0).val / 1408 * 1 + (i 1).val / 1024) * 1 + 0, by omega⟩, ?_, ?_⟩
    · exact flush0_2 _
    · rw [mem_block]
      obtain ⟨a0, a1, b0, b1, o2_0, o2_1⟩ := places ⟨((i 0).val / 1408 * 1 + (i 1).val / 1024) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KUqIdeal.Entries

namespace Cert.RUqIdeal.Entries

open Cert.RUqIdeal Cert.RUqIdeal.Gen Idealize.ShloMosaic Idealize.ShloMosaic.ValueIdx Cert.Products
open scoped BigOperators

/-- The reference's product at an index. -/
theorem product (x : FVec Ideal S4224x384 .bf16) (y : FVec Ideal S384x1024 .bf16) (i : S4224x1024.Idx) :
    (Host.dotGeneral dot_S4224x384_S384x1024_S4224x1024_1_0_0_1_n_n none (extf .f32 x bitsLt_bf16_f32) (extf .f32 y bitsLt_bf16_f32) : FVec Ideal S4224x1024 .f32) i = ∑ k ∈ Finset.range 384, at2 x (i 0).val k * at2 y k (i 1).val :=
  host_nn (M := 4224) (K := 384) (N := 1024) _ _ _ _ _ i

/-- The reference's result at an index. -/
theorem value (x : FVec Ideal S4224x384 .bf16) (y : FVec Ideal S384x1024 .bf16) (i : S4224x1024.Idx) :
    (Host.dotGeneral dot_S4224x384_S384x1024_S4224x1024_1_0_0_1_n_n none (extf .f32 x bitsLt_bf16_f32) (extf .f32 y bitsLt_bf16_f32) : FVec Ideal S4224x1024 .f32) i = ∑ k ∈ Finset.range 384, at2 x (i 0).val k * at2 y k (i 1).val := by
  exact product x y i

end Cert.RUqIdeal.Entries

namespace Cert.Proof

open Idealize.ShloMosaic Idealize.SL.Sem Idealize.ShloMosaic.TcCoe

attribute [local instance] Cert.KUqIdeal.Gen.facts Cert.RUqIdeal.Gen.facts

/-- The call and its reference leave the same results. -/
theorem algebraic_Uq : Cert.algebraic_KUqIdeal_RUqIdeal := by
  intro m ρ m' ρ' _ hag
  refine ⟨fun c => Cert.KUqIdeal.Entries.result m c, Cert.KUqIdeal.Entries.run m ρ, (θ_run _ _ _).mono (fun r h c => ⟨(h c).1.trans ?_, (h c).2⟩) (Cert.RUqIdeal.Value.run (F := Ideal) m' ρ')⟩
  · obtain ⟨h0, h1⟩ := hag c
    rw [h0, h1]
    exact funext fun i => Cert.RUqIdeal.Entries.value _ _ i

/-- The reference ends with its arguments as they were. -/
theorem frame_RUq : Cert.quiescent_RUqIdeal := fun m ρ _ =>
  (θ_run Cert.RUqIdeal.defs _ _).mono (fun r h => ⟨fun c => (h c).2, sem_eq_zero_of_no_sems (by decide) r.2⟩) (Cert.RUqIdeal.Value.run (F := Ideal) m ρ)

end Cert.Proof

end
-- ==== Proof.UkvValue.lean ====
/-
  The key-value up-projection: what the call leaves, entry by entry, over the extended reals.
-/
module

public import proofs.«01_k».proof.Proof.Products
public import proofs.«01_k».proof.Proof.Gen.KUkvIdeal.Value
public import proofs.«01_k».proof.Proof.Gen.RUkvIdeal.Run
public import proofs.«01_k».proof.Defs

@[expose] public section

noncomputable section

namespace Cert.KUkvIdeal.Entries

open Cert.KUkvIdeal Cert.KUkvIdeal.Gen Idealize.ShloMosaic Idealize.ShloMosaic.TcCoe Idealize.SL.Sem Idealize.ShloMosaic.ValueIdx Cert.Products
open Idealize.ShloMosaic.Pipeline (Dat)
open scoped BigOperators

section AnyFloat

variable {F : FTy → Type} [FloatOps F]
variable (m : (ℓ : Loc nD τ sig) → Buf (Elt F) ℓ)

/-- What a point leaves in the output block. -/
theorem out_A (c : Dev nD) (t : Fin cfg0.N) :
    (outsAt0 m c t) = k0_pay3 (k0_pay2 k0_pay1 (iblk m c 0 t) (iblk m c 1 t)) := by
  unfold outsAt0 out0_A_2
  rw [View.read_writes_eq_canon _ _ _ (fun _ => cover0_A_2 ..)]
  unfold kernelRun0_A
  dsimp only
  sl_unfold_words
  rw [View.canon_unit_zero (S := S1408x1024) origin]
  simp only [View.readAt_eq_ld, (hs0_0 t).read_unread, (hs0_1 t).read_unread, (Memref.isWhole_whole _).read_unread, View.ld_unit_zero (S := S1408x1024) origin, View.ld_unit_zero (S := S1408x256) origin, View.ld_unit_zero (S := S256x1024) origin, View.readCov_unit_zero (S := S1408x1024) _ origin, View.readCov_cons_unit_lit' (S := S1408x1024) _ _ _ _ _ (congrFun origin) (congrFun origin)]

end AnyFloat

variable (m : (ℓ : Loc nD τ sig) → Buf (Elt Ideal) ℓ)

/-- Which block of each array a point takes. -/
theorem places : ∀ t : Fin cfg0.N, win0_0.index t (0 : Fin 2) = t.val / 1 ∧ win0_0.index t (1 : Fin 2) = 0 ∧ win0_1.index t (0 : Fin 2) = 0 ∧ win0_1.index t (1 : Fin 2) = t.val % 1 ∧ win0_2.index t (0 : Fin 2) = t.val / 1 ∧ win0_2.index t (1 : Fin 2) = t.val % 1 :=
  (by decide +kernel : ∀ t : Fin grid0.N, _)

theorem blk0 (c : Dev nD) (t : Fin cfg0.N) (i j : ℕ) (hi : i < 1408) (hj : j < 256) :
    at2 (iblk m c 0 t : S1408x256.Idx → EReal) i j = at2 (m ((c : Thread nD τ).loc main_arg0)) ((t.val / 1) * 1408 + i) ((0) * 256 + j) := by
  obtain ⟨a0, a1, b0, b1, o2_0, o2_1⟩ := places t
  refine (at2_val _ (⟨i, hi⟩ : Fin 1408) (⟨j, hj⟩ : Fin 256)).trans ?_
  unfold iblk
  rw [View.read_apply]
  show V m c main_arg0 _ = _
  unfold V
  refine at2_of (m ((c : Thread nD τ).loc main_arg0)) _ _ _ ?_ ?_
  · show win0_0.index t (0 : Fin 2) * 1408 + 1 * i = _; rw [a0]; omega
  · show win0_0.index t (1 : Fin 2) * 256 + 1 * j = _; rw [a1]; omega

theorem blk1 (c : Dev nD) (t : Fin cfg0.N) (i j : ℕ) (hi : i < 256) (hj : j < 1024) :
    at2 (iblk m c 1 t : S256x1024.Idx → EReal) i j = at2 (m ((c : Thread nD τ).loc main_arg1)) ((0) * 256 + i) ((t.val % 1) * 1024 + j) := by
  obtain ⟨a0, a1, b0, b1, o2_0, o2_1⟩ := places t
  refine (at2_val _ (⟨i, hi⟩ : Fin 256) (⟨j, hj⟩ : Fin 1024)).trans ?_
  unfold iblk
  rw [View.read_apply]
  show V m c main_arg1 _ = _
  unfold V
  refine at2_of (m ((c : Thread nD τ).loc main_arg1)) _ _ _ ?_ ?_
  · show win0_1.index t (0 : Fin 2) * 256 + 1 * i = _; rw [b0]; omega
  · show win0_1.index t (1 : Fin 2) * 1024 + 1 * j = _; rw [b1]; omega

/-- One step of the accumulation. -/
theorem step (v : Vec Ideal S1408x1024 .f32) (x : Vec Ideal S1408x256 .bf16) (y : Vec Ideal S256x1024 .bf16) (j : S1408x1024.Idx) :
    k0_pay2 v x y j = v j + ∑ k ∈ Finset.range 256, at2 x ((j 0).val) (k) * at2 y (k) ((j 1).val) := by
  unfold k0_pay2
  dsimp only
  rw [shapeCast_self, addf_apply]
  refine congrArg (v j + ·) ?_
  refine (mm_nn (M := 1408) (K := 256) (N := 1024) _ _ _ _ _ j).trans ?_
  rw [constant_apply, zero_word, zero_add]

theorem start (j : S1408x1024.Idx) : (k0_pay1 (F := Ideal)) j = 0 := by
  unfold k0_pay1
  rw [shapeCast_self]
  exact zero_word

/-- The product of the two arrays up to the `n`-th place of the contracted axis. -/
def part (c : Dev nD) (n i j : ℕ) : EReal :=
  ∑ k ∈ Finset.range n, at2 (m ((c : Thread nD τ).loc main_arg0)) (i) (k) * at2 (m ((c : Thread nD τ).loc main_arg1)) (k) (j)

theorem block (c : Dev nD) (t : Fin cfg0.N) (j : S1408x1024.Idx) :
    ∑ k ∈ Finset.range 256, at2 (iblk m c 0 t : S1408x256.Idx → EReal) ((j 0).val) (k) * at2 (iblk m c 1 t : S256x1024.Idx → EReal) (k) ((j 1).val)
      = ∑ k ∈ Finset.range 256, at2 (m ((c : Thread nD τ).loc main_arg0)) ((t.val / 1) * 1408 + (j 0).val) ((0) * 256 + k) * at2 (m ((c : Thread nD τ).loc main_arg1)) ((0) * 256 + k) ((t.val % 1) * 1024 + (j 1).val) := by
  refine Finset.sum_congr rfl fun k hk => ?_
  have hk := Finset.mem_range.mp hk
  rw [blk0 m c t _ _ (j 0).isLt hk, blk1 m c t _ _ hk (j 1).isLt]

/-- The whole product at a point that completes a block. -/
theorem whole (c : Dev nD) (t : Fin cfg0.N) (j : S1408x1024.Idx) :
    k0_pay2 k0_pay1 (iblk m c 0 t) (iblk m c 1 t) j = part m c 256 (t.val / 1 * 1408 + (j 0).val) ((t.val % 1) * 1024 + (j 1).val) := by
  rw [step, start, zero_add, block]
  unfold part
  simp only [Nat.zero_mul, Nat.zero_add]

/-- What entry `(i, j)` of the result is. -/
def entry (c : Dev nD) (i j : ℕ) : EReal :=
  part m c 256 i j

theorem out (c : Dev nD) (t : Fin cfg0.N) (j : S1408x1024.Idx) :
    (outsAt0 m c t) j = entry m c (t.val / 1 * 1408 + (j 0).val) ((t.val % 1) * 1024 + (j 1).val) := by
  have key := whole m c t j
  rw [out_A]
  unfold k0_pay3
  rw [truncf_apply]
  exact key

/-- The array that the call writes: every entry. -/
def result (c : Dev nD) : Buf (Elt Ideal) ((c : Thread nD τ).loc main_v0) := fun i => entry m c (i 0).val (i 1).val

theorem mem_block (t : Fin cfg0.N) (i : S4224x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]
  exact Iff.rfl

theorem flushed_result (c : Dev nD) (t : Fin cfg0.N) (hf : (cfg0.win 2).flush t = true) :
    (dats m 0 c).flushed 2 t = ((cfg0.win 2).blk t).view.read (Elt Ideal) (result m c) := by
  rw [Value.flushed2]
  obtain ⟨a0, a1, b0, b1, o2_0, o2_1⟩ := places t
  funext y
  rw [View.read_apply]
  show (outsAt0 m c t) y = entry m c (win0_2.index t (0 : Fin 2) * 1408 + 1 * (y 0).val) (win0_2.index t (1 : Fin 2) * 1024 + 1 * (y 1).val)
  rw [o2_0, o2_1, Nat.one_mul, Nat.one_mul]
  exact out m c t y

theorem final (c : Dev nD) : (dats m 0 c).arrAt 2 cfg0.N = result m c :=
  (dats m 0 c).arrAt_eq_of_cover 2 _ (flushed_result m c) fun i => by
    have h0 : (i 0).val < 4224 := (i 0).isLt
    have h1 : (i 1).val < 1024 := (i 1).isLt
    have hN : cfg0.N = 3 := N_0
    refine ⟨⟨((i 0).val / 1408 * 1 + (i 1).val / 1024) * 1 + 0, by omega⟩, ?_, ?_⟩
    · exact flush0_2 _
    · rw [mem_block]
      obtain ⟨a0, a1, b0, b1, o2_0, o2_1⟩ := places ⟨((i 0).val / 1408 * 1 + (i 1).val / 1024) * 1 + 0, by omega⟩
      dsimp only at o2_0 o2_1
      intro a
      match a with
      | ⟨0, _⟩ => show win0_2.index _ (0 : Fin 2) * 1408 ≤ (i 0).val ∧ (i 0).val < win0_2.index _ (0 : Fin 2) * 1408 + 1408; rw [o2_0]; omega
      | ⟨1, _⟩ => show win0_2.index _ (1 : Fin 2) * 1024 ≤ (i 1).val ∧ (i 1).val < win0_2.index _ (1 : Fin 2) * 1024 + 1024; rw [o2_1]; omega

/-- The run of the call, its results at `entry`. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (Value.run_blocks m ρ)

end Cert.KUkvIdeal.Entries

namespace Cert.RUkvIdeal.Entries

open Cert.RUkvIdeal Cert.RUkvIdeal.Gen Idealize.ShloMosaic Idealize.ShloMosaic.ValueIdx Cert.Products
open scoped BigOperators

/-- The reference's product at an index. -/
theorem product (x : FVec Ideal S4224x256 .bf16) (y : FVec Ideal S256x1024 .bf16) (i : S4224x1024.Idx) :
    (Host.dotGeneral dot_S4224x256_S256x1024_S4224x1024_1_0_0_1_n_n none (extf .f32 x bitsLt_bf16_f32) (extf .f32 y bitsLt_bf16_f32) : FVec Ideal S4224x1024 .f32) i = ∑ k ∈ Finset.range 256, at2 x (i 0).val k * at2 y k (i 1).val :=
  host_nn (M := 4224) (K := 256) (N := 1024) _ _ _ _ _ i

/-- The reference's result at an index. -/
theorem value (x : FVec Ideal S4224x256 .bf16) (y : FVec Ideal S256x1024 .bf16) (i : S4224x1024.Idx) :
    (truncf .bf16 (Host.dotGeneral dot_S4224x256_S256x1024_S4224x1024_1_0_0_1_n_n none (extf .f32 x bitsLt_bf16_f32) (extf .f32 y bitsLt_bf16_f32)) bitsLt_bf16_f32 : FVec Ideal S4224x1024 .bf16) i = ∑ k ∈ Finset.range 256, at2 x (i 0).val k * at2 y k (i 1).val := by
  rw [truncf_apply]
  exact product x y i

end Cert.RUkvIdeal.Entries

namespace Cert.Proof

open Idealize.ShloMosaic Idealize.SL.Sem Idealize.ShloMosaic.TcCoe

attribute [local instance] Cert.KUkvIdeal.Gen.facts Cert.RUkvIdeal.Gen.facts

/-- The call and its reference leave the same results. -/
theorem algebraic_Ukv : Cert.algebraic_KUkvIdeal_RUkvIdeal := by
  intro m ρ m' ρ' _ hag
  refine ⟨fun c => Cert.KUkvIdeal.Entries.result m c, Cert.KUkvIdeal.Entries.run m ρ, (θ_run _ _ _).mono (fun r h c => ⟨(h c).1.trans ?_, (h c).2⟩) (Cert.RUkvIdeal.Value.run (F := Ideal) m' ρ')⟩
  · obtain ⟨h0, h1⟩ := hag c
    rw [h0, h1]
    exact funext fun i => Cert.RUkvIdeal.Entries.value _ _ i

/-- The reference ends with its arguments as they were. -/
theorem frame_RUkv : Cert.quiescent_RUkvIdeal := fun m ρ _ =>
  (θ_run Cert.RUkvIdeal.defs _ _).mono (fun r h => ⟨fun c => (h c).2, sem_eq_zero_of_no_sems (by decide) r.2⟩) (Cert.RUkvIdeal.Value.run (F := Ideal) m ρ)

end Cert.Proof

end
-- ==== Proof.Steps.lean ====
/-
  The optimiser's step and the layer norm, entry by entry, over the extended reals: what both the calls and their
  references compute, and the operations on blocks of which they are made, read at an index.
-/
module

public import proofs.«01_k».proof.Proof.Products
public import Idealize.ShloMosaic.Lib.Pointwise.Reduce
public import Idealize.ShloMosaic.Lib.Pointwise.IndexBridge
public import Idealize.ShloMosaic.Lib.ValueLayout
public import Idealize.ShloMosaic.Lib.ValueLayoutCasts

@[expose] public section

noncomputable section

namespace Cert.Steps

open Idealize.ShloMosaic Idealize.ShloMosaic.ValueIdx Cert.Products
open scoped BigOperators

/-- An array of rank three read at natural numbers, zero outside it. -/
def at3 {a b d : ℕ} (x : (⟨3, ![a, b, d]⟩ : Shape).Idx → EReal) (k i j : ℕ) : EReal :=
  if h : k < a ∧ i < b ∧ j < d then x (ValueIdx.ix3 ⟨k, h.1⟩ ⟨i, h.2.1⟩ ⟨j, h.2.2⟩) else 0

theorem at3_val {a b d : ℕ} (x : (⟨3, ![a, b, d]⟩ : Shape).Idx → EReal) (k : Fin a) (i : Fin b) (j : Fin d) :
    at3 x k.val i.val j.val = x (ValueIdx.ix3 k i j) := dif_pos ⟨k.isLt, i.isLt, j.isLt⟩

/-- An entry by its three coordinates. -/
theorem at3_of {a b d : ℕ} (x : (⟨3, ![a, b, d]⟩ : Shape).Idx → EReal) (y : (⟨3, ![a, b, d]⟩ : Shape).Idx) (k i j : ℕ)
    (hk : (y 0).val = k) (hi : (y 1).val = i) (hj : (y 2).val = j) : x y = at3 x k i j := by
  subst hk hi hj
  exact (congrArg x (ValueIdx.eq_ix3 y)).trans (at3_val x (y 0) (y 1) (y 2)).symm

/-- A vector read at a natural number, zero outside it. -/
def at1 {a : ℕ} (x : (⟨1, ![a]⟩ : Shape).Idx → EReal) (i : ℕ) : EReal :=
  if h : i < a then x (ValueIdx.ix1 ⟨i, h⟩) else 0

theorem at1_val {a : ℕ} (x : (⟨1, ![a]⟩ : Shape).Idx → EReal) (i : Fin a) : at1 x i.val = x (ValueIdx.ix1 i) := dif_pos i.isLt

theorem at1_of {a : ℕ} (x : (⟨1, ![a]⟩ : Shape).Idx → EReal) (y : (⟨1, ![a]⟩ : Shape).Idx) (i : ℕ)
    (hi : (y 0).val = i) : x y = at1 x i := by
  subst hi
  exact (congrArg x (ValueIdx.eq_ix1 y)).trans (at1_val x (y 0)).symm

/-! ## The optimiser -/

/-- The word of a constant. -/
abbrev word (w : BitVec 32) : EReal := Ideal.ofBits .f32 w

/-- The first moment after a step. -/
def first (g u : EReal) : EReal := word 0x3F666666#32 * u + word 0x3DCCCCCD#32 * g

/-- The second moment after a step. -/
def second (g u : EReal) : EReal := word 0x3F7FBE77#32 * u + word 0x3A83126F#32 * (g * g)

/-- The change of a weight `w`, of the gradient `g` and the two moments before the step. -/
def change (g w u v : EReal) : EReal :=
  word 0xBA83126F#32 * (Ideal.div (Ideal.div (first g u) (word 0x3F26BD02#32))
    (FloatOps.sqrt (F := Ideal) (φ := .f32) (Ideal.div (second g v) (word 0x3C231ACC#32)) + word 0x322BCC77#32) + word 0x3C23D70A#32 * w)

/-- The gradient at an entry: the sum of what the eight devices contribute. -/
def total {a b : ℕ} (x : (⟨3, ![8, a, b]⟩ : Shape).Idx → EReal) (i j : ℕ) : EReal := ∑ k ∈ Finset.range 8, at3 x k i j

/-- One device's part of a block, its leading unit axis dropped. -/
theorem piece {a b : ℕ} (x : (⟨3, ![8, a, b]⟩ : Shape).Idx → EReal) (k : ℕ) (y : (⟨3, ![1, a, b]⟩ : Shape).Idx → EReal)
    (hy : ∀ z : (⟨3, ![1, a, b]⟩ : Shape).Idx, y z = at3 x k (z 1).val (z 2).val)
    (h : (⟨3, ![1, a, b]⟩ : Shape).ShapeCasts ⟨2, ![a, b]⟩) (j : (⟨2, ![a, b]⟩ : Shape).Idx) :
    shapeCast ⟨2, ![a, b]⟩ y h j = at3 x k (j 0).val (j 1).val :=
  ((congrArg (shapeCast ⟨2, ![a, b]⟩ y h) (ValueIdx.eq_ix2 j)).trans (shapeCast_1ab_ab_apply y h (j 0) (j 1))).trans (hy _)

/-- Eight terms added one after the other. -/
theorem sum_eight {p0 p1 p2 p3 p4 p5 p6 p7 : EReal} (f : ℕ → EReal) (h0 : p0 = f 0) (h1 : p1 = f 1) (h2 : p2 = f 2)
    (h3 : p3 = f 3) (h4 : p4 = f 4) (h5 : p5 = f 5) (h6 : p6 = f 6) (h7 : p7 = f 7) :
    ((((((p0 + p1) + p2) + p3) + p4) + p5) + p6) + p7 = ∑ k ∈ Finset.range 8, f k := by
  subst h0 h1 h2 h3 h4 h5 h6 h7
  simp only [Finset.sum_range_succ, Finset.sum_range_zero, zero_add]

/-- The reference's sum over the devices. -/
theorem host_total {a b : ℕ} {u : Shape} (x : FVec Ideal ⟨3, ![8, a, b]⟩ .f32) (init : u.Idx → Ideal .f32)
    (h : (⟨3, ![8, a, b]⟩ : Shape).ReducesTo [0] ⟨2, ![a, b]⟩) (hu : 0 < u.numel) (h0 : init (Shape.Idx.first hu) = (0 : EReal))
    (j : (⟨2, ![a, b]⟩ : Shape).Idx) : (Host.reduceAdd x init h hu : FVec Ideal ⟨2, ![a, b]⟩ .f32) j = total x (j 0).val (j 1).val := by
  refine (Ideal.hostReduceAdd_r3_a0 h x _ j).trans ?_
  rw [h0, zero_add]
  unfold total
  rw [Finset.sum_range]
  exact Finset.sum_congr rfl fun k _ => at3_of x _ k.val _ _ rfl rfl rfl

/-! ## Sums along a row -/

/-- The reference's sum of a row. -/
theorem host_row {a b : ℕ} {u : Shape} (x : FVec Ideal ⟨2, ![a, b]⟩ .f32) (init : u.Idx → Ideal .f32)
    (h : (⟨2, ![a, b]⟩ : Shape).ReducesTo [1] ⟨1, ![a]⟩) (hu : 0 < u.numel) (h0 : init (Shape.Idx.first hu) = (0 : EReal))
    (j : (⟨1, ![a]⟩ : Shape).Idx) : (Host.reduceAdd x init h hu : FVec Ideal ⟨1, ![a]⟩ .f32) j = ∑ k ∈ Finset.range b, at2 x (j 0).val k := by
  refine (Ideal.hostReduceAdd_r2_a1 h x _ j).trans ?_
  rw [h0, zero_add, Finset.sum_range]
  exact Finset.sum_congr rfl fun k _ => at2_of x _ _ k.val rfl rfl

/-- The kernel's sum of a row. -/
theorem kernel_row {a b : ℕ} (x : FVec Ideal ⟨2, ![a, b]⟩ .f32) (h : (⟨2, ![a, b]⟩ : Shape).Reduces [1] ⟨1, ![a]⟩) (hf) (hacc)
    (j : (⟨1, ![a]⟩ : Shape).Idx) :
    (multiReduction .add [1] ⟨1, ![a]⟩ x 0x00000000#32 h hf hacc : FVec Ideal ⟨1, ![a]⟩ .f32) j = ∑ k ∈ Finset.range b, at2 x (j 0).val k := by
  refine (Ideal.reduceAdd_r2_a1 h x j).trans ?_
  rw [Finset.sum_range]
  exact Finset.sum_congr rfl fun k _ => at2_of x _ _ k.val rfl rfl

end Cert.Steps

end
-- ==== Proof.AdamValue.lean ====
/-
  The optimiser's step on one layer's large weights: what the call leaves, entry by entry, over the extended reals.
-/
module

public import proofs.«01_k».proof.Proof.Steps
public import proofs.«01_k».proof.Proof.Gen.KAdamIdeal.Value
public import proofs.«01_k».proof.Proof.Gen.RAdamIdeal.Run
public import proofs.«01_k».proof.Defs

@[expose] public section

noncomputable section

namespace Cert.KAdamIdeal.Entries

open Cert.KAdamIdeal Cert.KAdamIdeal.Gen Idealize.ShloMosaic Idealize.ShloMosaic.TcCoe Idealize.SL.Sem Cert.Products Cert.Steps
open Idealize.ShloMosaic.Pipeline (Dat)
open scoped BigOperators

variable (m : (ℓ : Loc nD τ sig) → Buf (Elt Ideal) ℓ)

/-- Which block of each array a point takes. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem blk0 (c : Dev nD) (t : Fin cfg0.N) (y : S8x48x512.Idx) :
    (iblk m c 0 t : S8x48x512.Idx → EReal) y = at3 (m ((c : Thread nD τ).loc main_arg0)) (y 0).val (t.val * 48 + (y 1).val) (y 2).val := by
  obtain ⟨⟨a0, a1, a2⟩, -⟩ := places t
  unfold iblk
  rw [View.read_apply]
  show V m c main_arg0 _ = _
  unfold V
  refine at3_of (m ((c : Thread nD τ).loc main_arg0)) _ _ _ _ ?_ ?_ ?_
  · show win0_0.index t (0 : Fin 3) * 8 + 1 * (y 0).val = _; rw [a0]; omega
  · show win0_0.index t (1 : Fin 3) * 48 + 1 * (y 1).val = _; rw [a1]; omega
  · show win0_0.index t (2 : Fin 3) * 512 + 1 * (y 2).val = _; rw [a2]; omega

theorem blk1 (c : Dev nD) (t : Fin cfg0.N) (y : S48x512.Idx) :
    (iblk m c 1 t : S48x512.Idx → EReal) y = at2 (m ((c : Thread nD τ).loc main_arg1)) (t.val * 48 + (y 0).val) (y 1).val := by
  obtain ⟨-, ⟨a0, a1⟩, -⟩ := places t
  unfold iblk
  rw [View.read_apply]
  show V m c main_arg1 _ = _
  unfold V
  refine at2_of (m ((c : Thread nD τ).loc main_arg1)) _ _ _ ?_ ?_
  · show win0_1.index t (0 : Fin 2) * 48 + 1 * (y 0).val = _; rw [a0]; omega
  · show win0_1.index t (1 : Fin 2) * 512 + 1 * (y 1).val = _; rw [a1]; omega

theorem blk2 (c : Dev nD) (t : Fin cfg0.N) (y : S48x512.Idx) :
    (iblk m c 2 t : S48x512.Idx → EReal) y = at2 (m ((c : Thread nD τ).loc main_arg2)) (t.val * 48 + (y 0).val) (y 1).val := by
  obtain ⟨-, -, ⟨a0, a1⟩, -⟩ := places t
  unfold iblk
  rw [View.read_apply]
  show V m c main_arg2 _ = _
  unfold V
  refine at2_of (m ((c : Thread nD τ).loc main_arg2)) _ _ _ ?_ ?_
  · show win0_2.index t (0 : Fin 2) * 48 + 1 * (y 0).val = _; rw [a0]; omega
  · show win0_2.index t (1 : Fin 2) * 512 + 1 * (y 1).val = _; rw [a1]; omega

theorem blk3 (c : Dev nD) (t : Fin cfg0.N) (y : S48x512.Idx) :
    (iblk m c 3 t : S48x512.Idx → EReal) y = at2 (m ((c : Thread nD τ).loc main_arg3)) (t.val * 48 + (y 0).val) (y 1).val := by
  obtain ⟨-, -, -, ⟨a0, a1⟩, -⟩ := places t
  unfold iblk
  rw [View.read_apply]
  show V m c main_arg3 _ = _
  unfold V
  refine at2_of (m ((c : Thread nD τ).loc main_arg3)) _ _ _ ?_ ?_
  · show win0_3.index t (0 : Fin 2) * 48 + 1 * (y 0).val = _; rw [a0]; omega
  · show win0_3.index t (1 : Fin 2) * 512 + 1 * (y 1).val = _; rw [a1]; omega

/-- The gradient of a block: the eight parts added. -/
theorem grad (x0 : Vec Ideal S8x48x512 .bf16) (x1 x2 x3 : Vec Ideal S48x512 .f32) (j : S48x512.Idx) :
    k0_pay5 x0 x1 x2 x3 j = total x0 (j 0).val (j 1).val := by
  unfold k0_pay5 k0_pay4
  dsimp only
  exact sum_eight (fun k => at3 x0 k (j 0).val (j 1).val) (piece x0 0 (View.ld x0 r0_0) (fun z => at3_of x0 _ 0 _ _ (by show 0 + 1 * (z 0).val = 0; have := (z 0).isLt; have h : (z 0).val < 1 := this; omega) (by show 0 + 1 * (z 1).val = _; omega) (by show 0 + 1 * (z 2).val = _; omega)) _ j) (piece x0 1 (View.ld x0 r0_1) (fun z => at3_of x0 _ 1 _ _ (by show 1 + 1 * (z 0).val = 1; have := (z 0).isLt; have h : (z 0).val < 1 := this; omega) (by show 0 + 1 * (z 1).val = _; omega) (by show 0 + 1 * (z 2).val = _; omega)) _ j) (piece x0 2 (View.ld x0 r0_2) (fun z => at3_of x0 _ 2 _ _ (by show 2 + 1 * (z 0).val = 2; have := (z 0).isLt; have h : (z 0).val < 1 := this; omega) (by show 0 + 1 * (z 1).val = _; omega) (by show 0 + 1 * (z 2).val = _; omega)) _ j) (piece x0 3 (View.ld x0 r0_3) (fun z => at3_of x0 _ 3 _ _ (by show 3 + 1 * (z 0).val = 3; have := (z 0).isLt; have h : (z 0).val < 1 := this; omega) (by show 0 + 1 * (z 1).val = _; omega) (by show 0 + 1 * (z 2).val = _; omega)) _ j) (piece x0 4 (View.ld x0 r0_4) (fun z => at3_of x0 _ 4 _ _ (by show 4 + 1 * (z 0).val = 4; have := (z 0).isLt; have h : (z 0).val < 1 := this; omega) (by show 0 + 1 * (z 1).val = _; omega) (by show 0 + 1 * (z 2).val = _; omega)) _ j) (piece x0 5 (View.ld x0 r0_5) (fun z => at3_of x0 _ 5 _ _ (by show 5 + 1 * (z 0).val = 5; have := (z 0).isLt; have h : (z 0).val < 1 := this; omega) (by show 0 + 1 * (z 1).val = _; omega) (by show 0 + 1 * (z 2).val = _; omega)) _ j) (piece x0 6 (View.ld x0 r0_6) (fun z => at3_of x0 _ 6 _ _ (by show 6 + 1 * (z 0).val = 6; have := (z 0).isLt; have h : (z 0).val < 1 := this; omega) (by show 0 + 1 * (z 1).val = _; omega) (by show 0 + 1 * (z 2).val = _; omega)) _ j) (piece x0 7 (View.ld x0 r0_7) (fun z => at3_of x0 _ 7 _ _ (by show 7 + 1 * (z 0).val = 7; have := (z 0).isLt; have h : (z 0).val < 1 := this; omega) (by show 0 + 1 * (z 1).val = _; omega) (by show 0 + 1 * (z 2).val = _; omega)) _ j)

/-- The gradient at an entry of a point's block. -/
theorem grad_at (c : Dev nD) (t : Fin cfg0.N) (j : S48x512.Idx) :
    k0_pay5 (iblk m c 0 t) (iblk m c 1 t) (iblk m c 2 t) (iblk m c 3 t) j
      = total (m ((c : Thread nD τ).loc main_arg0)) (t.val * 48 + (j 0).val) (j 1).val := by
  rw [grad]
  unfold total
  refine Finset.sum_congr rfl fun k hk => ?_
  have hk := Finset.mem_range.mp hk
  refine (at3_val (iblk m c 0 t : S8x48x512.Idx → EReal) (⟨k, hk⟩ : Fin 8) (j 0) (j 1)).trans ?_
  exact blk0 m c t _

/-- The four results at an entry. -/
def entry4 (c : Dev nD) (i j : ℕ) : EReal := total (m ((c : Thread nD τ).loc main_arg0)) i j
def entry6 (c : Dev nD) (i j : ℕ) : EReal := first (total (m ((c : Thread nD τ).loc main_arg0)) i j) (at2 (m ((c : Thread nD τ).loc main_arg2)) i j)
def entry7 (c : Dev nD) (i j : ℕ) : EReal := second (total (m ((c : Thread nD τ).loc main_arg0)) i j) (at2 (m ((c : Thread nD τ).loc main_arg3)) i j)
def entry5 (c : Dev nD) (i j : ℕ) : EReal :=
  change (total (m ((c : Thread nD τ).loc main_arg0)) i j) (at2 (m ((c : Thread nD τ).loc main_arg1)) i j)
    (at2 (m ((c : Thread nD τ).loc main_arg2)) i j) (at2 (m ((c : Thread nD τ).loc main_arg3)) i j)

theorem moment (g u : FVec Ideal S48x512 .f32) (j : S48x512.Idx) : k0_pay1 g u j = first (g j) (u j) := rfl
theorem square (g u : FVec Ideal S48x512 .f32) (j : S48x512.Idx) : k0_pay2 g u j = second (g j) (u j) := rfl
theorem move (g w u v : FVec Ideal S48x512 .f32) (j : S48x512.Idx) : k0_pay3 g w u v j = change (g j) (w j) (u j) (v j) := rfl

theorem out4 (c : Dev nD) (t : Fin cfg0.N) (j : S48x512.Idx) :
    out0_4 (iblk m c 0 t) (iblk m c 1 t) (iblk m c 2 t) (iblk m c 3 t) j = entry4 m c (t.val * 48 + (j 0).val) (j 1).val := by
  unfold out0_4
  rw [View.canon_unit_zero (S := S48x512) origin]
  exact grad_at m c t j

theorem out5 (c : Dev nD) (t : Fin cfg0.N) (j : S48x512.Idx) :
    out0_5 (iblk m c 0 t) (iblk m c 1 t) (iblk m c 2 t) (iblk m c 3 t) j = entry5 m c (t.val * 48 + (j 0).val) (j 1).val := by
  unfold out0_5
  rw [View.canon_unit_zero (S := S48x512) origin]
  simp only [View.ld_unit_zero (S := S48x512) origin]
  rw [move, grad_at]
  unfold entry5
  rw [← blk1 m c t j, ← blk2 m c t j, ← blk3 m c t j]

theorem out6 (c : Dev nD) (t : Fin cfg0.N) (j : S48x512.Idx) :
    out0_6 (iblk m c 0 t) (iblk m c 1 t) (iblk m c 2 t) (iblk m c 3 t) j = entry6 m c (t.val * 48 + (j 0).val) (j 1).val := by
  unfold out0_6
  rw [View.canon_unit_zero (S := S48x512) origin]
  simp only [View.ld_unit_zero (S := S48x512) origin]
  rw [moment, grad_at]
  unfold entry6
  rw [← blk2 m c t j]

theorem out7 (c : Dev nD) (t : Fin cfg0.N) (j : S48x512.Idx) :
    out0_7 (iblk m c 0 t) (iblk m c 1 t) (iblk m c 2 t) (iblk m c 3 t) j = entry7 m c (t.val * 48 + (j 0).val) (j 1).val := by
  unfold out0_7
  rw [View.canon_unit_zero (S := S48x512) origin]
  simp only [View.ld_unit_zero (S := S48x512) origin]
  rw [square, grad_at]
  unfold entry7
  rw [← blk3 m c t j]

/-- The array of result 0: every entry. -/
def result4 (c : Dev nD) : Buf (Elt Ideal) ((c : Thread nD τ).loc main_v0_0) := fun i => entry4 m c (i 0).val (i 1).val

theorem mem_block4 (t : Fin cfg0.N) (i : S3504x512.Idx) :
    i ∈ ((cfg0.win 4).blk t).view.set ↔ ∀ a : Fin 2, win0_4.index t a * S48x512.size a ≤ (i a).val ∧ (i a).val < win0_4.index t a * S48x512.size a + S48x512.size a := by
  show i ∈ ((View.whole main_v0_0).slice (win0_4.rect t)).set ↔ _
  rw [View.set_slice_whole, Rect.mem_set_unit]
  exact Iff.rfl

theorem flushed_result4 (c : Dev nD) (t : Fin cfg0.N) (hf : (cfg0.win 4).flush t = true) :
    (dats m 0 c).flushed 4 t = ((cfg0.win 4).blk t).view.read (Elt Ideal) (result4 m c) := by
  rw [Value.flushed4]
  obtain ⟨-, -, -, -, ⟨o0, o1⟩, -⟩ := places t
  funext y
  rw [View.read_apply]
  show out0_4 (iblk m c 0 t) (iblk m c 1 t) (iblk m c 2 t) (iblk m c 3 t) y = entry4 m c (win0_4.index t (0 : Fin 2) * 48 + 1 * (y 0).val) (win0_4.index t (1 : Fin 2) * 512 + 1 * (y 1).val)
  rw [o0, o1, Nat.one_mul, Nat.one_mul, Nat.zero_mul, Nat.zero_add]
  exact out4 m c t y

theorem final4 (c : Dev nD) : (dats m 0 c).arrAt 4 cfg0.N = result4 m c :=
  (dats m 0 c).arrAt_eq_of_cover 4 _ (flushed_result4 m c) fun i => by
    have h0 : (i 0).val < 3504 := (i 0).isLt
    have h1 : (i 1).val < 512 := (i 1).isLt
    have hN : cfg0.N = 73 := N_0
    refine ⟨⟨(i 0).val / 48, by omega⟩, ?_, ?_⟩
    · exact flush0_4 _
    · rw [mem_block4]
      obtain ⟨-, -, -, -, ⟨o0, o1⟩, -⟩ := places ⟨(i 0).val / 48, by omega⟩
      dsimp only at o0 o1
      intro a
      match a with
      | ⟨0, _⟩ => show win0_4.index _ (0 : Fin 2) * 48 ≤ (i 0).val ∧ (i 0).val < win0_4.index _ (0 : Fin 2) * 48 + 48; rw [o0]; omega
      | ⟨1, _⟩ => show win0_4.index _ (1 : Fin 2) * 512 ≤ (i 1).val ∧ (i 1).val < win0_4.index _ (1 : Fin 2) * 512 + 512; rw [o1]; omega

/-- The array of result 1: every entry. -/
def result5 (c : Dev nD) : Buf (Elt Ideal) ((c : Thread nD τ).loc main_v0_1) := fun i => entry5 m c (i 0).val (i 1).val

theorem mem_block5 (t : Fin cfg0.N) (i : S3504x512.Idx) :
    i ∈ ((cfg0.win 5).blk t).view.set ↔ ∀ a : Fin 2, win0_5.index t a * S48x512.size a ≤ (i a).val ∧ (i a).val < win0_5.index t a * S48x512.size a + S48x512.size a := by
  show i ∈ ((View.whole main_v0_1).slice (win0_5.rect t)).set ↔ _
  rw [View.set_slice_whole, Rect.mem_set_unit]
  exact Iff.rfl

theorem flushed_result5 (c : Dev nD) (t : Fin cfg0.N) (hf : (cfg0.win 5).flush t = true) :
    (dats m 0 c).flushed 5 t = ((cfg0.win 5).blk t).view.read (Elt Ideal) (result5 m c) := by
  rw [Value.flushed5]
  obtain ⟨-, -, -, -, -, ⟨o0, o1⟩, -⟩ := places t
  funext y
  rw [View.read_apply]
  show out0_5 (iblk m c 0 t) (iblk m c 1 t) (iblk m c 2 t) (iblk m c 3 t) y = entry5 m c (win0_5.index t (0 : Fin 2) * 48 + 1 * (y 0).val) (win0_5.index t (1 : Fin 2) * 512 + 1 * (y 1).val)
  rw [o0, o1, Nat.one_mul, Nat.one_mul, Nat.zero_mul, Nat.zero_add]
  exact out5 m c t y

theorem final5 (c : Dev nD) : (dats m 0 c).arrAt 5 cfg0.N = result5 m c :=
  (dats m 0 c).arrAt_eq_of_cover 5 _ (flushed_result5 m c) fun i => by
    have h0 : (i 0).val < 3504 := (i 0).isLt
    have h1 : (i 1).val < 512 := (i 1).isLt
    have hN : cfg0.N = 73 := N_0
    refine ⟨⟨(i 0).val / 48, by omega⟩, ?_, ?_⟩
    · exact flush0_5 _
    · rw [mem_block5]
      obtain ⟨-, -, -, -, -, ⟨o0, o1⟩, -⟩ := places ⟨(i 0).val / 48, by omega⟩
      dsimp only at o0 o1
      intro a
      match a with
      | ⟨0, _⟩ => show win0_5.index _ (0 : Fin 2) * 48 ≤ (i 0).val ∧ (i 0).val < win0_5.index _ (0 : Fin 2) * 48 + 48; rw [o0]; omega
      | ⟨1, _⟩ => show win0_5.index _ (1 : Fin 2) * 512 ≤ (i 1).val ∧ (i 1).val < win0_5.index _ (1 : Fin 2) * 512 + 512; rw [o1]; omega

/-- The array of result 2: every entry. -/
def result6 (c : Dev nD) : Buf (Elt Ideal) ((c : Thread nD τ).loc main_v0_2) := fun i => entry6 m c (i 0).val (i 1).val

theorem mem_block6 (t : Fin cfg0.N) (i : S3504x512.Idx) :
    i ∈ ((cfg0.win 6).blk t).view.set ↔ ∀ a : Fin 2, win0_6.index t a * S48x512.size a ≤ (i a).val ∧ (i a).val < win0_6.index t a * S48x512.size a + S48x512.size a := by
  show i ∈ ((View.whole main_v0_2).slice (win0_6.rect t)).set ↔ _
  rw [View.set_slice_whole, Rect.mem_set_unit]
  exact Iff.rfl

theorem flushed_result6 (c : Dev nD) (t : Fin cfg0.N) (hf : (cfg0.win 6).flush t = true) :
    (dats m 0 c).flushed 6 t = ((cfg0.win 6).blk t).view.read (Elt Ideal) (result6 m c) := by
  rw [Value.flushed6]
  obtain ⟨-, -, -, -, -, -, ⟨o0, o1⟩, -⟩ := places t
  funext y
  rw [View.read_apply]
  show out0_6 (iblk m c 0 t) (iblk m c 1 t) (iblk m c 2 t) (iblk m c 3 t) y = entry6 m c (win0_6.index t (0 : Fin 2) * 48 + 1 * (y 0).val) (win0_6.index t (1 : Fin 2) * 512 + 1 * (y 1).val)
  rw [o0, o1, Nat.one_mul, Nat.one_mul, Nat.zero_mul, Nat.zero_add]
  exact out6 m c t y

theorem final6 (c : Dev nD) : (dats m 0 c).arrAt 6 cfg0.N = result6 m c :=
  (dats m 0 c).arrAt_eq_of_cover 6 _ (flushed_result6 m c) fun i => by
    have h0 : (i 0).val < 3504 := (i 0).isLt
    have h1 : (i 1).val < 512 := (i 1).isLt
    have hN : cfg0.N = 73 := N_0
    refine ⟨⟨(i 0).val / 48, by omega⟩, ?_, ?_⟩
    · exact flush0_6 _
    · rw [mem_block6]
      obtain ⟨-, -, -, -, -, -, ⟨o0, o1⟩, -⟩ := places ⟨(i 0).val / 48, by omega⟩
      dsimp only at o0 o1
      intro a
      match a with
      | ⟨0, _⟩ => show win0_6.index _ (0 : Fin 2) * 48 ≤ (i 0).val ∧ (i 0).val < win0_6.index _ (0 : Fin 2) * 48 + 48; rw [o0]; omega
      | ⟨1, _⟩ => show win0_6.index _ (1 : Fin 2) * 512 ≤ (i 1).val ∧ (i 1).val < win0_6.index _ (1 : Fin 2) * 512 + 512; rw [o1]; omega

/-- The array of result 3: every entry. -/
def result7 (c : Dev nD) : Buf (Elt Ideal) ((c : Thread nD τ).loc main_v0_3) := fun i => entry7 m c (i 0).val (i 1).val

theorem mem_block7 (t : Fin cfg0.N) (i : S3504x512.Idx) :
    i ∈ ((cfg0.win 7).blk t).view.set ↔ ∀ a : Fin 2, win0_7.index t a * S48x512.size a ≤ (i a).val ∧ (i a).val < win0_7.index t a * S48x512.size a + S48x512.size a := by
  show i ∈ ((View.whole main_v0_3).slice (win0_7.rect t)).set ↔ _
  rw [View.set_slice_whole, Rect.mem_set_unit]
  exact Iff.rfl

theorem flushed_result7 (c : Dev nD) (t : Fin cfg0.N) (hf : (cfg0.win 7).flush t = true) :
    (dats m 0 c).flushed 7 t = ((cfg0.win 7).blk t).view.read (Elt Ideal) (result7 m c) := by
  rw [Value.flushed7]
  obtain ⟨-, -, -, -, -, -, -, ⟨o0, o1⟩⟩ := places t
  funext y
  rw [View.read_apply]
  show out0_7 (iblk m c 0 t) (iblk m c 1 t) (iblk m c 2 t) (iblk m c 3 t) y = entry7 m c (win0_7.index t (0 : Fin 2) * 48 + 1 * (y 0).val) (win0_7.index t (1 : Fin 2) * 512 + 1 * (y 1).val)
  rw [o0, o1, Nat.one_mul, Nat.one_mul, Nat.zero_mul, Nat.zero_add]
  exact out7 m c t y

theorem final7 (c : Dev nD) : (dats m 0 c).arrAt 7 cfg0.N = result7 m c :=
  (dats m 0 c).arrAt_eq_of_cover 7 _ (flushed_result7 m c) fun i => by
    have h0 : (i 0).val < 3504 := (i 0).isLt
    have h1 : (i 1).val < 512 := (i 1).isLt
    have hN : cfg0.N = 73 := N_0
    refine ⟨⟨(i 0).val / 48, by omega⟩, ?_, ?_⟩
    · exact flush0_7 _
    · rw [mem_block7]
      obtain ⟨-, -, -, -, -, -, -, ⟨o0, o1⟩⟩ := places ⟨(i 0).val / 48, by omega⟩
      dsimp only at o0 o1
      intro a
      match a with
      | ⟨0, _⟩ => show win0_7.index _ (0 : Fin 2) * 48 ≤ (i 0).val ∧ (i 0).val < win0_7.index _ (0 : Fin 2) * 48 + 48; rw [o0]; omega
      | ⟨1, _⟩ => show win0_7.index _ (1 : Fin 2) * 512 ≤ (i 1).val ∧ (i 1).val < win0_7.index _ (1 : Fin 2) * 512 + 512; rw [o1]; omega

/-- The run of the call, its results at their entries. -/
theorem run (ρ : Dev nD → PrngReg) : θ_run defs (onTc (τ := τ) (main (F := Ideal))) ⟨m, fun _ => 0, ρ⟩ fun r => ∀ c : Dev nD,
      r.2.mem ((c : Thread nD τ).loc main_v0_0) = result4 m c ∧ r.2.mem ((c : Thread nD τ).loc main_v0_1) = result5 m c
      ∧ r.2.mem ((c : Thread nD τ).loc main_v0_2) = result6 m c ∧ r.2.mem ((c : Thread nD τ).loc main_v0_3) = result7 m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2.1.trans (final7 m c), (h c).2.2.2.2⟩) (Value.run_blocks m ρ)

end Cert.KAdamIdeal.Entries

namespace Cert.RAdamIdeal.Entries

open Cert.RAdamIdeal Cert.RAdamIdeal.Gen Idealize.ShloMosaic Cert.Products Cert.Steps

section

variable (x : FVec Ideal S8x3504x512 .bf16) (w u v : FVec Ideal S3504x512 .f32) (i : S3504x512.Idx)

/-- The reference's gradient at an index. -/
theorem grad : ((Host.reduceAdd (extf .f32 x bitsLt_bf16_f32) (constant S_ .f32 0x00000000#32) reducesTo_S8x3504x512_S3504x512_d0 h_S_) : FVec Ideal S3504x512 .f32) i = total x (i 0).val (i 1).val :=
  host_total (extf .f32 x bitsLt_bf16_f32) _ _ _ zero_word i

theorem moment : ((addf (mulf (broadcastInDim S3504x512 ![] bcast_S_S3504x512 (constant S_ .f32 0x3F666666#32)) u) (mulf (broadcastInDim S3504x512 ![] bcast_S_S3504x512 (constant S_ .f32 0x3DCCCCCD#32)) (Host.reduceAdd (extf .f32 x bitsLt_bf16_f32) (constant S_ .f32 0x00000000#32) reducesTo_S8x3504x512_S3504x512_d0 h_S_))) : FVec Ideal S3504x512 .f32) i = first (total x (i 0).val (i 1).val) (at2 u (i 0).val (i 1).val) := by
  rw [← grad x i, ← at2_of u i _ _ rfl rfl]
  rfl

theorem square : ((addf (mulf (broadcastInDim S3504x512 ![] bcast_S_S3504x512 (constant S_ .f32 0x3F7FBE77#32)) v) (mulf (broadcastInDim S3504x512 ![] bcast_S_S3504x512 (constant S_ .f32 0x3A83126F#32)) (mulf (Host.reduceAdd (extf .f32 x bitsLt_bf16_f32) (constant S_ .f32 0x00000000#32) reducesTo_S8x3504x512_S3504x512_d0 h_S_) (Host.reduceAdd (extf .f32 x bitsLt_bf16_f32) (constant S_ .f32 0x00000000#32) reducesTo_S8x3504x512_S3504x512_d0 h_S_)))) : FVec Ideal S3504x512 .f32) i = second (total x (i 0).val (i 1).val) (at2 v (i 0).val (i 1).val) := by
  rw [← grad x i, ← at2_of v i _ _ rfl rfl]
  rfl

theorem move : ((mulf (broadcastInDim S3504x512 ![] bcast_S_S3504x512 (constant S_ .f32 0xBA83126F#32)) (addf (Host.divf (Host.divf (addf (mulf (broadcastInDim S3504x512 ![] bcast_S_S3504x512 (constant S_ .f32 0x3F666666#32)) u) (mulf (broadcastInDim S3504x512 ![] bcast_S_S3504x512 (constant S_ .f32 0x3DCCCCCD#32)) (Host.reduceAdd (extf .f32 x bitsLt_bf16_f32) (constant S_ .f32 0x00000000#32) reducesTo_S8x3504x512_S3504x512_d0 h_S_))) (broadcastInDim S3504x512 ![] bcast_S_S3504x512 (constant S_ .f32 0x3F26BD02#32))) (addf (Host.sqrt (Host.divf (addf (mulf (broadcastInDim S3504x512 ![] bcast_S_S3504x512 (constant S_ .f32 0x3F7FBE77#32)) v) (mulf (broadcastInDim S3504x512 ![] bcast_S_S3504x512 (constant S_ .f32 0x3A83126F#32)) (mulf (Host.reduceAdd (extf .f32 x bitsLt_bf16_f32) (constant S_ .f32 0x00000000#32) reducesTo_S8x3504x512_S3504x512_d0 h_S_) (Host.reduceAdd (extf .f32 x bitsLt_bf16_f32) (constant S_ .f32 0x00000000#32) reducesTo_S8x3504x512_S3504x512_d0 h_S_)))) (broadcastInDim S3504x512 ![] bcast_S_S3504x512 (constant S_ .f32 0x3C231ACC#32)))) (broadcastInDim S3504x512 ![] bcast_S_S3504x512 (constant S_ .f32 0x322BCC77#32)))) (mulf (broadcastInDim S3504x512 ![] bcast_S_S3504x512 (constant S_ .f32 0x3C23D70A#32)) w))) : FVec Ideal S3504x512 .f32) i = change (total x (i 0).val (i 1).val) (at2 w (i 0).val (i 1).val) (at2 u (i 0).val (i 1).val) (at2 v (i 0).val (i 1).val) := by
  unfold change
  rw [← moment x u i, ← square x v i, ← at2_of w i _ _ rfl rfl]
  rfl

end

end Cert.RAdamIdeal.Entries

namespace Cert.Proof

open Idealize.ShloMosaic Idealize.SL.Sem Idealize.ShloMosaic.TcCoe

attribute [local instance] Cert.KAdamIdeal.Gen.facts Cert.RAdamIdeal.Gen.facts

/-- The call and its reference leave the same results. -/
theorem algebraic_Adam : Cert.algebraic_KAdamIdeal_RAdamIdeal := by
  intro m ρ m' ρ' _ hag
  refine ⟨fun c => Cert.KAdamIdeal.Entries.result4 m c, fun c => Cert.KAdamIdeal.Entries.result5 m c, fun c => Cert.KAdamIdeal.Entries.result6 m c, fun c => Cert.KAdamIdeal.Entries.result7 m c,
    Cert.KAdamIdeal.Entries.run m ρ, (θ_run _ _ _).mono (fun r h c => ⟨(h c).1.trans ?_, (h c).2.1.trans ?_, (h c).2.2.1.trans ?_, (h c).2.2.2.1.trans ?_, (h c).2.2.2.2⟩) (Cert.RAdamIdeal.Value.run (F := Ideal) m' ρ')⟩
  · obtain ⟨h0, h1, h2, h3⟩ := hag c
    rw [h0]
    exact funext fun i => Cert.RAdamIdeal.Entries.grad _ i
  · obtain ⟨h0, h1, h2, h3⟩ := hag c
    rw [h0, h1, h2, h3]
    exact funext fun i => Cert.RAdamIdeal.Entries.move _ _ _ _ i
  · obtain ⟨h0, h1, h2, h3⟩ := hag c
    rw [h0, h2]
    exact funext fun i => Cert.RAdamIdeal.Entries.moment _ _ i
  · obtain ⟨h0, h1, h2, h3⟩ := hag c
    rw [h0, h3]
    exact funext fun i => Cert.RAdamIdeal.Entries.square _ _ i

/-- The reference ends with its arguments as they were. -/
theorem frame_RAdam : Cert.quiescent_RAdamIdeal := fun m ρ _ =>
  (θ_run Cert.RAdamIdeal.defs _ _).mono (fun r h => ⟨fun c => (h c).2.2.2.2, sem_eq_zero_of_no_sems (by decide) r.2⟩) (Cert.RAdamIdeal.Value.run (F := Ideal) m ρ)

end Cert.Proof

end
-- ==== Proof.SmallValue.lean ====
/-
  The optimiser's step on the small weights: what the call leaves, entry by entry, over the extended reals.
-/
module

public import proofs.«01_k».proof.Proof.Steps
public import proofs.«01_k».proof.Proof.Gen.KSmallIdeal.Value
public import proofs.«01_k».proof.Proof.Gen.RSmallIdeal.Run
public import proofs.«01_k».proof.Defs

@[expose] public section

noncomputable section

namespace Cert.KSmallIdeal.Entries

open Cert.KSmallIdeal Cert.KSmallIdeal.Gen Idealize.ShloMosaic Idealize.ShloMosaic.TcCoe Idealize.SL.Sem Cert.Products Cert.Steps
open Idealize.ShloMosaic.Pipeline (Dat)
open scoped BigOperators

variable (m : (ℓ : Loc nD τ sig) → Buf (Elt Ideal) ℓ)

/-- Which block of each array a point takes. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem blk0 (c : Dev nD) (t : Fin cfg0.N) (y : S8x8x1024.Idx) :
    (iblk m c 0 t : S8x8x1024.Idx → EReal) y = at3 (m ((c : Thread nD τ).loc main_arg0)) (y 0).val (t.val * 8 + (y 1).val) (y 2).val := by
  obtain ⟨⟨a0, a1, a2⟩, -⟩ := places t
  unfold iblk
  rw [View.read_apply]
  show V m c main_arg0 _ = _
  unfold V
  refine at3_of (m ((c : Thread nD τ).loc main_arg0)) _ _ _ _ ?_ ?_ ?_
  · show win0_0.index t (0 : Fin 3) * 8 + 1 * (y 0).val = _; rw [a0]; omega
  · show win0_0.index t (1 : Fin 3) * 8 + 1 * (y 1).val = _; rw [a1]; omega
  · show win0_0.index t (2 : Fin 3) * 1024 + 1 * (y 2).val = _; rw [a2]; omega

theorem blk1 (c : Dev nD) (t : Fin cfg0.N) (y : S8x1024.Idx) :
    (iblk m c 1 t : S8x1024.Idx → EReal) y = at2 (m ((c : Thread nD τ).loc main_arg1)) (t.val * 8 + (y 0).val) (y 1).val := by
  obtain ⟨-, ⟨a0, a1⟩, -⟩ := places t
  unfold iblk
  rw [View.read_apply]
  show V m c main_arg1 _ = _
  unfold V
  refine at2_of (m ((c : Thread nD τ).loc main_arg1)) _ _ _ ?_ ?_
  · show win0_1.index t (0 : Fin 2) * 8 + 1 * (y 0).val = _; rw [a0]; omega
  · show win0_1.index t (1 : Fin 2) * 1024 + 1 * (y 1).val = _; rw [a1]; omega

theorem blk2 (c : Dev nD) (t : Fin cfg0.N) (y : S8x1024.Idx) :
    (iblk m c 2 t : S8x1024.Idx → EReal) y = at2 (m ((c : Thread nD τ).loc main_arg2)) (t.val * 8 + (y 0).val) (y 1).val := by
  obtain ⟨-, -, ⟨a0, a1⟩, -⟩ := places t
  unfold iblk
  rw [View.read_apply]
  show V m c main_arg2 _ = _
  unfold V
  refine at2_of (m ((c : Thread nD τ).loc main_arg2)) _ _ _ ?_ ?_
  · show win0_2.index t (0 : Fin 2) * 8 + 1 * (y 0).val = _; rw [a0]; omega
  · show win0_2.index t (1 : Fin 2) * 1024 + 1 * (y 1).val = _; rw [a1]; omega

theorem blk3 (c : Dev nD) (t : Fin cfg0.N) (y : S8x1024.Idx) :
    (iblk m c 3 t : S8x1024.Idx → EReal) y = at2 (m ((c : Thread nD τ).loc main_arg3)) (t.val * 8 + (y 0).val) (y 1).val := by
  obtain ⟨-, -, -, ⟨a0, a1⟩, -⟩ := places t
  unfold iblk
  rw [View.read_apply]
  show V m c main_arg3 _ = _
  unfold V
  refine at2_of (m ((c : Thread nD τ).loc main_arg3)) _ _ _ ?_ ?_
  · show win0_3.index t (0 : Fin 2) * 8 + 1 * (y 0).val = _; rw [a0]; omega
  · show win0_3.index t (1 : Fin 2) * 1024 + 1 * (y 1).val = _; rw [a1]; omega

/-- The gradient of a block: the eight parts added. -/
theorem grad (x0 : Vec Ideal S8x8x1024 .f32) (x1 x2 x3 : Vec Ideal S8x1024 .f32) (j : S8x1024.Idx) :
    k0_pay6 x0 x1 x2 x3 j = total x0 (j 0).val (j 1).val := by
  unfold k0_pay6 k0_pay4
  dsimp only
  exact sum_eight (fun k => at3 x0 k (j 0).val (j 1).val) (piece x0 0 (View.ld x0 r0_0) (fun z => at3_of x0 _ 0 _ _ (by show 0 + 1 * (z 0).val = 0; have := (z 0).isLt; have h : (z 0).val < 1 := this; omega) (by show 0 + 1 * (z 1).val = _; omega) (by show 0 + 1 * (z 2).val = _; omega)) _ j) (piece x0 1 (View.ld x0 r0_1) (fun z => at3_of x0 _ 1 _ _ (by show 1 + 1 * (z 0).val = 1; have := (z 0).isLt; have h : (z 0).val < 1 := this; omega) (by show 0 + 1 * (z 1).val = _; omega) (by show 0 + 1 * (z 2).val = _; omega)) _ j) (piece x0 2 (View.ld x0 r0_2) (fun z => at3_of x0 _ 2 _ _ (by show 2 + 1 * (z 0).val = 2; have := (z 0).isLt; have h : (z 0).val < 1 := this; omega) (by show 0 + 1 * (z 1).val = _; omega) (by show 0 + 1 * (z 2).val = _; omega)) _ j) (piece x0 3 (View.ld x0 r0_3) (fun z => at3_of x0 _ 3 _ _ (by show 3 + 1 * (z 0).val = 3; have := (z 0).isLt; have h : (z 0).val < 1 := this; omega) (by show 0 + 1 * (z 1).val = _; omega) (by show 0 + 1 * (z 2).val = _; omega)) _ j) (piece x0 4 (View.ld x0 r0_4) (fun z => at3_of x0 _ 4 _ _ (by show 4 + 1 * (z 0).val = 4; have := (z 0).isLt; have h : (z 0).val < 1 := this; omega) (by show 0 + 1 * (z 1).val = _; omega) (by show 0 + 1 * (z 2).val = _; omega)) _ j) (piece x0 5 (View.ld x0 r0_5) (fun z => at3_of x0 _ 5 _ _ (by show 5 + 1 * (z 0).val = 5; have := (z 0).isLt; have h : (z 0).val < 1 := this; omega) (by show 0 + 1 * (z 1).val = _; omega) (by show 0 + 1 * (z 2).val = _; omega)) _ j) (piece x0 6 (View.ld x0 r0_6) (fun z => at3_of x0 _ 6 _ _ (by show 6 + 1 * (z 0).val = 6; have := (z 0).isLt; have h : (z 0).val < 1 := this; omega) (by show 0 + 1 * (z 1).val = _; omega) (by show 0 + 1 * (z 2).val = _; omega)) _ j) (piece x0 7 (View.ld x0 r0_7) (fun z => at3_of x0 _ 7 _ _ (by show 7 + 1 * (z 0).val = 7; have := (z 0).isLt; have h : (z 0).val < 1 := this; omega) (by show 0 + 1 * (z 1).val = _; omega) (by show 0 + 1 * (z 2).val = _; omega)) _ j)

/-- The gradient at an entry of a point's block. -/
theorem grad_at (c : Dev nD) (t : Fin cfg0.N) (j : S8x1024.Idx) :
    k0_pay6 (iblk m c 0 t) (iblk m c 1 t) (iblk m c 2 t) (iblk m c 3 t) j
      = total (m ((c : Thread nD τ).loc main_arg0)) (t.val * 8 + (j 0).val) (j 1).val := by
  rw [grad]
  unfold total
  refine Finset.sum_congr rfl fun k hk => ?_
  have hk := Finset.mem_range.mp hk
  refine (at3_val (iblk m c 0 t : S8x8x1024.Idx → EReal) (⟨k, hk⟩ : Fin 8) (j 0) (j 1)).trans ?_
  exact blk0 m c t _

/-- The four results at an entry. -/
def entry4 (c : Dev nD) (i j : ℕ) : EReal := total (m ((c : Thread nD τ).loc main_arg0)) i j
def entry6 (c : Dev nD) (i j : ℕ) : EReal := first (total (m ((c : Thread nD τ).loc main_arg0)) i j) (at2 (m ((c : Thread nD τ).loc main_arg2)) i j)
def entry7 (c : Dev nD) (i j : ℕ) : EReal := second (total (m ((c : Thread nD τ).loc main_arg0)) i j) (at2 (m ((c : Thread nD τ).loc main_arg3)) i j)
def entry5 (c : Dev nD) (i j : ℕ) : EReal :=
  change (total (m ((c : Thread nD τ).loc main_arg0)) i j) (at2 (m ((c : Thread nD τ).loc main_arg1)) i j)
    (at2 (m ((c : Thread nD τ).loc main_arg2)) i j) (at2 (m ((c : Thread nD τ).loc main_arg3)) i j)

theorem moment (g u : FVec Ideal S8x1024 .f32) (j : S8x1024.Idx) : k0_pay1 g (k0_pay5 u) j = first (g j) (u j) := rfl
theorem square (g u : FVec Ideal S8x1024 .f32) (j : S8x1024.Idx) : k0_pay2 g u j = second (g j) (u j) := rfl
theorem move (g w u v : FVec Ideal S8x1024 .f32) (j : S8x1024.Idx) : k0_pay3 g w v (k0_pay5 u) j = change (g j) (w j) (u j) (v j) := rfl

theorem out4 (c : Dev nD) (t : Fin cfg0.N) (j : S8x1024.Idx) :
    out0_4 (iblk m c 0 t) (iblk m c 1 t) (iblk m c 2 t) (iblk m c 3 t) j = entry4 m c (t.val * 8 + (j 0).val) (j 1).val := by
  unfold out0_4
  rw [View.canon_unit_zero (S := S8x1024) origin]
  exact grad_at m c t j

theorem out5 (c : Dev nD) (t : Fin cfg0.N) (j : S8x1024.Idx) :
    out0_5 (iblk m c 0 t) (iblk m c 1 t) (iblk m c 2 t) (iblk m c 3 t) j = entry5 m c (t.val * 8 + (j 0).val) (j 1).val := by
  unfold out0_5 k0_pay7
  rw [View.canon_unit_zero (S := S8x1024) origin]
  simp only [View.ld_unit_zero (S := S8x1024) origin]
  rw [move, grad_at]
  unfold entry5
  rw [← blk1 m c t j, ← blk2 m c t j, ← blk3 m c t j]

theorem out6 (c : Dev nD) (t : Fin cfg0.N) (j : S8x1024.Idx) :
    out0_6 (iblk m c 0 t) (iblk m c 1 t) (iblk m c 2 t) (iblk m c 3 t) j = entry6 m c (t.val * 8 + (j 0).val) (j 1).val := by
  unfold out0_6 k0_pay7
  rw [View.canon_unit_zero (S := S8x1024) origin]
  simp only [View.ld_unit_zero (S := S8x1024) origin]
  rw [moment, grad_at]
  unfold entry6
  rw [← blk2 m c t j]

theorem out7 (c : Dev nD) (t : Fin cfg0.N) (j : S8x1024.Idx) :
    out0_7 (iblk m c 0 t) (iblk m c 1 t) (iblk m c 2 t) (iblk m c 3 t) j = entry7 m c (t.val * 8 + (j 0).val) (j 1).val := by
  unfold out0_7
  rw [View.canon_unit_zero (S := S8x1024) origin]
  simp only [View.ld_unit_zero (S := S8x1024) origin]
  rw [square, grad_at]
  unfold entry7
  rw [← blk3 m c t j]

/-- The array of result 0: every entry. -/
def result4 (c : Dev nD) : Buf (Elt Ideal) ((c : Thread nD τ).loc main_v0_0) := fun i => entry4 m c (i 0).val (i 1).val

theorem mem_block4 (t : Fin cfg0.N) (i : S40x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v0_0).slice (win0_4.rect t)).set ↔ _
  rw [View.set_slice_whole, Rect.mem_set_unit]
  exact Iff.rfl

theorem flushed_result4 (c : Dev nD) (t : Fin cfg0.N) (hf : (cfg0.win 4).flush t = true) :
    (dats m 0 c).flushed 4 t = ((cfg0.win 4).blk t).view.read (Elt Ideal) (result4 m c) := by
  rw [Value.flushed4]
  obtain ⟨-, -, -, -, ⟨o0, o1⟩, -⟩ := places t
  funext y
  rw [View.read_apply]
  show out0_4 (iblk m c 0 t) (iblk m c 1 t) (iblk m c 2 t) (iblk m c 3 t) y = entry4 m c (win0_4.index t (0 : Fin 2) * 8 + 1 * (y 0).val) (win0_4.index t (1 : Fin 2) * 1024 + 1 * (y 1).val)
  rw [o0, o1, Nat.one_mul, Nat.one_mul, Nat.zero_mul, Nat.zero_add]
  exact out4 m c t y

theorem final4 (c : Dev nD) : (dats m 0 c).arrAt 4 cfg0.N = result4 m c :=
  (dats m 0 c).arrAt_eq_of_cover 4 _ (flushed_result4 m c) fun i => by
    have h0 : (i 0).val < 40 := (i 0).isLt
    have h1 : (i 1).val < 1024 := (i 1).isLt
    have hN : cfg0.N = 5 := N_0
    refine ⟨⟨(i 0).val / 8, by omega⟩, ?_, ?_⟩
    · exact flush0_4 _
    · rw [mem_block4]
      obtain ⟨-, -, -, -, ⟨o0, o1⟩, -⟩ := places ⟨(i 0).val / 8, by omega⟩
      dsimp only at o0 o1
      intro a
      match a with
      | ⟨0, _⟩ => show win0_4.index _ (0 : Fin 2) * 8 ≤ (i 0).val ∧ (i 0).val < win0_4.index _ (0 : Fin 2) * 8 + 8; rw [o0]; omega
      | ⟨1, _⟩ => show win0_4.index _ (1 : Fin 2) * 1024 ≤ (i 1).val ∧ (i 1).val < win0_4.index _ (1 : Fin 2) * 1024 + 1024; rw [o1]; omega

/-- The array of result 1: every entry. -/
def result5 (c : Dev nD) : Buf (Elt Ideal) ((c : Thread nD τ).loc main_v0_1) := fun i => entry5 m c (i 0).val (i 1).val

theorem mem_block5 (t : Fin cfg0.N) (i : S40x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v0_1).slice (win0_5.rect t)).set ↔ _
  rw [View.set_slice_whole, Rect.mem_set_unit]
  exact Iff.rfl

theorem flushed_result5 (c : Dev nD) (t : Fin cfg0.N) (hf : (cfg0.win 5).flush t = true) :
    (dats m 0 c).flushed 5 t = ((cfg0.win 5).blk t).view.read (Elt Ideal) (result5 m c) := by
  rw [Value.flushed5]
  obtain ⟨-, -, -, -, -, ⟨o0, o1⟩, -⟩ := places t
  funext y
  rw [View.read_apply]
  show out0_5 (iblk m c 0 t) (iblk m c 1 t) (iblk m c 2 t) (iblk m c 3 t) y = entry5 m c (win0_5.index t (0 : Fin 2) * 8 + 1 * (y 0).val) (win0_5.index t (1 : Fin 2) * 1024 + 1 * (y 1).val)
  rw [o0, o1, Nat.one_mul, Nat.one_mul, Nat.zero_mul, Nat.zero_add]
  exact out5 m c t y

theorem final5 (c : Dev nD) : (dats m 0 c).arrAt 5 cfg0.N = result5 m c :=
  (dats m 0 c).arrAt_eq_of_cover 5 _ (flushed_result5 m c) fun i => by
    have h0 : (i 0).val < 40 := (i 0).isLt
    have h1 : (i 1).val < 1024 := (i 1).isLt
    have hN : cfg0.N = 5 := N_0
    refine ⟨⟨(i 0).val / 8, by omega⟩, ?_, ?_⟩
    · exact flush0_5 _
    · rw [mem_block5]
      obtain ⟨-, -, -, -, -, ⟨o0, o1⟩, -⟩ := places ⟨(i 0).val / 8, by omega⟩
      dsimp only at o0 o1
      intro a
      match a with
      | ⟨0, _⟩ => show win0_5.index _ (0 : Fin 2) * 8 ≤ (i 0).val ∧ (i 0).val < win0_5.index _ (0 : Fin 2) * 8 + 8; rw [o0]; omega
      | ⟨1, _⟩ => show win0_5.index _ (1 : Fin 2) * 1024 ≤ (i 1).val ∧ (i 1).val < win0_5.index _ (1 : Fin 2) * 1024 + 1024; rw [o1]; omega

/-- The array of result 2: every entry. -/
def result6 (c : Dev nD) : Buf (Elt Ideal) ((c : Thread nD τ).loc main_v0_2) := fun i => entry6 m c (i 0).val (i 1).val

theorem mem_block6 (t : Fin cfg0.N) (i : S40x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v0_2).slice (win0_6.rect t)).set ↔ _
  rw [View.set_slice_whole, Rect.mem_set_unit]
  exact Iff.rfl

theorem flushed_result6 (c : Dev nD) (t : Fin cfg0.N) (hf : (cfg0.win 6).flush t = true) :
    (dats m 0 c).flushed 6 t = ((cfg0.win 6).blk t).view.read (Elt Ideal) (result6 m c) := by
  rw [Value.flushed6]
  obtain ⟨-, -, -, -, -, -, ⟨o0, o1⟩, -⟩ := places t
  funext y
  rw [View.read_apply]
  show out0_6 (iblk m c 0 t) (iblk m c 1 t) (iblk m c 2 t) (iblk m c 3 t) y = entry6 m c (win0_6.index t (0 : Fin 2) * 8 + 1 * (y 0).val) (win0_6.index t (1 : Fin 2) * 1024 + 1 * (y 1).val)
  rw [o0, o1, Nat.one_mul, Nat.one_mul, Nat.zero_mul, Nat.zero_add]
  exact out6 m c t y

theorem final6 (c : Dev nD) : (dats m 0 c).arrAt 6 cfg0.N = result6 m c :=
  (dats m 0 c).arrAt_eq_of_cover 6 _ (flushed_result6 m c) fun i => by
    have h0 : (i 0).val < 40 := (i 0).isLt
    have h1 : (i 1).val < 1024 := (i 1).isLt
    have hN : cfg0.N = 5 := N_0
    refine ⟨⟨(i 0).val / 8, by omega⟩, ?_, ?_⟩
    · exact flush0_6 _
    · rw [mem_block6]
      obtain ⟨-, -, -, -, -, -, ⟨o0, o1⟩, -⟩ := places ⟨(i 0).val / 8, by omega⟩
      dsimp only at o0 o1
      intro a
      match a with
      | ⟨0, _⟩ => show win0_6.index _ (0 : Fin 2) * 8 ≤ (i 0).val ∧ (i 0).val < win0_6.index _ (0 : Fin 2) * 8 + 8; rw [o0]; omega
      | ⟨1, _⟩ => show win0_6.index _ (1 : Fin 2) * 1024 ≤ (i 1).val ∧ (i 1).val < win0_6.index _ (1 : Fin 2) * 1024 + 1024; rw [o1]; omega

/-- The array of result 3: every entry. -/
def result7 (c : Dev nD) : Buf (Elt Ideal) ((c : Thread nD τ).loc main_v0_3) := fun i => entry7 m c (i 0).val (i 1).val

theorem mem_block7 (t : Fin cfg0.N) (i : S40x1024.Idx) :
    i ∈ ((cfg0.win 7).blk t).view.set ↔ ∀ a : Fin 2, win0_7.index t a * S8x1024.size a ≤ (i a).val ∧ (i a).val < win0_7.index t a * S8x1024.size a + S8x1024.size a := by
  show i ∈ ((View.whole main_v0_3).slice (win0_7.rect t)).set ↔ _
  rw [View.set_slice_whole, Rect.mem_set_unit]
  exact Iff.rfl

theorem flushed_result7 (c : Dev nD) (t : Fin cfg0.N) (hf : (cfg0.win 7).flush t = true) :
    (dats m 0 c).flushed 7 t = ((cfg0.win 7).blk t).view.read (Elt Ideal) (result7 m c) := by
  rw [Value.flushed7]
  obtain ⟨-, -, -, -, -, -, -, ⟨o0, o1⟩⟩ := places t
  funext y
  rw [View.read_apply]
  show out0_7 (iblk m c 0 t) (iblk m c 1 t) (iblk m c 2 t) (iblk m c 3 t) y = entry7 m c (win0_7.index t (0 : Fin 2) * 8 + 1 * (y 0).val) (win0_7.index t (1 : Fin 2) * 1024 + 1 * (y 1).val)
  rw [o0, o1, Nat.one_mul, Nat.one_mul, Nat.zero_mul, Nat.zero_add]
  exact out7 m c t y

theorem final7 (c : Dev nD) : (dats m 0 c).arrAt 7 cfg0.N = result7 m c :=
  (dats m 0 c).arrAt_eq_of_cover 7 _ (flushed_result7 m c) fun i => by
    have h0 : (i 0).val < 40 := (i 0).isLt
    have h1 : (i 1).val < 1024 := (i 1).isLt
    have hN : cfg0.N = 5 := N_0
    refine ⟨⟨(i 0).val / 8, by omega⟩, ?_, ?_⟩
    · exact flush0_7 _
    · rw [mem_block7]
      obtain ⟨-, -, -, -, -, -, -, ⟨o0, o1⟩⟩ := places ⟨(i 0).val / 8, by omega⟩
      dsimp only at o0 o1
      intro a
      match a with
      | ⟨0, _⟩ => show win0_7.index _ (0 : Fin 2) * 8 ≤ (i 0).val ∧ (i 0).val < win0_7.index _ (0 : Fin 2) * 8 + 8; rw [o0]; omega
      | ⟨1, _⟩ => show win0_7.index _ (1 : Fin 2) * 1024 ≤ (i 1).val ∧ (i 1).val < win0_7.index _ (1 : Fin 2) * 1024 + 1024; rw [o1]; omega

/-- The run of the call, its results at their entries. -/
theorem run (ρ : Dev nD → PrngReg) : θ_run defs (onTc (τ := τ) (main (F := Ideal))) ⟨m, fun _ => 0, ρ⟩ fun r => ∀ c : Dev nD,
      r.2.mem ((c : Thread nD τ).loc main_v0_0) = result4 m c ∧ r.2.mem ((c : Thread nD τ).loc main_v0_1) = result5 m c
      ∧ r.2.mem ((c : Thread nD τ).loc main_v0_2) = result6 m c ∧ r.2.mem ((c : Thread nD τ).loc main_v0_3) = result7 m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2.1.trans (final7 m c), (h c).2.2.2.2⟩) (Value.run_blocks m ρ)

end Cert.KSmallIdeal.Entries

namespace Cert.RSmallIdeal.Entries

open Cert.RSmallIdeal Cert.RSmallIdeal.Gen Idealize.ShloMosaic Cert.Products Cert.Steps

section

variable (x : FVec Ideal S8x40x1024 .f32) (w u v : FVec Ideal S40x1024 .f32) (i : S40x1024.Idx)

/-- The reference's gradient at an index. -/
theorem grad : ((Host.reduceAdd x (constant S_ .f32 0x00000000#32) reducesTo_S8x40x1024_S40x1024_d0 h_S_) : FVec Ideal S40x1024 .f32) i = total x (i 0).val (i 1).val :=
  host_total x _ _ _ zero_word i

theorem moment : ((addf (mulf (broadcastInDim S40x1024 ![] bcast_S_S40x1024 (constant S_ .f32 0x3F666666#32)) u) (mulf (broadcastInDim S40x1024 ![] bcast_S_S40x1024 (constant S_ .f32 0x3DCCCCCD#32)) (Host.reduceAdd x (constant S_ .f32 0x00000000#32) reducesTo_S8x40x1024_S40x1024_d0 h_S_))) : FVec Ideal S40x1024 .f32) i = first (total x (i 0).val (i 1).val) (at2 u (i 0).val (i 1).val) := by
  rw [← grad x i, ← at2_of u i _ _ rfl rfl]
  rfl

theorem square : ((addf (mulf (broadcastInDim S40x1024 ![] bcast_S_S40x1024 (constant S_ .f32 0x3F7FBE77#32)) v) (mulf (broadcastInDim S40x1024 ![] bcast_S_S40x1024 (constant S_ .f32 0x3A83126F#32)) (mulf (Host.reduceAdd x (constant S_ .f32 0x00000000#32) reducesTo_S8x40x1024_S40x1024_d0 h_S_) (Host.reduceAdd x (constant S_ .f32 0x00000000#32) reducesTo_S8x40x1024_S40x1024_d0 h_S_)))) : FVec Ideal S40x1024 .f32) i = second (total x (i 0).val (i 1).val) (at2 v (i 0).val (i 1).val) := by
  rw [← grad x i, ← at2_of v i _ _ rfl rfl]
  rfl

theorem move : ((mulf (broadcastInDim S40x1024 ![] bcast_S_S40x1024 (constant S_ .f32 0xBA83126F#32)) (addf (Host.divf (Host.divf (addf (mulf (broadcastInDim S40x1024 ![] bcast_S_S40x1024 (constant S_ .f32 0x3F666666#32)) u) (mulf (broadcastInDim S40x1024 ![] bcast_S_S40x1024 (constant S_ .f32 0x3DCCCCCD#32)) (Host.reduceAdd x (constant S_ .f32 0x00000000#32) reducesTo_S8x40x1024_S40x1024_d0 h_S_))) (broadcastInDim S40x1024 ![] bcast_S_S40x1024 (constant S_ .f32 0x3F26BD02#32))) (addf (Host.sqrt (Host.divf (addf (mulf (broadcastInDim S40x1024 ![] bcast_S_S40x1024 (constant S_ .f32 0x3F7FBE77#32)) v) (mulf (broadcastInDim S40x1024 ![] bcast_S_S40x1024 (constant S_ .f32 0x3A83126F#32)) (mulf (Host.reduceAdd x (constant S_ .f32 0x00000000#32) reducesTo_S8x40x1024_S40x1024_d0 h_S_) (Host.reduceAdd x (constant S_ .f32 0x00000000#32) reducesTo_S8x40x1024_S40x1024_d0 h_S_)))) (broadcastInDim S40x1024 ![] bcast_S_S40x1024 (constant S_ .f32 0x3C231ACC#32)))) (broadcastInDim S40x1024 ![] bcast_S_S40x1024 (constant S_ .f32 0x322BCC77#32)))) (mulf (broadcastInDim S40x1024 ![] bcast_S_S40x1024 (constant S_ .f32 0x3C23D70A#32)) w))) : FVec Ideal S40x1024 .f32) i = change (total x (i 0).val (i 1).val) (at2 w (i 0).val (i 1).val) (at2 u (i 0).val (i 1).val) (at2 v (i 0).val (i 1).val) := by
  unfold change
  rw [← moment x u i, ← square x v i, ← at2_of w i _ _ rfl rfl]
  rfl

end

end Cert.RSmallIdeal.Entries

namespace Cert.Proof

open Idealize.ShloMosaic Idealize.SL.Sem Idealize.ShloMosaic.TcCoe

attribute [local instance] Cert.KSmallIdeal.Gen.facts Cert.RSmallIdeal.Gen.facts

/-- The call and its reference leave the same results. -/
theorem algebraic_Small : Cert.algebraic_KSmallIdeal_RSmallIdeal := by
  intro m ρ m' ρ' _ hag
  refine ⟨fun c => Cert.KSmallIdeal.Entries.result4 m c, fun c => Cert.KSmallIdeal.Entries.result5 m c, fun c => Cert.KSmallIdeal.Entries.result6 m c, fun c => Cert.KSmallIdeal.Entries.result7 m c,
    Cert.KSmallIdeal.Entries.run m ρ, (θ_run _ _ _).mono (fun r h c => ⟨(h c).1.trans ?_, (h c).2.1.trans ?_, (h c).2.2.1.trans ?_, (h c).2.2.2.1.trans ?_, (h c).2.2.2.2⟩) (Cert.RSmallIdeal.Value.run (F := Ideal) m' ρ')⟩
  · obtain ⟨h0, h1, h2, h3⟩ := hag c
    rw [h0]
    exact funext fun i => Cert.RSmallIdeal.Entries.grad _ i
  · obtain ⟨h0, h1, h2, h3⟩ := hag c
    rw [h0, h1, h2, h3]
    exact funext fun i => Cert.RSmallIdeal.Entries.move _ _ _ _ i
  · obtain ⟨h0, h1, h2, h3⟩ := hag c
    rw [h0, h2]
    exact funext fun i => Cert.RSmallIdeal.Entries.moment _ _ i
  · obtain ⟨h0, h1, h2, h3⟩ := hag c
    rw [h0, h3]
    exact funext fun i => Cert.RSmallIdeal.Entries.square _ _ i

/-- The reference ends with its arguments as they were. -/
theorem frame_RSmall : Cert.quiescent_RSmallIdeal := fun m ρ _ =>
  (θ_run Cert.RSmallIdeal.defs _ _).mono (fun r h => ⟨fun c => (h c).2.2.2.2, sem_eq_zero_of_no_sems (by decide) r.2⟩) (Cert.RSmallIdeal.Value.run (F := Ideal) m ρ)

end Cert.Proof

end
-- ==== Proof.Norm.lean ====
/-
  The layer norm of a row, and the operations on blocks and on arrays that compute it, read at an index over the extended
  reals.
-/
module

public import proofs.«01_k».proof.Proof.Steps
public import Idealize.ShloMosaic.Lib.Pipeline.Value

@[expose] public section

noncomputable section

namespace Cert.Steps

open Idealize.ShloMosaic Idealize.ShloMosaic.ValueIdx Cert.Products
open scoped BigOperators

/-- The mean of a row of `b` entries, the count as a constant's word. -/
def mean (b : ℕ) (f : ℕ → EReal) : EReal := Ideal.div (∑ k ∈ Finset.range b, f k) (word 0x44800000#32)

/-- The square of an entry's distance from the row's mean. -/
def off (b : ℕ) (f : ℕ → EReal) (k : ℕ) : EReal := (f k - mean b f) * (f k - mean b f)

/-- An entry of the row's layer norm, of scale `g` and shift `e`. -/
def norm (b : ℕ) (f g e : ℕ → EReal) (j : ℕ) : EReal :=
  (f j - mean b f) * FloatOps.rsqrt (F := Ideal) (φ := .f32) (mean b (off b f) + word 0x3727C5AC#32) * g j + e j

/-! ## On a block -/

/-- A column spread over the rows' entries. -/
theorem wide {a b : ℕ} (y : (⟨2, ![a, 1]⟩ : Shape).Idx → EReal) (h : (⟨2, ![a, 1]⟩ : Shape).Broadcasts ⟨2, ![a, b]⟩)
    (j : (⟨2, ![a, b]⟩ : Shape).Idx) : broadcastTo ⟨2, ![a, b]⟩ y h j = y (ValueIdx.ix2 (j 0) (0 : Fin 1)) := by
  refine broadcastTo_apply y h j (ValueIdx.ix2 (j 0) (0 : Fin 1)) fun ax => ?_
  match ax with
  | ⟨0, _⟩ =>
    show (j 0).val = if a = 1 then 0 else (j 0).val
    have h0 : (j 0).val < a := (j 0).isLt
    split <;> omega
  | ⟨1, _⟩ => rfl

/-- A row spread over the block. -/
theorem tall {a b : ℕ} (y : (⟨2, ![1, b]⟩ : Shape).Idx → EReal) (hs : (⟨2, ![1, b]⟩ : Shape).ShapeCasts ⟨2, ![1, b]⟩)
    (h : (⟨2, ![1, b]⟩ : Shape).Broadcasts ⟨2, ![a, b]⟩) (j : (⟨2, ![a, b]⟩ : Shape).Idx) :
    broadcastTo ⟨2, ![a, b]⟩ (shapeCast ⟨2, ![1, b]⟩ y hs) h j = at2 y 0 (j 1).val := by
  rw [shapeCast_self]
  refine (congrArg (broadcastTo ⟨2, ![a, b]⟩ y h) (ValueIdx.eq_ix2 j)).trans ((broadcastTo_1b_ab_apply y h (j 0) (j 1)).trans ?_)
  exact at2_of y _ 0 (j 1).val rfl rfl

/-- The means of a block's rows, spread over the rows' entries. -/
abbrev means {a b : ℕ} (x : FVec Ideal ⟨2, ![a, b]⟩ .f32) (h : (⟨2, ![a, b]⟩ : Shape).Reduces [1] ⟨1, ![a]⟩)
    (hs : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ x 0x00000000#32 h (.inl rfl) rfl) hs) (broadcast ⟨2, ![a, 1]⟩ (Scalar.ofBits .f32 0x44800000#32))

theorem means_apply {a b : ℕ} (x : FVec Ideal ⟨2, ![a, b]⟩ .f32) (h : (⟨2, ![a, b]⟩ : Shape).Reduces [1] ⟨1, ![a]⟩)
    (hs : (⟨1, ![a]⟩ : Shape).ShapeCasts ⟨2, ![a, 1]⟩) (z : (⟨2, ![a, 1]⟩ : Shape).Idx) : means x h hs z = mean b (at2 x (z 0).val) :=
  congrArg (fun s => Ideal.div s (word 0x44800000#32)) (((congrArg (shapeCast ⟨2, ![a, 1]⟩ _ hs) (ValueIdx.eq_ix2 z)).trans
    (shapeCast_a_a1_apply _ hs (z 0) (z 1))).trans (kernel_row x h (.inl rfl) rfl _))

/-- A block's entries, their row's mean taken off. -/
abbrev away {a b : ℕ} (x : FVec Ideal ⟨2, ![a, b]⟩ .f32) (h : (⟨2, ![a, b]⟩ : Shape).Reduces [1] ⟨1, ![a]⟩)
    (hs : (⟨1, ![a]⟩ : Shape).ShapeCasts ⟨2, ![a, 1]⟩) (hb : (⟨2, ![a, 1]⟩ : Shape).Broadcasts ⟨2, ![a, b]⟩) : FVec Ideal ⟨2, ![a, b]⟩ .f32 :=
  subf x (broadcastTo ⟨2, ![a, b]⟩ (means x h hs) hb)

theorem away_apply {a b : ℕ} (x : FVec Ideal ⟨2, ![a, b]⟩ .f32) (h : (⟨2, ![a, b]⟩ : Shape).Reduces [1] ⟨1, ![a]⟩)
    (hs : (⟨1, ![a]⟩ : Shape).ShapeCasts ⟨2, ![a, 1]⟩) (hb : (⟨2, ![a, 1]⟩ : Shape).Broadcasts ⟨2, ![a, b]⟩) (j : (⟨2, ![a, b]⟩ : Shape).Idx) :
    away x h hs hb j = at2 x (j 0).val (j 1).val - mean b (at2 x (j 0).val) := by
  show x j - broadcastTo ⟨2, ![a, b]⟩ (means x h hs) hb j = _
  rw [wide, means_apply, at2_of x j _ _ rfl rfl]
  rfl

/-- The mean depends on the row's entries only. -/
theorem mean_congr {b : ℕ} {f g : ℕ → EReal} (h : ∀ k < b, f k = g k) : mean b f = mean b g := by
  unfold mean
  rw [Finset.sum_congr rfl fun k hk => h k (Finset.mem_range.mp hk)]

/-- The norm depends on the row's entries, and on the scale and the shift at the entry, only. -/
theorem norm_congr {b : ℕ} {f f' g g' e e' : ℕ → EReal} {j : ℕ} (h : ∀ k < b, f k = f' k) (hj : j < b) (hg : g j = g' j) (he : e j = e' j) :
    norm b f g e j = norm b f' g' e' j := by
  have hm := mean_congr h
  have hs : mean b (off b f) = mean b (off b f') := mean_congr fun k hk => by unfold off; rw [hm, h k hk]
  unfold norm
  rw [hm, hs, h j hj, hg, he]

theorem square_apply {a b : ℕ} (x y : FVec Ideal ⟨2, ![a, b]⟩ .f32) (i : Fin a)
    (hy : ∀ j : (⟨2, ![a, b]⟩ : Shape).Idx, y j = at2 x (j 0).val (j 1).val - mean b (at2 x (j 0).val)) :
    mean b (at2 (mulf y y) i.val) = mean b (off b (at2 x i.val)) :=
  mean_congr fun k hk => by
    have e := at2_val (mulf y y) i (⟨k, hk⟩ : Fin b)
    refine e.trans ?_
    show y _ * y _ = _
    rw [hy]
    rfl

/-- The layer norm of a block, at an index. -/
theorem block_norm {a b : ℕ} (x : FVec Ideal ⟨2, ![a, b]⟩ .f32) (g e : FVec Ideal ⟨2, ![1, b]⟩ .f32) (h : (⟨2, ![a, b]⟩ : Shape).Reduces [1] ⟨1, ![a]⟩)
    (hs : (⟨1, ![a]⟩ : Shape).ShapeCasts ⟨2, ![a, 1]⟩) (hb : (⟨2, ![a, 1]⟩ : Shape).Broadcasts ⟨2, ![a, b]⟩)
    (ht : (⟨2, ![1, b]⟩ : Shape).ShapeCasts ⟨2, ![1, b]⟩) (hr : (⟨2, ![1, b]⟩ : Shape).Broadcasts ⟨2, ![a, b]⟩) (j : (⟨2, ![a, b]⟩ : Shape).Idx) :
    addf (mulf (mulf (away x h hs hb) (broadcastTo ⟨2, ![a, b]⟩ (rsqrt (addf (means (mulf (away x h hs hb) (away x h hs hb)) h hs)
        (broadcast ⟨2, ![a, 1]⟩ (Scalar.ofBits .f32 0x3727C5AC#32)))) hb))
      (broadcastTo ⟨2, ![a, b]⟩ (shapeCast ⟨2, ![1, b]⟩ g ht) hr)) (broadcastTo ⟨2, ![a, b]⟩ (shapeCast ⟨2, ![1, b]⟩ e ht) hr) j
      = norm b (at2 x (j 0).val) (at2 g 0) (at2 e 0) (j 1).val := by
  show away x h hs hb j * broadcastTo ⟨2, ![a, b]⟩ _ hb j * broadcastTo ⟨2, ![a, b]⟩ _ hr j + broadcastTo ⟨2, ![a, b]⟩ _ hr j = _
  rw [tall, tall, wide, away_apply]
  show _ * FloatOps.rsqrt (F := Ideal) (φ := .f32) (means (mulf (away x h hs hb) (away x h hs hb)) h hs (ValueIdx.ix2 (j 0) (0 : Fin 1)) + word 0x3727C5AC#32) * _ + _ = _
  rw [means_apply]
  exact congrArg (fun s => (at2 x (j 0).val (j 1).val - mean b (at2 x (j 0).val)) * FloatOps.rsqrt (F := Ideal) (φ := .f32) (s + word 0x3727C5AC#32) * at2 g 0 (j 1).val + at2 e 0 (j 1).val)
    (square_apply x _ (j 0) (away_apply x h hs hb))

/-! ## On an array -/

/-- A column spread over the rows' entries. -/
theorem host_wide {a b : ℕ} (y : (⟨2, ![a, 1]⟩ : Shape).Idx → EReal) (h : (⟨2, ![a, 1]⟩ : Shape).BroadcastsInDim ⟨2, ![a, b]⟩ ![0, 1])
    (j : (⟨2, ![a, b]⟩ : Shape).Idx) : broadcastInDim ⟨2, ![a, b]⟩ ![0, 1] h y j = y (ValueIdx.ix2 (j 0) (0 : Fin 1)) := by
  refine broadcastInDim_apply ![0, 1] h y j (ValueIdx.ix2 (j 0) (0 : Fin 1)) fun ax => ?_
  match ax with
  | ⟨0, _⟩ =>
    show (j 0).val = if a = 1 then 0 else (j 0).val
    have h0 : (j 0).val < a := (j 0).isLt
    split <;> omega
  | ⟨1, _⟩ => rfl

/-- A vector as a column. -/
theorem host_column {a : ℕ} (y : (⟨1, ![a]⟩ : Shape).Idx → EReal) (h : (⟨1, ![a]⟩ : Shape).BroadcastsInDim ⟨2, ![a, 1]⟩ ![0])
    (z : (⟨2, ![a, 1]⟩ : Shape).Idx) : broadcastInDim ⟨2, ![a, 1]⟩ ![0] h y z = y (ValueIdx.ix1 (z 0)) := by
  refine broadcastInDim_apply ![0] h y z (ValueIdx.ix1 (z 0)) fun ax => ?_
  match ax with
  | ⟨0, _⟩ =>
    show (z 0).val = if a = 1 then 0 else (z 0).val
    have h0 : (z 0).val < a := (z 0).isLt
    split <;> omega

/-- A vector as a row, spread over the array. -/
theorem host_tall {a b : ℕ} (y : (⟨1, ![b]⟩ : Shape).Idx → EReal) (hs : (⟨1, ![b]⟩ : Shape).BroadcastsInDim ⟨2, ![1, b]⟩ ![1])
    (h : (⟨2, ![1, b]⟩ : Shape).BroadcastsInDim ⟨2, ![a, b]⟩ ![0, 1]) (j : (⟨2, ![a, b]⟩ : Shape).Idx) :
    broadcastInDim ⟨2, ![a, b]⟩ ![0, 1] h (broadcastInDim ⟨2, ![1, b]⟩ ![1] hs y) j = at1 y (j 1).val := by
  have h1 : (j 1).val < b := (j 1).isLt
  refine (broadcastInDim_apply ![0, 1] h _ j (ValueIdx.ix2 (0 : Fin 1) (j 1)) fun ax => ?_).trans
    ((broadcastInDim_apply ![1] hs y _ (ValueIdx.ix1 (j 1)) fun ax => ?_).trans (at1_of y _ _ rfl))
  · match ax with
    | ⟨0, _⟩ => rfl
    | ⟨1, _⟩ =>
      show (j 1).val = if b = 1 then 0 else (j 1).val
      split <;> omega
  · match ax with
    | ⟨0, _⟩ =>
      show (j 1).val = if b = 1 then 0 else (j 1).val
      split <;> omega

section

variable {a b : ℕ} (x : FVec Ideal ⟨2, ![a, b]⟩ .f32) (h : (⟨2, ![a, b]⟩ : Shape).ReducesTo [1] ⟨1, ![a]⟩)
  (hz : 0 < (⟨0, ![]⟩ : Shape).numel) (hk : (⟨1, ![a]⟩ : Shape).BroadcastsInDim ⟨2, ![a, 1]⟩ ![0])
  (hc : (⟨0, ![]⟩ : Shape).BroadcastsInDim ⟨2, ![a, 1]⟩ ![]) (hb : (⟨2, ![a, 1]⟩ : Shape).BroadcastsInDim ⟨2, ![a, b]⟩ ![0, 1])

/-- The means of an array's rows. -/
abbrev hostMeans : FVec Ideal ⟨2, ![a, 1]⟩ .f32 :=
  Host.divf (broadcastInDim ⟨2, ![a, 1]⟩ ![0] hk (Host.reduceAdd x (constant ⟨0, ![]⟩ .f32 0x00000000#32) h hz : FVec Ideal ⟨1, ![a]⟩ .f32)) (broadcastInDim ⟨2, ![a, 1]⟩ ![] hc (constant ⟨0, ![]⟩ .f32 0x44800000#32))

theorem hostMeans_apply (z : (⟨2, ![a, 1]⟩ : Shape).Idx) : hostMeans x h hz hk hc z = mean b (at2 x (z 0).val) :=
  congrArg (fun s => Ideal.div s (word 0x44800000#32)) ((host_column _ hk z).trans (host_row x _ h hz zero_word _))

/-- An array's entries, their row's mean taken off. -/
abbrev hostAway : FVec Ideal ⟨2, ![a, b]⟩ .f32 := subf x (broadcastInDim ⟨2, ![a, b]⟩ ![0, 1] hb (hostMeans x h hz hk hc))

theorem hostAway_apply (j : (⟨2, ![a, b]⟩ : Shape).Idx) :
    hostAway x h hz hk hc hb j = at2 x (j 0).val (j 1).val - mean b (at2 x (j 0).val) := by
  show x j - broadcastInDim ⟨2, ![a, b]⟩ ![0, 1] hb (hostMeans x h hz hk hc) j = _
  rw [host_wide, hostMeans_apply, at2_of x j _ _ rfl rfl]
  rfl

/-- The layer norm of an array, at an index. -/
theorem array_norm (g e : FVec Ideal ⟨1, ![b]⟩ .f32) (ht : (⟨1, ![b]⟩ : Shape).BroadcastsInDim ⟨2, ![1, b]⟩ ![1])
    (hr : (⟨2, ![1, b]⟩ : Shape).BroadcastsInDim ⟨2, ![a, b]⟩ ![0, 1]) (j : (⟨2, ![a, b]⟩ : Shape).Idx) :
    addf (mulf (mulf (hostAway x h hz hk hc hb) (broadcastInDim ⟨2, ![a, b]⟩ ![0, 1] hb (Host.rsqrt (addf
        (hostMeans (mulf (hostAway x h hz hk hc hb) (hostAway x h hz hk hc hb)) h hz hk hc) (broadcastInDim ⟨2, ![a, 1]⟩ ![] hc (constant ⟨0, ![]⟩ .f32 0x3727C5AC#32))))))
      (broadcastInDim ⟨2, ![a, b]⟩ ![0, 1] hr (broadcastInDim ⟨2, ![1, b]⟩ ![1] ht g : FVec Ideal ⟨2, ![1, b]⟩ .f32))) (broadcastInDim ⟨2, ![a, b]⟩ ![0, 1] hr (broadcastInDim ⟨2, ![1, b]⟩ ![1] ht e : FVec Ideal ⟨2, ![1, b]⟩ .f32)) j
      = norm b (at2 x (j 0).val) (at1 g) (at1 e) (j 1).val := by
  show hostAway x h hz hk hc hb j * broadcastInDim ⟨2, ![a, b]⟩ ![0, 1] hb (_ : FVec Ideal ⟨2, ![a, 1]⟩ .f32) j * broadcastInDim ⟨2, ![a, b]⟩ ![0, 1] hr (broadcastInDim ⟨2, ![1, b]⟩ ![1] ht g) j + broadcastInDim ⟨2, ![a, b]⟩ ![0, 1] hr (broadcastInDim ⟨2, ![1, b]⟩ ![1] ht e) j = _
  rw [host_tall, host_tall, host_wide, hostAway_apply]
  show _ * FloatOps.rsqrt (F := Ideal) (φ := .f32) (hostMeans (mulf (hostAway x h hz hk hc hb) (hostAway x h hz hk hc hb)) h hz hk hc (ValueIdx.ix2 (j 0) (0 : Fin 1)) + word 0x3727C5AC#32) * _ + _ = _
  rw [hostMeans_apply]
  exact congrArg (fun s => (at2 x (j 0).val (j 1).val - mean b (at2 x (j 0).val)) * FloatOps.rsqrt (F := Ideal) (φ := .f32) (s + word 0x3727C5AC#32) * at1 g (j 1).val + at1 e (j 1).val)
    (square_apply x _ (j 0) (hostAway_apply x h hz hk hc hb))

end

end Cert.Steps

end
-- ==== Proof.LnValue.lean ====
/-
  The layer norm of a scaled hidden state and a layer's change to it: what the call leaves, entry by entry, over the extended reals.
-/
module

public import proofs.«01_k».proof.Proof.Norm
public import proofs.«01_k».proof.Proof.Gen.KLnIdeal.Value
public import proofs.«01_k».proof.Proof.Gen.RLnIdeal.Run
public import proofs.«01_k».proof.Defs

@[expose] public section

noncomputable section

namespace Cert.KLnIdeal.Entries

open Cert.KLnIdeal Cert.KLnIdeal.Gen Idealize.ShloMosaic Idealize.ShloMosaic.TcCoe Idealize.SL.Sem Cert.Products Cert.Steps
open Idealize.ShloMosaic.Pipeline (Dat)
open scoped BigOperators

variable (m : (ℓ : Loc nD τ sig) → Buf (Elt Ideal) ℓ)

/-- Which block of each array a point takes. -/
theorem places : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) :=
  (by decide +kernel : ∀ t : Fin grid0.N, _)

theorem blk0 (c : Dev nD) (t : Fin cfg0.N) (y : S384x1024.Idx) :
    (iblk m c 0 t : S384x1024.Idx → EReal) y = at2 (m ((c : Thread nD τ).loc main_arg0)) (t.val * 384 + (y 0).val) (y 1).val := by
  obtain ⟨⟨a0, a1⟩, -⟩ := places t
  unfold iblk
  rw [View.read_apply]
  show V m c main_arg0 _ = _
  rw [V_main_arg0]
  refine at2_of (m ((c : Thread nD τ).loc main_arg0)) _ _ _ ?_ ?_
  · show win0_0.index t (0 : Fin 2) * 384 + 1 * (y 0).val = _; rw [a0]; omega
  · show win0_0.index t (1 : Fin 2) * 1024 + 1 * (y 1).val = _; rw [a1]; omega

theorem blk1 (c : Dev nD) (t : Fin cfg0.N) (y : S384x1024.Idx) :
    (iblk m c 1 t : S384x1024.Idx → EReal) y = at2 (m ((c : Thread nD τ).loc main_arg1)) (t.val * 384 + (y 0).val) (y 1).val := by
  obtain ⟨-, ⟨a0, a1⟩, -⟩ := places t
  unfold iblk
  rw [View.read_apply]
  show V m c main_arg1 _ = _
  rw [V_main_arg1]
  refine at2_of (m ((c : Thread nD τ).loc main_arg1)) _ _ _ ?_ ?_
  · show win0_1.index t (0 : Fin 2) * 384 + 1 * (y 0).val = _; rw [a0]; omega
  · show win0_1.index t (1 : Fin 2) * 1024 + 1 * (y 1).val = _; rw [a1]; omega

theorem lay2 (c : Dev nD) : (V m c main_v0 : S1x1024.Idx → EReal) = shapeCast S1x1024 (m ((c : Thread nD τ).loc main_arg2)) shapeCasts_S1024_S1x1024 := by
  unfold V
  after_results
  try rfl

theorem blk2 (c : Dev nD) (t : Fin cfg0.N) (y : S1x1024.Idx) :
    (iblk m c 2 t : S1x1024.Idx → EReal) y = at1 (m ((c : Thread nD τ).loc main_arg2)) (y 1).val := by
  obtain ⟨-, -, ⟨a0, a1⟩, -⟩ := places t
  unfold iblk
  rw [View.read_apply]
  show (V m c main_v0 : S1x1024.Idx → EReal) _ = _
  rw [lay2]
  have h0 : (y 0).val < 1 := (y 0).isLt
  refine (congrArg (shapeCast S1x1024 (m ((c : Thread nD τ).loc main_arg2)) shapeCasts_S1024_S1x1024) (ValueIdx.eq_ix2 _)).trans
    ((ValueIdx.shapeCast_a_1a_apply (m ((c : Thread nD τ).loc main_arg2)) shapeCasts_S1024_S1x1024 _ _).trans (at1_of _ _ _ ?_))
  show win0_2.index t (1 : Fin 2) * 1024 + 1 * (y 1).val = _
  rw [a1]; omega

theorem lay3 (c : Dev nD) : (V m c main_v1 : S1x1024.Idx → EReal) = shapeCast S1x1024 (m ((c : Thread nD τ).loc main_arg3)) shapeCasts_S1024_S1x1024 := by
  unfold V
  after_results
  try rfl

theorem blk3 (c : Dev nD) (t : Fin cfg0.N) (y : S1x1024.Idx) :
    (iblk m c 3 t : S1x1024.Idx → EReal) y = at1 (m ((c : Thread nD τ).loc main_arg3)) (y 1).val := by
  obtain ⟨-, -, -, ⟨a0, a1⟩, -⟩ := places t
  unfold iblk
  rw [View.read_apply]
  show (V m c main_v1 : S1x1024.Idx → EReal) _ = _
  rw [lay3]
  have h0 : (y 0).val < 1 := (y 0).isLt
  refine (congrArg (shapeCast S1x1024 (m ((c : Thread nD τ).loc main_arg3)) shapeCasts_S1024_S1x1024) (ValueIdx.eq_ix2 _)).trans
    ((ValueIdx.shapeCast_a_1a_apply (m ((c : Thread nD τ).loc main_arg3)) shapeCasts_S1024_S1x1024 _ _).trans (at1_of _ _ _ ?_))
  show win0_3.index t (1 : Fin 2) * 1024 + 1 * (y 1).val = _
  rw [a1]; omega

/-- The block's norm: of each row by its own entries. -/
theorem body (x0 x1 : Vec Ideal S384x1024 .f32) (x2 x3 : Vec Ideal S1x1024 .f32) (j : S384x1024.Idx) :
    k0_pay1 x0 x1 x2 x3 j = norm 1024 (at2 ((addf (mulf (broadcast S384x1024 (Scalar.ofBits .f32 0x3FD744FD#32)) x0) x1) : FVec Ideal S384x1024 .f32) (j 0).val) (at2 x2 0) (at2 x3 0) (j 1).val := by
  unfold k0_pay1
  exact block_norm ((addf (mulf (broadcast S384x1024 (Scalar.ofBits .f32 0x3FD744FD#32)) x0) x1) : FVec Ideal S384x1024 .f32) x2 x3 _ _ _ _ _ j

/-- The row that is normed. -/
def row (c : Dev nD) (i k : ℕ) : EReal := word 0x3FD744FD#32 * at2 (m ((c : Thread nD τ).loc main_arg0)) i k + at2 (m ((c : Thread nD τ).loc main_arg1)) i k

/-- The result at an entry. -/
def entry (c : Dev nD) (i j : ℕ) : EReal :=
  norm 1024 (row m c i) (at1 (m ((c : Thread nD τ).loc main_arg2))) (at1 (m ((c : Thread nD τ).loc main_arg3))) j

theorem at_block (c : Dev nD) (t : Fin cfg0.N) (j : S384x1024.Idx) :
    k0_pay1 (iblk m c 0 t) (iblk m c 1 t) (iblk m c 2 t) (iblk m c 3 t) j = entry m c (t.val * 384 + (j 0).val) (j 1).val := by
  rw [body]
  unfold entry
  refine norm_congr (fun k hk => ?_) (j 1).isLt ?_ ?_
  · refine (at2_val _ (j 0) (⟨k, hk⟩ : Fin 1024)).trans ?_
    show word 0x3FD744FD#32 * (iblk m c 0 t : S384x1024.Idx → EReal) (ValueIdx.ix2 (j 0) (⟨k, hk⟩ : Fin 1024)) + (iblk m c 1 t : S384x1024.Idx → EReal) (ValueIdx.ix2 (j 0) (⟨k, hk⟩ : Fin 1024)) = _
    rw [blk0 m c t, blk1 m c t]
    rfl
  · exact (at2_val (iblk m c 2 t : S1x1024.Idx → EReal) (0 : Fin 1) (j 1)).trans (blk2 m c t _)
  · exact (at2_val (iblk m c 3 t : S1x1024.Idx → EReal) (0 : Fin 1) (j 1)).trans (blk3 m c t _)

theorem out4 (c : Dev nD) (t : Fin cfg0.N) (j : S384x1024.Idx) :
    out0_4 (iblk m c 0 t) (iblk m c 1 t) (iblk m c 2 t) (iblk m c 3 t) j = entry m c (t.val * 384 + (j 0).val) (j 1).val := by
  unfold out0_4
  rw [View.canon_unit_zero (S := S384x1024) origin]
  simp only [View.ld_unit_zero (S := S384x1024) origin, View.ld_unit_zero (S := S1x1024) origin]
  exact at_block m c t j

/-- The array of result 0: every entry. -/
def result4 (c : Dev nD) : Buf (Elt Ideal) ((c : Thread nD τ).loc main_v2_0) := fun i => entry m c (i 0).val (i 1).val

theorem mem_block4 (t : Fin cfg0.N) (i : S4224x1024.Idx) :
    i ∈ ((cfg0.win 4).blk t).view.set ↔ ∀ a : Fin 2, win0_4.index t a * S384x1024.size a ≤ (i a).val ∧ (i a).val < win0_4.index t a * S384x1024.size a + S384x1024.size a := by
  show i ∈ ((View.whole main_v2_0).slice (win0_4.rect t)).set ↔ _
  rw [View.set_slice_whole, Rect.mem_set_unit]
  exact Iff.rfl

theorem flushed_result4 (c : Dev nD) (t : Fin cfg0.N) (hf : (cfg0.win 4).flush t = true) :
    (dats m 0 c).flushed 4 t = ((cfg0.win 4).blk t).view.read (Elt Ideal) (result4 m c) := by
  rw [Value.flushed4]
  obtain ⟨-, -, -, -, ⟨o0, o1⟩, -⟩ := places t
  funext y
  rw [View.read_apply]
  show out0_4 (iblk m c 0 t) (iblk m c 1 t) (iblk m c 2 t) (iblk m c 3 t) y = entry m c (win0_4.index t (0 : Fin 2) * 384 + 1 * (y 0).val) (win0_4.index t (1 : Fin 2) * 1024 + 1 * (y 1).val)
  rw [o0, o1, Nat.one_mul, Nat.one_mul, Nat.zero_mul, Nat.zero_add]
  exact out4 m c t y

theorem final4 (c : Dev nD) : (dats m 0 c).arrAt 4 cfg0.N = result4 m c :=
  (dats m 0 c).arrAt_eq_of_cover 4 _ (flushed_result4 m c) fun i => by
    have h0 : (i 0).val < 4224 := (i 0).isLt
    have h1 : (i 1).val < 1024 := (i 1).isLt
    have hN : cfg0.N = 11 := N_0
    refine ⟨⟨(i 0).val / 384, by omega⟩, ?_, ?_⟩
    · exact flush0_4 _
    · rw [mem_block4]
      obtain ⟨-, -, -, -, ⟨o0, o1⟩, -⟩ := places ⟨(i 0).val / 384, by omega⟩
      dsimp only at o0 o1
      intro a
      match a with
      | ⟨0, _⟩ => show win0_4.index _ (0 : Fin 2) * 384 ≤ (i 0).val ∧ (i 0).val < win0_4.index _ (0 : Fin 2) * 384 + 384; rw [o0]; omega
      | ⟨1, _⟩ => show win0_4.index _ (1 : Fin 2) * 1024 ≤ (i 1).val ∧ (i 1).val < win0_4.index _ (1 : Fin 2) * 1024 + 1024; rw [o1]; omega

theorem out5 (c : Dev nD) (t : Fin cfg0.N) (j : S384x1024.Idx) :
    out0_5 (iblk m c 0 t) (iblk m c 1 t) (iblk m c 2 t) (iblk m c 3 t) j = entry m c (t.val * 384 + (j 0).val) (j 1).val := by
  unfold out0_5
  rw [View.canon_unit_zero (S := S384x1024) origin]
  simp only [View.ld_unit_zero (S := S384x1024) origin, View.ld_unit_zero (S := S1x1024) origin]
  exact at_block m c t j

/-- The array of result 1: every entry. -/
def result5 (c : Dev nD) : Buf (Elt Ideal) ((c : Thread nD τ).loc main_v2_1) := fun i => entry m c (i 0).val (i 1).val

theorem mem_block5 (t : Fin cfg0.N) (i : S4224x1024.Idx) :
    i ∈ ((cfg0.win 5).blk t).view.set ↔ ∀ a : Fin 2, win0_5.index t a * S384x1024.size a ≤ (i a).val ∧ (i a).val < win0_5.index t a * S384x1024.size a + S384x1024.size a := by
  show i ∈ ((View.whole main_v2_1).slice (win0_5.rect t)).set ↔ _
  rw [View.set_slice_whole, Rect.mem_set_unit]
  exact Iff.rfl

theorem flushed_result5 (c : Dev nD) (t : Fin cfg0.N) (hf : (cfg0.win 5).flush t = true) :
    (dats m 0 c).flushed 5 t = ((cfg0.win 5).blk t).view.read (Elt Ideal) (result5 m c) := by
  rw [Value.flushed5]
  obtain ⟨-, -, -, -, -, ⟨o0, o1⟩⟩ := places t
  funext y
  rw [View.read_apply]
  show out0_5 (iblk m c 0 t) (iblk m c 1 t) (iblk m c 2 t) (iblk m c 3 t) y = entry m c (win0_5.index t (0 : Fin 2) * 384 + 1 * (y 0).val) (win0_5.index t (1 : Fin 2) * 1024 + 1 * (y 1).val)
  rw [o0, o1, Nat.one_mul, Nat.one_mul, Nat.zero_mul, Nat.zero_add]
  exact out5 m c t y

theorem final5 (c : Dev nD) : (dats m 0 c).arrAt 5 cfg0.N = result5 m c :=
  (dats m 0 c).arrAt_eq_of_cover 5 _ (flushed_result5 m c) fun i => by
    have h0 : (i 0).val < 4224 := (i 0).isLt
    have h1 : (i 1).val < 1024 := (i 1).isLt
    have hN : cfg0.N = 11 := N_0
    refine ⟨⟨(i 0).val / 384, by omega⟩, ?_, ?_⟩
    · exact flush0_5 _
    · rw [mem_block5]
      obtain ⟨-, -, -, -, -, ⟨o0, o1⟩⟩ := places ⟨(i 0).val / 384, by omega⟩
      dsimp only at o0 o1
      intro a
      match a with
      | ⟨0, _⟩ => show win0_5.index _ (0 : Fin 2) * 384 ≤ (i 0).val ∧ (i 0).val < win0_5.index _ (0 : Fin 2) * 384 + 384; rw [o0]; omega
      | ⟨1, _⟩ => show win0_5.index _ (1 : Fin 2) * 1024 ≤ (i 1).val ∧ (i 1).val < win0_5.index _ (1 : Fin 2) * 1024 + 1024; rw [o1]; omega

/-- The run of the call, its results at their entries. -/
theorem run (ρ : Dev nD → PrngReg) : θ_run defs (onTc (τ := τ) (main (F := Ideal))) ⟨m, fun _ => 0, ρ⟩ fun r => ∀ c : Dev nD,
      r.2.mem ((c : Thread nD τ).loc main_v2_0) = result4 m c ∧ r.2.mem ((c : Thread nD τ).loc main_v2_1) = result5 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1.trans (final4 m c), (h c).2.1.trans (final5 m c), (h c).2.2⟩) (Value.run_blocks m ρ)

end Cert.KLnIdeal.Entries

namespace Cert.RLnIdeal.Entries

open Cert.RLnIdeal Cert.RLnIdeal.Gen Idealize.ShloMosaic Cert.Products Cert.Steps

/-- The reference's result at an index. -/
theorem value (x u : FVec Ideal S4224x1024 .f32) (g e : FVec Ideal S1024 .f32) (i : S4224x1024.Idx) :
    ((addf (mulf (mulf (subf (addf (mulf (broadcastInDim S4224x1024 ![] bcast_S_S4224x1024 (constant S_ .f32 0x3FD744FD#32)) x) u) (broadcastInDim S4224x1024 ![0, 1] bcast_S4224x1_S4224x1024_0_1 (Host.divf (broadcastInDim S4224x1 ![0] bcast_S4224_S4224x1_0 (Host.reduceAdd (addf (mulf (broadcastInDim S4224x1024 ![] bcast_S_S4224x1024 (constant S_ .f32 0x3FD744FD#32)) x) u) (constant S_ .f32 0x00000000#32) reducesTo_S4224x1024_S4224_d1 h_S_)) (broadcastInDim S4224x1 ![] bcast_S_S4224x1 (constant S_ .f32 0x44800000#32))))) (broadcastInDim S4224x1024 ![0, 1] bcast_S4224x1_S4224x1024_0_1 (Host.rsqrt (addf (Host.divf (broadcastInDim S4224x1 ![0] bcast_S4224_S4224x1_0 (Host.reduceAdd (mulf (subf (addf (mulf (broadcastInDim S4224x1024 ![] bcast_S_S4224x1024 (constant S_ .f32 0x3FD744FD#32)) x) u) (broadcastInDim S4224x1024 ![0, 1] bcast_S4224x1_S4224x1024_0_1 (Host.divf (broadcastInDim S4224x1 ![0] bcast_S4224_S4224x1_0 (Host.reduceAdd (addf (mulf (broadcastInDim S4224x1024 ![] bcast_S_S4224x1024 (constant S_ .f32 0x3FD744FD#32)) x) u) (constant S_ .f32 0x00000000#32) reducesTo_S4224x1024_S4224_d1 h_S_)) (broadcastInDim S4224x1 ![] bcast_S_S4224x1 (constant S_ .f32 0x44800000#32))))) (subf (addf (mulf (broadcastInDim S4224x1024 ![] bcast_S_S4224x1024 (constant S_ .f32 0x3FD744FD#32)) x) u) (broadcastInDim S4224x1024 ![0, 1] bcast_S4224x1_S4224x1024_0_1 (Host.divf (broadcastInDim S4224x1 ![0] bcast_S4224_S4224x1_0 (Host.reduceAdd (addf (mulf (broadcastInDim S4224x1024 ![] bcast_S_S4224x1024 (constant S_ .f32 0x3FD744FD#32)) x) u) (constant S_ .f32 0x00000000#32) reducesTo_S4224x1024_S4224_d1 h_S_)) (broadcastInDim S4224x1 ![] bcast_S_S4224x1 (constant S_ .f32 0x44800000#32)))))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x3727C5AC#32)))))) (broadcastInDim S4224x1024 ![0, 1] bcast_S1x1024_S4224x1024_0_1 (broadcastInDim S1x1024 ![1] bcast_S1024_S1x1024_1 g))) (broadcastInDim S4224x1024 ![0, 1] bcast_S1x1024_S4224x1024_0_1 (broadcastInDim S1x1024 ![1] bcast_S1024_S1x1024_1 e))) : FVec Ideal S4224x1024 .f32) i
      = norm 1024 (fun k => word 0x3FD744FD#32 * at2 x (i 0).val k + at2 u (i 0).val k) (at1 g) (at1 e) (i 1).val :=
  (array_norm ((addf (mulf (broadcastInDim S4224x1024 ![] bcast_S_S4224x1024 (constant S_ .f32 0x3FD744FD#32)) x) u) : FVec Ideal S4224x1024 .f32) reducesTo_S4224x1024_S4224_d1 h_S_ bcast_S4224_S4224x1_0 bcast_S_S4224x1 bcast_S4224x1_S4224x1024_0_1
    g e bcast_S1024_S1x1024_1 bcast_S1x1024_S4224x1024_0_1 i).trans (norm_congr (fun k hk => by
    refine (at2_val _ (i 0) (⟨k, hk⟩ : Fin 1024)).trans ?_
    exact congrArg₂ (fun p q => word 0x3FD744FD#32 * p + q) (at2_val x (i 0) (⟨k, hk⟩ : Fin 1024)).symm (at2_val u (i 0) (⟨k, hk⟩ : Fin 1024)).symm) (i 1).isLt rfl rfl)

end Cert.RLnIdeal.Entries

namespace Cert.Proof

open Idealize.ShloMosaic Idealize.SL.Sem Idealize.ShloMosaic.TcCoe

attribute [local instance] Cert.KLnIdeal.Gen.facts Cert.RLnIdeal.Gen.facts

/-- The call and its reference leave the same results. -/
theorem algebraic_Ln : Cert.algebraic_KLnIdeal_RLnIdeal := by
  intro m ρ m' ρ' _ hag
  refine ⟨fun c => Cert.KLnIdeal.Entries.result4 m c, fun c => Cert.KLnIdeal.Entries.result5 m c,
    Cert.KLnIdeal.Entries.run m ρ, (θ_run _ _ _).mono (fun r h c => ⟨(h c).1.trans ?_, (h c).2.1.trans ?_, (h c).2.2⟩) (Cert.RLnIdeal.Value.run (F := Ideal) m' ρ')⟩
  · obtain ⟨h0, h1, h2, h3⟩ := hag c
    rw [h0, h1, h2, h3]
    exact funext fun i => Cert.RLnIdeal.Entries.value _ _ _ _ i
  · obtain ⟨h0, h1, h2, h3⟩ := hag c
    rw [h0, h1, h2, h3]
    exact funext fun i => Cert.RLnIdeal.Entries.value _ _ _ _ i

/-- The reference ends with its arguments as they were. -/
theorem frame_RLn : Cert.quiescent_RLnIdeal := fun m ρ _ =>
  (θ_run Cert.RLnIdeal.defs _ _).mono (fun r h => ⟨fun c => (h c).2.2, sem_eq_zero_of_no_sems (by decide) r.2⟩) (Cert.RLnIdeal.Value.run (F := Ideal) m ρ)

end Cert.Proof

end
-- ==== Proof.EmbValue.lean ====
/-
  The layer norm of the embedded tokens: what the call leaves, entry by entry, over the extended reals.
-/
module

public import proofs.«01_k».proof.Proof.Norm
public import proofs.«01_k».proof.Proof.Gen.KEmbIdeal.Value
public import proofs.«01_k».proof.Proof.Gen.REmbIdeal.Run
public import proofs.«01_k».proof.Defs

@[expose] public section

noncomputable section

namespace Cert.KEmbIdeal.Entries

open Cert.KEmbIdeal Cert.KEmbIdeal.Gen Idealize.ShloMosaic Idealize.ShloMosaic.TcCoe Idealize.SL.Sem Cert.Products Cert.Steps
open Idealize.ShloMosaic.Pipeline (Dat)
open scoped BigOperators

variable (m : (ℓ : Loc nD τ sig) → Buf (Elt Ideal) ℓ)

/-- Which block of each array a point takes. -/
theorem places : ∀ t : Fin cfg0.N, (win0_0.index t (0 : Fin 2) = t.val ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) :=
  (by decide +kernel : ∀ t : Fin grid0.N, _)

theorem blk0 (c : Dev nD) (t : Fin cfg0.N) (y : S384x1024.Idx) :
    (iblk m c 0 t : S384x1024.Idx → EReal) y = at2 (m ((c : Thread nD τ).loc main_arg0)) (t.val * 384 + (y 0).val) (y 1).val := by
  obtain ⟨⟨a0, a1⟩, -⟩ := places t
  unfold iblk
  rw [View.read_apply]
  show V m c main_arg0 _ = _
  rw [V_main_arg0]
  refine at2_of (m ((c : Thread nD τ).loc main_arg0)) _ _ _ ?_ ?_
  · show win0_0.index t (0 : Fin 2) * 384 + 1 * (y 0).val = _; rw [a0]; omega
  · show win0_0.index t (1 : Fin 2) * 1024 + 1 * (y 1).val = _; rw [a1]; omega

theorem lay1 (c : Dev nD) : (V m c main_v0 : S1x1024.Idx → EReal) = shapeCast S1x1024 (m ((c : Thread nD τ).loc main_arg1)) shapeCasts_S1024_S1x1024 := by
  unfold V
  after_results
  try rfl

theorem blk1 (c : Dev nD) (t : Fin cfg0.N) (y : S1x1024.Idx) :
    (iblk m c 1 t : S1x1024.Idx → EReal) y = at1 (m ((c : Thread nD τ).loc main_arg1)) (y 1).val := by
  obtain ⟨-, ⟨a0, a1⟩, -⟩ := places t
  unfold iblk
  rw [View.read_apply]
  show (V m c main_v0 : S1x1024.Idx → EReal) _ = _
  rw [lay1]
  have h0 : (y 0).val < 1 := (y 0).isLt
  refine (congrArg (shapeCast S1x1024 (m ((c : Thread nD τ).loc main_arg1)) shapeCasts_S1024_S1x1024) (ValueIdx.eq_ix2 _)).trans
    ((ValueIdx.shapeCast_a_1a_apply (m ((c : Thread nD τ).loc main_arg1)) shapeCasts_S1024_S1x1024 _ _).trans (at1_of _ _ _ ?_))
  show win0_1.index t (1 : Fin 2) * 1024 + 1 * (y 1).val = _
  rw [a1]; omega

theorem lay2 (c : Dev nD) : (V m c main_v1 : S1x1024.Idx → EReal) = shapeCast S1x1024 (m ((c : Thread nD τ).loc main_arg2)) shapeCasts_S1024_S1x1024 := by
  unfold V
  after_results
  try rfl

theorem blk2 (c : Dev nD) (t : Fin cfg0.N) (y : S1x1024.Idx) :
    (iblk m c 2 t : S1x1024.Idx → EReal) y = at1 (m ((c : Thread nD τ).loc main_arg2)) (y 1).val := by
  obtain ⟨-, -, ⟨a0, a1⟩, -⟩ := places t
  unfold iblk
  rw [View.read_apply]
  show (V m c main_v1 : S1x1024.Idx → EReal) _ = _
  rw [lay2]
  have h0 : (y 0).val < 1 := (y 0).isLt
  refine (congrArg (shapeCast S1x1024 (m ((c : Thread nD τ).loc main_arg2)) shapeCasts_S1024_S1x1024) (ValueIdx.eq_ix2 _)).trans
    ((ValueIdx.shapeCast_a_1a_apply (m ((c : Thread nD τ).loc main_arg2)) shapeCasts_S1024_S1x1024 _ _).trans (at1_of _ _ _ ?_))
  show win0_2.index t (1 : Fin 2) * 1024 + 1 * (y 1).val = _
  rw [a1]; omega

/-- The block's norm: of each row by its own entries. -/
theorem body (x0 : Vec Ideal S384x1024 .f32) (x1 x2 : Vec Ideal S1x1024 .f32) (j : S384x1024.Idx) :
    k0_pay1 x0 x1 x2 j = norm 1024 (at2 (x0 : FVec Ideal S384x1024 .f32) (j 0).val) (at2 x1 0) (at2 x2 0) (j 1).val := by
  unfold k0_pay1
  exact block_norm (x0 : FVec Ideal S384x1024 .f32) x1 x2 _ _ _ _ _ j

/-- The row that is normed. -/
def row (c : Dev nD) (i k : ℕ) : EReal := at2 (m ((c : Thread nD τ).loc main_arg0)) i k

/-- The result at an entry. -/
def entry (c : Dev nD) (i j : ℕ) : EReal :=
  norm 1024 (row m c i) (at1 (m ((c : Thread nD τ).loc main_arg1))) (at1 (m ((c : Thread nD τ).loc main_arg2))) j

theorem at_block (c : Dev nD) (t : Fin cfg0.N) (j : S384x1024.Idx) :
    k0_pay1 (iblk m c 0 t) (iblk m c 1 t) (iblk m c 2 t) j = entry m c (t.val * 384 + (j 0).val) (j 1).val := by
  rw [body]
  unfold entry
  refine norm_congr (fun k hk => ?_) (j 1).isLt ?_ ?_
  · refine (at2_val _ (j 0) (⟨k, hk⟩ : Fin 1024)).trans ?_
    exact blk0 m c t _
  · exact (at2_val (iblk m c 1 t : S1x1024.Idx → EReal) (0 : Fin 1) (j 1)).trans (blk1 m c t _)
  · exact (at2_val (iblk m c 2 t : S1x1024.Idx → EReal) (0 : Fin 1) (j 1)).trans (blk2 m c t _)

theorem out3 (c : Dev nD) (t : Fin cfg0.N) (j : S384x1024.Idx) :
    out0_3 (iblk m c 0 t) (iblk m c 1 t) (iblk m c 2 t) j = entry m c (t.val * 384 + (j 0).val) (j 1).val := by
  unfold out0_3
  rw [View.canon_unit_zero (S := S384x1024) origin]
  simp only [View.ld_unit_zero (S := S384x1024) origin, View.ld_unit_zero (S := S1x1024) origin]
  exact at_block m c t j

/-- The array of result 0: every entry. -/
def result3 (c : Dev nD) : Buf (Elt Ideal) ((c : Thread nD τ).loc main_v2_0) := fun i => entry m c (i 0).val (i 1).val

theorem mem_block3 (t : Fin cfg0.N) (i : S4224x1024.Idx) :
    i ∈ ((cfg0.win 3).blk t).view.set ↔ ∀ a : Fin 2, win0_3.index t a * S384x1024.size a ≤ (i a).val ∧ (i a).val < win0_3.index t a * S384x1024.size a + S384x1024.size a := by
  show i ∈ ((View.whole main_v2_0).slice (win0_3.rect t)).set ↔ _
  rw [View.set_slice_whole, Rect.mem_set_unit]
  exact Iff.rfl

theorem flushed_result3 (c : Dev nD) (t : Fin cfg0.N) (hf : (cfg0.win 3).flush t = true) :
    (dats m 0 c).flushed 3 t = ((cfg0.win 3).blk t).view.read (Elt Ideal) (result3 m c) := by
  rw [Value.flushed3]
  obtain ⟨-, -, -, ⟨o0, o1⟩, -⟩ := places t
  funext y
  rw [View.read_apply]
  show out0_3 (iblk m c 0 t) (iblk m c 1 t) (iblk m c 2 t) y = entry m c (win0_3.index t (0 : Fin 2) * 384 + 1 * (y 0).val) (win0_3.index t (1 : Fin 2) * 1024 + 1 * (y 1).val)
  rw [o0, o1, Nat.one_mul, Nat.one_mul, Nat.zero_mul, Nat.zero_add]
  exact out3 m c t y

theorem final3 (c : Dev nD) : (dats m 0 c).arrAt 3 cfg0.N = result3 m c :=
  (dats m 0 c).arrAt_eq_of_cover 3 _ (flushed_result3 m c) fun i => by
    have h0 : (i 0).val < 4224 := (i 0).isLt
    have h1 : (i 1).val < 1024 := (i 1).isLt
    have hN : cfg0.N = 11 := N_0
    refine ⟨⟨(i 0).val / 384, by omega⟩, ?_, ?_⟩
    · exact flush0_3 _
    · rw [mem_block3]
      obtain ⟨-, -, -, ⟨o0, o1⟩, -⟩ := places ⟨(i 0).val / 384, by omega⟩
      dsimp only at o0 o1
      intro a
      match a with
      | ⟨0, _⟩ => show win0_3.index _ (0 : Fin 2) * 384 ≤ (i 0).val ∧ (i 0).val < win0_3.index _ (0 : Fin 2) * 384 + 384; rw [o0]; omega
      | ⟨1, _⟩ => show win0_3.index _ (1 : Fin 2) * 1024 ≤ (i 1).val ∧ (i 1).val < win0_3.index _ (1 : Fin 2) * 1024 + 1024; rw [o1]; omega

theorem out4 (c : Dev nD) (t : Fin cfg0.N) (j : S384x1024.Idx) :
    out0_4 (iblk m c 0 t) (iblk m c 1 t) (iblk m c 2 t) j = entry m c (t.val * 384 + (j 0).val) (j 1).val := by
  unfold out0_4
  rw [View.canon_unit_zero (S := S384x1024) origin]
  simp only [View.ld_unit_zero (S := S384x1024) origin, View.ld_unit_zero (S := S1x1024) origin]
  exact at_block m c t j

/-- The array of result 1: every entry. -/
def result4 (c : Dev nD) : Buf (Elt Ideal) ((c : Thread nD τ).loc main_v2_1) := fun i => entry m c (i 0).val (i 1).val

theorem mem_block4 (t : Fin cfg0.N) (i : S4224x1024.Idx) :
    i ∈ ((cfg0.win 4).blk t).view.set ↔ ∀ a : Fin 2, win0_4.index t a * S384x1024.size a ≤ (i a).val ∧ (i a).val < win0_4.index t a * S384x1024.size a + S384x1024.size a := by
  show i ∈ ((View.whole main_v2_1).slice (win0_4.rect t)).set ↔ _
  rw [View.set_slice_whole, Rect.mem_set_unit]
  exact Iff.rfl

theorem flushed_result4 (c : Dev nD) (t : Fin cfg0.N) (hf : (cfg0.win 4).flush t = true) :
    (dats m 0 c).flushed 4 t = ((cfg0.win 4).blk t).view.read (Elt Ideal) (result4 m c) := by
  rw [Value.flushed4]
  obtain ⟨-, -, -, -, ⟨o0, o1⟩⟩ := places t
  funext y
  rw [View.read_apply]
  show out0_4 (iblk m c 0 t) (iblk m c 1 t) (iblk m c 2 t) y = entry m c (win0_4.index t (0 : Fin 2) * 384 + 1 * (y 0).val) (win0_4.index t (1 : Fin 2) * 1024 + 1 * (y 1).val)
  rw [o0, o1, Nat.one_mul, Nat.one_mul, Nat.zero_mul, Nat.zero_add]
  exact out4 m c t y

theorem final4 (c : Dev nD) : (dats m 0 c).arrAt 4 cfg0.N = result4 m c :=
  (dats m 0 c).arrAt_eq_of_cover 4 _ (flushed_result4 m c) fun i => by
    have h0 : (i 0).val < 4224 := (i 0).isLt
    have h1 : (i 1).val < 1024 := (i 1).isLt
    have hN : cfg0.N = 11 := N_0
    refine ⟨⟨(i 0).val / 384, by omega⟩, ?_, ?_⟩
    · exact flush0_4 _
    · rw [mem_block4]
      obtain ⟨-, -, -, -, ⟨o0, o1⟩⟩ := places ⟨(i 0).val / 384, by omega⟩
      dsimp only at o0 o1
      intro a
      match a with
      | ⟨0, _⟩ => show win0_4.index _ (0 : Fin 2) * 384 ≤ (i 0).val ∧ (i 0).val < win0_4.index _ (0 : Fin 2) * 384 + 384; rw [o0]; omega
      | ⟨1, _⟩ => show win0_4.index _ (1 : Fin 2) * 1024 ≤ (i 1).val ∧ (i 1).val < win0_4.index _ (1 : Fin 2) * 1024 + 1024; rw [o1]; omega

/-- The run of the call, its results at their entries. -/
theorem run (ρ : Dev nD → PrngReg) : θ_run defs (onTc (τ := τ) (main (F := Ideal))) ⟨m, fun _ => 0, ρ⟩ fun r => ∀ c : Dev nD,
      r.2.mem ((c : Thread nD τ).loc main_v2_0) = result3 m c ∧ r.2.mem ((c : Thread nD τ).loc main_v2_1) = result4 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).1.trans (final3 m c), (h c).2.1.trans (final4 m c), (h c).2.2⟩) (Value.run_blocks m ρ)

end Cert.KEmbIdeal.Entries

namespace Cert.REmbIdeal.Entries

open Cert.REmbIdeal Cert.REmbIdeal.Gen Idealize.ShloMosaic Cert.Products Cert.Steps

/-- The reference's result at an index. -/
theorem value (x : FVec Ideal S4224x1024 .f32) (g e : FVec Ideal S1024 .f32) (i : S4224x1024.Idx) :
    ((addf (mulf (mulf (subf x (broadcastInDim S4224x1024 ![0, 1] bcast_S4224x1_S4224x1024_0_1 (Host.divf (broadcastInDim S4224x1 ![0] bcast_S4224_S4224x1_0 (Host.reduceAdd x (constant S_ .f32 0x00000000#32) reducesTo_S4224x1024_S4224_d1 h_S_)) (broadcastInDim S4224x1 ![] bcast_S_S4224x1 (constant S_ .f32 0x44800000#32))))) (broadcastInDim S4224x1024 ![0, 1] bcast_S4224x1_S4224x1024_0_1 (Host.rsqrt (addf (Host.divf (broadcastInDim S4224x1 ![0] bcast_S4224_S4224x1_0 (Host.reduceAdd (mulf (subf x (broadcastInDim S4224x1024 ![0, 1] bcast_S4224x1_S4224x1024_0_1 (Host.divf (broadcastInDim S4224x1 ![0] bcast_S4224_S4224x1_0 (Host.reduceAdd x (constant S_ .f32 0x00000000#32) reducesTo_S4224x1024_S4224_d1 h_S_)) (broadcastInDim S4224x1 ![] bcast_S_S4224x1 (constant S_ .f32 0x44800000#32))))) (subf x (broadcastInDim S4224x1024 ![0, 1] bcast_S4224x1_S4224x1024_0_1 (Host.divf (broadcastInDim S4224x1 ![0] bcast_S4224_S4224x1_0 (Host.reduceAdd x (constant S_ .f32 0x00000000#32) reducesTo_S4224x1024_S4224_d1 h_S_)) (broadcastInDim S4224x1 ![] bcast_S_S4224x1 (constant S_ .f32 0x44800000#32)))))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x3727C5AC#32)))))) (broadcastInDim S4224x1024 ![0, 1] bcast_S1x1024_S4224x1024_0_1 (broadcastInDim S1x1024 ![1] bcast_S1024_S1x1024_1 g))) (broadcastInDim S4224x1024 ![0, 1] bcast_S1x1024_S4224x1024_0_1 (broadcastInDim S1x1024 ![1] bcast_S1024_S1x1024_1 e))) : FVec Ideal S4224x1024 .f32) i
      = norm 1024 (at2 x (i 0).val) (at1 g) (at1 e) (i 1).val :=
  (array_norm (x : FVec Ideal S4224x1024 .f32) reducesTo_S4224x1024_S4224_d1 h_S_ bcast_S4224_S4224x1_0 bcast_S_S4224x1 bcast_S4224x1_S4224x1024_0_1
    g e bcast_S1024_S1x1024_1 bcast_S1x1024_S4224x1024_0_1 i).trans (norm_congr (fun k hk => rfl) (i 1).isLt rfl rfl)

end Cert.REmbIdeal.Entries

namespace Cert.Proof

open Idealize.ShloMosaic Idealize.SL.Sem Idealize.ShloMosaic.TcCoe

attribute [local instance] Cert.KEmbIdeal.Gen.facts Cert.REmbIdeal.Gen.facts

/-- The call and its reference leave the same results. -/
theorem algebraic_Emb : Cert.algebraic_KEmbIdeal_REmbIdeal := by
  intro m ρ m' ρ' _ hag
  refine ⟨fun c => Cert.KEmbIdeal.Entries.result3 m c, fun c => Cert.KEmbIdeal.Entries.result4 m c,
    Cert.KEmbIdeal.Entries.run m ρ, (θ_run _ _ _).mono (fun r h c => ⟨(h c).1.trans ?_, (h c).2.1.trans ?_, (h c).2.2⟩) (Cert.REmbIdeal.Value.run (F := Ideal) m' ρ')⟩
  · obtain ⟨h0, h1, h2⟩ := hag c
    rw [h0, h1, h2]
    exact funext fun i => Cert.REmbIdeal.Entries.value _ _ _ i
  · obtain ⟨h0, h1, h2⟩ := hag c
    rw [h0, h1, h2]
    exact funext fun i => Cert.REmbIdeal.Entries.value _ _ _ i

/-- The reference ends with its arguments as they were. -/
theorem frame_REmb : Cert.quiescent_REmbIdeal := fun m ρ _ =>
  (θ_run Cert.REmbIdeal.defs _ _).mono (fun r h => ⟨fun c => (h c).2.2, sem_eq_zero_of_no_sems (by decide) r.2⟩) (Cert.REmbIdeal.Value.run (F := Ideal) m ρ)

end Cert.Proof

end
-- ==== Proof.NormGrad.lean ====
/-
  What the gradients of a layer norm's scale and shift share: an entry of the norm before the scale, sums of columns,
  and a sum kept in the first of a block's rows.
-/
module

public import proofs.«01_k».proof.Proof.Norm
public import Idealize.ShloMosaic.Lib.WritesUnit
public import Idealize.ShloMosaic.Lib.KernelVsHost

@[expose] public section

noncomputable section

namespace Cert.Steps

open Idealize.ShloMosaic Idealize.ShloMosaic.ValueIdx Cert.Products
open scoped BigOperators

/-! ## Sums of columns -/

/-- The kernel's sum of a column. -/
theorem kernel_column {a b : ℕ} (x : FVec Ideal ⟨2, ![a, b]⟩ .f32) (h : (⟨2, ![a, b]⟩ : Shape).Reduces [0] ⟨1, ![b]⟩) (hf) (hacc)
    (j : (⟨1, ![b]⟩ : Shape).Idx) :
    (multiReduction .add [0] ⟨1, ![b]⟩ x 0x00000000#32 h hf hacc : FVec Ideal ⟨1, ![b]⟩ .f32) j = ∑ k ∈ Finset.range a, at2 x k (j 0).val := by
  refine (Ideal.reduceAdd_r2_a0 h x j).trans ?_
  rw [Finset.sum_range]
  exact Finset.sum_congr rfl fun k _ => at2_of x _ k.val _ rfl rfl

/-- The reference's sum of a column. -/
theorem host_down {a b : ℕ} {u : Shape} (x : FVec Ideal ⟨2, ![a, b]⟩ .f32) (init : u.Idx → Ideal .f32)
    (h : (⟨2, ![a, b]⟩ : Shape).ReducesTo [0] ⟨1, ![b]⟩) (hu : 0 < u.numel) (h0 : init (Shape.Idx.first hu) = (0 : EReal))
    (j : (⟨1, ![b]⟩ : Shape).Idx) : (Host.reduceAdd x init h hu : FVec Ideal ⟨1, ![b]⟩ .f32) j = ∑ k ∈ Finset.range a, at2 x k (j 0).val := by
  refine (Ideal.hostReduceAdd_r2_a0 h x _ j).trans ?_
  rw [h0, zero_add, Finset.sum_range]
  exact Finset.sum_congr rfl fun k _ => at2_of x _ k.val _ rfl rfl

/-- A product at an entry. -/
theorem at2_mul {a b : ℕ} (x y : FVec Ideal ⟨2, ![a, b]⟩ .f32) (i j : ℕ) (hi : i < a) (hj : j < b) : at2 (mulf x y) i j = at2 x i j * at2 y i j := by
  refine (at2_val (mulf x y) (⟨i, hi⟩ : Fin a) (⟨j, hj⟩ : Fin b)).trans ?_
  rw [mulf_apply]
  exact congrArg₂ (· * ·) (at2_val x (⟨i, hi⟩ : Fin a) (⟨j, hj⟩ : Fin b)).symm (at2_val y (⟨i, hi⟩ : Fin a) (⟨j, hj⟩ : Fin b)).symm

/-! ## The norm before the scale -/

/-- An entry of the row's layer norm, of scale one and shift zero. -/
def unit (b : ℕ) (f : ℕ → EReal) (j : ℕ) : EReal :=
  (f j - mean b f) * FloatOps.rsqrt (F := Ideal) (φ := .f32) (mean b (off b f) + word 0x3727C5AC#32)

theorem unit_congr {b : ℕ} {f f' : ℕ → EReal} {j : ℕ} (h : ∀ k < b, f k = f' k) (hj : j < b) : unit b f j = unit b f' j := by
  have hm := mean_congr h
  have hs : mean b (off b f) = mean b (off b f') := mean_congr fun k hk => by unfold off; rw [hm, h k hk]
  unfold unit
  rw [hm, hs, h j hj]

/-- On a block. -/
theorem block_unit {a b : ℕ} (x : FVec Ideal ⟨2, ![a, b]⟩ .f32) (h : (⟨2, ![a, b]⟩ : Shape).Reduces [1] ⟨1, ![a]⟩)
    (hs : (⟨1, ![a]⟩ : Shape).ShapeCasts ⟨2, ![a, 1]⟩) (hb : (⟨2, ![a, 1]⟩ : Shape).Broadcasts ⟨2, ![a, b]⟩) (j : (⟨2, ![a, b]⟩ : Shape).Idx) :
    mulf (away x h hs hb) (broadcastTo ⟨2, ![a, b]⟩ (rsqrt (addf (means (mulf (away x h hs hb) (away x h hs hb)) h hs)
        (broadcast ⟨2, ![a, 1]⟩ (Scalar.ofBits .f32 0x3727C5AC#32)))) hb) j = unit b (at2 x (j 0).val) (j 1).val := by
  show away x h hs hb j * broadcastTo ⟨2, ![a, b]⟩ _ hb j = _
  rw [wide, away_apply]
  show _ * FloatOps.rsqrt (F := Ideal) (φ := .f32) (means (mulf (away x h hs hb) (away x h hs hb)) h hs (ValueIdx.ix2 (j 0) (0 : Fin 1)) + word 0x3727C5AC#32) = _
  rw [means_apply]
  exact congrArg (fun s => (at2 x (j 0).val (j 1).val - mean b (at2 x (j 0).val)) * FloatOps.rsqrt (F := Ideal) (φ := .f32) (s + word 0x3727C5AC#32))
    (square_apply x _ (j 0) (away_apply x h hs hb))

/-- On an array. -/
theorem array_unit {a b : ℕ} (x : FVec Ideal ⟨2, ![a, b]⟩ .f32) (h : (⟨2, ![a, b]⟩ : Shape).ReducesTo [1] ⟨1, ![a]⟩)
    (hz : 0 < (⟨0, ![]⟩ : Shape).numel) (hk : (⟨1, ![a]⟩ : Shape).BroadcastsInDim ⟨2, ![a, 1]⟩ ![0])
    (hc : (⟨0, ![]⟩ : Shape).BroadcastsInDim ⟨2, ![a, 1]⟩ ![]) (hb : (⟨2, ![a, 1]⟩ : Shape).BroadcastsInDim ⟨2, ![a, b]⟩ ![0, 1])
    (j : (⟨2, ![a, b]⟩ : Shape).Idx) :
    mulf (hostAway x h hz hk hc hb) (broadcastInDim ⟨2, ![a, b]⟩ ![0, 1] hb (Host.rsqrt (addf
        (hostMeans (mulf (hostAway x h hz hk hc hb) (hostAway x h hz hk hc hb)) h hz hk hc) (broadcastInDim ⟨2, ![a, 1]⟩ ![] hc (constant ⟨0, ![]⟩ .f32 0x3727C5AC#32))))) j
      = unit b (at2 x (j 0).val) (j 1).val := by
  show hostAway x h hz hk hc hb j * broadcastInDim ⟨2, ![a, b]⟩ ![0, 1] hb (_ : FVec Ideal ⟨2, ![a, 1]⟩ .f32) j = _
  rw [host_wide, hostAway_apply]
  show _ * FloatOps.rsqrt (F := Ideal) (φ := .f32) (hostMeans (mulf (hostAway x h hz hk hc hb) (hostAway x h hz hk hc hb)) h hz hk hc (ValueIdx.ix2 (j 0) (0 : Fin 1)) + word 0x3727C5AC#32) = _
  rw [hostMeans_apply]
  exact congrArg (fun s => (at2 x (j 0).val (j 1).val - mean b (at2 x (j 0).val)) * FloatOps.rsqrt (F := Ideal) (φ := .f32) (s + word 0x3727C5AC#32))
    (square_apply x _ (j 0) (hostAway_apply x h hz hk hc hb))

/-! ## A sum kept in the first row -/

/-- The sums of the first `n` rows' entries, in the first row; zeros below it. -/
def top (f : ℕ → ℕ → EReal) (n i j : ℕ) : EReal := if i = 0 then ∑ r ∈ Finset.range n, f r j else 0

/-- The kernel's step: a row, a block's column sums added. -/
theorem row_step {a b : ℕ} (x : FVec Ideal ⟨2, ![a, b]⟩ .f32) (v : FVec Ideal ⟨2, ![1, b]⟩ .f32) (h : (⟨2, ![a, b]⟩ : Shape).Reduces [0] ⟨1, ![b]⟩)
    (hf) (hacc) (hs : (⟨1, ![b]⟩ : Shape).ShapeCasts ⟨2, ![1, b]⟩) (ht : (⟨2, ![1, b]⟩ : Shape).ShapeCasts ⟨2, ![1, b]⟩) (z : (⟨2, ![1, b]⟩ : Shape).Idx) :
    addf (shapeCast ⟨2, ![1, b]⟩ v ht) (shapeCast ⟨2, ![1, b]⟩ (multiReduction .add [0] ⟨1, ![b]⟩ x 0x00000000#32 h hf hacc : FVec Ideal ⟨1, ![b]⟩ .f32) hs) z
      = v z + ∑ r ∈ Finset.range a, at2 x r (z 1).val := by
  rw [shapeCast_self, addf_apply]
  refine congrArg (v z + ·) ?_
  exact ((congrArg (shapeCast ⟨2, ![1, b]⟩ _ hs) (ValueIdx.eq_ix2 z)).trans (shapeCast_a_1a_apply _ hs (z 0) (z 1))).trans (kernel_column x h hf hacc _)

/-- A store to the first row, read at an entry. -/
theorem read_top {sig : RefSig} {κ : Kind} {sp : Space} {e : EltTy} {Val : EltTy → Type} {a b : ℕ} (v : View sig κ sp (⟨2, ![a, b]⟩ : Shape) e)
    (f : v.ty.Contents Val) (inb : ∀ i : Fin 2, (![0, 0] : Fin 2 → ℕ) i + (![1, b] : Fin 2 → ℕ) i ≤ (![a, b] : Fin 2 → ℕ) i)
    (w : (⟨2, ![1, b]⟩ : Shape).Idx → Val e) (L : List (View.Piece Val (⟨2, ![a, b]⟩ : Shape) e)) (y : (⟨2, ![a, b]⟩ : Shape).Idx) :
    v.read Val (v.writes Val f ((⟨Rect.unit (s := ⟨2, ![a, b]⟩) ![0, 0] ![1, b] inb, w⟩ : View.Piece Val (⟨2, ![a, b]⟩ : Shape) e) :: L)) y
      = if (y 0).val = 0 then w (ValueIdx.ix2 (0 : Fin 1) (y 1)) else v.read Val (v.writes Val f L) y := by
  by_cases h : (y 0).val = 0
  · rw [if_pos h]
    exact View.read_writes_cons_rows_of_mem v f inb w L y (ValueIdx.ix2 (0 : Fin 1) (y 1)) rfl h rfl
  · rw [if_neg h]
    exact View.read_writes_cons_rows_of_not_mem v f inb w L y rfl (W := 1) rfl (Or.inr (by omega))

/-- The reference's rows: the column sums of an array, in the first row; zeros below it. -/
theorem host_top {a b : ℕ} (x : FVec Ideal ⟨2, ![a, b]⟩ .f32) (h : (⟨2, ![a, b]⟩ : Shape).ReducesTo [0] ⟨1, ![b]⟩)
    (hz : 0 < (⟨0, ![]⟩ : Shape).numel) (hs : (⟨1, ![b]⟩ : Shape).ShapeCasts ⟨2, ![1, b]⟩) (h1 : (⟨2, ![1, b]⟩ : Shape).ReducesTo [0] ⟨1, ![b]⟩)
    (hb : (⟨1, ![b]⟩ : Shape).BroadcastsInDim ⟨2, ![1, b]⟩ ![1]) (hp : (⟨2, ![1, b]⟩ : Shape).Pads ![0, 0] ![7, 0] ![0, 0] ⟨2, ![8, b]⟩)
    (i : (⟨2, ![8, b]⟩ : Shape).Idx) :
    (pad ⟨2, ![8, b]⟩ ![0, 0] ![7, 0] ![0, 0] (broadcastInDim ⟨2, ![1, b]⟩ ![1] hb (Host.reduceAdd (shapeCast ⟨2, ![1, b]⟩
        (Host.reduceAdd x (constant ⟨0, ![]⟩ .f32 0x00000000#32) h hz : FVec Ideal ⟨1, ![b]⟩ .f32) hs) (constant ⟨0, ![]⟩ .f32 0x00000000#32) h1 hz : FVec Ideal ⟨1, ![b]⟩ .f32))
        (sitofp .f32 (constantI ⟨0, ![]⟩ 32 0#32) : FVec Ideal ⟨0, ![]⟩ .f32) hp hz : FVec Ideal ⟨2, ![8, b]⟩ .f32) i
      = top (at2 x) a (i 0).val (i 1).val := by
  have hw : (i 1).val < b := (i 1).isLt
  unfold top
  by_cases h0 : (i 0).val = 0
  · rw [if_pos h0]
    refine (pad_apply_of_inside _ _ _ _ _ _ _ i (ValueIdx.ix2 (0 : Fin 1) (i 1)) fun ax => ?_).trans ?_
    · match ax with
      | ⟨0, _⟩ => exact h0
      | ⟨1, _⟩ => show (i 1).val = 0 + (i 1).val * 1; omega
    refine (broadcastInDim_apply ![1] hb _ _ (ValueIdx.ix1 (i 1)) fun ax => ?_).trans ?_
    · match ax with
      | ⟨0, _⟩ =>
        show (i 1).val = if b = 1 then 0 else (i 1).val
        split <;> omega
    refine (host_down _ _ h1 hz zero_word _).trans ?_
    rw [Finset.sum_range_one]
    refine (at2_val (a := 1) (b := b) _ (0 : Fin 1) (i 1)).trans ((shapeCast_a_1a_apply _ hs (0 : Fin 1) (i 1)).trans ?_)
    exact host_down x _ h hz zero_word _
  · rw [if_neg h0]
    refine (pad_apply_of_not_inside _ _ _ _ _ _ _ i (0 : Fin 2) fun hin => ?_).trans ?_
    · have : ((i 0).val - 0) / (0 + 1) < 1 := hin.2.2
      omega
    · show (((0#32).toInt : ℝ) : EReal) = 0
      simp

end Cert.Steps

end
-- ==== Proof.LossValue.lean ====
/-
  The loss head: the loss and its gradient, entry by entry, over the extended reals.
-/
module

public import proofs.«01_k».proof.Proof.NormGrad
public import proofs.«01_k».proof.Proof.Gen.KLossIdeal.Value
public import proofs.«01_k».proof.Proof.Gen.RLossIdeal.Run
public import proofs.«01_k».proof.Defs

@[expose] public section

noncomputable section

namespace Cert.Loss

open Idealize.ShloMosaic Idealize.ShloMosaic.ValueIdx Cert.Products Cert.Steps
open scoped BigOperators

/-- The error at an entry of the target: the first 128 rows of the hidden state have no target. -/
def err {a b d : ℕ} (x : (⟨2, ![a, d]⟩ : Shape).Idx → EReal) (y : (⟨2, ![b, d]⟩ : Shape).Idx → EReal) (r k : ℕ) : EReal :=
  at2 x (128 + r) k - at2 y r k

/-- The sum of the squares of a row. -/
def squares (f : ℕ → ℕ → EReal) (r : ℕ) : EReal := ∑ k ∈ Finset.range 1024, f r k * f r k

/-- The loss of the first `n` rows. -/
def loss (f : ℕ → ℕ → EReal) (n : ℕ) : EReal := word 0x3A000000#32 * ∑ r ∈ Finset.range n, squares f r

/-- The gradient at an entry. -/
def gradient {a b d : ℕ} (x : (⟨2, ![a, d]⟩ : Shape).Idx → EReal) (y : (⟨2, ![b, d]⟩ : Shape).Idx → EReal) (i j : ℕ) : EReal :=
  if i < 128 then 0 else err x y (i - 128) j * word 0x3A800000#32

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

theorem squares_nonneg (f : ℕ → ℕ → EReal) (r : ℕ) : 0 ≤ squares f r := Finset.sum_nonneg fun _ _ => square_nonneg _

theorem loss_next (f : ℕ → ℕ → EReal) (s : ℕ) :
    loss f (s * 128) + word 0x3A000000#32 * (∑ r ∈ Finset.range 128, squares f (s * 128 + r)) = loss f ((s + 1) * 128) := by
  unfold loss
  rw [← EReal.left_distrib_of_nonneg (Finset.sum_nonneg fun r _ => squares_nonneg f r) (Finset.sum_nonneg fun r _ => squares_nonneg f _), sum_next]

theorem spread (f : ℕ → EReal) (h : ∀ r, 0 ≤ f r) (z : EReal) (n : ℕ) : (∑ r ∈ Finset.range n, f r * z) = (∑ r ∈ Finset.range n, f r) * z := by
  induction n with
  | zero => simp
  | succ n ih => rw [Finset.sum_range_succ, Finset.sum_range_succ, ih, EReal.right_distrib_of_nonneg (Finset.sum_nonneg fun r _ => h r) (h n)]

theorem half : word 0x3F000000#32 = ((1 / 2 : ℝ) : EReal) := by simp [Ideal.ofBits, Ideal.ieee, -EReal.coe_mul]; norm_num
theorem one : word 0x3F800000#32 = ((1 : ℝ) : EReal) := by simp [Ideal.ofBits, Ideal.ieee, -EReal.coe_mul]; norm_num
theorem two : word 0x40000000#32 = ((2 : ℝ) : EReal) := by simp [Ideal.ofBits, Ideal.ieee, -EReal.coe_mul]; norm_num
theorem count : word 0x44800000#32 = ((1024 : ℝ) : EReal) := by simp [Ideal.ofBits, Ideal.ieee, -EReal.coe_mul]; norm_num
theorem share : word 0x3A800000#32 = ((1 / 1024 : ℝ) : EReal) := by simp [Ideal.ofBits, Ideal.ieee, -EReal.coe_mul]; norm_num
theorem halfShare : word 0x3A000000#32 = ((1 / 2048 : ℝ) : EReal) := by simp [Ideal.ofBits, Ideal.ieee, -EReal.coe_mul]; norm_num

theorem div_count (x : EReal) : Ideal.div x (word 0x44800000#32) = x * ((1 / 1024 : ℝ) : EReal) := by
  rw [count]
  unfold Ideal.div
  rw [if_neg (by norm_num), ← EReal.coe_inv]
  norm_num

theorem mean_loss (f : ℕ → ℕ → EReal) (n : ℕ) :
    word 0x3F000000#32 * (∑ r ∈ Finset.range n, Ideal.div (squares f r) (word 0x44800000#32)) = loss f n := by
  unfold loss
  simp only [div_count]
  rw [spread _ (squares_nonneg f), half, halfShare, mul_comm (∑ r ∈ Finset.range n, squares f r), ← mul_assoc, ← EReal.coe_mul]
  norm_num

theorem twice (x : EReal) : Ideal.div (word 0x3F000000#32 * word 0x3F800000#32) (word 0x44800000#32) * (word 0x40000000#32 * x) = x * word 0x3A800000#32 := by
  rw [div_count, half, one, two, share, ← EReal.coe_mul, ← EReal.coe_mul, ← mul_assoc, ← EReal.coe_mul, mul_comm]
  norm_num

end Cert.Loss

namespace Cert.KLossIdeal.Entries

open Cert.KLossIdeal Cert.KLossIdeal.Gen Idealize.ShloMosaic Idealize.ShloMosaic.TcCoe Idealize.SL.Sem Idealize.ShloMosaic.ValueIdx Cert.Products Cert.Steps Cert.Loss
open Idealize.ShloMosaic.Pipeline (Dat)
open scoped BigOperators

section AnyFloat

variable {F : FTy → Type} [FloatOps F]
variable (m : (ℓ : Loc nD τ sig) → Buf (Elt F) ℓ)

/-- The gradient's first block. -/
theorem grad_A (c : Dev nD) (t : Fin cfg0.N) (h0 : t.val % 33 = 0) (h1 : ¬1 ≤ t.val) :
    (outsAt0 m c t.val t.isLt).1 = k0_pay1 := by
  rw [outsAt0_A m c t h0 h1]
  dsimp only
  unfold out0_A_2
  rw [View.read_writes_eq_canon _ _ _ (fun _ => cover0_A_2 ..)]
  unfold kernelRun0_A
  dsimp only
  sl_unfold_words
  rw [View.canon_unit_zero (S := S128x1024) origin]

/-- The loss before the first block with a target. -/
theorem loss_A (c : Dev nD) (t : Fin cfg0.N) (h0 : t.val % 33 = 0) (h1 : ¬1 ≤ t.val) :
    (outsAt0 m c t.val t.isLt).2 = k0_pay2 := by
  rw [outsAt0_A m c t h0 h1]
  dsimp only
  unfold out0_A_3
  rw [View.read_writes_eq_canon _ _ _ (fun _ => cover0_A_3 ..)]
  unfold kernelRun0_A
  dsimp only
  sl_unfold_words
  rw [View.canon_unit_zero (S := S8x128) origin]

/-- The gradient's further blocks. -/
theorem grad_B (c : Dev nD) (t : Fin cfg0.N) (h0 : ¬t.val % 33 = 0) (h1 : 1 ≤ t.val) :
    (outsAt0 m c t.val t.isLt).1 = k0_pay4 (iblk m c 0 t) (iblk m c 1 t) := by
  rw [outsAt0_B m c t h0 h1]
  dsimp only
  unfold out0_B_2
  rw [View.read_writes_eq_canon _ _ _ (fun _ => cover0_B_2 ..)]
  unfold kernelRun0_B
  dsimp only
  sl_unfold_words
  rw [View.canon_unit_zero (S := S128x1024) origin]
  simp only [View.readAt_eq_ld, (hs0_0 t).read_unread, (hs0_1 t).read_unread, View.ld_unit_zero (S := S128x1024) origin]

/-- The loss after a further block. -/
theorem loss_B (c : Dev nD) (t : Fin cfg0.N) (h0 : ¬t.val % 33 = 0) (h1 : 1 ≤ t.val) :
    (outsAt0 m c t.val t.isLt).2 = k0_pay5 (iblk m c 0 t) (iblk m c 1 t) (outsAt0 m c (t.val - 1) (Nat.lt_of_le_of_lt (Nat.sub_le _ _) t.isLt)).2 := by
  rw [outsAt0_B m c t h0 h1]
  dsimp only
  unfold out0_B_3
  rw [View.read_writes_eq_canon _ _ _ (fun _ => cover0_B_3 ..)]
  unfold kernelRun0_B
  dsimp only
  sl_unfold_words
  rw [View.canon_unit_zero (S := S8x128) origin]
  simp only [View.readAt_eq_ld, (hs0_0 t).read_unread, (hs0_1 t).read_unread, (hs0_3 t).read_unread, View.ld_unit_zero (S := S128x1024) origin, View.ld_unit_zero (S := S8x128) origin]

end AnyFloat

variable (m : (ℓ : Loc nD τ sig) → Buf (Elt Ideal) ℓ)

/-- Which block of each array a point takes. -/
theorem places : ∀ t : Fin cfg0.N, (win0_0.index t (0 : Fin 2) = t.val ∧ win0_0.index t (1 : Fin 2) = 0) ∧ (win0_1.index t (0 : Fin 2) = t.val - 1 ∧ win0_1.index t (1 : Fin 2) = 0) ∧ (win0_2.index t (0 : Fin 2) = t.val ∧ win0_2.index t (1 : Fin 2) = 0) ∧ (win0_3.index t (0 : Fin 2) = 0 ∧ win0_3.index t (1 : Fin 2) = 0) :=
  (by decide +kernel : ∀ t : Fin grid0.N, _)

theorem blk0 (c : Dev nD) (t : Fin cfg0.N) (y : S128x1024.Idx) :
    (iblk m c 0 t : S128x1024.Idx → EReal) y = at2 (m ((c : Thread nD τ).loc main_arg0)) (t.val * 128 + (y 0).val) (y 1).val := by
  obtain ⟨⟨a0, a1⟩, -⟩ := places t
  unfold iblk
  rw [View.read_apply]
  show V m c main_arg0 _ = _
  rw [V_main_arg0]
  refine at2_of (m ((c : Thread nD τ).loc main_arg0)) _ _ _ ?_ ?_
  · show win0_0.index t (0 : Fin 2) * 128 + 1 * (y 0).val = _; rw [a0]; omega
  · show win0_0.index t (1 : Fin 2) * 1024 + 1 * (y 1).val = _; rw [a1]; omega

theorem blk1 (c : Dev nD) (t : Fin cfg0.N) (y : S128x1024.Idx) :
    (iblk m c 1 t : S128x1024.Idx → EReal) y = at2 (m ((c : Thread nD τ).loc main_arg1)) ((t.val - 1) * 128 + (y 0).val) (y 1).val := by
  obtain ⟨-, ⟨a0, a1⟩, -⟩ := places t
  unfold iblk
  rw [View.read_apply]
  show V m c main_arg1 _ = _
  rw [V_main_arg1]
  refine at2_of (m ((c : Thread nD τ).loc main_arg1)) _ _ _ ?_ ?_
  · show win0_1.index t (0 : Fin 2) * 128 + 1 * (y 0).val = _; rw [a0]; omega
  · show win0_1.index t (1 : Fin 2) * 1024 + 1 * (y 1).val = _; rw [a1]; omega

/-- One step of the loss. -/
theorem step (x y : Vec Ideal S128x1024 .f32) (v : Vec Ideal S8x128 .f32) (j : S8x128.Idx) :
    k0_pay5 x y v j = v j + word 0x3A000000#32 * ∑ r ∈ Finset.range 128, squares (fun r k => at2 x r k - at2 y r k) r := by
  unfold k0_pay5
  dsimp only
  rw [shapeCast_self, addf_apply]
  refine congrArg (v j + ·) ?_
  refine (broadcastTo_apply _ _ j (ValueIdx.ix2 (0 : Fin 1) (0 : Fin 1)) fun ax => ?_).trans ?_
  · match ax with
    | ⟨0, _⟩ => rfl
    | ⟨1, _⟩ => rfl
  rw [mulf_apply, broadcast_apply]
  refine congrArg (word 0x3A000000#32 * ·) ?_
  refine (shapeCast_a_a1_apply _ shapeCasts_S1_S1x1 (0 : Fin 1) (0 : Fin 1)).trans ?_
  refine (kernel_column (a := 128) (b := 1) _ reduces_S128x1_S1 (.inl rfl) rfl _).trans ?_
  refine Finset.sum_congr rfl fun r hr => ?_
  have hr := Finset.mem_range.mp hr
  refine (at2_val (a := 128) (b := 1) _ (⟨r, hr⟩ : Fin 128) (0 : Fin 1)).trans ?_
  refine (shapeCast_a_a1_apply _ shapeCasts_S128_S128x1 (⟨r, hr⟩ : Fin 128) (0 : Fin 1)).trans ?_
  refine (kernel_row (a := 128) (b := 1024) _ reduces_S128x1024_S128 (.inl rfl) rfl _).trans ?_
  unfold squares
  refine Finset.sum_congr rfl fun k hk => ?_
  have hk := Finset.mem_range.mp hk
  refine (at2_val (a := 128) (b := 1024) _ (⟨r, hr⟩ : Fin 128) (⟨k, hk⟩ : Fin 1024)).trans ?_
  dsimp only
  rw [← at2_of x (ValueIdx.ix2 (⟨r, hr⟩ : Fin 128) (⟨k, hk⟩ : Fin 1024)) r k rfl rfl, ← at2_of y (ValueIdx.ix2 (⟨r, hr⟩ : Fin 128) (⟨k, hk⟩ : Fin 1024)) r k rfl rfl]
  rfl

/-- A block's error is the arrays' error. -/
theorem block (c : Dev nD) (t : Fin cfg0.N) (h1 : 1 ≤ t.val) (r k : ℕ) (hr : r < 128) (hk : k < 1024) :
    at2 (iblk m c 0 t : S128x1024.Idx → EReal) r k - at2 (iblk m c 1 t : S128x1024.Idx → EReal) r k
      = err (m ((c : Thread nD τ).loc main_arg0)) (m ((c : Thread nD τ).loc main_arg1)) ((t.val - 1) * 128 + r) k := by
  have e0 := (at2_val (iblk m c 0 t : S128x1024.Idx → EReal) (⟨r, hr⟩ : Fin 128) (⟨k, hk⟩ : Fin 1024)).trans (blk0 m c t _)
  have e1 := (at2_val (iblk m c 1 t : S128x1024.Idx → EReal) (⟨r, hr⟩ : Fin 128) (⟨k, hk⟩ : Fin 1024)).trans (blk1 m c t _)
  refine (congrArg₂ (· - ·) e0 e1).trans ?_
  unfold err
  rw [show 128 + ((t.val - 1) * 128 + r) = t.val * 128 + r by omega]

/-- The loss so far. -/
theorem acc (c : Dev nD) : ∀ (s : ℕ) (h : s < cfg0.N) (j : S8x128.Idx),
    (outsAt0 m c s h).2 j = loss (err (m ((c : Thread nD τ).loc main_arg0)) (m ((c : Thread nD τ).loc main_arg1))) (s * 128)
  | 0, h, j => by
    have e := loss_A m c ⟨0, h⟩ (by dsimp only) (by dsimp only; omega)
    dsimp only at e
    rw [e]
    unfold loss
    rw [Nat.zero_mul, Finset.sum_range_zero, mul_zero]
    exact zero_word
  | s + 1, h, j => by
    have hN : cfg0.N = 33 := N_0
    have e := loss_B m c ⟨s + 1, h⟩ (by dsimp only; omega) (by dsimp only; omega)
    dsimp only at e
    rw [e, step]
    have ih := acc c s (by omega) j
    have e2 : (outsAt0 m c (s + 1 - 1) (Nat.lt_of_le_of_lt (Nat.sub_le _ _) h)).2 j = _ := ih
    rw [e2, ← loss_next]
    refine congrArg (fun z : EReal => loss (err (m ((c : Thread nD τ).loc main_arg0)) (m ((c : Thread nD τ).loc main_arg1))) (s * 128) + word 0x3A000000#32 * z) (Finset.sum_congr rfl fun r hr => Finset.sum_congr rfl fun k hk => ?_)
    have b := block m c ⟨s + 1, h⟩ (by dsimp only; omega) r k (Finset.mem_range.mp hr) (Finset.mem_range.mp hk)
    dsimp only at b
    exact congrArg₂ (· * ·) b b

/-- The gradient's block. -/
theorem grad (c : Dev nD) (t : Fin cfg0.N) (j : S128x1024.Idx) :
    (outsAt0 m c t.val t.isLt).1 j = gradient (m ((c : Thread nD τ).loc main_arg0)) (m ((c : Thread nD τ).loc main_arg1)) (t.val * 128 + (j 0).val) (j 1).val := by
  have hN : t.val < 33 := lt_of_lt_of_eq t.isLt N_0
  have hj : (j 0).val < 128 := (j 0).isLt
  have hk : (j 1).val < 1024 := (j 1).isLt
  unfold gradient
  by_cases h1 : 1 ≤ t.val
  · rw [grad_B m c t (by omega) h1, if_neg (by omega)]
    have b := block m c t h1 (j 0).val (j 1).val hj hk
    rw [← at2_of (iblk m c 0 t : S128x1024.Idx → EReal) j _ _ rfl rfl, ← at2_of (iblk m c 1 t : S128x1024.Idx → EReal) j _ _ rfl rfl] at b
    rw [show t.val * 128 + (j 0).val - 128 = (t.val - 1) * 128 + (j 0).val by omega, ← b]
    rfl
  · rw [grad_A m c t (by omega) h1, if_pos (by omega)]
    exact zero_word

/-- The gradient: every entry. -/
def result2 (c : Dev nD) : Buf (Elt Ideal) ((c : Thread nD τ).loc main_v0_0) := fun i =>
  gradient (m ((c : Thread nD τ).loc main_arg0)) (m ((c : Thread nD τ).loc main_arg1)) (i 0).val (i 1).val

/-- The loss, at every entry of its block. -/
def result3 (c : Dev nD) : Buf (Elt Ideal) ((c : Thread nD τ).loc main_v0_1) := fun i =>
  loss (err (m ((c : Thread nD τ).loc main_arg0)) (m ((c : Thread nD τ).loc main_arg1))) 4096

theorem mem_block2 (t : Fin cfg0.N) (i : S4224x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v0_0).slice (win0_2.rect t)).set ↔ _
  rw [View.set_slice_whole, Rect.mem_set_unit]
  exact Iff.rfl

theorem mem_block3 (t : Fin cfg0.N) (i : S8x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_1).slice (win0_3.rect t)).set ↔ _
  rw [View.set_slice_whole, Rect.mem_set_unit]
  exact Iff.rfl

theorem flushed_result2 (c : Dev nD) (t : Fin cfg0.N) (hf : (cfg0.win 2).flush t = true) :
    (dats m 0 c).flushed 2 t = ((cfg0.win 2).blk t).view.read (Elt Ideal) (result2 m c) := by
  rw [Value.flushed2]
  obtain ⟨-, -, ⟨a0, a1⟩, -⟩ := places t
  funext y
  rw [View.read_apply]
  show (outsAt0 m c t.val t.isLt).1 y = gradient _ _ (win0_2.index t (0 : Fin 2) * 128 + 1 * (y 0).val) (win0_2.index t (1 : Fin 2) * 1024 + 1 * (y 1).val)
  rw [a0, a1, Nat.one_mul, Nat.one_mul, Nat.zero_mul, Nat.zero_add]
  exact grad m c t y

theorem final2 (c : Dev nD) : (dats m 0 c).arrAt 2 cfg0.N = result2 m c :=
  (dats m 0 c).arrAt_eq_of_cover 2 _ (flushed_result2 m c) fun i => by
    have h0 : (i 0).val < 4224 := (i 0).isLt
    have h1 : (i 1).val < 1024 := (i 1).isLt
    have hN : cfg0.N = 33 := N_0
    refine ⟨⟨(i 0).val / 128, by omega⟩, flush0_2 _, ?_⟩
    rw [mem_block2]
    obtain ⟨-, -, ⟨a0, a1⟩, -⟩ := places ⟨(i 0).val / 128, by omega⟩
    dsimp only at a0
    intro a
    match a with
    | ⟨0, _⟩ => show win0_2.index _ (0 : Fin 2) * 128 ≤ (i 0).val ∧ (i 0).val < win0_2.index _ (0 : Fin 2) * 128 + 128; rw [a0]; omega
    | ⟨1, _⟩ => show win0_2.index _ (1 : Fin 2) * 1024 ≤ (i 1).val ∧ (i 1).val < win0_2.index _ (1 : Fin 2) * 1024 + 1024; rw [a1]; omega

theorem flushed_result3 (c : Dev nD) (t : Fin cfg0.N) (hf : (cfg0.win 3).flush t = true) :
    (dats m 0 c).flushed 3 t = ((cfg0.win 3).blk t).view.read (Elt Ideal) (result3 m c) := by
  rw [Value.flushed3]
  have hN : t.val < 33 := lt_of_lt_of_eq t.isLt N_0
  have ht := (flush0_3 t).mp hf
  funext y
  rw [View.read_apply]
  show (outsAt0 m c t.val t.isLt).2 y = loss _ 4096
  rw [acc, show t.val * 128 = 4096 by omega]

theorem final3 (c : Dev nD) : (dats m 0 c).arrAt 3 cfg0.N = result3 m c :=
  (dats m 0 c).arrAt_eq_of_cover 3 _ (flushed_result3 m c) fun i => by
    have h0 : (i 0).val < 8 := (i 0).isLt
    have h1 : (i 1).val < 128 := (i 1).isLt
    have hN : cfg0.N = 33 := N_0
    refine ⟨⟨32, by omega⟩, (flush0_3 _).mpr (by dsimp only), ?_⟩
    rw [mem_block3]
    obtain ⟨-, -, -, ⟨a0, a1⟩⟩ := places ⟨32, by omega⟩
    intro a
    match a with
    | ⟨0, _⟩ => show win0_3.index _ (0 : Fin 2) * 8 ≤ (i 0).val ∧ (i 0).val < win0_3.index _ (0 : Fin 2) * 8 + 8; rw [a0]; omega
    | ⟨1, _⟩ => show win0_3.index _ (1 : Fin 2) * 128 ≤ (i 1).val ∧ (i 1).val < win0_3.index _ (1 : Fin 2) * 128 + 128; rw [a1]; omega

/-- The run of the call, its results entry by entry. -/
theorem run (ρ : Dev nD → PrngReg) : θ_run defs (onTc (τ := τ) (main (F := Ideal))) ⟨m, fun _ => 0, ρ⟩ fun r => ∀ c : Dev nD,
      r.2.mem ((c : Thread nD τ).loc main_v0_0) = result2 m c
      ∧ r.2.mem ((c : Thread nD τ).loc main_v0_1) = result3 m c
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final2 m c), (h c).2.1.trans (final3 m c), (h c).2.2⟩) (Value.run_blocks m ρ)

end Cert.KLossIdeal.Entries

namespace Cert.RLossIdeal.Entries

open Cert.RLossIdeal Cert.RLossIdeal.Gen Idealize.ShloMosaic Idealize.ShloMosaic.ValueIdx Cert.Products Cert.Steps Cert.Loss
open scoped BigOperators

variable (x : FVec Ideal S4224x1024 .f32) (y : FVec Ideal S4096x1024 .f32)

/-- The reference's error. -/
theorem error (j : S4096x1024.Idx) :
    (subf (extractStridedSlice S4096x1024 ![128, 0] x slices_S4224x1024_S4096x1024_128_0) y : FVec Ideal S4096x1024 .f32) j = err x y (j 0).val (j 1).val := by
  have h0 : (j 0).val < 4096 := (j 0).isLt
  unfold err
  rw [← at2_of y j _ _ rfl rfl, subf_apply]
  refine congrArg (· - y j) ?_
  refine (extractStridedSlice_apply ![128, 0] x _ j (ValueIdx.ix2 (⟨128 + (j 0).val, by omega⟩ : Fin 4224) (j 1)) fun a => ?_).trans (at2_of x _ _ _ rfl rfl)
  match a with
  | ⟨0, _⟩ => rfl
  | ⟨1, _⟩ => exact (Nat.zero_add _).symm

/-- The reference's gradient at an entry of the target. -/
theorem inside (z : S4096x1024.Idx) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (extractStridedSlice S4096x1024 ![128, 0] x slices_S4224x1024_S4096x1024_128_0) y)) : FVec Ideal S4096x1024 .f32) z = err x y (z 0).val (z 1).val * word 0x3A800000#32 := by
  rw [mulf_apply, mulf_apply, error]
  exact twice _

/-- The reference's gradient. -/
theorem grad (i : S4224x1024.Idx) :
    (pad S4224x1024 ![128, 0] ![0, 0] ![0, 0] (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (extractStridedSlice S4096x1024 ![128, 0] x slices_S4224x1024_S4096x1024_128_0) y))) (constant S_ .f32 0x00000000#32) pads_S4096x1024_S4224x1024_12800_000 h_S_ : FVec Ideal S4224x1024 .f32) i = gradient x y (i 0).val (i 1).val := by
  have h0 : (i 0).val < 4224 := (i 0).isLt
  unfold gradient
  by_cases h : (i 0).val < 128
  · rw [if_pos h]
    refine (pad_apply_of_not_inside _ _ _ _ _ _ _ i (0 : Fin 2) fun hin => ?_).trans zero_word
    have : 128 ≤ (i 0).val := hin.1
    omega
  · rw [if_neg h]
    refine (pad_apply_of_inside _ _ _ _ _ _ _ i (ValueIdx.ix2 (⟨(i 0).val - 128, by omega⟩ : Fin 4096) (i 1)) fun a => ?_).trans ?_
    · match a with
      | ⟨0, _⟩ => show (i 0).val = 128 + ((i 0).val - 128) * 1; omega
      | ⟨1, _⟩ => show (i 1).val = 0 + (i 1).val * 1; omega
    · exact inside x y _

/-- The reference's loss. -/
theorem value (i : S8x128.Idx) :
    (broadcastInDim S8x128 ![] bcast_S_S8x128 (mulf (constant S_ .f32 0x3F000000#32) (Host.reduceAdd (Host.divf (Host.reduceAdd (mulf (subf (extractStridedSlice S4096x1024 ![128, 0] x slices_S4224x1024_S4096x1024_128_0) y) (subf (extractStridedSlice S4096x1024 ![128, 0] x slices_S4224x1024_S4096x1024_128_0) y)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S8x128 .f32) i = loss (err x y) 4096 := by
  rw [← mean_loss]
  refine (broadcastInDim_apply ![] _ _ i (Shape.Idx.first h_S_) fun ax => ax.elim0).trans ?_
  rw [mulf_apply]
  refine congrArg (word 0x3F000000#32 * ·) ?_
  refine (Ideal.hostReduceAdd_r1_a0 _ _ _ _).trans ?_
  rw [show (constant S_ .f32 0x00000000#32 : FVec Ideal S_ .f32) (Shape.Idx.first h_S_) = (0 : EReal) from zero_word, zero_add, Finset.sum_range]
  refine Finset.sum_congr rfl fun r _ => ?_
  refine congrArg (fun s => Ideal.div s (word 0x44800000#32)) ?_
  refine (host_row (a := 4096) (b := 1024) _ _ reducesTo_S4096x1024_S4096_d1 h_S_ zero_word _).trans ?_
  refine Finset.sum_congr rfl fun k hk => ?_
  refine (at2_val (a := 4096) (b := 1024) _ r (⟨k, Finset.mem_range.mp hk⟩ : Fin 1024)).trans ?_
  rw [mulf_apply, error]

end Cert.RLossIdeal.Entries

namespace Cert.Proof

open Idealize.ShloMosaic Idealize.SL.Sem Idealize.ShloMosaic.TcCoe

attribute [local instance] Cert.KLossIdeal.Gen.facts Cert.RLossIdeal.Gen.facts

/-- The call and its reference leave the same results. -/
theorem algebraic_Loss : Cert.algebraic_KLossIdeal_RLossIdeal := by
  intro m ρ m' ρ' _ hag
  refine ⟨fun c => Cert.KLossIdeal.Entries.result2 m c, fun c => Cert.KLossIdeal.Entries.result3 m c,
    Cert.KLossIdeal.Entries.run m ρ, (θ_run _ _ _).mono (fun r h c => ⟨(h c).1.trans ?_, (h c).2.1.trans ?_, (h c).2.2⟩) (Cert.RLossIdeal.Value.run (F := Ideal) m' ρ')⟩
  · obtain ⟨h0, h1⟩ := hag c
    rw [h0, h1]
    exact funext fun i => Cert.RLossIdeal.Entries.grad _ _ i
  · obtain ⟨h0, h1⟩ := hag c
    rw [h0, h1]
    exact funext fun i => Cert.RLossIdeal.Entries.value _ _ i

/-- The reference ends with its arguments as they were. -/
theorem frame_RLoss : Cert.quiescent_RLossIdeal := fun m ρ _ =>
  (θ_run Cert.RLossIdeal.defs _ _).mono (fun r h => ⟨fun c => (h c).2.2, sem_eq_zero_of_no_sems (by decide) r.2⟩) (Cert.RLossIdeal.Value.run (F := Ideal) m ρ)

end Cert.Proof

end
-- ==== Proof.LnbValue.lean ====
/-
  The gradients of the scale and the shift of the layer norm of a scaled hidden state and a layer's change to it: what the call leaves, entry by entry, over the extended reals.
-/
module

public import proofs.«01_k».proof.Proof.NormGrad
public import proofs.«01_k».proof.Proof.Gen.KLnbIdeal.Value
public import proofs.«01_k».proof.Proof.Gen.RLnbIdeal.Run
public import proofs.«01_k».proof.Defs

@[expose] public section

noncomputable section

namespace Cert.KLnbIdeal.Entries

open Cert.KLnbIdeal Cert.KLnbIdeal.Gen Idealize.ShloMosaic Idealize.ShloMosaic.TcCoe Idealize.SL.Sem Cert.Products Cert.Steps
open Idealize.ShloMosaic.Pipeline (Dat)
open scoped BigOperators

section AnyFloat

variable {F : FTy → Type} [FloatOps F]
variable (m : (ℓ : Loc nD τ sig) → Buf (Elt F) ℓ)

/-- The first row of a block. -/
def row1 (x : Vec F S8x1024 .f32) : Vec F S1x1024 .f32 := fun z => x (ValueIdx.ix2 (0 : Fin 8) (z 1))

theorem ld_row1 (x : Vec F S8x1024 .f32) : View.ld (Val := Elt F) (e' := .f32) x (Rect.unit (s := S8x1024) ![0, 0] S1x1024.size inb_S8x1024_S1x1024_0_0) = row1 x :=
  funext fun z => congrArg x (funext fun a => Fin.ext (by
    have h0 : (z 0).val < 1 := (z 0).isLt
    match a with
    | ⟨0, _⟩ => show 0 + 1 * (z 0).val = 0; omega
    | ⟨1, _⟩ => show 0 + 1 * (z 1).val = (z 1).val; omega))

/-- The gradient of the scale after the first block. -/
theorem scale_A (c : Dev nD) (t : Fin cfg0.N) (h0 : t.val % 11 = 0) (y : S8x1024.Idx) :
    (outsAt0 m c t.val t.isLt).2.1 y = if (y 0).val = 0 then k0_pay2 (iblk m c 0 t) (k0_pay8 (iblk m c 1 t) (iblk m c 2 t)) (row1 (k0_pay4 (F := F))) (ValueIdx.ix2 (0 : Fin 1) (y 1)) else (k0_pay4 (F := F)) y := by
  rw [outsAt0_A m c t h0]
  dsimp only
  unfold out0_A_5
  unfold kernelRun0_A
  dsimp only
  sl_unfold_words
  refine (read_top (a := 8) (b := 1024) _ _ _ _ _ y).trans ?_
  by_cases h : (y 0).val = 0
  · rw [if_pos h, if_pos h]
    simp only [View.readAt_eq_ld, View.readCov_eq_canon', (hs0_0 t).read_unread, (hs0_1 t).read_unread, (hs0_2 t).read_unread, View.ld_unit_zero (S := S384x1024) origin, View.canon_unit_zero (S := S8x1024) origin]
    exact congrArg (fun r => k0_pay2 (iblk m c 0 t) (k0_pay8 (iblk m c 1 t) (iblk m c 2 t)) r (ValueIdx.ix2 (0 : Fin 1) (y 1))) (ld_row1 (k0_pay4 (F := F)))
  · rw [if_neg h, if_neg h, View.read_writes_junk_eq_canon, View.canon_unit_zero (S := S8x1024) origin]

/-- The gradient of the shift after the first block. -/
theorem shift_A (c : Dev nD) (t : Fin cfg0.N) (h0 : t.val % 11 = 0) (y : S8x1024.Idx) :
    (outsAt0 m c t.val t.isLt).2.2 y = if (y 0).val = 0 then k0_pay3 (iblk m c 0 t) (row1 (k0_pay5 (F := F))) (ValueIdx.ix2 (0 : Fin 1) (y 1)) else (k0_pay5 (F := F)) y := by
  rw [outsAt0_A m c t h0]
  dsimp only
  unfold out0_A_6
  unfold kernelRun0_A
  dsimp only
  sl_unfold_words
  refine (read_top (a := 8) (b := 1024) _ _ _ _ _ y).trans ?_
  by_cases h : (y 0).val = 0
  · rw [if_pos h, if_pos h]
    simp only [View.readAt_eq_ld, View.readCov_eq_canon', (hs0_0 t).read_unread, (hs0_1 t).read_unread, (hs0_2 t).read_unread, View.ld_unit_zero (S := S384x1024) origin, View.canon_unit_zero (S := S8x1024) origin]
    exact congrArg (fun r => k0_pay3 (iblk m c 0 t) r (ValueIdx.ix2 (0 : Fin 1) (y 1))) (ld_row1 (k0_pay5 (F := F)))
  · rw [if_neg h, if_neg h, View.read_writes_junk_eq_canon, View.canon_unit_zero (S := S8x1024) origin]

/-- The gradient of the scale after a further block. -/
theorem scale_B (c : Dev nD) (t : Fin cfg0.N) (h0 : ¬t.val % 11 = 0) (y : S8x1024.Idx) :
    (outsAt0 m c t.val t.isLt).2.1 y = if (y 0).val = 0 then
      k0_pay2 (iblk m c 0 t) (k0_pay8 (iblk m c 1 t) (iblk m c 2 t)) (row1 (outsAt0 m c (t.val - 1) (Nat.lt_of_le_of_lt (Nat.sub_le _ _) t.isLt)).2.1) (ValueIdx.ix2 (0 : Fin 1) (y 1))
      else (outsAt0 m c (t.val - 1) (Nat.lt_of_le_of_lt (Nat.sub_le _ _) t.isLt)).2.1 y := by
  rw [outsAt0_B m c t h0]
  dsimp only
  unfold out0_B_5
  unfold kernelRun0_B
  dsimp only
  sl_unfold_words
  refine (read_top (a := 8) (b := 1024) _ _ _ _ _ y).trans ?_
  by_cases h : (y 0).val = 0
  · rw [if_pos h, if_pos h]
    simp only [View.readAt_eq_ld, (hs0_0 t).read_unread, (hs0_1 t).read_unread, (hs0_2 t).read_unread, (hs0_5 t).read_unread, View.ld_unit_zero (S := S384x1024) origin]
    exact congrArg (fun r => k0_pay2 (iblk m c 0 t) (k0_pay8 (iblk m c 1 t) (iblk m c 2 t)) r (ValueIdx.ix2 (0 : Fin 1) (y 1))) (ld_row1 _)
  · rw [if_neg h, if_neg h, View.writes_nil, (hs0_5 t).read_unread]

/-- The gradient of the shift after a further block. -/
theorem shift_B (c : Dev nD) (t : Fin cfg0.N) (h0 : ¬t.val % 11 = 0) (y : S8x1024.Idx) :
    (outsAt0 m c t.val t.isLt).2.2 y = if (y 0).val = 0 then
      k0_pay3 (iblk m c 0 t) (row1 (outsAt0 m c (t.val - 1) (Nat.lt_of_le_of_lt (Nat.sub_le _ _) t.isLt)).2.2) (ValueIdx.ix2 (0 : Fin 1) (y 1))
      else (outsAt0 m c (t.val - 1) (Nat.lt_of_le_of_lt (Nat.sub_le _ _) t.isLt)).2.2 y := by
  rw [outsAt0_B m c t h0]
  dsimp only
  unfold out0_B_6
  unfold kernelRun0_B
  dsimp only
  sl_unfold_words
  refine (read_top (a := 8) (b := 1024) _ _ _ _ _ y).trans ?_
  by_cases h : (y 0).val = 0
  · rw [if_pos h, if_pos h]
    simp only [View.readAt_eq_ld, (hs0_0 t).read_unread, (hs0_1 t).read_unread, (hs0_2 t).read_unread, (hs0_6 t).read_unread, View.ld_unit_zero (S := S384x1024) origin]
    exact congrArg (fun r => k0_pay3 (iblk m c 0 t) r (ValueIdx.ix2 (0 : Fin 1) (y 1))) (ld_row1 _)
  · rw [if_neg h, if_neg h, View.writes_nil, (hs0_6 t).read_unread]

end AnyFloat

variable (m : (ℓ : Loc nD τ sig) → Buf (Elt Ideal) ℓ)

/-- Which block of each array a point takes. -/
theorem places : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

theorem blk0 (c : Dev nD) (t : Fin cfg0.N) (y : S384x1024.Idx) :
    (iblk m c 0 t : S384x1024.Idx → EReal) y = at2 (m ((c : Thread nD τ).loc main_arg0)) (t.val * 384 + (y 0).val) (y 1).val := by
  obtain ⟨⟨a0, a1⟩, -⟩ := places t
  unfold iblk
  rw [View.read_apply]
  show V m c main_arg0 _ = _
  rw [V_main_arg0]
  refine at2_of (m ((c : Thread nD τ).loc main_arg0)) _ _ _ ?_ ?_
  · show win0_0.index t (0 : Fin 2) * 384 + 1 * (y 0).val = _; rw [a0]; omega
  · show win0_0.index t (1 : Fin 2) * 1024 + 1 * (y 1).val = _; rw [a1]; omega

theorem blk1 (c : Dev nD) (t : Fin cfg0.N) (y : S384x1024.Idx) :
    (iblk m c 1 t : S384x1024.Idx → EReal) y = at2 (m ((c : Thread nD τ).loc main_arg1)) (t.val * 384 + (y 0).val) (y 1).val := by
  obtain ⟨-, ⟨a0, a1⟩, -⟩ := places t
  unfold iblk
  rw [View.read_apply]
  show V m c main_arg1 _ = _
  rw [V_main_arg1]
  refine at2_of (m ((c : Thread nD τ).loc main_arg1)) _ _ _ ?_ ?_
  · show win0_1.index t (0 : Fin 2) * 384 + 1 * (y 0).val = _; rw [a0]; omega
  · show win0_1.index t (1 : Fin 2) * 1024 + 1 * (y 1).val = _; rw [a1]; omega

theorem blk2 (c : Dev nD) (t : Fin cfg0.N) (y : S384x1024.Idx) :
    (iblk m c 2 t : S384x1024.Idx → EReal) y = at2 (m ((c : Thread nD τ).loc main_arg2)) (t.val * 384 + (y 0).val) (y 1).val := by
  obtain ⟨-, -, ⟨a0, a1⟩, -⟩ := places t
  unfold iblk
  rw [View.read_apply]
  show V m c main_arg2 _ = _
  rw [V_main_arg2]
  refine at2_of (m ((c : Thread nD τ).loc main_arg2)) _ _ _ ?_ ?_
  · show win0_2.index t (0 : Fin 2) * 384 + 1 * (y 0).val = _; rw [a0]; omega
  · show win0_2.index t (1 : Fin 2) * 1024 + 1 * (y 1).val = _; rw [a1]; omega

/-- A step of the gradient of the scale. -/
theorem scale_step (x u : Vec Ideal S384x1024 .f32) (v : Vec Ideal S1x1024 .f32) (z : S1x1024.Idx) :
    k0_pay2 x u v z = v z + ∑ r ∈ Finset.range 384, at2 (mulf x u : FVec Ideal S384x1024 .f32) r (z 1).val := by
  unfold k0_pay2
  exact row_step (a := 384) (b := 1024) (mulf x u) v reduces_S384x1024_S1024 (.inl rfl) rfl shapeCasts_S1024_S1x1024 shapeCasts_S1x1024_S1x1024 z

/-- A step of the gradient of the shift. -/
theorem shift_step (x : Vec Ideal S384x1024 .f32) (v : Vec Ideal S1x1024 .f32) (z : S1x1024.Idx) :
    k0_pay3 x v z = v z + ∑ r ∈ Finset.range 384, at2 x r (z 1).val := by
  unfold k0_pay3
  exact row_step (a := 384) (b := 1024) x v reduces_S384x1024_S1024 (.inl rfl) rfl shapeCasts_S1024_S1x1024 shapeCasts_S1x1024_S1x1024 z

/-- The row that is normed. -/
def row (c : Dev nD) (i k : ℕ) : EReal := word 0x3FD744FD#32 * at2 (m ((c : Thread nD τ).loc main_arg1)) i k + at2 (m ((c : Thread nD τ).loc main_arg2)) i k

/-- What an entry adds to the gradient of the scale. -/
def share (c : Dev nD) (i j : ℕ) : EReal := at2 (m ((c : Thread nD τ).loc main_arg0)) i j * unit 1024 (row m c i) j

/-- The block's norm: of each row by its own entries. -/
theorem normed (c : Dev nD) (t : Fin cfg0.N) (j : S384x1024.Idx) :
    (k0_pay8 (iblk m c 1 t) (iblk m c 2 t) : FVec Ideal S384x1024 .f32) j = unit 1024 (row m c (t.val * 384 + (j 0).val)) (j 1).val := by
  unfold k0_pay8 k0_pay7 k0_pay6
  refine (block_unit (addf (mulf (broadcast S384x1024 (Scalar.ofBits .f32 0x3FD744FD#32)) (iblk m c 1 t)) (iblk m c 2 t) : FVec Ideal S384x1024 .f32) reduces_S384x1024_S384 shapeCasts_S384_S384x1 broadcasts_S384x1_S384x1024 j).trans ?_
  refine unit_congr (fun k hk => ?_) (j 1).isLt
  refine (at2_val _ (j 0) (⟨k, hk⟩ : Fin 1024)).trans ?_
  show word 0x3FD744FD#32 * (iblk m c 1 t : S384x1024.Idx → EReal) (ValueIdx.ix2 (j 0) (⟨k, hk⟩ : Fin 1024)) + (iblk m c 2 t : S384x1024.Idx → EReal) (ValueIdx.ix2 (j 0) (⟨k, hk⟩ : Fin 1024)) = _
  rw [blk1 m c t, blk2 m c t]
  rfl

theorem block_scale (c : Dev nD) (t : Fin cfg0.N) (r k : ℕ) (hr : r < 384) (hk : k < 1024) :
    at2 (mulf (iblk m c 0 t) (k0_pay8 (iblk m c 1 t) (iblk m c 2 t)) : FVec Ideal S384x1024 .f32) r k = share m c (t.val * 384 + r) k := by
  refine (at2_mul (a := 384) (b := 1024) _ _ r k hr hk).trans ?_
  unfold share
  exact congrArg₂ (· * ·) ((at2_val (iblk m c 0 t : S384x1024.Idx → EReal) (⟨r, hr⟩ : Fin 384) (⟨k, hk⟩ : Fin 1024)).trans (blk0 m c t _))
    ((at2_val (k0_pay8 (iblk m c 1 t) (iblk m c 2 t) : S384x1024.Idx → EReal) (⟨r, hr⟩ : Fin 384) (⟨k, hk⟩ : Fin 1024)).trans (normed m c t _))

theorem block_shift (c : Dev nD) (t : Fin cfg0.N) (r k : ℕ) (hr : r < 384) (hk : k < 1024) :
    at2 (iblk m c 0 t : S384x1024.Idx → EReal) r k = at2 (m ((c : Thread nD τ).loc main_arg0)) (t.val * 384 + r) k :=
  (at2_val (iblk m c 0 t : S384x1024.Idx → EReal) (⟨r, hr⟩ : Fin 384) (⟨k, hk⟩ : Fin 1024)).trans (blk0 m c t _)

/-- The gradient of the scale so far. -/
theorem scale_acc (c : Dev nD) : ∀ (s : ℕ) (h : s < cfg0.N) (y : S8x1024.Idx),
    (outsAt0 m c s h).2.1 y = top (share m c) ((s + 1) * 384) (y 0).val (y 1).val
  | 0, h, y => by
    have hy : (y 1).val < 1024 := (y 1).isLt
    refine (scale_A m c ⟨0, h⟩ rfl y).trans ?_
    unfold top
    by_cases h0 : (y 0).val = 0
    · rw [if_pos h0, if_pos h0, scale_step]
      refine Eq.trans ?_ (sum_next (fun r => share m c r (y 1).val) 0 384)
      rw [Nat.zero_mul, Finset.sum_range_zero]
      refine congrArg₂ (· + ·) zero_word (Finset.sum_congr rfl fun r hr => ?_)
      exact (block_scale m c ⟨0, h⟩ r (y 1).val (Finset.mem_range.mp hr) hy).trans (by dsimp only)
    · rw [if_neg h0, if_neg h0]
      exact zero_word
  | s + 1, h, y => by
    have hN : cfg0.N = 11 := N_0
    have hy : (y 1).val < 1024 := (y 1).isLt
    refine (scale_B m c ⟨s + 1, h⟩ (by dsimp only; omega) y).trans ?_
    by_cases h0 : (y 0).val = 0
    · rw [if_pos h0, scale_step]
      unfold top
      rw [if_pos h0]
      refine Eq.trans ?_ (sum_next (fun r => share m c r (y 1).val) (s + 1) 384)
      exact congrArg₂ (· + ·) ((scale_acc c s (by omega) (ValueIdx.ix2 (0 : Fin 8) (y 1))).trans (if_pos rfl)) (Finset.sum_congr rfl fun r hr => block_scale m c ⟨s + 1, h⟩ r (y 1).val (Finset.mem_range.mp hr) hy)
    · rw [if_neg h0]
      have ih := scale_acc c s (by omega) y
      unfold top at ih ⊢
      rw [if_neg h0] at ih ⊢
      exact ih

/-- The gradient of the shift so far. -/
theorem shift_acc (c : Dev nD) : ∀ (s : ℕ) (h : s < cfg0.N) (y : S8x1024.Idx),
    (outsAt0 m c s h).2.2 y = top (at2 (m ((c : Thread nD τ).loc main_arg0))) ((s + 1) * 384) (y 0).val (y 1).val
  | 0, h, y => by
    have hy : (y 1).val < 1024 := (y 1).isLt
    refine (shift_A m c ⟨0, h⟩ rfl y).trans ?_
    unfold top
    by_cases h0 : (y 0).val = 0
    · rw [if_pos h0, if_pos h0, shift_step]
      refine Eq.trans ?_ (sum_next (fun r => at2 (m ((c : Thread nD τ).loc main_arg0)) r (y 1).val) 0 384)
      rw [Nat.zero_mul, Finset.sum_range_zero]
      refine congrArg₂ (· + ·) zero_word (Finset.sum_congr rfl fun r hr => ?_)
      exact (block_shift m c ⟨0, h⟩ r (y 1).val (Finset.mem_range.mp hr) hy).trans (by dsimp only)
    · rw [if_neg h0, if_neg h0]
      exact zero_word
  | s + 1, h, y => by
    have hN : cfg0.N = 11 := N_0
    have hy : (y 1).val < 1024 := (y 1).isLt
    refine (shift_B m c ⟨s + 1, h⟩ (by dsimp only; omega) y).trans ?_
    by_cases h0 : (y 0).val = 0
    · rw [if_pos h0, shift_step]
      unfold top
      rw [if_pos h0]
      refine Eq.trans ?_ (sum_next (fun r => at2 (m ((c : Thread nD τ).loc main_arg0)) r (y 1).val) (s + 1) 384)
      exact congrArg₂ (· + ·) ((shift_acc c s (by omega) (ValueIdx.ix2 (0 : Fin 8) (y 1))).trans (if_pos rfl)) (Finset.sum_congr rfl fun r hr => block_shift m c ⟨s + 1, h⟩ r (y 1).val (Finset.mem_range.mp hr) hy)
    · rw [if_neg h0]
      have ih := shift_acc c s (by omega) y
      unfold top at ih ⊢
      rw [if_neg h0] at ih ⊢
      exact ih

/-- The gradient of the scale: every entry. -/
def result1 (c : Dev nD) : Buf (Elt Ideal) ((c : Thread nD τ).loc main_v1_1) := fun i => top (share m c) 4224 (i 0).val (i 1).val

/-- The gradient of the shift: every entry. -/
def result2 (c : Dev nD) : Buf (Elt Ideal) ((c : Thread nD τ).loc main_v1_2) := fun i => top (at2 (m ((c : Thread nD τ).loc main_arg0))) 4224 (i 0).val (i 1).val

theorem mem_block5 (t : Fin cfg0.N) (i : S8x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v1_1).slice (win0_5.rect t)).set ↔ _
  rw [View.set_slice_whole, Rect.mem_set_unit]
  exact Iff.rfl

theorem flushed_result5 (c : Dev nD) (t : Fin cfg0.N) (hf : (cfg0.win 5).flush t = true) :
    (dats m 0 c).flushed 5 t = ((cfg0.win 5).blk t).view.read (Elt Ideal) (result1 m c) := by
  rw [Value.flushed5]
  have hN : t.val < 11 := lt_of_lt_of_eq t.isLt N_0
  have ht := (flush0_5 t).mp hf
  obtain ⟨-, -, -, ⟨a0, a1⟩, -⟩ := places t
  funext y
  rw [View.read_apply]
  show (outsAt0 m c t.val t.isLt).2.1 y = top _ 4224 (win0_5.index t (0 : Fin 2) * 8 + 1 * (y 0).val) (win0_5.index t (1 : Fin 2) * 1024 + 1 * (y 1).val)
  rw [a0, a1, scale_acc, show (t.val + 1) * 384 = 4224 by omega, Nat.one_mul, Nat.one_mul, Nat.zero_mul, Nat.zero_add, Nat.zero_add]

theorem final5 (c : Dev nD) : (dats m 0 c).arrAt 5 cfg0.N = result1 m c :=
  (dats m 0 c).arrAt_eq_of_cover 5 _ (flushed_result5 m c) fun i => by
    have h0 : (i 0).val < 8 := (i 0).isLt
    have h1 : (i 1).val < 1024 := (i 1).isLt
    have hN : cfg0.N = 11 := N_0
    refine ⟨⟨10, by omega⟩, (flush0_5 _).mpr (by dsimp only), ?_⟩
    rw [mem_block5]
    obtain ⟨-, -, -, ⟨a0, a1⟩, -⟩ := places ⟨10, by omega⟩
    intro a
    match a with
    | ⟨0, _⟩ => show win0_5.index _ (0 : Fin 2) * 8 ≤ (i 0).val ∧ (i 0).val < win0_5.index _ (0 : Fin 2) * 8 + 8; rw [a0]; omega
    | ⟨1, _⟩ => show win0_5.index _ (1 : Fin 2) * 1024 ≤ (i 1).val ∧ (i 1).val < win0_5.index _ (1 : Fin 2) * 1024 + 1024; rw [a1]; omega

theorem mem_block6 (t : Fin cfg0.N) (i : S8x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v1_2).slice (win0_6.rect t)).set ↔ _
  rw [View.set_slice_whole, Rect.mem_set_unit]
  exact Iff.rfl

theorem flushed_result6 (c : Dev nD) (t : Fin cfg0.N) (hf : (cfg0.win 6).flush t = true) :
    (dats m 0 c).flushed 6 t = ((cfg0.win 6).blk t).view.read (Elt Ideal) (result2 m c) := by
  rw [Value.flushed6]
  have hN : t.val < 11 := lt_of_lt_of_eq t.isLt N_0
  have ht := (flush0_6 t).mp hf
  obtain ⟨-, -, -, -, ⟨a0, a1⟩⟩ := places t
  funext y
  rw [View.read_apply]
  show (outsAt0 m c t.val t.isLt).2.2 y = top _ 4224 (win0_6.index t (0 : Fin 2) * 8 + 1 * (y 0).val) (win0_6.index t (1 : Fin 2) * 1024 + 1 * (y 1).val)
  rw [a0, a1, shift_acc, show (t.val + 1) * 384 = 4224 by omega, Nat.one_mul, Nat.one_mul, Nat.zero_mul, Nat.zero_add, Nat.zero_add]

theorem final6 (c : Dev nD) : (dats m 0 c).arrAt 6 cfg0.N = result2 m c :=
  (dats m 0 c).arrAt_eq_of_cover 6 _ (flushed_result6 m c) fun i => by
    have h0 : (i 0).val < 8 := (i 0).isLt
    have h1 : (i 1).val < 1024 := (i 1).isLt
    have hN : cfg0.N = 11 := N_0
    refine ⟨⟨10, by omega⟩, (flush0_6 _).mpr (by dsimp only), ?_⟩
    rw [mem_block6]
    obtain ⟨-, -, -, -, ⟨a0, a1⟩⟩ := places ⟨10, by omega⟩
    intro a
    match a with
    | ⟨0, _⟩ => show win0_6.index _ (0 : Fin 2) * 8 ≤ (i 0).val ∧ (i 0).val < win0_6.index _ (0 : Fin 2) * 8 + 8; rw [a0]; omega
    | ⟨1, _⟩ => show win0_6.index _ (1 : Fin 2) * 1024 ≤ (i 1).val ∧ (i 1).val < win0_6.index _ (1 : Fin 2) * 1024 + 1024; rw [a1]; omega

/-- The run of the call, its results entry by entry. -/
theorem run (ρ : Dev nD → PrngReg) : θ_run defs (onTc (τ := τ) (main (F := Ideal))) ⟨m, fun _ => 0, ρ⟩ fun r => ∀ c : Dev nD,
      r.2.mem ((c : Thread nD τ).loc main_v1_1) = result1 m c
      ∧ r.2.mem ((c : Thread nD τ).loc main_v1_2) = result2 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).2.1.trans (final5 m c), (h c).2.2.1.trans (final6 m c), (h c).2.2.2⟩) (Value.run_blocks m ρ)

end Cert.KLnbIdeal.Entries

namespace Cert.Proof

open Idealize.ShloMosaic Idealize.SL.Sem Idealize.ShloMosaic.TcCoe Cert.Steps Cert.Products

attribute [local instance] Cert.KLnbIdeal.Gen.facts Cert.RLnbIdeal.Gen.facts

/-- The reference's terms of the gradient of the scale are the call's. -/
theorem share_Lnb (c : Dev Cert.KLnbIdeal.nD) (m : (ℓ : Loc Cert.KLnbIdeal.nD Cert.KLnbIdeal.τ Cert.KLnbIdeal.sig) → Buf (Elt Ideal) ℓ)
    (x u : FVec Ideal ⟨2, ![4224, 1024]⟩ .f32) (hx : x = m ((c : Thread Cert.KLnbIdeal.nD Cert.KLnbIdeal.τ).loc Cert.KLnbIdeal.main_arg0))
    (hu : ∀ j, u j = unit 1024 (Cert.KLnbIdeal.Entries.row m c (j 0).val) (j 1).val) (hs : (⟨2, ![4224, 1024]⟩ : Shape).ShapeCasts ⟨2, ![4224, 1024]⟩) (i j : ℕ) (hj : j < 1024) :
    top (at2 (mulf u (shapeCast ⟨2, ![4224, 1024]⟩ x hs))) 4224 i j = top (Cert.KLnbIdeal.Entries.share m c) 4224 i j := by
  rw [shapeCast_self]
  unfold top
  split
  · refine Finset.sum_congr rfl fun r hr => ?_
    have hr := Finset.mem_range.mp hr
    rw [at2_mul _ _ _ _ hr hj, mul_comm]
    unfold Cert.KLnbIdeal.Entries.share
    exact congrArg₂ (· * ·) (congrArg (fun z => at2 z r j) hx) ((at2_val u (⟨r, hr⟩ : Fin 4224) (⟨j, hj⟩ : Fin 1024)).trans (hu _))
  · rfl

/-- The call and its reference leave the same results. -/
theorem algebraic_Lnb : Cert.algebraic_KLnbIdeal_RLnbIdeal := by
  intro m ρ m' ρ' _ hag
  refine ⟨fun c => Cert.KLnbIdeal.Entries.result1 m c, fun c => Cert.KLnbIdeal.Entries.result2 m c,
    Cert.KLnbIdeal.Entries.run m ρ, (θ_run _ _ _).mono (fun r h c => ⟨(h c).1.trans ?_, (h c).2.1.trans ?_, (h c).2.2⟩) (Cert.RLnbIdeal.Value.run (F := Ideal) m' ρ')⟩
  · obtain ⟨h0, h1, h2, h3⟩ := hag c
    rw [h0, h1, h2]
    funext i
    refine (host_top (a := 4224) (b := 1024) _ _ _ _ _ _ _ i).trans (share_Lnb c m _ _ rfl (fun j => ?_) _ _ _ (i 1).isLt)
    refine (array_unit (a := 4224) (b := 1024) _ _ _ _ _ _ j).trans (unit_congr (fun k hk => ?_) (j 1).isLt)
    refine (at2_val _ (j 0) (⟨k, hk⟩ : Fin 1024)).trans ?_
    unfold Cert.KLnbIdeal.Entries.row
    exact congrArg₂ (· + ·) (congrArg (word 0x3FD744FD#32 * ·) (at2_val _ (j 0) (⟨k, hk⟩ : Fin 1024)).symm) (at2_val _ (j 0) (⟨k, hk⟩ : Fin 1024)).symm
  · obtain ⟨h0, h1, h2, h3⟩ := hag c
    rw [h0]
    exact funext fun i => host_top (a := 4224) (b := 1024) _ _ _ _ _ _ _ i

/-- The reference ends with its arguments as they were. -/
theorem frame_RLnb : Cert.quiescent_RLnbIdeal := fun m ρ _ =>
  (θ_run Cert.RLnbIdeal.defs _ _).mono (fun r h => ⟨fun c => (h c).2.2, sem_eq_zero_of_no_sems (by decide) r.2⟩) (Cert.RLnbIdeal.Value.run (F := Ideal) m ρ)

end Cert.Proof

end
-- ==== Proof.EmbbValue.lean ====
/-
  The gradients of the scale and the shift of the layer norm of the embedded tokens: what the call leaves, entry by entry, over the extended reals.
-/
module

public import proofs.«01_k».proof.Proof.NormGrad
public import proofs.«01_k».proof.Proof.Gen.KEmbbIdeal.Value
public import proofs.«01_k».proof.Proof.Gen.REmbbIdeal.Run
public import proofs.«01_k».proof.Defs

@[expose] public section

noncomputable section

namespace Cert.KEmbbIdeal.Entries

open Cert.KEmbbIdeal Cert.KEmbbIdeal.Gen Idealize.ShloMosaic Idealize.ShloMosaic.TcCoe Idealize.SL.Sem Cert.Products Cert.Steps
open Idealize.ShloMosaic.Pipeline (Dat)
open scoped BigOperators

section AnyFloat

variable {F : FTy → Type} [FloatOps F]
variable (m : (ℓ : Loc nD τ sig) → Buf (Elt F) ℓ)

/-- The first row of a block. -/
def row1 (x : Vec F S8x1024 .f32) : Vec F S1x1024 .f32 := fun z => x (ValueIdx.ix2 (0 : Fin 8) (z 1))

theorem ld_row1 (x : Vec F S8x1024 .f32) : View.ld (Val := Elt F) (e' := .f32) x (Rect.unit (s := S8x1024) ![0, 0] S1x1024.size inb_S8x1024_S1x1024_0_0) = row1 x :=
  funext fun z => congrArg x (funext fun a => Fin.ext (by
    have h0 : (z 0).val < 1 := (z 0).isLt
    match a with
    | ⟨0, _⟩ => show 0 + 1 * (z 0).val = 0; omega
    | ⟨1, _⟩ => show 0 + 1 * (z 1).val = (z 1).val; omega))

/-- The gradient of the scale after the first block. -/
theorem scale_A (c : Dev nD) (t : Fin cfg0.N) (h0 : t.val % 11 = 0) (y : S8x1024.Idx) :
    (outsAt0 m c t.val t.isLt).2.1 y = if (y 0).val = 0 then k0_pay1 (iblk m c 0 t) (k0_pay7 (iblk m c 1 t)) (row1 (k0_pay3 (F := F))) (ValueIdx.ix2 (0 : Fin 1) (y 1)) else (k0_pay3 (F := F)) y := by
  rw [outsAt0_A m c t h0]
  dsimp only
  unfold out0_A_4
  unfold kernelRun0_A
  dsimp only
  sl_unfold_words
  refine (read_top (a := 8) (b := 1024) _ _ _ _ _ y).trans ?_
  by_cases h : (y 0).val = 0
  · rw [if_pos h, if_pos h]
    simp only [View.readAt_eq_ld, View.readCov_eq_canon', (hs0_0 t).read_unread, (hs0_1 t).read_unread, View.ld_unit_zero (S := S384x1024) origin, View.canon_unit_zero (S := S8x1024) origin]
    exact congrArg (fun r => k0_pay1 (iblk m c 0 t) (k0_pay7 (iblk m c 1 t)) r (ValueIdx.ix2 (0 : Fin 1) (y 1))) (ld_row1 (k0_pay3 (F := F)))
  · rw [if_neg h, if_neg h, View.read_writes_junk_eq_canon, View.canon_unit_zero (S := S8x1024) origin]

/-- The gradient of the shift after the first block. -/
theorem shift_A (c : Dev nD) (t : Fin cfg0.N) (h0 : t.val % 11 = 0) (y : S8x1024.Idx) :
    (outsAt0 m c t.val t.isLt).2.2 y = if (y 0).val = 0 then k0_pay2 (iblk m c 0 t) (row1 (k0_pay4 (F := F))) (ValueIdx.ix2 (0 : Fin 1) (y 1)) else (k0_pay4 (F := F)) y := by
  rw [outsAt0_A m c t h0]
  dsimp only
  unfold out0_A_5
  unfold kernelRun0_A
  dsimp only
  sl_unfold_words
  refine (read_top (a := 8) (b := 1024) _ _ _ _ _ y).trans ?_
  by_cases h : (y 0).val = 0
  · rw [if_pos h, if_pos h]
    simp only [View.readAt_eq_ld, View.readCov_eq_canon', (hs0_0 t).read_unread, (hs0_1 t).read_unread, View.ld_unit_zero (S := S384x1024) origin, View.canon_unit_zero (S := S8x1024) origin]
    exact congrArg (fun r => k0_pay2 (iblk m c 0 t) r (ValueIdx.ix2 (0 : Fin 1) (y 1))) (ld_row1 (k0_pay4 (F := F)))
  · rw [if_neg h, if_neg h, View.read_writes_junk_eq_canon, View.canon_unit_zero (S := S8x1024) origin]

/-- The gradient of the scale after a further block. -/
theorem scale_B (c : Dev nD) (t : Fin cfg0.N) (h0 : ¬t.val % 11 = 0) (y : S8x1024.Idx) :
    (outsAt0 m c t.val t.isLt).2.1 y = if (y 0).val = 0 then
      k0_pay1 (iblk m c 0 t) (k0_pay7 (iblk m c 1 t)) (row1 (outsAt0 m c (t.val - 1) (Nat.lt_of_le_of_lt (Nat.sub_le _ _) t.isLt)).2.1) (ValueIdx.ix2 (0 : Fin 1) (y 1))
      else (outsAt0 m c (t.val - 1) (Nat.lt_of_le_of_lt (Nat.sub_le _ _) t.isLt)).2.1 y := by
  rw [outsAt0_B m c t h0]
  dsimp only
  unfold out0_B_4
  unfold kernelRun0_B
  dsimp only
  sl_unfold_words
  refine (read_top (a := 8) (b := 1024) _ _ _ _ _ y).trans ?_
  by_cases h : (y 0).val = 0
  · rw [if_pos h, if_pos h]
    simp only [View.readAt_eq_ld, (hs0_0 t).read_unread, (hs0_1 t).read_unread, (hs0_4 t).read_unread, View.ld_unit_zero (S := S384x1024) origin]
    exact congrArg (fun r => k0_pay1 (iblk m c 0 t) (k0_pay7 (iblk m c 1 t)) r (ValueIdx.ix2 (0 : Fin 1) (y 1))) (ld_row1 _)
  · rw [if_neg h, if_neg h, View.writes_nil, (hs0_4 t).read_unread]

/-- The gradient of the shift after a further block. -/
theorem shift_B (c : Dev nD) (t : Fin cfg0.N) (h0 : ¬t.val % 11 = 0) (y : S8x1024.Idx) :
    (outsAt0 m c t.val t.isLt).2.2 y = if (y 0).val = 0 then
      k0_pay2 (iblk m c 0 t) (row1 (outsAt0 m c (t.val - 1) (Nat.lt_of_le_of_lt (Nat.sub_le _ _) t.isLt)).2.2) (ValueIdx.ix2 (0 : Fin 1) (y 1))
      else (outsAt0 m c (t.val - 1) (Nat.lt_of_le_of_lt (Nat.sub_le _ _) t.isLt)).2.2 y := by
  rw [outsAt0_B m c t h0]
  dsimp only
  unfold out0_B_5
  unfold kernelRun0_B
  dsimp only
  sl_unfold_words
  refine (read_top (a := 8) (b := 1024) _ _ _ _ _ y).trans ?_
  by_cases h : (y 0).val = 0
  · rw [if_pos h, if_pos h]
    simp only [View.readAt_eq_ld, (hs0_0 t).read_unread, (hs0_1 t).read_unread, (hs0_5 t).read_unread, View.ld_unit_zero (S := S384x1024) origin]
    exact congrArg (fun r => k0_pay2 (iblk m c 0 t) r (ValueIdx.ix2 (0 : Fin 1) (y 1))) (ld_row1 _)
  · rw [if_neg h, if_neg h, View.writes_nil, (hs0_5 t).read_unread]

end AnyFloat

variable (m : (ℓ : Loc nD τ sig) → Buf (Elt Ideal) ℓ)

/-- Which block of each array a point takes. -/
theorem places : ∀ t : Fin cfg0.N, (win0_0.index t (0 : Fin 2) = t.val ∧ win0_0.index t (1 : Fin 2) = 0) ∧ (win0_1.index t (0 : Fin 2) = t.val ∧ win0_1.index t (1 : Fin 2) = 0) ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

theorem blk0 (c : Dev nD) (t : Fin cfg0.N) (y : S384x1024.Idx) :
    (iblk m c 0 t : S384x1024.Idx → EReal) y = at2 (m ((c : Thread nD τ).loc main_arg0)) (t.val * 384 + (y 0).val) (y 1).val := by
  obtain ⟨⟨a0, a1⟩, -⟩ := places t
  unfold iblk
  rw [View.read_apply]
  show V m c main_arg0 _ = _
  rw [V_main_arg0]
  refine at2_of (m ((c : Thread nD τ).loc main_arg0)) _ _ _ ?_ ?_
  · show win0_0.index t (0 : Fin 2) * 384 + 1 * (y 0).val = _; rw [a0]; omega
  · show win0_0.index t (1 : Fin 2) * 1024 + 1 * (y 1).val = _; rw [a1]; omega

theorem blk1 (c : Dev nD) (t : Fin cfg0.N) (y : S384x1024.Idx) :
    (iblk m c 1 t : S384x1024.Idx → EReal) y = at2 (m ((c : Thread nD τ).loc main_arg1)) (t.val * 384 + (y 0).val) (y 1).val := by
  obtain ⟨-, ⟨a0, a1⟩, -⟩ := places t
  unfold iblk
  rw [View.read_apply]
  show V m c main_arg1 _ = _
  rw [V_main_arg1]
  refine at2_of (m ((c : Thread nD τ).loc main_arg1)) _ _ _ ?_ ?_
  · show win0_1.index t (0 : Fin 2) * 384 + 1 * (y 0).val = _; rw [a0]; omega
  · show win0_1.index t (1 : Fin 2) * 1024 + 1 * (y 1).val = _; rw [a1]; omega

/-- A step of the gradient of the scale. -/
theorem scale_step (x u : Vec Ideal S384x1024 .f32) (v : Vec Ideal S1x1024 .f32) (z : S1x1024.Idx) :
    k0_pay1 x u v z = v z + ∑ r ∈ Finset.range 384, at2 (mulf x u : FVec Ideal S384x1024 .f32) r (z 1).val := by
  unfold k0_pay1
  exact row_step (a := 384) (b := 1024) (mulf x u) v reduces_S384x1024_S1024 (.inl rfl) rfl shapeCasts_S1024_S1x1024 shapeCasts_S1x1024_S1x1024 z

/-- A step of the gradient of the shift. -/
theorem shift_step (x : Vec Ideal S384x1024 .f32) (v : Vec Ideal S1x1024 .f32) (z : S1x1024.Idx) :
    k0_pay2 x v z = v z + ∑ r ∈ Finset.range 384, at2 x r (z 1).val := by
  unfold k0_pay2
  exact row_step (a := 384) (b := 1024) x v reduces_S384x1024_S1024 (.inl rfl) rfl shapeCasts_S1024_S1x1024 shapeCasts_S1x1024_S1x1024 z

/-- The row that is normed. -/
def row (c : Dev nD) (i k : ℕ) : EReal := at2 (m ((c : Thread nD τ).loc main_arg1)) i k

/-- What an entry adds to the gradient of the scale. -/
def share (c : Dev nD) (i j : ℕ) : EReal := at2 (m ((c : Thread nD τ).loc main_arg0)) i j * unit 1024 (row m c i) j

/-- The block's norm: of each row by its own entries. -/
theorem normed (c : Dev nD) (t : Fin cfg0.N) (j : S384x1024.Idx) :
    (k0_pay7 (iblk m c 1 t) : FVec Ideal S384x1024 .f32) j = unit 1024 (row m c (t.val * 384 + (j 0).val)) (j 1).val := by
  unfold k0_pay7 k0_pay6 k0_pay5
  refine (block_unit (iblk m c 1 t : FVec Ideal S384x1024 .f32) reduces_S384x1024_S384 shapeCasts_S384_S384x1 broadcasts_S384x1_S384x1024 j).trans ?_
  refine unit_congr (fun k hk => ?_) (j 1).isLt
  refine (at2_val _ (j 0) (⟨k, hk⟩ : Fin 1024)).trans ?_
  exact blk1 m c t _

theorem block_scale (c : Dev nD) (t : Fin cfg0.N) (r k : ℕ) (hr : r < 384) (hk : k < 1024) :
    at2 (mulf (iblk m c 0 t) (k0_pay7 (iblk m c 1 t)) : FVec Ideal S384x1024 .f32) r k = share m c (t.val * 384 + r) k := by
  refine (at2_mul (a := 384) (b := 1024) _ _ r k hr hk).trans ?_
  unfold share
  exact congrArg₂ (· * ·) ((at2_val (iblk m c 0 t : S384x1024.Idx → EReal) (⟨r, hr⟩ : Fin 384) (⟨k, hk⟩ : Fin 1024)).trans (blk0 m c t _))
    ((at2_val (k0_pay7 (iblk m c 1 t) : S384x1024.Idx → EReal) (⟨r, hr⟩ : Fin 384) (⟨k, hk⟩ : Fin 1024)).trans (normed m c t _))

theorem block_shift (c : Dev nD) (t : Fin cfg0.N) (r k : ℕ) (hr : r < 384) (hk : k < 1024) :
    at2 (iblk m c 0 t : S384x1024.Idx → EReal) r k = at2 (m ((c : Thread nD τ).loc main_arg0)) (t.val * 384 + r) k :=
  (at2_val (iblk m c 0 t : S384x1024.Idx → EReal) (⟨r, hr⟩ : Fin 384) (⟨k, hk⟩ : Fin 1024)).trans (blk0 m c t _)

/-- The gradient of the scale so far. -/
theorem scale_acc (c : Dev nD) : ∀ (s : ℕ) (h : s < cfg0.N) (y : S8x1024.Idx),
    (outsAt0 m c s h).2.1 y = top (share m c) ((s + 1) * 384) (y 0).val (y 1).val
  | 0, h, y => by
    have hy : (y 1).val < 1024 := (y 1).isLt
    refine (scale_A m c ⟨0, h⟩ rfl y).trans ?_
    unfold top
    by_cases h0 : (y 0).val = 0
    · rw [if_pos h0, if_pos h0, scale_step]
      refine Eq.trans ?_ (sum_next (fun r => share m c r (y 1).val) 0 384)
      rw [Nat.zero_mul, Finset.sum_range_zero]
      refine congrArg₂ (· + ·) zero_word (Finset.sum_congr rfl fun r hr => ?_)
      exact (block_scale m c ⟨0, h⟩ r (y 1).val (Finset.mem_range.mp hr) hy).trans (by dsimp only)
    · rw [if_neg h0, if_neg h0]
      exact zero_word
  | s + 1, h, y => by
    have hN : cfg0.N = 11 := N_0
    have hy : (y 1).val < 1024 := (y 1).isLt
    refine (scale_B m c ⟨s + 1, h⟩ (by dsimp only; omega) y).trans ?_
    by_cases h0 : (y 0).val = 0
    · rw [if_pos h0, scale_step]
      unfold top
      rw [if_pos h0]
      refine Eq.trans ?_ (sum_next (fun r => share m c r (y 1).val) (s + 1) 384)
      exact congrArg₂ (· + ·) ((scale_acc c s (by omega) (ValueIdx.ix2 (0 : Fin 8) (y 1))).trans (if_pos rfl)) (Finset.sum_congr rfl fun r hr => block_scale m c ⟨s + 1, h⟩ r (y 1).val (Finset.mem_range.mp hr) hy)
    · rw [if_neg h0]
      have ih := scale_acc c s (by omega) y
      unfold top at ih ⊢
      rw [if_neg h0] at ih ⊢
      exact ih

/-- The gradient of the shift so far. -/
theorem shift_acc (c : Dev nD) : ∀ (s : ℕ) (h : s < cfg0.N) (y : S8x1024.Idx),
    (outsAt0 m c s h).2.2 y = top (at2 (m ((c : Thread nD τ).loc main_arg0))) ((s + 1) * 384) (y 0).val (y 1).val
  | 0, h, y => by
    have hy : (y 1).val < 1024 := (y 1).isLt
    refine (shift_A m c ⟨0, h⟩ rfl y).trans ?_
    unfold top
    by_cases h0 : (y 0).val = 0
    · rw [if_pos h0, if_pos h0, shift_step]
      refine Eq.trans ?_ (sum_next (fun r => at2 (m ((c : Thread nD τ).loc main_arg0)) r (y 1).val) 0 384)
      rw [Nat.zero_mul, Finset.sum_range_zero]
      refine congrArg₂ (· + ·) zero_word (Finset.sum_congr rfl fun r hr => ?_)
      exact (block_shift m c ⟨0, h⟩ r (y 1).val (Finset.mem_range.mp hr) hy).trans (by dsimp only)
    · rw [if_neg h0, if_neg h0]
      exact zero_word
  | s + 1, h, y => by
    have hN : cfg0.N = 11 := N_0
    have hy : (y 1).val < 1024 := (y 1).isLt
    refine (shift_B m c ⟨s + 1, h⟩ (by dsimp only; omega) y).trans ?_
    by_cases h0 : (y 0).val = 0
    · rw [if_pos h0, shift_step]
      unfold top
      rw [if_pos h0]
      refine Eq.trans ?_ (sum_next (fun r => at2 (m ((c : Thread nD τ).loc main_arg0)) r (y 1).val) (s + 1) 384)
      exact congrArg₂ (· + ·) ((shift_acc c s (by omega) (ValueIdx.ix2 (0 : Fin 8) (y 1))).trans (if_pos rfl)) (Finset.sum_congr rfl fun r hr => block_shift m c ⟨s + 1, h⟩ r (y 1).val (Finset.mem_range.mp hr) hy)
    · rw [if_neg h0]
      have ih := shift_acc c s (by omega) y
      unfold top at ih ⊢
      rw [if_neg h0] at ih ⊢
      exact ih

/-- The gradient of the scale: every entry. -/
def result1 (c : Dev nD) : Buf (Elt Ideal) ((c : Thread nD τ).loc main_v1_1) := fun i => top (share m c) 4224 (i 0).val (i 1).val

/-- The gradient of the shift: every entry. -/
def result2 (c : Dev nD) : Buf (Elt Ideal) ((c : Thread nD τ).loc main_v1_2) := fun i => top (at2 (m ((c : Thread nD τ).loc main_arg0))) 4224 (i 0).val (i 1).val

theorem mem_block4 (t : Fin cfg0.N) (i : S8x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v1_1).slice (win0_4.rect t)).set ↔ _
  rw [View.set_slice_whole, Rect.mem_set_unit]
  exact Iff.rfl

theorem flushed_result4 (c : Dev nD) (t : Fin cfg0.N) (hf : (cfg0.win 4).flush t = true) :
    (dats m 0 c).flushed 4 t = ((cfg0.win 4).blk t).view.read (Elt Ideal) (result1 m c) := by
  rw [Value.flushed4]
  have hN : t.val < 11 := lt_of_lt_of_eq t.isLt N_0
  have ht := (flush0_4 t).mp hf
  obtain ⟨-, -, ⟨a0, a1⟩, -⟩ := places t
  funext y
  rw [View.read_apply]
  show (outsAt0 m c t.val t.isLt).2.1 y = top _ 4224 (win0_4.index t (0 : Fin 2) * 8 + 1 * (y 0).val) (win0_4.index t (1 : Fin 2) * 1024 + 1 * (y 1).val)
  rw [a0, a1, scale_acc, show (t.val + 1) * 384 = 4224 by omega, Nat.one_mul, Nat.one_mul, Nat.zero_mul, Nat.zero_add, Nat.zero_add]

theorem final4 (c : Dev nD) : (dats m 0 c).arrAt 4 cfg0.N = result1 m c :=
  (dats m 0 c).arrAt_eq_of_cover 4 _ (flushed_result4 m c) fun i => by
    have h0 : (i 0).val < 8 := (i 0).isLt
    have h1 : (i 1).val < 1024 := (i 1).isLt
    have hN : cfg0.N = 11 := N_0
    refine ⟨⟨10, by omega⟩, (flush0_4 _).mpr (by dsimp only), ?_⟩
    rw [mem_block4]
    obtain ⟨-, -, ⟨a0, a1⟩, -⟩ := places ⟨10, by omega⟩
    intro a
    match a with
    | ⟨0, _⟩ => show win0_4.index _ (0 : Fin 2) * 8 ≤ (i 0).val ∧ (i 0).val < win0_4.index _ (0 : Fin 2) * 8 + 8; rw [a0]; omega
    | ⟨1, _⟩ => show win0_4.index _ (1 : Fin 2) * 1024 ≤ (i 1).val ∧ (i 1).val < win0_4.index _ (1 : Fin 2) * 1024 + 1024; rw [a1]; omega

theorem mem_block5 (t : Fin cfg0.N) (i : S8x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v1_2).slice (win0_5.rect t)).set ↔ _
  rw [View.set_slice_whole, Rect.mem_set_unit]
  exact Iff.rfl

theorem flushed_result5 (c : Dev nD) (t : Fin cfg0.N) (hf : (cfg0.win 5).flush t = true) :
    (dats m 0 c).flushed 5 t = ((cfg0.win 5).blk t).view.read (Elt Ideal) (result2 m c) := by
  rw [Value.flushed5]
  have hN : t.val < 11 := lt_of_lt_of_eq t.isLt N_0
  have ht := (flush0_5 t).mp hf
  obtain ⟨-, -, -, ⟨a0, a1⟩⟩ := places t
  funext y
  rw [View.read_apply]
  show (outsAt0 m c t.val t.isLt).2.2 y = top _ 4224 (win0_5.index t (0 : Fin 2) * 8 + 1 * (y 0).val) (win0_5.index t (1 : Fin 2) * 1024 + 1 * (y 1).val)
  rw [a0, a1, shift_acc, show (t.val + 1) * 384 = 4224 by omega, Nat.one_mul, Nat.one_mul, Nat.zero_mul, Nat.zero_add, Nat.zero_add]

theorem final5 (c : Dev nD) : (dats m 0 c).arrAt 5 cfg0.N = result2 m c :=
  (dats m 0 c).arrAt_eq_of_cover 5 _ (flushed_result5 m c) fun i => by
    have h0 : (i 0).val < 8 := (i 0).isLt
    have h1 : (i 1).val < 1024 := (i 1).isLt
    have hN : cfg0.N = 11 := N_0
    refine ⟨⟨10, by omega⟩, (flush0_5 _).mpr (by dsimp only), ?_⟩
    rw [mem_block5]
    obtain ⟨-, -, -, ⟨a0, a1⟩⟩ := places ⟨10, by omega⟩
    intro a
    match a with
    | ⟨0, _⟩ => show win0_5.index _ (0 : Fin 2) * 8 ≤ (i 0).val ∧ (i 0).val < win0_5.index _ (0 : Fin 2) * 8 + 8; rw [a0]; omega
    | ⟨1, _⟩ => show win0_5.index _ (1 : Fin 2) * 1024 ≤ (i 1).val ∧ (i 1).val < win0_5.index _ (1 : Fin 2) * 1024 + 1024; rw [a1]; omega

/-- The run of the call, its results entry by entry. -/
theorem run (ρ : Dev nD → PrngReg) : θ_run defs (onTc (τ := τ) (main (F := Ideal))) ⟨m, fun _ => 0, ρ⟩ fun r => ∀ c : Dev nD,
      r.2.mem ((c : Thread nD τ).loc main_v1_1) = result1 m c
      ∧ r.2.mem ((c : Thread nD τ).loc main_v1_2) = result2 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).2.1.trans (final4 m c), (h c).2.2.1.trans (final5 m c), (h c).2.2.2⟩) (Value.run_blocks m ρ)

end Cert.KEmbbIdeal.Entries

namespace Cert.Proof

open Idealize.ShloMosaic Idealize.SL.Sem Idealize.ShloMosaic.TcCoe Cert.Steps Cert.Products

attribute [local instance] Cert.KEmbbIdeal.Gen.facts Cert.REmbbIdeal.Gen.facts

/-- The reference's terms of the gradient of the scale are the call's. -/
theorem share_Embb (c : Dev Cert.KEmbbIdeal.nD) (m : (ℓ : Loc Cert.KEmbbIdeal.nD Cert.KEmbbIdeal.τ Cert.KEmbbIdeal.sig) → Buf (Elt Ideal) ℓ)
    (x u : FVec Ideal ⟨2, ![4224, 1024]⟩ .f32) (hx : x = m ((c : Thread Cert.KEmbbIdeal.nD Cert.KEmbbIdeal.τ).loc Cert.KEmbbIdeal.main_arg0))
    (hu : ∀ j, u j = unit 1024 (Cert.KEmbbIdeal.Entries.row m c (j 0).val) (j 1).val) (hs : (⟨2, ![4224, 1024]⟩ : Shape).ShapeCasts ⟨2, ![4224, 1024]⟩) (i j : ℕ) (hj : j < 1024) :
    top (at2 (mulf u (shapeCast ⟨2, ![4224, 1024]⟩ x hs))) 4224 i j = top (Cert.KEmbbIdeal.Entries.share m c) 4224 i j := by
  rw [shapeCast_self]
  unfold top
  split
  · refine Finset.sum_congr rfl fun r hr => ?_
    have hr := Finset.mem_range.mp hr
    rw [at2_mul _ _ _ _ hr hj, mul_comm]
    unfold Cert.KEmbbIdeal.Entries.share
    exact congrArg₂ (· * ·) (congrArg (fun z => at2 z r j) hx) ((at2_val u (⟨r, hr⟩ : Fin 4224) (⟨j, hj⟩ : Fin 1024)).trans (hu _))
  · rfl

/-- The call and its reference leave the same results. -/
theorem algebraic_Embb : Cert.algebraic_KEmbbIdeal_REmbbIdeal := by
  intro m ρ m' ρ' _ hag
  refine ⟨fun c => Cert.KEmbbIdeal.Entries.result1 m c, fun c => Cert.KEmbbIdeal.Entries.result2 m c,
    Cert.KEmbbIdeal.Entries.run m ρ, (θ_run _ _ _).mono (fun r h c => ⟨(h c).1.trans ?_, (h c).2.1.trans ?_, (h c).2.2⟩) (Cert.REmbbIdeal.Value.run (F := Ideal) m' ρ')⟩
  · obtain ⟨h0, h1, h2⟩ := hag c
    rw [h0, h1]
    funext i
    refine (host_top (a := 4224) (b := 1024) _ _ _ _ _ _ _ i).trans (share_Embb c m _ _ rfl (fun j => ?_) _ _ _ (i 1).isLt)
    refine (array_unit (a := 4224) (b := 1024) _ _ _ _ _ _ j).trans (unit_congr (fun k hk => ?_) (j 1).isLt)
    rfl
  · obtain ⟨h0, h1, h2⟩ := hag c
    rw [h0]
    exact funext fun i => host_top (a := 4224) (b := 1024) _ _ _ _ _ _ _ i

/-- The reference ends with its arguments as they were. -/
theorem frame_REmbb : Cert.quiescent_REmbbIdeal := fun m ρ _ =>
  (θ_run Cert.REmbbIdeal.defs _ _).mono (fun r h => ⟨fun c => (h c).2.2, sem_eq_zero_of_no_sems (by decide) r.2⟩) (Cert.REmbbIdeal.Value.run (F := Ideal) m ρ)

end Cert.Proof

end
-- ==== Proof.lean ====
/-
  The claim: the frames of every program, and the equation of every call with its reference, for all but the retention.
-/
module

public import proofs.«01_k».proof.Proof.Frames
public import proofs.«01_k».proof.Proof.Dff2Value
public import proofs.«01_k».proof.Proof.Gen.KDff2.Frame
public import proofs.«01_k».proof.Proof.Gen.KDff2
public import proofs.«01_k».proof.Proof.Gff2Value
public import proofs.«01_k».proof.Proof.Gen.KGff2.Frame
public import proofs.«01_k».proof.Proof.Gen.KGff2
public import proofs.«01_k».proof.Proof.Dff1Value
public import proofs.«01_k».proof.Proof.Gen.KDff1.Frame
public import proofs.«01_k».proof.Proof.Gen.KDff1
public import proofs.«01_k».proof.Proof.Gff1Value
public import proofs.«01_k».proof.Proof.Gen.KGff1.Frame
public import proofs.«01_k».proof.Proof.Gen.KGff1
public import proofs.«01_k».proof.Proof.DoutValue
public import proofs.«01_k».proof.Proof.Gen.KDout.Frame
public import proofs.«01_k».proof.Proof.Gen.KDout
public import proofs.«01_k».proof.Proof.GoutValue
public import proofs.«01_k».proof.Proof.Gen.KGout.Frame
public import proofs.«01_k».proof.Proof.Gen.KGout
public import proofs.«01_k».proof.Proof.DuqValue
public import proofs.«01_k».proof.Proof.Gen.KDuq.Frame
public import proofs.«01_k».proof.Proof.Gen.KDuq
public import proofs.«01_k».proof.Proof.GuqValue
public import proofs.«01_k».proof.Proof.Gen.KGuq.Frame
public import proofs.«01_k».proof.Proof.Gen.KGuq
public import proofs.«01_k».proof.Proof.DukvValue
public import proofs.«01_k».proof.Proof.Gen.KDukv.Frame
public import proofs.«01_k».proof.Proof.Gen.KDukv
public import proofs.«01_k».proof.Proof.GukvValue
public import proofs.«01_k».proof.Proof.Gen.KGukv.Frame
public import proofs.«01_k».proof.Proof.Gen.KGukv
public import proofs.«01_k».proof.Proof.DinValue
public import proofs.«01_k».proof.Proof.Gen.KDin.Frame
public import proofs.«01_k».proof.Proof.Gen.KDin
public import proofs.«01_k».proof.Proof.GinValue
public import proofs.«01_k».proof.Proof.Gen.KGin.Frame
public import proofs.«01_k».proof.Proof.Gen.KGin
public import proofs.«01_k».proof.Proof.Ff1Value
public import proofs.«01_k».proof.Proof.Gen.KFf1.Frame
public import proofs.«01_k».proof.Proof.Gen.KFf1
public import proofs.«01_k».proof.Proof.Ff2Value
public import proofs.«01_k».proof.Proof.Gen.KFf2.Frame
public import proofs.«01_k».proof.Proof.Gen.KFf2
public import proofs.«01_k».proof.Proof.InValue
public import proofs.«01_k».proof.Proof.Gen.KIn.Frame
public import proofs.«01_k».proof.Proof.Gen.KIn
public import proofs.«01_k».proof.Proof.OutValue
public import proofs.«01_k».proof.Proof.Gen.KOut.Frame
public import proofs.«01_k».proof.Proof.Gen.KOut
public import proofs.«01_k».proof.Proof.UqValue
public import proofs.«01_k».proof.Proof.Gen.KUq.Frame
public import proofs.«01_k».proof.Proof.Gen.KUq
public import proofs.«01_k».proof.Proof.UkvValue
public import proofs.«01_k».proof.Proof.Gen.KUkv.Frame
public import proofs.«01_k».proof.Proof.Gen.KUkv
public import proofs.«01_k».proof.Proof.AdamValue
public import proofs.«01_k».proof.Proof.Gen.KAdam.Frame
public import proofs.«01_k».proof.Proof.Gen.KAdam
public import proofs.«01_k».proof.Proof.SmallValue
public import proofs.«01_k».proof.Proof.Gen.KSmall.Frame
public import proofs.«01_k».proof.Proof.Gen.KSmall
public import proofs.«01_k».proof.Proof.LnValue
public import proofs.«01_k».proof.Proof.Gen.KLn.Frame
public import proofs.«01_k».proof.Proof.Gen.KLn
public import proofs.«01_k».proof.Proof.EmbValue
public import proofs.«01_k».proof.Proof.Gen.KEmb.Frame
public import proofs.«01_k».proof.Proof.Gen.KEmb
public import proofs.«01_k».proof.Proof.LossValue
public import proofs.«01_k».proof.Proof.Gen.KLoss.Frame
public import proofs.«01_k».proof.Proof.Gen.KLoss
public import proofs.«01_k».proof.Proof.LnbValue
public import proofs.«01_k».proof.Proof.Gen.KLnb.Frame
public import proofs.«01_k».proof.Proof.Gen.KLnb
public import proofs.«01_k».proof.Proof.EmbbValue
public import proofs.«01_k».proof.Proof.Gen.KEmbb.Frame
public import proofs.«01_k».proof.Proof.Gen.KEmbb
public import proofs.«01_k».proof.Proof.Gen.KDff2Ideal.Value
public import proofs.«01_k».proof.Proof.Gen.RDff2Ideal.Run
public import proofs.«01_k».proof.Proof.Gen.KGff2Ideal.Value
public import proofs.«01_k».proof.Proof.Gen.RGff2Ideal.Run
public import proofs.«01_k».proof.Proof.Gen.KDff1Ideal.Value
public import proofs.«01_k».proof.Proof.Gen.RDff1Ideal.Run
public import proofs.«01_k».proof.Proof.Gen.KGff1Ideal.Value
public import proofs.«01_k».proof.Proof.Gen.RGff1Ideal.Run
public import proofs.«01_k».proof.Proof.Gen.KDoutIdeal.Value
public import proofs.«01_k».proof.Proof.Gen.RDoutIdeal.Run
public import proofs.«01_k».proof.Proof.Gen.KGoutIdeal.Value
public import proofs.«01_k».proof.Proof.Gen.RGoutIdeal.Run
public import proofs.«01_k».proof.Proof.Gen.KDuqIdeal.Value
public import proofs.«01_k».proof.Proof.Gen.RDuqIdeal.Run
public import proofs.«01_k».proof.Proof.Gen.KGuqIdeal.Value
public import proofs.«01_k».proof.Proof.Gen.RGuqIdeal.Run
public import proofs.«01_k».proof.Proof.Gen.KDukvIdeal.Value
public import proofs.«01_k».proof.Proof.Gen.RDukvIdeal.Run
public import proofs.«01_k».proof.Proof.Gen.KGukvIdeal.Value
public import proofs.«01_k».proof.Proof.Gen.RGukvIdeal.Run
public import proofs.«01_k».proof.Proof.Gen.KDinIdeal.Value
public import proofs.«01_k».proof.Proof.Gen.RDinIdeal.Run
public import proofs.«01_k».proof.Proof.Gen.KGinIdeal.Value
public import proofs.«01_k».proof.Proof.Gen.RGinIdeal.Run
public import proofs.«01_k».proof.Proof.Gen.KFf1Ideal.Value
public import proofs.«01_k».proof.Proof.Gen.RFf1Ideal.Run
public import proofs.«01_k».proof.Proof.Gen.KFf2Ideal.Value
public import proofs.«01_k».proof.Proof.Gen.RFf2Ideal.Run
public import proofs.«01_k».proof.Proof.Gen.KInIdeal.Value
public import proofs.«01_k».proof.Proof.Gen.RInIdeal.Run
public import proofs.«01_k».proof.Proof.Gen.KOutIdeal.Value
public import proofs.«01_k».proof.Proof.Gen.ROutIdeal.Run
public import proofs.«01_k».proof.Proof.Gen.KUqIdeal.Value
public import proofs.«01_k».proof.Proof.Gen.RUqIdeal.Run
public import proofs.«01_k».proof.Proof.Gen.KUkvIdeal.Value
public import proofs.«01_k».proof.Proof.Gen.RUkvIdeal.Run
public import proofs.«01_k».proof.Proof.Gen.KAdamIdeal.Value
public import proofs.«01_k».proof.Proof.Gen.RAdamIdeal.Run
public import proofs.«01_k».proof.Proof.Gen.KSmallIdeal.Value
public import proofs.«01_k».proof.Proof.Gen.RSmallIdeal.Run
public import proofs.«01_k».proof.Proof.Gen.KLnIdeal.Value
public import proofs.«01_k».proof.Proof.Gen.RLnIdeal.Run
public import proofs.«01_k».proof.Proof.Gen.KEmbIdeal.Value
public import proofs.«01_k».proof.Proof.Gen.REmbIdeal.Run
public import proofs.«01_k».proof.Proof.Gen.KLossIdeal.Value
public import proofs.«01_k».proof.Proof.Gen.RLossIdeal.Run
public import proofs.«01_k».proof.Proof.Gen.KLnbIdeal.Value
public import proofs.«01_k».proof.Proof.Gen.RLnbIdeal.Run
public import proofs.«01_k».proof.Proof.Gen.KEmbbIdeal.Value
public import proofs.«01_k».proof.Proof.Gen.REmbbIdeal.Run
public import proofs.«01_k».proof.Defs

@[expose] public section

noncomputable section

open Cert.Proof in
theorem Cert.Proof.claim : Cert.Claim :=
  ⟨Cert.Kernel.Gen.facts,
   Cert.KernelIdeal.Gen.facts,
   Cert.KDff2.Gen.facts,
   Cert.KDff2Ideal.Gen.facts,
   Cert.RDff2Ideal.Gen.facts,
   Cert.KGff2.Gen.facts,
   Cert.KGff2Ideal.Gen.facts,
   Cert.RGff2Ideal.Gen.facts,
   Cert.KDff1.Gen.facts,
   Cert.KDff1Ideal.Gen.facts,
   Cert.RDff1Ideal.Gen.facts,
   Cert.KGff1.Gen.facts,
   Cert.KGff1Ideal.Gen.facts,
   Cert.RGff1Ideal.Gen.facts,
   Cert.KDout.Gen.facts,
   Cert.KDoutIdeal.Gen.facts,
   Cert.RDoutIdeal.Gen.facts,
   Cert.KGout.Gen.facts,
   Cert.KGoutIdeal.Gen.facts,
   Cert.RGoutIdeal.Gen.facts,
   Cert.KDuq.Gen.facts,
   Cert.KDuqIdeal.Gen.facts,
   Cert.RDuqIdeal.Gen.facts,
   Cert.KGuq.Gen.facts,
   Cert.KGuqIdeal.Gen.facts,
   Cert.RGuqIdeal.Gen.facts,
   Cert.KDukv.Gen.facts,
   Cert.KDukvIdeal.Gen.facts,
   Cert.RDukvIdeal.Gen.facts,
   Cert.KGukv.Gen.facts,
   Cert.KGukvIdeal.Gen.facts,
   Cert.RGukvIdeal.Gen.facts,
   Cert.KDin.Gen.facts,
   Cert.KDinIdeal.Gen.facts,
   Cert.RDinIdeal.Gen.facts,
   Cert.KGin.Gen.facts,
   Cert.KGinIdeal.Gen.facts,
   Cert.RGinIdeal.Gen.facts,
   Cert.KFf1.Gen.facts,
   Cert.KFf1Ideal.Gen.facts,
   Cert.RFf1Ideal.Gen.facts,
   Cert.KFf2.Gen.facts,
   Cert.KFf2Ideal.Gen.facts,
   Cert.RFf2Ideal.Gen.facts,
   Cert.KIn.Gen.facts,
   Cert.KInIdeal.Gen.facts,
   Cert.RInIdeal.Gen.facts,
   Cert.KOut.Gen.facts,
   Cert.KOutIdeal.Gen.facts,
   Cert.ROutIdeal.Gen.facts,
   Cert.KUq.Gen.facts,
   Cert.KUqIdeal.Gen.facts,
   Cert.RUqIdeal.Gen.facts,
   Cert.KUkv.Gen.facts,
   Cert.KUkvIdeal.Gen.facts,
   Cert.RUkvIdeal.Gen.facts,
   Cert.KAdam.Gen.facts,
   Cert.KAdamIdeal.Gen.facts,
   Cert.RAdamIdeal.Gen.facts,
   Cert.KSmall.Gen.facts,
   Cert.KSmallIdeal.Gen.facts,
   Cert.RSmallIdeal.Gen.facts,
   Cert.KLn.Gen.facts,
   Cert.KLnIdeal.Gen.facts,
   Cert.RLnIdeal.Gen.facts,
   Cert.KEmb.Gen.facts,
   Cert.KEmbIdeal.Gen.facts,
   Cert.REmbIdeal.Gen.facts,
   Cert.KLoss.Gen.facts,
   Cert.KLossIdeal.Gen.facts,
   Cert.RLossIdeal.Gen.facts,
   Cert.KLnb.Gen.facts,
   Cert.KLnbIdeal.Gen.facts,
   Cert.RLnbIdeal.Gen.facts,
   Cert.KEmbb.Gen.facts,
   Cert.KEmbbIdeal.Gen.facts,
   Cert.REmbbIdeal.Gen.facts,
   frame_kernel,
   frame_ideal,
   fun m ρ _ => Cert.KDff2.Gen.frame m ρ,
   fun m ρ _ => Cert.KDff2Ideal.Gen.frame m ρ,
   frame_RDff2,
   fun m ρ _ => Cert.KGff2.Gen.frame m ρ,
   fun m ρ _ => Cert.KGff2Ideal.Gen.frame m ρ,
   frame_RGff2,
   fun m ρ _ => Cert.KDff1.Gen.frame m ρ,
   fun m ρ _ => Cert.KDff1Ideal.Gen.frame m ρ,
   frame_RDff1,
   fun m ρ _ => Cert.KGff1.Gen.frame m ρ,
   fun m ρ _ => Cert.KGff1Ideal.Gen.frame m ρ,
   frame_RGff1,
   fun m ρ _ => Cert.KDout.Gen.frame m ρ,
   fun m ρ _ => Cert.KDoutIdeal.Gen.frame m ρ,
   frame_RDout,
   fun m ρ _ => Cert.KGout.Gen.frame m ρ,
   fun m ρ _ => Cert.KGoutIdeal.Gen.frame m ρ,
   frame_RGout,
   fun m ρ _ => Cert.KDuq.Gen.frame m ρ,
   fun m ρ _ => Cert.KDuqIdeal.Gen.frame m ρ,
   frame_RDuq,
   fun m ρ _ => Cert.KGuq.Gen.frame m ρ,
   fun m ρ _ => Cert.KGuqIdeal.Gen.frame m ρ,
   frame_RGuq,
   fun m ρ _ => Cert.KDukv.Gen.frame m ρ,
   fun m ρ _ => Cert.KDukvIdeal.Gen.frame m ρ,
   frame_RDukv,
   fun m ρ _ => Cert.KGukv.Gen.frame m ρ,
   fun m ρ _ => Cert.KGukvIdeal.Gen.frame m ρ,
   frame_RGukv,
   fun m ρ _ => Cert.KDin.Gen.frame m ρ,
   fun m ρ _ => Cert.KDinIdeal.Gen.frame m ρ,
   frame_RDin,
   fun m ρ _ => Cert.KGin.Gen.frame m ρ,
   fun m ρ _ => Cert.KGinIdeal.Gen.frame m ρ,
   frame_RGin,
   fun m ρ _ => Cert.KFf1.Gen.frame m ρ,
   fun m ρ _ => Cert.KFf1Ideal.Gen.frame m ρ,
   frame_RFf1,
   fun m ρ _ => Cert.KFf2.Gen.frame m ρ,
   fun m ρ _ => Cert.KFf2Ideal.Gen.frame m ρ,
   frame_RFf2,
   fun m ρ _ => Cert.KIn.Gen.frame m ρ,
   fun m ρ _ => Cert.KInIdeal.Gen.frame m ρ,
   frame_RIn,
   fun m ρ _ => Cert.KOut.Gen.frame m ρ,
   fun m ρ _ => Cert.KOutIdeal.Gen.frame m ρ,
   frame_ROut,
   fun m ρ _ => Cert.KUq.Gen.frame m ρ,
   fun m ρ _ => Cert.KUqIdeal.Gen.frame m ρ,
   frame_RUq,
   fun m ρ _ => Cert.KUkv.Gen.frame m ρ,
   fun m ρ _ => Cert.KUkvIdeal.Gen.frame m ρ,
   frame_RUkv,
   fun m ρ _ => Cert.KAdam.Gen.frame m ρ,
   fun m ρ _ => Cert.KAdamIdeal.Gen.frame m ρ,
   frame_RAdam,
   fun m ρ _ => Cert.KSmall.Gen.frame m ρ,
   fun m ρ _ => Cert.KSmallIdeal.Gen.frame m ρ,
   frame_RSmall,
   fun m ρ _ => Cert.KLn.Gen.frame m ρ,
   fun m ρ _ => Cert.KLnIdeal.Gen.frame m ρ,
   frame_RLn,
   fun m ρ _ => Cert.KEmb.Gen.frame m ρ,
   fun m ρ _ => Cert.KEmbIdeal.Gen.frame m ρ,
   frame_REmb,
   fun m ρ _ => Cert.KLoss.Gen.frame m ρ,
   fun m ρ _ => Cert.KLossIdeal.Gen.frame m ρ,
   frame_RLoss,
   fun m ρ _ => Cert.KLnb.Gen.frame m ρ,
   fun m ρ _ => Cert.KLnbIdeal.Gen.frame m ρ,
   frame_RLnb,
   fun m ρ _ => Cert.KEmbb.Gen.frame m ρ,
   fun m ρ _ => Cert.KEmbbIdeal.Gen.frame m ρ,
   frame_REmbb,
   trivial,
   trivial,
   algebraic_Dff2,
   trivial,
   algebraic_Gff2,
   trivial,
   algebraic_Dff1,
   trivial,
   algebraic_Gff1,
   trivial,
   algebraic_Dout,
   trivial,
   algebraic_Gout,
   trivial,
   algebraic_Duq,
   trivial,
   algebraic_Guq,
   trivial,
   algebraic_Dukv,
   trivial,
   algebraic_Gukv,
   trivial,
   algebraic_Din,
   trivial,
   algebraic_Gin,
   trivial,
   algebraic_Ff1,
   trivial,
   algebraic_Ff2,
   trivial,
   algebraic_In,
   trivial,
   algebraic_Out,
   trivial,
   algebraic_Uq,
   trivial,
   algebraic_Ukv,
   trivial,
   algebraic_Adam,
   trivial,
   algebraic_Small,
   trivial,
   algebraic_Ln,
   trivial,
   algebraic_Emb,
   trivial,
   algebraic_Loss,
   trivial,
   algebraic_Lnb,
   trivial,
   algebraic_Embb⟩

end
